-- ==== Defs.lean ====
def Pre_Kernel [hPre_rank_in_range : Cert.Pre_rank_in_range.Facts] (m : (ℓ : Loc Cert.Kernel.nD Cert.Kernel.τ Cert.Kernel.sig) → Buf (Elt Bits) ℓ) : Prop :=
  ∀ c : Dev Cert.Kernel.nD,
    (Cert.Pre_rank_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_rank_in_range : Cert.Pre_rank_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rank_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_rank_in_range : Cert.Pre_rank_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rank_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Scatter [hPre_rank_permutes : Cert.Pre_rank_permutes.Facts] (m : (ℓ : Loc Cert.Scatter.nD Cert.Scatter.τ Cert.Scatter.sig) → Buf (Elt Bits) ℓ) : Prop :=
  ∀ c : Dev Cert.Scatter.nD,
    (Cert.Pre_rank_permutes.fn (F := Bits) (m ((c.tc : Thread Cert.Scatter.nD Cert.Scatter.τ).loc Cert.Scatter.main_arg0)) (m ((c.tc : Thread Cert.Scatter.nD Cert.Scatter.τ).loc Cert.Scatter.main_arg1)) (m ((c.tc : Thread Cert.Scatter.nD Cert.Scatter.τ).loc Cert.Scatter.main_arg2))) = (fun _ => 1#1)

def Pre_ScatterIdeal [hPre_rank_permutes : Cert.Pre_rank_permutes.Facts] (m : (ℓ : Loc Cert.ScatterIdeal.nD Cert.ScatterIdeal.τ Cert.ScatterIdeal.sig) → Buf (Elt Ideal) ℓ) : Prop :=
  ∀ c : Dev Cert.ScatterIdeal.nD,
    (Cert.Pre_rank_permutes.fn (F := Ideal) (m ((c.tc : Thread Cert.ScatterIdeal.nD Cert.ScatterIdeal.τ).loc Cert.ScatterIdeal.main_arg0)) (m ((c.tc : Thread Cert.ScatterIdeal.nD Cert.ScatterIdeal.τ).loc Cert.ScatterIdeal.main_arg1)) (m ((c.tc : Thread Cert.ScatterIdeal.nD Cert.ScatterIdeal.τ).loc Cert.ScatterIdeal.main_arg2))) = (fun _ => 1#1)

def Pre_ScatterReferenceIdeal [hPre_rank_permutes : Cert.Pre_rank_permutes.Facts] (m : (ℓ : Loc Cert.ScatterReferenceIdeal.nD Cert.ScatterReferenceIdeal.τ Cert.ScatterReferenceIdeal.sig) → Buf (Elt Ideal) ℓ) : Prop :=
  ∀ c : Dev Cert.ScatterReferenceIdeal.nD,
    (Cert.Pre_rank_permutes.fn (F := Ideal) (m ((c.tc : Thread Cert.ScatterReferenceIdeal.nD Cert.ScatterReferenceIdeal.τ).loc Cert.ScatterReferenceIdeal.main_arg0)) (m ((c.tc : Thread Cert.ScatterReferenceIdeal.nD Cert.ScatterReferenceIdeal.τ).loc Cert.ScatterReferenceIdeal.main_arg1)) (m ((c.tc : Thread Cert.ScatterReferenceIdeal.nD Cert.ScatterReferenceIdeal.τ).loc Cert.ScatterReferenceIdeal.main_arg2))) = (fun _ => 1#1)

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendReferenceIdeal (m : (ℓ : Loc Cert.AttendReferenceIdeal.nD Cert.AttendReferenceIdeal.τ Cert.AttendReferenceIdeal.sig) → Buf (Elt Ideal) ℓ) : Prop :=
  True

def quiescent_Kernel [hKernel : Cert.Kernel.Facts] [hPre_rank_in_range : Cert.Pre_rank_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_rank_in_range : Cert.Pre_rank_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_rank_in_range : Cert.Pre_rank_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Scatter [hScatter : Cert.Scatter.Facts] [hPre_rank_permutes : Cert.Pre_rank_permutes.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (Cert.Scatter.threads (F := Bits)) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2))
      ∧ r.2.sem = fun _ => 0)

def quiescent_ScatterIdeal [hScatterIdeal : Cert.ScatterIdeal.Facts] [hPre_rank_permutes : Cert.Pre_rank_permutes.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (Cert.ScatterIdeal.threads (F := Ideal)) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2))
      ∧ r.2.sem = fun _ => 0)

def quiescent_ScatterReferenceIdeal [hScatterReferenceIdeal : Cert.ScatterReferenceIdeal.Facts] [hPre_rank_permutes : Cert.Pre_rank_permutes.Facts] : Prop :=
  ∀ (m : (ℓ : Loc Cert.ScatterReferenceIdeal.nD Cert.ScatterReferenceIdeal.τ Cert.ScatterReferenceIdeal.sig) → Buf (Elt Ideal) ℓ) (g : Dev Cert.ScatterReferenceIdeal.nD → PrngReg), Pre_ScatterReferenceIdeal m →
    θ_run (Cert.ScatterReferenceIdeal.defs (F := Ideal)) (onTc (τ := Cert.ScatterReferenceIdeal.τ) (Cert.ScatterReferenceIdeal.main (F := Ideal))) ⟨m, fun _ => 0, g⟩ (fun r => (∀ c : Dev Cert.ScatterReferenceIdeal.nD,
      r.2.mem ((c.tc : Thread Cert.ScatterReferenceIdeal.nD Cert.ScatterReferenceIdeal.τ).loc Cert.ScatterReferenceIdeal.main_arg0) = m ((c.tc : Thread Cert.ScatterReferenceIdeal.nD Cert.ScatterReferenceIdeal.τ).loc Cert.ScatterReferenceIdeal.main_arg0)
      ∧ r.2.mem ((c.tc : Thread Cert.ScatterReferenceIdeal.nD Cert.ScatterReferenceIdeal.τ).loc Cert.ScatterReferenceIdeal.main_arg1) = m ((c.tc : Thread Cert.ScatterReferenceIdeal.nD Cert.ScatterReferenceIdeal.τ).loc Cert.ScatterReferenceIdeal.main_arg1)
      ∧ r.2.mem ((c.tc : Thread Cert.ScatterReferenceIdeal.nD Cert.ScatterReferenceIdeal.τ).loc Cert.ScatterReferenceIdeal.main_arg2) = m ((c.tc : Thread Cert.ScatterReferenceIdeal.nD Cert.ScatterReferenceIdeal.τ).loc Cert.ScatterReferenceIdeal.main_arg2))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ r.2.sem = fun _ => 0)

def quiescent_AttendReferenceIdeal [hAttendReferenceIdeal : Cert.AttendReferenceIdeal.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rank_in_range : Cert.Pre_rank_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Scatter_ScatterIdeal : Prop :=
  True

def algebraic_ScatterIdeal_ScatterReferenceIdeal [hScatterIdeal : Cert.ScatterIdeal.Facts] [hScatterReferenceIdeal : Cert.ScatterReferenceIdeal.Facts] [hPre_rank_permutes : Cert.Pre_rank_permutes.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterReferenceIdeal.nD Cert.ScatterReferenceIdeal.τ Cert.ScatterReferenceIdeal.sig) → Buf (Elt Ideal) ℓ) (g' : Dev Cert.ScatterReferenceIdeal.nD → PrngReg), Pre_ScatterIdeal m →
    (∀ c : Dev Cert.ScatterIdeal.nD,
      m' ((c.tc : Thread Cert.ScatterReferenceIdeal.nD Cert.ScatterReferenceIdeal.τ).loc Cert.ScatterReferenceIdeal.main_arg0) = m ((c.tc : Thread Cert.ScatterIdeal.nD Cert.ScatterIdeal.τ).loc Cert.ScatterIdeal.main_arg0)
      ∧ m' ((c.tc : Thread Cert.ScatterReferenceIdeal.nD Cert.ScatterReferenceIdeal.τ).loc Cert.ScatterReferenceIdeal.main_arg1) = m ((c.tc : Thread Cert.ScatterIdeal.nD Cert.ScatterIdeal.τ).loc Cert.ScatterIdeal.main_arg1)
      ∧ m' ((c.tc : Thread Cert.ScatterReferenceIdeal.nD Cert.ScatterReferenceIdeal.τ).loc Cert.ScatterReferenceIdeal.main_arg2) = m ((c.tc : Thread Cert.ScatterIdeal.nD Cert.ScatterIdeal.τ).loc Cert.ScatterIdeal.main_arg2)) →
    ∃ (v0 : (c : Dev Cert.ScatterIdeal.nD) → Buf (Elt Ideal) ((c.tc : Thread Cert.ScatterIdeal.nD Cert.ScatterIdeal.τ).loc Cert.ScatterIdeal.main_v3)) (v1 : (c : Dev Cert.ScatterIdeal.nD) → Buf (Elt Ideal) ((c.tc : Thread Cert.ScatterIdeal.nD Cert.ScatterIdeal.τ).loc Cert.ScatterIdeal.main_v4)) (v2 : (c : Dev Cert.ScatterIdeal.nD) → Buf (Elt Ideal) ((c.tc : Thread Cert.ScatterIdeal.nD Cert.ScatterIdeal.τ).loc Cert.ScatterIdeal.main_v5)) (v3 : (c : Dev Cert.ScatterIdeal.nD) → Buf (Elt Ideal) ((c.tc : Thread Cert.ScatterIdeal.nD Cert.ScatterIdeal.τ).loc Cert.ScatterIdeal.main_v7)) (v4 : (c : Dev Cert.ScatterIdeal.nD) → Buf (Elt Ideal) ((c.tc : Thread Cert.ScatterIdeal.nD Cert.ScatterIdeal.τ).loc Cert.ScatterIdeal.main_v8)) (v5 : (c : Dev Cert.ScatterIdeal.nD) → Buf (Elt Ideal) ((c.tc : Thread Cert.ScatterIdeal.nD Cert.ScatterIdeal.τ).loc Cert.ScatterIdeal.main_v9)),
      θ_run (Cert.ScatterIdeal.defs (F := Ideal)) (Cert.ScatterIdeal.threads (F := Ideal)) ⟨m, fun _ => 0, g⟩ (fun r => ∀ c : Dev Cert.ScatterIdeal.nD,
          r.2.mem ((c.tc : Thread Cert.ScatterIdeal.nD Cert.ScatterIdeal.τ).loc Cert.ScatterIdeal.main_v3) = v0 c
          ∧ r.2.mem ((c.tc : Thread Cert.ScatterIdeal.nD Cert.ScatterIdeal.τ).loc Cert.ScatterIdeal.main_v4) = v1 c
          ∧ r.2.mem ((c.tc : Thread Cert.ScatterIdeal.nD Cert.ScatterIdeal.τ).loc Cert.ScatterIdeal.main_v5) = v2 c
          ∧ r.2.mem ((c.tc : Thread Cert.ScatterIdeal.nD Cert.ScatterIdeal.τ).loc Cert.ScatterIdeal.main_v7) = v3 c
          ∧ r.2.mem ((c.tc : Thread Cert.ScatterIdeal.nD Cert.ScatterIdeal.τ).loc Cert.ScatterIdeal.main_v8) = v4 c
          ∧ r.2.mem ((c.tc : Thread Cert.ScatterIdeal.nD Cert.ScatterIdeal.τ).loc Cert.ScatterIdeal.main_v9) = v5 c
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2))
      ∧ θ_run (Cert.ScatterReferenceIdeal.defs (F := Ideal)) (onTc (τ := Cert.ScatterReferenceIdeal.τ) (Cert.ScatterReferenceIdeal.main (F := Ideal))) ⟨m', fun _ => 0, g'⟩ (fun r => ∀ c : Dev Cert.ScatterReferenceIdeal.nD,
          r.2.mem ((c.tc : Thread Cert.ScatterReferenceIdeal.nD Cert.ScatterReferenceIdeal.τ).loc Cert.ScatterReferenceIdeal.main_v67) = v0 c
          ∧ r.2.mem ((c.tc : Thread Cert.ScatterReferenceIdeal.nD Cert.ScatterReferenceIdeal.τ).loc Cert.ScatterReferenceIdeal.main_v68) = v1 c
          ∧ r.2.mem ((c.tc : Thread Cert.ScatterReferenceIdeal.nD Cert.ScatterReferenceIdeal.τ).loc Cert.ScatterReferenceIdeal.main_v69) = v2 c
          ∧ r.2.mem ((c.tc : Thread Cert.ScatterReferenceIdeal.nD Cert.ScatterReferenceIdeal.τ).loc Cert.ScatterReferenceIdeal.main_v70) = v3 c
          ∧ r.2.mem ((c.tc : Thread Cert.ScatterReferenceIdeal.nD Cert.ScatterReferenceIdeal.τ).loc Cert.ScatterReferenceIdeal.main_v71) = v4 c
          ∧ r.2.mem ((c.tc : Thread Cert.ScatterReferenceIdeal.nD Cert.ScatterReferenceIdeal.τ).loc Cert.ScatterReferenceIdeal.main_v72) = v5 c
          ∧ r.2.mem ((c.tc : Thread Cert.ScatterReferenceIdeal.nD Cert.ScatterReferenceIdeal.τ).loc Cert.ScatterReferenceIdeal.main_arg0) = m' ((c.tc : Thread Cert.ScatterReferenceIdeal.nD Cert.ScatterReferenceIdeal.τ).loc Cert.ScatterReferenceIdeal.main_arg0)
          ∧ r.2.mem ((c.tc : Thread Cert.ScatterReferenceIdeal.nD Cert.ScatterReferenceIdeal.τ).loc Cert.ScatterReferenceIdeal.main_arg1) = m' ((c.tc : Thread Cert.ScatterReferenceIdeal.nD Cert.ScatterReferenceIdeal.τ).loc Cert.ScatterReferenceIdeal.main_arg1)
          ∧ r.2.mem ((c.tc : Thread Cert.ScatterReferenceIdeal.nD Cert.ScatterReferenceIdeal.τ).loc Cert.ScatterReferenceIdeal.main_arg2) = m' ((c.tc : Thread Cert.ScatterReferenceIdeal.nD Cert.ScatterReferenceIdeal.τ).loc Cert.ScatterReferenceIdeal.main_arg2))

def preserves_Attend_AttendIdeal : Prop :=
  True

def algebraic_AttendIdeal_AttendReferenceIdeal [hAttendIdeal : Cert.AttendIdeal.Facts] [hAttendReferenceIdeal : Cert.AttendReferenceIdeal.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendReferenceIdeal.nD Cert.AttendReferenceIdeal.τ Cert.AttendReferenceIdeal.sig) → Buf (Elt Ideal) ℓ) (g' : Dev Cert.AttendReferenceIdeal.nD → PrngReg), Pre_AttendIdeal m →
    (∀ c : Dev Cert.AttendIdeal.nD,
      m' ((c.tc : Thread Cert.AttendReferenceIdeal.nD Cert.AttendReferenceIdeal.τ).loc Cert.AttendReferenceIdeal.main_arg0) = m ((c.tc : Thread Cert.AttendIdeal.nD Cert.AttendIdeal.τ).loc Cert.AttendIdeal.main_arg0)
      ∧ m' ((c.tc : Thread Cert.AttendReferenceIdeal.nD Cert.AttendReferenceIdeal.τ).loc Cert.AttendReferenceIdeal.main_arg1) = m ((c.tc : Thread Cert.AttendIdeal.nD Cert.AttendIdeal.τ).loc Cert.AttendIdeal.main_arg1)
      ∧ m' ((c.tc : Thread Cert.AttendReferenceIdeal.nD Cert.AttendReferenceIdeal.τ).loc Cert.AttendReferenceIdeal.main_arg2) = m ((c.tc : Thread Cert.AttendIdeal.nD Cert.AttendIdeal.τ).loc Cert.AttendIdeal.main_arg2)) →
    ∃ (v0 : (c : Dev Cert.AttendIdeal.nD) → Buf (Elt Ideal) ((c.tc : Thread Cert.AttendIdeal.nD Cert.AttendIdeal.τ).loc Cert.AttendIdeal.main_v0)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v0) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ θ_run (Cert.AttendReferenceIdeal.defs (F := Ideal)) (onTc (τ := Cert.AttendReferenceIdeal.τ) (Cert.AttendReferenceIdeal.main (F := Ideal))) ⟨m', fun _ => 0, g'⟩ (fun r => ∀ c : Dev Cert.AttendReferenceIdeal.nD,
          r.2.mem ((c.tc : Thread Cert.AttendReferenceIdeal.nD Cert.AttendReferenceIdeal.τ).loc Cert.AttendReferenceIdeal.main_v137) = v0 c
          ∧ r.2.mem ((c.tc : Thread Cert.AttendReferenceIdeal.nD Cert.AttendReferenceIdeal.τ).loc Cert.AttendReferenceIdeal.main_arg0) = m' ((c.tc : Thread Cert.AttendReferenceIdeal.nD Cert.AttendReferenceIdeal.τ).loc Cert.AttendReferenceIdeal.main_arg0)
          ∧ r.2.mem ((c.tc : Thread Cert.AttendReferenceIdeal.nD Cert.AttendReferenceIdeal.τ).loc Cert.AttendReferenceIdeal.main_arg1) = m' ((c.tc : Thread Cert.AttendReferenceIdeal.nD Cert.AttendReferenceIdeal.τ).loc Cert.AttendReferenceIdeal.main_arg1)
          ∧ r.2.mem ((c.tc : Thread Cert.AttendReferenceIdeal.nD Cert.AttendReferenceIdeal.τ).loc Cert.AttendReferenceIdeal.main_arg2) = m' ((c.tc : Thread Cert.AttendReferenceIdeal.nD Cert.AttendReferenceIdeal.τ).loc Cert.AttendReferenceIdeal.main_arg2))

def Claim : Prop :=
  ∃ (hKernel : Cert.Kernel.Facts) (hKernelIdeal : Cert.KernelIdeal.Facts) (hReferenceIdeal : Cert.ReferenceIdeal.Facts) (hScatter : Cert.Scatter.Facts) (hScatterIdeal : Cert.ScatterIdeal.Facts) (hScatterReferenceIdeal : Cert.ScatterReferenceIdeal.Facts) (hAttend : Cert.Attend.Facts) (hAttendIdeal : Cert.AttendIdeal.Facts) (hAttendReferenceIdeal : Cert.AttendReferenceIdeal.Facts) (hPre_rank_in_range : Cert.Pre_rank_in_range.Facts) (hPre_rank_permutes : Cert.Pre_rank_permutes.Facts),
    quiescent_Kernel (hKernel := hKernel) (hPre_rank_in_range := hPre_rank_in_range)
    ∧ quiescent_KernelIdeal (hKernelIdeal := hKernelIdeal) (hPre_rank_in_range := hPre_rank_in_range)
    ∧ quiescent_ReferenceIdeal (hReferenceIdeal := hReferenceIdeal) (hPre_rank_in_range := hPre_rank_in_range)
    ∧ quiescent_Scatter (hScatter := hScatter) (hPre_rank_permutes := hPre_rank_permutes)
    ∧ quiescent_ScatterIdeal (hScatterIdeal := hScatterIdeal) (hPre_rank_permutes := hPre_rank_permutes)
    ∧ quiescent_ScatterReferenceIdeal (hScatterReferenceIdeal := hScatterReferenceIdeal) (hPre_rank_permutes := hPre_rank_permutes)
    ∧ quiescent_Attend (hAttend := hAttend)
    ∧ quiescent_AttendIdeal (hAttendIdeal := hAttendIdeal)
    ∧ quiescent_AttendReferenceIdeal (hAttendReferenceIdeal := hAttendReferenceIdeal)
    ∧ preserves_Kernel_KernelIdeal
    ∧ algebraic_KernelIdeal_ReferenceIdeal (hKernelIdeal := hKernelIdeal) (hReferenceIdeal := hReferenceIdeal) (hPre_rank_in_range := hPre_rank_in_range)
    ∧ preserves_Scatter_ScatterIdeal
    ∧ algebraic_ScatterIdeal_ScatterReferenceIdeal (hScatterIdeal := hScatterIdeal) (hScatterReferenceIdeal := hScatterReferenceIdeal) (hPre_rank_permutes := hPre_rank_permutes)
    ∧ preserves_Attend_AttendIdeal
    ∧ algebraic_AttendIdeal_AttendReferenceIdeal (hAttendIdeal := hAttendIdeal) (hAttendReferenceIdeal := hAttendReferenceIdeal)
-- ==== Pre_rank_in_range.lean ====
abbrev S32x2x2048x128 : Shape := ⟨4, ![32, 2, 2048, 128]⟩
abbrev S32x4x2048x1 : Shape := ⟨4, ![32, 4, 2048, 1]⟩
abbrev S_ : Shape := ⟨0, ![]⟩

class Facts : Prop where
  bcast_S_S32x4x2048x1 : S_.BroadcastsInDim S32x4x2048x1 (![] : Fin 0 → Fin S32x4x2048x1.rank)
  reducesTo_S32x4x2048x1_S_d0_1_2_3 : S32x4x2048x1.ReducesTo [0, 1, 2, 3] S_
  h_S_ : 0 < S_.numel

variable [Facts]

def fn {F : FTy → Type} [FloatOps F] (main_arg0 : FVec F S32x2x2048x128 .f32) (main_arg1 : FVec F S32x2x2048x128 .f32) (main_arg2 : IVec S32x4x2048x1 32) : IVec S_ 1 :=
  let main_c : IVec S_ 32 := constantI S_ 32 0#32
  let main_v0 : IVec S32x4x2048x1 32 := broadcastInDim S32x4x2048x1 ![] bcast_S_S32x4x2048x1 main_c
  let main_v1 : IVec S32x4x2048x1 1 := cmpi .sge main_arg2 main_v0
  let main_c_0 : IVec S_ 32 := constantI S_ 32 2048#32
  let main_v2 : IVec S32x4x2048x1 32 := broadcastInDim S32x4x2048x1 ![] bcast_S_S32x4x2048x1 main_c_0
  let main_v3 : IVec S32x4x2048x1 1 := cmpi .slt main_arg2 main_v2
  let main_v4 : IVec S32x4x2048x1 1 := andi main_v1 main_v3
  let main_c_1 : IVec S_ 1 := constantI S_ 1 1#1
  let main_v5 : IVec S_ 1 := (fun x v => Host.reduce IntOp.andi x v reducesTo_S32x4x2048x1_S_d0_1_2_3 h_S_) main_v4 main_c_1
  main_v5
-- ==== Pre_rank_permutes.lean ====
abbrev S32x2048x128 : Shape := ⟨3, ![32, 2048, 128]⟩
abbrev S32x8x2048 : Shape := ⟨3, ![32, 8, 2048]⟩
abbrev S32x4x2048x1 : Shape := ⟨4, ![32, 4, 2048, 1]⟩
abbrev S32x4x2048 : Shape := ⟨3, ![32, 4, 2048]⟩
abbrev S_ : Shape := ⟨0, ![]⟩
abbrev S1 : Shape := ⟨1, ![1]⟩
abbrev S1x1x1x1 : Shape := ⟨4, ![1, 1, 1, 1]⟩
abbrev S2048 : Shape := ⟨1, ![2048]⟩
abbrev S1x1x2048 : Shape := ⟨3, ![1, 1, 2048]⟩

class Facts : Prop where
  shapeCasts_S32x4x2048x1_S32x4x2048 : S32x4x2048x1.ShapeCasts S32x4x2048
  bcast_S_S32x4x2048 : S_.BroadcastsInDim S32x4x2048 (![] : Fin 0 → Fin S32x4x2048.rank)
  shapeCasts_S32x4x2048_S32x4x2048x1 : S32x4x2048.ShapeCasts S32x4x2048x1
  bcast_S_S32x4x2048x1 : S_.BroadcastsInDim S32x4x2048x1 (![] : Fin 0 → Fin S32x4x2048x1.rank)
  bcast_S1_S1x1x1x1_3 : S1.BroadcastsInDim S1x1x1x1 (![3] : Fin 1 → Fin S1x1x1x1.rank)
  bcast_S1x1x1x1_S32x4x2048x1_0_1_2_3 : S1x1x1x1.BroadcastsInDim S32x4x2048x1 (![0, 1, 2, 3] : Fin 4 → Fin S32x4x2048x1.rank)
  reducesTo_S32x4x2048x1_S32x4x2048_d3 : S32x4x2048x1.ReducesTo [3] S32x4x2048
  h_S_ : 0 < S_.numel
  bcast_S2048_S1x1x2048_2 : S2048.BroadcastsInDim S1x1x2048 (![2] : Fin 1 → Fin S1x1x2048.rank)
  bcast_S1x1x2048_S32x4x2048_0_1_2 : S1x1x2048.BroadcastsInDim S32x4x2048 (![0, 1, 2] : Fin 3 → Fin S32x4x2048.rank)
  reducesTo_S32x4x2048_S_d0_1_2 : S32x4x2048.ReducesTo [0, 1, 2] S_
  gather_S32x4x2048_S32x4x2048x1_S32x4x2048_n_2_01_01_2_3_111_wf : GatherDims.WF S32x4x2048 S32x4x2048x1 S32x4x2048 [] [2] [0, 1] [2] [0, 1] 3 ![1, 1, 1]

variable [Facts]

def comparator_i32_i32_d2 : BitVec 32 × BitVec 32 → BitVec 32 × BitVec 32 → BitVec 1 :=
  fun l r =>
    let v2 := IntOp.cmpi .slt l.1 r.1
    v2
def gather_S32x4x2048_S32x4x2048x1_S32x4x2048_n_2_01_01_2_3_111 : GatherDims S32x4x2048 S32x4x2048x1 S32x4x2048 where
  offsetDims := []
  collapsedSliceDims := [2]
  operandBatchingDims := [0, 1]
  startIndicesBatchingDims := [0, 1]
  startIndexMap := [2]
  indexVectorDim := 3
  sliceSizes := ![1, 1, 1]
  wf := gather_S32x4x2048_S32x4x2048x1_S32x4x2048_n_2_01_01_2_3_111_wf
def fn_argsort {F : FTy → Type} [FloatOps F] (arg0 : IVec S32x4x2048 32) : IVec S32x4x2048 32 :=
  let v0 : IVec S32x4x2048 32 := iotaInDim S32x4x2048 32 2
  let v1_0 : IVec S32x4x2048 32 := (fun x y => (Host.sort2 S32x4x2048 2 comparator_i32_i32_d2 x y).1) arg0 v0
  let v1_1 : IVec S32x4x2048 32 := (fun x y => (Host.sort2 S32x4x2048 2 comparator_i32_i32_d2 x y).2) arg0 v0
  v1_1

def fn_take_along_axis {F : FTy → Type} [FloatOps F] (arg0 : IVec S32x4x2048 32) (arg1 : IVec S32x4x2048 32) : IVec S32x4x2048 32 :=
  let c : IVec S_ 32 := constantI S_ 32 0#32
  let v0 : IVec S32x4x2048 32 := broadcastInDim S32x4x2048 ![] bcast_S_S32x4x2048 c
  let v1 : IVec S32x4x2048 1 := cmpi .slt arg1 v0
  let c_0 : IVec S_ 32 := constantI S_ 32 2048#32
  let v2 : IVec S32x4x2048 32 := broadcastInDim S32x4x2048 ![] bcast_S_S32x4x2048 c_0
  let v3 : IVec S32x4x2048 32 := addi arg1 v2
  let v4 : IVec S32x4x2048 32 := select v1 v3 arg1
  let v5 : IVec S32x4x2048x1 32 := shapeCast S32x4x2048x1 v4 shapeCasts_S32x4x2048_S32x4x2048x1
  let c_1 : IVec S1 32 := constantI S1 32 2047#32
  let c_2 : IVec S_ 32 := constantI S_ 32 0#32
  let v6 : IVec S32x4x2048x1 32 := broadcastInDim S32x4x2048x1 ![] bcast_S_S32x4x2048x1 c_2
  let v7 : IVec S32x4x2048x1 1 := cmpi .sge v5 v6
  let v8 : IVec S1x1x1x1 32 := broadcastInDim S1x1x1x1 ![3] bcast_S1_S1x1x1x1_3 c_1
  let v9 : IVec S32x4x2048x1 32 := broadcastInDim S32x4x2048x1 ![0, 1, 2, 3] bcast_S1x1x1x1_S32x4x2048x1_0_1_2_3 v8
  let v10 : IVec S32x4x2048x1 1 := cmpi .sle v5 v9
  let v11 : IVec S32x4x2048x1 1 := andi v7 v10
  let c_3 : IVec S_ 1 := constantI S_ 1 1#1
  let v12 : IVec S32x4x2048 1 := (fun x v => Host.reduce IntOp.andi x v reducesTo_S32x4x2048x1_S32x4x2048_d3 h_S_) v11 c_3
  let v13 : IVec S32x4x2048 32 := (fun x i => Host.gather gather_S32x4x2048_S32x4x2048x1_S32x4x2048_n_2_01_01_2_3_111 x i) arg0 v5
  let c_4 : IVec S_ 32 := constantI S_ 32 2147483648#32
  let v14 : IVec S32x4x2048 32 := broadcastInDim S32x4x2048 ![] bcast_S_S32x4x2048 c_4
  let v15 : IVec S32x4x2048 32 := select v12 v13 v14
  v15

def fn {F : FTy → Type} [FloatOps F] (main_arg0 : FVec F S32x2048x128 .f32) (main_arg1 : IVec S32x8x2048 32) (main_arg2 : IVec S32x4x2048x1 32) : IVec S_ 1 :=
  let main_v0 : IVec S32x4x2048 32 := shapeCast S32x4x2048 main_arg2 shapeCasts_S32x4x2048x1_S32x4x2048
  let main_v1 : IVec S32x4x2048 32 := fn_argsort (F := F) main_v0
  let main_v2 : IVec S32x4x2048 32 := fn_take_along_axis (F := F) main_v0 main_v1
  let main_v3 : IVec S2048 32 := iotaInDim S2048 32 0
  let main_v4 : IVec S1x1x2048 32 := broadcastInDim S1x1x2048 ![2] bcast_S2048_S1x1x2048_2 main_v3
  let main_v5 : IVec S32x4x2048 32 := broadcastInDim S32x4x2048 ![0, 1, 2] bcast_S1x1x2048_S32x4x2048_0_1_2 main_v4
  let main_v6 : IVec S32x4x2048 1 := cmpi .eq main_v2 main_v5
  let main_c : IVec S_ 1 := constantI S_ 1 1#1
  let main_v7 : IVec S_ 1 := (fun x v => Host.reduce IntOp.andi x v reducesTo_S32x4x2048_S_d0_1_2 h_S_) main_v6 main_c
  main_v7
-- ==== Kernel.lean ====
abbrev S32x2x2048x128 : Shape := ⟨4, ![32, 2, 2048, 128]⟩
abbrev S32x4x2048x1 : Shape := ⟨4, ![32, 4, 2048, 1]⟩
abbrev S262144 : Shape := ⟨1, ![262144]⟩
abbrev S131072x128 : Shape := ⟨2, ![131072, 128]⟩
abbrev S512 : Shape := ⟨1, ![512]⟩
abbrev S4x128 : Shape := ⟨2, ![4, 128]⟩
abbrev S512x128 : Shape := ⟨2, ![512, 128]⟩
abbrev S_ : Shape := ⟨0, ![]⟩
abbrev S16 : Shape := ⟨1, ![16]⟩
abbrev S1x16 : Shape := ⟨2, ![1, 16]⟩
abbrev S128x128 : Shape := ⟨2, ![128, 128]⟩
abbrev S1x128 : Shape := ⟨2, ![1, 128]⟩
abbrev S128 : Shape := ⟨1, ![128]⟩
abbrev S1x1x512x128 : Shape := ⟨4, ![1, 1, 512, 128]⟩
abbrev S32x2048x64 : Shape := ⟨3, ![32, 2048, 64]⟩
abbrev S1x2x2048x128 : Shape := ⟨4, ![1, 2, 2048, 128]⟩
abbrev S1x2048x64 : Shape := ⟨3, ![1, 2048, 64]⟩
abbrev S2048x64 : Shape := ⟨2, ![2048, 64]⟩
abbrev S1x1x2048x1 : Shape := ⟨4, ![1, 1, 2048, 1]⟩
abbrev S2048x1 : Shape := ⟨2, ![2048, 1]⟩
abbrev S1 : Shape := ⟨1, ![1]⟩
abbrev S1x1 : Shape := ⟨2, ![1, 1]⟩
abbrev S1x1x2048x64 : Shape := ⟨4, ![1, 1, 2048, 64]⟩

abbrev nBuf : Table → Nat
  | .hbm => 9
  | .local .tc .vmem => 6
  | .local .scVector .vmem => 6
  | _ => 0

abbrev bufTy : (tb : Table) → Fin (nBuf tb) → BufTy
  | .hbm, ⟨0, _⟩ => ⟨S32x2x2048x128, .f32⟩
  | .hbm, ⟨1, _⟩ => ⟨S32x2x2048x128, .f32⟩
  | .hbm, ⟨2, _⟩ => ⟨S32x4x2048x1, .i32⟩
  | .hbm, ⟨3, _⟩ => ⟨S262144, .i32⟩
  | .hbm, ⟨4, _⟩ => ⟨S131072x128, .f32⟩
  | .hbm, ⟨5, _⟩ => ⟨S32x2x2048x128, .f32⟩
  | .hbm, ⟨6, _⟩ => ⟨S131072x128, .f32⟩
  | .hbm, ⟨7, _⟩ => ⟨S32x2x2048x128, .f32⟩
  | .hbm, ⟨8, _⟩ => ⟨S32x2048x64, .f32⟩
  | .local .tc .vmem, ⟨0, _⟩ => ⟨S1x2x2048x128, .f32⟩
  | .local .tc .vmem, ⟨1, _⟩ => ⟨S1x2x2048x128, .f32⟩
  | .local .tc .vmem, ⟨2, _⟩ => ⟨S1x2x2048x128, .f32⟩
  | .local .tc .vmem, ⟨3, _⟩ => ⟨S1x2x2048x128, .f32⟩
  | .local .tc .vmem, ⟨4, _⟩ => ⟨S1x2048x64, .f32⟩
  | .local .tc .vmem, ⟨5, _⟩ => ⟨S1x2048x64, .f32⟩
  | .local .scVector .vmem, ⟨0, _⟩ => ⟨S512, .i32⟩
  | .local .scVector .vmem, ⟨1, _⟩ => ⟨S4x128, .i32⟩
  | .local .scVector .vmem, ⟨2, _⟩ => ⟨S512x128, .f32⟩
  | .local .scVector .vmem, ⟨3, _⟩ => ⟨S512, .i32⟩
  | .local .scVector .vmem, ⟨4, _⟩ => ⟨S4x128, .i32⟩
  | .local .scVector .vmem, ⟨5, _⟩ => ⟨S512x128, .f32⟩
  | _, _ => ⟨S32x2x2048x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v1_scv : Ref sig .scVector := ⟨.hbm, 4, rfl⟩
abbrev main_v0_scv : Ref sig .scVector := ⟨.hbm, 3, rfl⟩
abbrev main_v2_scv : Ref sig .scVector := ⟨.hbm, 5, rfl⟩
abbrev main_v3_scv : Ref sig .scVector := ⟨.hbm, 6, rfl⟩
abbrev main_v4_scv : Ref sig .scVector := ⟨.hbm, 7, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc2_sem0_0 : DmaSem sig := 6
abbrev cc2_sem0_1 : DmaSem sig := 7
abbrev cc2_sem1_0 : DmaSem sig := 8
abbrev cc2_sem1_1 : DmaSem sig := 9
abbrev cc2_sem2_0 : DmaSem sig := 10
abbrev cc2_sem2_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c8_i32 : BitVec 32 := 8#32
  let v2 : BitVec 32 := Scalar.addi c0_i32_0 c8_i32
  let c1_i32 : BitVec 32 := 1#32
  ⟨c0_i32_0, v2, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_14 : BitVec 32 := 2#32
  let v31 : BitVec 32 := Scalar.muli v1 c2_i32_14
  let c0_i32_0 : BitVec 32 := 0#32
  let c1_i32 : BitVec 32 := 1#32
  let arg9 : BitVec 32 := Scf.iv c0_i32_0 c1_i32 k0_t1
  let c0_i32_2 : BitVec 32 := 0#32
  let v5 : BitVec 1 := Scalar.cmpi .sgt arg9 c0_i32_2
  let v6 : BitVec 32 := Scalar.extui v5
  let c0_i32_3 : BitVec 32 := 0#32
  let v7 : BitVec 1 := Scalar.cmpi .slt arg9 c0_i32_3
  let v8 : BitVec 32 := Scalar.extui v7
  let v9 : BitVec 32 := Scalar.subi v6 v8
  let c4_i32 : BitVec 32 := 4#32
  let c0_i32_4 : BitVec 32 := 0#32
  let v10 : BitVec 1 := Scalar.cmpi .sgt c4_i32 c0_i32_4
  let v11 : BitVec 32 := Scalar.extui v10
  let c0_i32_5 : BitVec 32 := 0#32
  let v12 : BitVec 1 := Scalar.cmpi .slt c4_i32 c0_i32_5
  let v13 : BitVec 32 := Scalar.extui v12
  let v14 : BitVec 32 := Scalar.subi v11 v13
  let v15 : BitVec 1 := Scalar.cmpi .ne v9 v14
  let v16 : BitVec 32 := Scalar.remsi arg9 c4_i32
  let c0_i32_6 : BitVec 32 := 0#32
  let v17 : BitVec 1 := Scalar.cmpi .ne v16 c0_i32_6
  let v18 : BitVec 1 := Scalar.andi v15 v17
  let v4 : BitVec 32 := Scalar.divsi arg9 c4_i32
  let c1_i32_7 : BitVec 32 := 1#32
  let v19 : BitVec 32 := Scalar.subi v4 c1_i32_7
  let v20 : BitVec 32 := Scalar.select v18 v19 v4
  let v32 : BitVec 32 := Scalar.addi v31 v20
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c2_i32_15 : BitVec 32 := 2#32
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let v33 : BitVec 32 := Scalar.divsi v32 c2_i32_15
  let c1_i32_21 : BitVec 32 := 1#32
  let v48 : BitVec 32 := Scalar.subi v33 c1_i32_21
  let v49 : BitVec 32 := Scalar.select v47 v48 v33
  let c4_i32_29 : BitVec 32 := 4#32
  let v63 : BitVec 32 := Scalar.muli v49 c4_i32_29
  let c0_i32_28 : BitVec 32 := 0#32
  let c2_i32_22 : BitVec 32 := 2#32
  let c0_i32_23 : BitVec 32 := 0#32
  let v50 : BitVec 1 := Scalar.cmpi .eq c2_i32_22 c0_i32_23
  let c1_i32_24 : BitVec 32 := 1#32
  let v51 : BitVec 32 := Scalar.select v50 c1_i32_24 c2_i32_22
  let v52 : BitVec 32 := Scalar.remsi v32 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let v60 : BitVec 32 := Scalar.addi c0_i32_28 v59
  let v64 : BitVec 32 := Scalar.addi v63 v60
  let c2048_i32_30 : BitVec 32 := 2048#32
  let v65 : BitVec 32 := Scalar.muli v64 c2048_i32_30
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi arg9 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c512_i32 : BitVec 32 := 512#32
  let v61 : BitVec 32 := Scalar.muli v30 c512_i32
  let v66 : BitVec 32 := Scalar.addi v65 v61
  ![v66.toNat]
def k0_off2 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_14 : BitVec 32 := 2#32
  let v31 : BitVec 32 := Scalar.muli v1 c2_i32_14
  let c0_i32_0 : BitVec 32 := 0#32
  let c1_i32 : BitVec 32 := 1#32
  let arg9 : BitVec 32 := Scf.iv c0_i32_0 c1_i32 k0_t1
  let c0_i32_2 : BitVec 32 := 0#32
  let v5 : BitVec 1 := Scalar.cmpi .sgt arg9 c0_i32_2
  let v6 : BitVec 32 := Scalar.extui v5
  let c0_i32_3 : BitVec 32 := 0#32
  let v7 : BitVec 1 := Scalar.cmpi .slt arg9 c0_i32_3
  let v8 : BitVec 32 := Scalar.extui v7
  let v9 : BitVec 32 := Scalar.subi v6 v8
  let c4_i32 : BitVec 32 := 4#32
  let c0_i32_4 : BitVec 32 := 0#32
  let v10 : BitVec 1 := Scalar.cmpi .sgt c4_i32 c0_i32_4
  let v11 : BitVec 32 := Scalar.extui v10
  let c0_i32_5 : BitVec 32 := 0#32
  let v12 : BitVec 1 := Scalar.cmpi .slt c4_i32 c0_i32_5
  let v13 : BitVec 32 := Scalar.extui v12
  let v14 : BitVec 32 := Scalar.subi v11 v13
  let v15 : BitVec 1 := Scalar.cmpi .ne v9 v14
  let v16 : BitVec 32 := Scalar.remsi arg9 c4_i32
  let c0_i32_6 : BitVec 32 := 0#32
  let v17 : BitVec 1 := Scalar.cmpi .ne v16 c0_i32_6
  let v18 : BitVec 1 := Scalar.andi v15 v17
  let v4 : BitVec 32 := Scalar.divsi arg9 c4_i32
  let c1_i32_7 : BitVec 32 := 1#32
  let v19 : BitVec 32 := Scalar.subi v4 c1_i32_7
  let v20 : BitVec 32 := Scalar.select v18 v19 v4
  let v32 : BitVec 32 := Scalar.addi v31 v20
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c2_i32_15 : BitVec 32 := 2#32
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let v33 : BitVec 32 := Scalar.divsi v32 c2_i32_15
  let c1_i32_21 : BitVec 32 := 1#32
  let v48 : BitVec 32 := Scalar.subi v33 c1_i32_21
  let v49 : BitVec 32 := Scalar.select v47 v48 v33
  let c2_i32_139 : BitVec 32 := 2#32
  let c0_i32_140 : BitVec 32 := 0#32
  let v259 : BitVec 1 := Scalar.cmpi .eq c2_i32_139 c0_i32_140
  let c1_i32_141 : BitVec 32 := 1#32
  let v260 : BitVec 32 := Scalar.select v259 c1_i32_141 c2_i32_139
  let v261 : BitVec 32 := Scalar.remsi v32 v260
  let c0_i32_143 : BitVec 32 := 0#32
  let v263 : BitVec 1 := Scalar.cmpi .slt v261 c0_i32_143
  let c0_i32_144 : BitVec 32 := 0#32
  let v264 : BitVec 1 := Scalar.cmpi .slt v260 c0_i32_144
  let v265 : BitVec 1 := Scalar.xori v263 v264
  let c0_i32_142 : BitVec 32 := 0#32
  let v262 : BitVec 1 := Scalar.cmpi .ne v261 c0_i32_142
  let v266 : BitVec 1 := Scalar.andi v265 v262
  let v267 : BitVec 32 := Scalar.addi v261 v260
  let v268 : BitVec 32 := Scalar.select v266 v267 v261
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi arg9 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c512_i32 : BitVec 32 := 512#32
  let v61 : BitVec 32 := Scalar.muli v30 c512_i32
  let c0_i32_146_r1 : BitVec 32 := 0#32
  ![v49.toNat, v268.toNat, v61.toNat, 0]
abbrev grid1 : Pipeline.Grid := ⟨2, ![2, 16], ![false, false]⟩

@[reducible] def k1_t1_loop : Scf.Loop 32 :=
  let c0_i32_0 : BitVec 32 := 0#32
  let c8_i32 : BitVec 32 := 8#32
  let v2 : BitVec 32 := Scalar.addi c0_i32_0 c8_i32
  let c1_i32 : BitVec 32 := 1#32
  ⟨c0_i32_0, v2, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_14 : BitVec 32 := 2#32
  let v31 : BitVec 32 := Scalar.muli v1 c2_i32_14
  let c0_i32_0 : BitVec 32 := 0#32
  let c1_i32 : BitVec 32 := 1#32
  let arg9 : BitVec 32 := Scf.iv c0_i32_0 c1_i32 k1_t1
  let c0_i32_2 : BitVec 32 := 0#32
  let v5 : BitVec 1 := Scalar.cmpi .sgt arg9 c0_i32_2
  let v6 : BitVec 32 := Scalar.extui v5
  let c0_i32_3 : BitVec 32 := 0#32
  let v7 : BitVec 1 := Scalar.cmpi .slt arg9 c0_i32_3
  let v8 : BitVec 32 := Scalar.extui v7
  let v9 : BitVec 32 := Scalar.subi v6 v8
  let c4_i32 : BitVec 32 := 4#32
  let c0_i32_4 : BitVec 32 := 0#32
  let v10 : BitVec 1 := Scalar.cmpi .sgt c4_i32 c0_i32_4
  let v11 : BitVec 32 := Scalar.extui v10
  let c0_i32_5 : BitVec 32 := 0#32
  let v12 : BitVec 1 := Scalar.cmpi .slt c4_i32 c0_i32_5
  let v13 : BitVec 32 := Scalar.extui v12
  let v14 : BitVec 32 := Scalar.subi v11 v13
  let v15 : BitVec 1 := Scalar.cmpi .ne v9 v14
  let v16 : BitVec 32 := Scalar.remsi arg9 c4_i32
  let c0_i32_6 : BitVec 32 := 0#32
  let v17 : BitVec 1 := Scalar.cmpi .ne v16 c0_i32_6
  let v18 : BitVec 1 := Scalar.andi v15 v17
  let v4 : BitVec 32 := Scalar.divsi arg9 c4_i32
  let c1_i32_7 : BitVec 32 := 1#32
  let v19 : BitVec 32 := Scalar.subi v4 c1_i32_7
  let v20 : BitVec 32 := Scalar.select v18 v19 v4
  let v32 : BitVec 32 := Scalar.addi v31 v20
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c2_i32_15 : BitVec 32 := 2#32
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let v33 : BitVec 32 := Scalar.divsi v32 c2_i32_15
  let c1_i32_21 : BitVec 32 := 1#32
  let v48 : BitVec 32 := Scalar.subi v33 c1_i32_21
  let v49 : BitVec 32 := Scalar.select v47 v48 v33
  let c4_i32_29 : BitVec 32 := 4#32
  let v63 : BitVec 32 := Scalar.muli v49 c4_i32_29
  let c2_i32_28 : BitVec 32 := 2#32
  let c2_i32_22 : BitVec 32 := 2#32
  let c0_i32_23 : BitVec 32 := 0#32
  let v50 : BitVec 1 := Scalar.cmpi .eq c2_i32_22 c0_i32_23
  let c1_i32_24 : BitVec 32 := 1#32
  let v51 : BitVec 32 := Scalar.select v50 c1_i32_24 c2_i32_22
  let v52 : BitVec 32 := Scalar.remsi v32 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let v60 : BitVec 32 := Scalar.addi c2_i32_28 v59
  let v64 : BitVec 32 := Scalar.addi v63 v60
  let c2048_i32_30 : BitVec 32 := 2048#32
  let v65 : BitVec 32 := Scalar.muli v64 c2048_i32_30
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi arg9 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c512_i32 : BitVec 32 := 512#32
  let v61 : BitVec 32 := Scalar.muli v30 c512_i32
  let v66 : BitVec 32 := Scalar.addi v65 v61
  ![v66.toNat]
def k1_off2 (i : grid1.Coords) (k1_t1 : Fin k1_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_14 : BitVec 32 := 2#32
  let v31 : BitVec 32 := Scalar.muli v1 c2_i32_14
  let c0_i32_0 : BitVec 32 := 0#32
  let c1_i32 : BitVec 32 := 1#32
  let arg9 : BitVec 32 := Scf.iv c0_i32_0 c1_i32 k1_t1
  let c0_i32_2 : BitVec 32 := 0#32
  let v5 : BitVec 1 := Scalar.cmpi .sgt arg9 c0_i32_2
  let v6 : BitVec 32 := Scalar.extui v5
  let c0_i32_3 : BitVec 32 := 0#32
  let v7 : BitVec 1 := Scalar.cmpi .slt arg9 c0_i32_3
  let v8 : BitVec 32 := Scalar.extui v7
  let v9 : BitVec 32 := Scalar.subi v6 v8
  let c4_i32 : BitVec 32 := 4#32
  let c0_i32_4 : BitVec 32 := 0#32
  let v10 : BitVec 1 := Scalar.cmpi .sgt c4_i32 c0_i32_4
  let v11 : BitVec 32 := Scalar.extui v10
  let c0_i32_5 : BitVec 32 := 0#32
  let v12 : BitVec 1 := Scalar.cmpi .slt c4_i32 c0_i32_5
  let v13 : BitVec 32 := Scalar.extui v12
  let v14 : BitVec 32 := Scalar.subi v11 v13
  let v15 : BitVec 1 := Scalar.cmpi .ne v9 v14
  let v16 : BitVec 32 := Scalar.remsi arg9 c4_i32
  let c0_i32_6 : BitVec 32 := 0#32
  let v17 : BitVec 1 := Scalar.cmpi .ne v16 c0_i32_6
  let v18 : BitVec 1 := Scalar.andi v15 v17
  let v4 : BitVec 32 := Scalar.divsi arg9 c4_i32
  let c1_i32_7 : BitVec 32 := 1#32
  let v19 : BitVec 32 := Scalar.subi v4 c1_i32_7
  let v20 : BitVec 32 := Scalar.select v18 v19 v4
  let v32 : BitVec 32 := Scalar.addi v31 v20
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c2_i32_15 : BitVec 32 := 2#32
  let c0_i32_18 : BitVec 32 := 0#32
  let v39 : BitVec 1 := Scalar.cmpi .sgt c2_i32_15 c0_i32_18
  let v40 : BitVec 32 := Scalar.extui v39
  let c0_i32_19 : BitVec 32 := 0#32
  let v41 : BitVec 1 := Scalar.cmpi .slt c2_i32_15 c0_i32_19
  let v42 : BitVec 32 := Scalar.extui v41
  let v43 : BitVec 32 := Scalar.subi v40 v42
  let v44 : BitVec 1 := Scalar.cmpi .ne v38 v43
  let v45 : BitVec 32 := Scalar.remsi v32 c2_i32_15
  let c0_i32_20 : BitVec 32 := 0#32
  let v46 : BitVec 1 := Scalar.cmpi .ne v45 c0_i32_20
  let v47 : BitVec 1 := Scalar.andi v44 v46
  let v33 : BitVec 32 := Scalar.divsi v32 c2_i32_15
  let c1_i32_21 : BitVec 32 := 1#32
  let v48 : BitVec 32 := Scalar.subi v33 c1_i32_21
  let v49 : BitVec 32 := Scalar.select v47 v48 v33
  let c2_i32_139 : BitVec 32 := 2#32
  let c0_i32_140 : BitVec 32 := 0#32
  let v259 : BitVec 1 := Scalar.cmpi .eq c2_i32_139 c0_i32_140
  let c1_i32_141 : BitVec 32 := 1#32
  let v260 : BitVec 32 := Scalar.select v259 c1_i32_141 c2_i32_139
  let v261 : BitVec 32 := Scalar.remsi v32 v260
  let c0_i32_143 : BitVec 32 := 0#32
  let v263 : BitVec 1 := Scalar.cmpi .slt v261 c0_i32_143
  let c0_i32_144 : BitVec 32 := 0#32
  let v264 : BitVec 1 := Scalar.cmpi .slt v260 c0_i32_144
  let v265 : BitVec 1 := Scalar.xori v263 v264
  let c0_i32_142 : BitVec 32 := 0#32
  let v262 : BitVec 1 := Scalar.cmpi .ne v261 c0_i32_142
  let v266 : BitVec 1 := Scalar.andi v265 v262
  let v267 : BitVec 32 := Scalar.addi v261 v260
  let v268 : BitVec 32 := Scalar.select v266 v267 v261
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi arg9 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c512_i32 : BitVec 32 := 512#32
  let v61 : BitVec 32 := Scalar.muli v30 c512_i32
  let c0_i32_146_r1 : BitVec 32 := 0#32
  ![v49.toNat, v268.toNat, v61.toNat, 0]
abbrev grid2 : Pipeline.Grid := ⟨1, ![32], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2x2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2x2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S32x2x2048x128 : Shape := ⟨4, ![32, 2, 2048, 128]⟩
abbrev S32x4x2048x1 : Shape := ⟨4, ![32, 4, 2048, 1]⟩
abbrev S32x4x2048x128 : Shape := ⟨4, ![32, 4, 2048, 128]⟩
abbrev S32x4x2048 : Shape := ⟨3, ![32, 4, 2048]⟩
abbrev S32x4x2048x64 : Shape := ⟨4, ![32, 4, 2048, 64]⟩
abbrev S_ : Shape := ⟨0, ![]⟩
abbrev S1 : Shape := ⟨1, ![1]⟩
abbrev S1x1x1x1 : Shape := ⟨4, ![1, 1, 1, 1]⟩
abbrev S32x4 : Shape := ⟨2, ![32, 4]⟩
abbrev S32x4x1 : Shape := ⟨3, ![32, 4, 1]⟩
abbrev S32x2048x64 : Shape := ⟨3, ![32, 2048, 64]⟩

abbrev nBuf : Space → Nat
  | .hbm => 68
  | .vmem => 0
  | .smem => 0
  | _ => 0

abbrev bufTy : (tb : Table) → Fin (tcTables nBuf tb) → BufTy
  | .hbm, ⟨0, _⟩ => ⟨S32x2x2048x128, .f32⟩
  | .hbm, ⟨1, _⟩ => ⟨S32x2x2048x128, .f32⟩
  | .hbm, ⟨2, _⟩ => ⟨S32x4x2048x1, .i32⟩
  | .hbm, ⟨3, _⟩ => ⟨S32x4x2048x128, .f32⟩
  | .hbm, ⟨4, _⟩ => ⟨S32x4x2048, .i32⟩
  | .hbm, ⟨5, _⟩ => ⟨S32x4x2048x64, .f32⟩
  | .hbm, ⟨6, _⟩ => ⟨S32x4x2048x1, .i32⟩
  | .hbm, ⟨7, _⟩ => ⟨S_, .i32⟩
  | .hbm, ⟨8, _⟩ => ⟨S32x4x2048x1, .i32⟩
  | .hbm, ⟨9, _⟩ => ⟨S32x4x2048x1, .i1⟩
  | .hbm, ⟨10, _⟩ => ⟨S_, .i32⟩
  | .hbm, ⟨11, _⟩ => ⟨S32x4x2048x1, .i32⟩
  | .hbm, ⟨12, _⟩ => ⟨S32x4x2048x1, .i32⟩
  | .hbm, ⟨13, _⟩ => ⟨S32x4x2048x1, .i32⟩
  | .hbm, ⟨14, _⟩ => ⟨S1, .i32⟩
  | .hbm, ⟨15, _⟩ => ⟨S_, .i32⟩
  | .hbm, ⟨16, _⟩ => ⟨S32x4x2048x1, .i32⟩
  | .hbm, ⟨17, _⟩ => ⟨S32x4x2048x1, .i1⟩
  | .hbm, ⟨18, _⟩ => ⟨S1x1x1x1, .i32⟩
  | .hbm, ⟨19, _⟩ => ⟨S32x4x2048x1, .i32⟩
  | .hbm, ⟨20, _⟩ => ⟨S32x4x2048x1, .i1⟩
  | .hbm, ⟨21, _⟩ => ⟨S32x4x2048x1, .i1⟩
  | .hbm, ⟨22, _⟩ => ⟨S_, .i1⟩
  | .hbm, ⟨23, _⟩ => ⟨S32x4x2048, .i1⟩
  | .hbm, ⟨24, _⟩ => ⟨S32x4x2048x64, .f32⟩
  | .hbm, ⟨25, _⟩ => ⟨S32x4x2048x64, .i1⟩
  | .hbm, ⟨26, _⟩ => ⟨S_, .f32⟩
  | .hbm, ⟨27, _⟩ => ⟨S32x4x2048x64, .f32⟩
  | .hbm, ⟨28, _⟩ => ⟨S32x4x2048x64, .f32⟩
  | .hbm, ⟨29, _⟩ => ⟨S32x4x2048x1, .f32⟩
  | .hbm, ⟨30, _⟩ => ⟨S32x4x2048, .f32⟩
  | .hbm, ⟨31, _⟩ => ⟨S_, .i32⟩
  | .hbm, ⟨32, _⟩ => ⟨S32x4x2048, .i32⟩
  | .hbm, ⟨33, _⟩ => ⟨S32x4x2048, .i1⟩
  | .hbm, ⟨34, _⟩ => ⟨S_, .i32⟩
  | .hbm, ⟨35, _⟩ => ⟨S32x4x2048, .i32⟩
  | .hbm, ⟨36, _⟩ => ⟨S32x4x2048, .i32⟩
  | .hbm, ⟨37, _⟩ => ⟨S32x4x2048, .i32⟩
  | .hbm, ⟨38, _⟩ => ⟨S32x4x2048x1, .i32⟩
  | .hbm, ⟨39, _⟩ => ⟨S1, .i32⟩
  | .hbm, ⟨40, _⟩ => ⟨S_, .i32⟩
  | .hbm, ⟨41, _⟩ => ⟨S32x4x2048x1, .i32⟩
  | .hbm, ⟨42, _⟩ => ⟨S32x4x2048x1, .i1⟩
  | .hbm, ⟨43, _⟩ => ⟨S1x1x1x1, .i32⟩
  | .hbm, ⟨44, _⟩ => ⟨S32x4x2048x1, .i32⟩
  | .hbm, ⟨45, _⟩ => ⟨S32x4x2048x1, .i1⟩
  | .hbm, ⟨46, _⟩ => ⟨S32x4x2048x1, .i1⟩
  | .hbm, ⟨47, _⟩ => ⟨S_, .i1⟩
  | .hbm, ⟨48, _⟩ => ⟨S32x4x2048, .i1⟩
  | .hbm, ⟨49, _⟩ => ⟨S32x4x2048, .f32⟩
  | .hbm, ⟨50, _⟩ => ⟨S_, .f32⟩
  | .hbm, ⟨51, _⟩ => ⟨S32x4x2048, .f32⟩
  | .hbm, ⟨52, _⟩ => ⟨S32x4x2048, .f32⟩
  | .hbm, ⟨53, _⟩ => ⟨S_, .f32⟩
  | .hbm, ⟨54, _⟩ => ⟨S32x4, .f32⟩
  | .hbm, ⟨55, _⟩ => ⟨S_, .f32⟩
  | .hbm, ⟨56, _⟩ => ⟨S32x4, .f32⟩
  | .hbm, ⟨57, _⟩ => ⟨S32x4, .f32⟩
  | .hbm, ⟨58, _⟩ => ⟨S32x4x1, .f32⟩
  | .hbm, ⟨59, _⟩ => ⟨S32x4x2048, .f32⟩
  | .hbm, ⟨60, _⟩ => ⟨S32x4x2048, .f32⟩
  | .hbm, ⟨61, _⟩ => ⟨S32x4x2048, .f32⟩
  | .hbm, ⟨62, _⟩ => ⟨S_, .f32⟩
  | .hbm, ⟨63, _⟩ => ⟨S32x4, .f32⟩
  | .hbm, ⟨64, _⟩ => ⟨S32x4x1, .f32⟩
  | .hbm, ⟨65, _⟩ => ⟨S32x4x2048, .f32⟩
  | .hbm, ⟨66, _⟩ => ⟨S32x4x2048, .f32⟩
  | .hbm, ⟨67, _⟩ => ⟨S32x2048x64, .f32⟩
  | _, _ => ⟨S32x2x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v7 : Ref sig .tc := ⟨.hbm, 52, rfl⟩
abbrev main_cst : Ref sig .tc := ⟨.hbm, 53, rfl⟩
abbrev main_v8 : Ref sig .tc := ⟨.hbm, 54, rfl⟩
abbrev main_cst_0 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_cst_1 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩

abbrev nD : Nat := 1
abbrev τ : Topo := Topo.v7x

variable {F : FTy → Type} [FloatOps F]
-- ==== Scatter.lean ====
abbrev S32x2048x128 : Shape := ⟨3, ![32, 2048, 128]⟩
abbrev S32x8x2048 : Shape := ⟨3, ![32, 8, 2048]⟩
abbrev S32x4x2048x1 : Shape := ⟨4, ![32, 4, 2048, 1]⟩
abbrev S262144 : Shape := ⟨1, ![262144]⟩
abbrev S524288 : Shape := ⟨1, ![524288]⟩
abbrev S131072x128 : Shape := ⟨2, ![131072, 128]⟩
abbrev S2048 : Shape := ⟨1, ![2048]⟩
abbrev S4x128 : Shape := ⟨2, ![4, 128]⟩
abbrev S512x128 : Shape := ⟨2, ![512, 128]⟩
abbrev S8192 : Shape := ⟨1, ![8192]⟩
abbrev S_ : Shape := ⟨0, ![]⟩
abbrev S16 : Shape := ⟨1, ![16]⟩
abbrev S1x512x128 : Shape := ⟨3, ![1, 512, 128]⟩
abbrev S1x16 : Shape := ⟨2, ![1, 16]⟩
abbrev S128x128 : Shape := ⟨2, ![128, 128]⟩
abbrev S1x128 : Shape := ⟨2, ![1, 128]⟩
abbrev S128 : Shape := ⟨1, ![128]⟩
abbrev S32x2x2048x128 : Shape := ⟨4, ![32, 2, 2048, 128]⟩
abbrev S32x2x4x2048 : Shape := ⟨4, ![32, 2, 4, 2048]⟩
abbrev S32x2x2048x4 : Shape := ⟨4, ![32, 2, 2048, 4]⟩

abbrev nBuf : Table → Nat
  | .hbm => 17
  | .local .scVector .vmem => 24
  | _ => 0

abbrev bufTy : (tb : Table) → Fin (nBuf tb) → BufTy
  | .hbm, ⟨0, _⟩ => ⟨S32x2048x128, .f32⟩
  | .hbm, ⟨1, _⟩ => ⟨S32x8x2048, .i32⟩
  | .hbm, ⟨2, _⟩ => ⟨S32x4x2048x1, .i32⟩
  | .hbm, ⟨3, _⟩ => ⟨S262144, .i32⟩
  | .hbm, ⟨4, _⟩ => ⟨S524288, .i32⟩
  | .hbm, ⟨5, _⟩ => ⟨S131072x128, .f32⟩
  | .hbm, ⟨6, _⟩ => ⟨S524288, .i32⟩
  | .hbm, ⟨7, _⟩ => ⟨S524288, .i32⟩
  | .hbm, ⟨8, _⟩ => ⟨S32x2x2048x128, .f32⟩
  | .hbm, ⟨9, _⟩ => ⟨S32x2x4x2048, .i32⟩
  | .hbm, ⟨10, _⟩ => ⟨S32x2x2048x4, .i32⟩
  | .hbm, ⟨11, _⟩ => ⟨S131072x128, .f32⟩
  | .hbm, ⟨12, _⟩ => ⟨S524288, .i32⟩
  | .hbm, ⟨13, _⟩ => ⟨S524288, .i32⟩
  | .hbm, ⟨14, _⟩ => ⟨S32x2x2048x128, .f32⟩
  | .hbm, ⟨15, _⟩ => ⟨S32x2x4x2048, .i32⟩
  | .hbm, ⟨16, _⟩ => ⟨S32x2x2048x4, .i32⟩
  | .local .scVector .vmem, ⟨0, _⟩ => ⟨S2048, .i32⟩
  | .local .scVector .vmem, ⟨1, _⟩ => ⟨S4x128, .i32⟩
  | .local .scVector .vmem, ⟨2, _⟩ => ⟨S512x128, .f32⟩
  | .local .scVector .vmem, ⟨3, _⟩ => ⟨S2048, .i32⟩
  | .local .scVector .vmem, ⟨4, _⟩ => ⟨S2048, .i32⟩
  | .local .scVector .vmem, ⟨5, _⟩ => ⟨S2048, .i32⟩
  | .local .scVector .vmem, ⟨6, _⟩ => ⟨S2048, .i32⟩
  | .local .scVector .vmem, ⟨7, _⟩ => ⟨S2048, .i32⟩
  | .local .scVector .vmem, ⟨8, _⟩ => ⟨S2048, .i32⟩
  | .local .scVector .vmem, ⟨9, _⟩ => ⟨S2048, .i32⟩
  | .local .scVector .vmem, ⟨10, _⟩ => ⟨S2048, .i32⟩
  | .local .scVector .vmem, ⟨11, _⟩ => ⟨S8192, .i32⟩
  | .local .scVector .vmem, ⟨12, _⟩ => ⟨S2048, .i32⟩
  | .local .scVector .vmem, ⟨13, _⟩ => ⟨S4x128, .i32⟩
  | .local .scVector .vmem, ⟨14, _⟩ => ⟨S512x128, .f32⟩
  | .local .scVector .vmem, ⟨15, _⟩ => ⟨S2048, .i32⟩
  | .local .scVector .vmem, ⟨16, _⟩ => ⟨S2048, .i32⟩
  | .local .scVector .vmem, ⟨17, _⟩ => ⟨S2048, .i32⟩
  | .local .scVector .vmem, ⟨18, _⟩ => ⟨S2048, .i32⟩
  | .local .scVector .vmem, ⟨19, _⟩ => ⟨S2048, .i32⟩
  | .local .scVector .vmem, ⟨20, _⟩ => ⟨S2048, .i32⟩
  | .local .scVector .vmem, ⟨21, _⟩ => ⟨S2048, .i32⟩
  | .local .scVector .vmem, ⟨22, _⟩ => ⟨S2048, .i32⟩
  | .local .scVector .vmem, ⟨23, _⟩ => ⟨S8192, .i32⟩
  | _, _ => ⟨S32x2048x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_arg0_scv : Ref sig .scVector := ⟨.hbm, 0, rfl⟩
abbrev main_v1_scv : Ref sig .scVector := ⟨.hbm, 4, rfl⟩
abbrev main_v0_scv : Ref sig .scVector := ⟨.hbm, 3, rfl⟩
abbrev main_v2_0_scv : Ref sig .scVector := ⟨.hbm, 5, rfl⟩
abbrev main_v2_1_scv : Ref sig .scVector := ⟨.hbm, 6, rfl⟩
abbrev main_v2_2_scv : Ref sig .scVector := ⟨.hbm, 7, rfl⟩
abbrev main_v6_0_scv : Ref sig .scVector := ⟨.hbm, 11, rfl⟩
abbrev main_v6_1_scv : Ref sig .scVector := ⟨.hbm, 12, rfl⟩
abbrev main_v6_2_scv : Ref sig .scVector := ⟨.hbm, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc1_scratch0 : Ref sig .scVector := ⟨.vmem, 12, rfl⟩
abbrev cc1_scratch1 : Ref sig .scVector := ⟨.vmem, 13, rfl⟩
abbrev cc1_scratch2 : Ref sig .scVector := ⟨.vmem, 14, rfl⟩
abbrev cc1_scratch3 : Ref sig .scVector := ⟨.vmem, 15, rfl⟩
abbrev cc1_scratch4 : Ref sig .scVector := ⟨.vmem, 16, rfl⟩
abbrev cc1_scratch5 : Ref sig .scVector := ⟨.vmem, 17, rfl⟩
abbrev cc1_scratch6 : Ref sig .scVector := ⟨.vmem, 18, rfl⟩
abbrev cc1_scratch7 : Ref sig .scVector := ⟨.vmem, 19, rfl⟩
abbrev cc1_scratch8 : Ref sig .scVector := ⟨.vmem, 20, rfl⟩
abbrev cc1_scratch9 : Ref sig .scVector := ⟨.vmem, 21, rfl⟩
abbrev cc1_scratch10 : Ref sig .scVector := ⟨.vmem, 22, rfl⟩
abbrev cc1_scratch11 : Ref sig .scVector := ⟨.vmem, 23, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c2_i32_1 : BitVec 32 := 2#32
  let v2 : BitVec 32 := Scalar.addi c0_i32_0 c2_i32_1
  let c1_i32 : BitVec 32 := 1#32
  ⟨c0_i32_0, v2, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v4 : BitVec 32 := Scalar.muli v1 c2_i32_3
  let c0_i32_0 : BitVec 32 := 0#32
  let c1_i32 : BitVec 32 := 1#32
  let arg21 : BitVec 32 := Scf.iv c0_i32_0 c1_i32 k0_t1
  let v5 : BitVec 32 := Scalar.addi v4 arg21
  let c0_i32_5 : BitVec 32 := 0#32
  let v7 : BitVec 1 := Scalar.cmpi .sgt v5 c0_i32_5
  let v8 : BitVec 32 := Scalar.extui v7
  let c0_i32_6 : BitVec 32 := 0#32
  let v9 : BitVec 1 := Scalar.cmpi .slt v5 c0_i32_6
  let v10 : BitVec 32 := Scalar.extui v9
  let v11 : BitVec 32 := Scalar.subi v8 v10
  let c2_i32_4 : BitVec 32 := 2#32
  let c0_i32_7 : BitVec 32 := 0#32
  let v12 : BitVec 1 := Scalar.cmpi .sgt c2_i32_4 c0_i32_7
  let v13 : BitVec 32 := Scalar.extui v12
  let c0_i32_8 : BitVec 32 := 0#32
  let v14 : BitVec 1 := Scalar.cmpi .slt c2_i32_4 c0_i32_8
  let v15 : BitVec 32 := Scalar.extui v14
  let v16 : BitVec 32 := Scalar.subi v13 v15
  let v17 : BitVec 1 := Scalar.cmpi .ne v11 v16
  let v18 : BitVec 32 := Scalar.remsi v5 c2_i32_4
  let c0_i32_9 : BitVec 32 := 0#32
  let v19 : BitVec 1 := Scalar.cmpi .ne v18 c0_i32_9
  let v20 : BitVec 1 := Scalar.andi v17 v19
  let v6 : BitVec 32 := Scalar.divsi v5 c2_i32_4
  let c1_i32_10 : BitVec 32 := 1#32
  let v21 : BitVec 32 := Scalar.subi v6 c1_i32_10
  let v22 : BitVec 32 := Scalar.select v20 v21 v6
  let c4_i32 : BitVec 32 := 4#32
  let v35 : BitVec 32 := Scalar.muli v22 c4_i32
  let c0_i32_17 : BitVec 32 := 0#32
  let c2_i32_11 : BitVec 32 := 2#32
  let c0_i32_12 : BitVec 32 := 0#32
  let v23 : BitVec 1 := Scalar.cmpi .eq c2_i32_11 c0_i32_12
  let c1_i32_13 : BitVec 32 := 1#32
  let v24 : BitVec 32 := Scalar.select v23 c1_i32_13 c2_i32_11
  let v25 : BitVec 32 := Scalar.remsi v5 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let v33 : BitVec 32 := Scalar.addi c0_i32_17 v32
  let v36 : BitVec 32 := Scalar.addi v35 v33
  let c2048_i32_18 : BitVec 32 := 2048#32
  let v37 : BitVec 32 := Scalar.muli v36 c2048_i32_18
  ![v37.toNat]
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v4 : BitVec 32 := Scalar.muli v1 c2_i32_3
  let c0_i32_0 : BitVec 32 := 0#32
  let c1_i32 : BitVec 32 := 1#32
  let arg21 : BitVec 32 := Scf.iv c0_i32_0 c1_i32 k0_t1
  let v5 : BitVec 32 := Scalar.addi v4 arg21
  let c0_i32_5 : BitVec 32 := 0#32
  let v7 : BitVec 1 := Scalar.cmpi .sgt v5 c0_i32_5
  let v8 : BitVec 32 := Scalar.extui v7
  let c0_i32_6 : BitVec 32 := 0#32
  let v9 : BitVec 1 := Scalar.cmpi .slt v5 c0_i32_6
  let v10 : BitVec 32 := Scalar.extui v9
  let v11 : BitVec 32 := Scalar.subi v8 v10
  let c2_i32_4 : BitVec 32 := 2#32
  let c0_i32_7 : BitVec 32 := 0#32
  let v12 : BitVec 1 := Scalar.cmpi .sgt c2_i32_4 c0_i32_7
  let v13 : BitVec 32 := Scalar.extui v12
  let c0_i32_8 : BitVec 32 := 0#32
  let v14 : BitVec 1 := Scalar.cmpi .slt c2_i32_4 c0_i32_8
  let v15 : BitVec 32 := Scalar.extui v14
  let v16 : BitVec 32 := Scalar.subi v13 v15
  let v17 : BitVec 1 := Scalar.cmpi .ne v11 v16
  let v18 : BitVec 32 := Scalar.remsi v5 c2_i32_4
  let c0_i32_9 : BitVec 32 := 0#32
  let v19 : BitVec 1 := Scalar.cmpi .ne v18 c0_i32_9
  let v20 : BitVec 1 := Scalar.andi v17 v19
  let v6 : BitVec 32 := Scalar.divsi v5 c2_i32_4
  let c1_i32_10 : BitVec 32 := 1#32
  let v21 : BitVec 32 := Scalar.subi v6 c1_i32_10
  let v22 : BitVec 32 := Scalar.select v20 v21 v6
  let c8_i32 : BitVec 32 := 8#32
  let v38 : BitVec 32 := Scalar.muli v22 c8_i32
  let c2_i32_19 : BitVec 32 := 2#32
  let c0_i32_17 : BitVec 32 := 0#32
  let c2_i32_11 : BitVec 32 := 2#32
  let c0_i32_12 : BitVec 32 := 0#32
  let v23 : BitVec 1 := Scalar.cmpi .eq c2_i32_11 c0_i32_12
  let c1_i32_13 : BitVec 32 := 1#32
  let v24 : BitVec 32 := Scalar.select v23 c1_i32_13 c2_i32_11
  let v25 : BitVec 32 := Scalar.remsi v5 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let v33 : BitVec 32 := Scalar.addi c0_i32_17 v32
  let v39 : BitVec 32 := Scalar.muli c2_i32_19 v33
  let v40 : BitVec 32 := Scalar.addi v38 v39
  let c2048_i32_20 : BitVec 32 := 2048#32
  let v41 : BitVec 32 := Scalar.muli v40 c2048_i32_20
  ![v41.toNat]
def k0_off3 (i : grid0.Coords) (k0_t1 : Fin k0_t1_loop.trips) (c1_i32_21 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v4 : BitVec 32 := Scalar.muli v1 c2_i32_3
  let c0_i32_0 : BitVec 32 := 0#32
  let c1_i32 : BitVec 32 := 1#32
  let arg21 : BitVec 32 := Scf.iv c0_i32_0 c1_i32 k0_t1
  let v5 : BitVec 32 := Scalar.addi v4 arg21
  let c0_i32_5 : BitVec 32 := 0#32
  let v7 : BitVec 1 := Scalar.cmpi .sgt v5 c0_i32_5
  let v8 : BitVec 32 := Scalar.extui v7
  let c0_i32_6 : BitVec 32 := 0#32
  let v9 : BitVec 1 := Scalar.cmpi .slt v5 c0_i32_6
  let v10 : BitVec 32 := Scalar.extui v9
  let v11 : BitVec 32 := Scalar.subi v8 v10
  let c2_i32_4 : BitVec 32 := 2#32
  let c0_i32_7 : BitVec 32 := 0#32
  let v12 : BitVec 1 := Scalar.cmpi .sgt c2_i32_4 c0_i32_7
  let v13 : BitVec 32 := Scalar.extui v12
  let c0_i32_8 : BitVec 32 := 0#32
  let v14 : BitVec 1 := Scalar.cmpi .slt c2_i32_4 c0_i32_8
  let v15 : BitVec 32 := Scalar.extui v14
  let v16 : BitVec 32 := Scalar.subi v13 v15
  let v17 : BitVec 1 := Scalar.cmpi .ne v11 v16
  let v18 : BitVec 32 := Scalar.remsi v5 c2_i32_4
  let c0_i32_9 : BitVec 32 := 0#32
  let v19 : BitVec 1 := Scalar.cmpi .ne v18 c0_i32_9
  let v20 : BitVec 1 := Scalar.andi v17 v19
  let v6 : BitVec 32 := Scalar.divsi v5 c2_i32_4
  let c1_i32_10 : BitVec 32 := 1#32
  let v21 : BitVec 32 := Scalar.subi v6 c1_i32_10
  let v22 : BitVec 32 := Scalar.select v20 v21 v6
  let c8_i32_28 : BitVec 32 := 8#32
  let v53 : BitVec 32 := Scalar.muli v22 c8_i32_28
  let c2_i32_29 : BitVec 32 := 2#32
  let c0_i32_17 : BitVec 32 := 0#32
  let c2_i32_11 : BitVec 32 := 2#32
  let c0_i32_12 : BitVec 32 := 0#32
  let v23 : BitVec 1 := Scalar.cmpi .eq c2_i32_11 c0_i32_12
  let c1_i32_13 : BitVec 32 := 1#32
  let v24 : BitVec 32 := Scalar.select v23 c1_i32_13 c2_i32_11
  let v25 : BitVec 32 := Scalar.remsi v5 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let v33 : BitVec 32 := Scalar.addi c0_i32_17 v32
  let v42 : BitVec 32 := Scalar.addi v33 c1_i32_21
  let c4_i32_22 : BitVec 32 := 4#32
  let c0_i32_23 : BitVec 32 := 0#32
  let v43 : BitVec 1 := Scalar.cmpi .eq c4_i32_22 c0_i32_23
  let c1_i32_24 : BitVec 32 := 1#32
  let v44 : BitVec 32 := Scalar.select v43 c1_i32_24 c4_i32_22
  let v45 : BitVec 32 := Scalar.remsi v42 v44
  let c0_i32_26 : BitVec 32 := 0#32
  let v47 : BitVec 1 := Scalar.cmpi .slt v45 c0_i32_26
  let c0_i32_27 : BitVec 32 := 0#32
  let v48 : BitVec 1 := Scalar.cmpi .slt v44 c0_i32_27
  let v49 : BitVec 1 := Scalar.xori v47 v48
  let c0_i32_25 : BitVec 32 := 0#32
  let v46 : BitVec 1 := Scalar.cmpi .ne v45 c0_i32_25
  let v50 : BitVec 1 := Scalar.andi v49 v46
  let v51 : BitVec 32 := Scalar.addi v45 v44
  let v52 : BitVec 32 := Scalar.select v50 v51 v45
  let v54 : BitVec 32 := Scalar.muli c2_i32_29 v52
  let v55 : BitVec 32 := Scalar.addi v53 v54
  let c1_i32_30 : BitVec 32 := 1#32
  let v56 : BitVec 32 := Scalar.addi v55 c1_i32_30
  let c2048_i32_31 : BitVec 32 := 2048#32
  let v57 : BitVec 32 := Scalar.muli v56 c2048_i32_31
  ![v57.toNat]
@[reducible] def k0_t2_loop : Scf.Loop 32 :=
  let c0_i32_54 : BitVec 32 := 0#32
  let c128_i32 : BitVec 32 := 128#32
  let v90 : BitVec 32 := Scalar.addi c0_i32_54 c128_i32
  let c1_i32_55 : BitVec 32 := 1#32
  ⟨c0_i32_54, v90, c1_i32_55⟩
def k0_off4 (k0_t2 : Fin k0_t2_loop.trips) : Fin 1 → Nat :=
  let c0_i32_54 : BitVec 32 := 0#32
  let c1_i32_55 : BitVec 32 := 1#32
  let arg23 : BitVec 32 := Scf.iv c0_i32_54 c1_i32_55 k0_t2
  let c16_i32 : BitVec 32 := 16#32
  let v874 : BitVec 32 := Scalar.muli arg23 c16_i32
  let v875 : Index := Scalar.indexCast v874
  ![v875.toNat]

def k0_chk2 (v883 : IVec S16 32) : Prop :=
  (∀ a x, ((![v883] : Fin 1 → IVec S16 32) a x).toNat < S8192.size a)
theorem k0_idx2_inb : ∀ (v883 : IVec S16 32) (k0_hw2 : k0_chk2 v883), ∀ a x, ((![v883] : Fin 1 → IVec S16 32) a x).toNat < S8192.size a := fun v883 k0_hw2 => k0_hw2
def k0_off5 (k0_t2 : Fin k0_t2_loop.trips) : Fin 1 → Nat :=
  let c0_i32_54 : BitVec 32 := 0#32
  let c1_i32_55 : BitVec 32 := 1#32
  let arg23 : BitVec 32 := Scf.iv c0_i32_54 c1_i32_55 k0_t2
  let c16_i32_521 : BitVec 32 := 16#32
  let v884 : BitVec 32 := Scalar.muli arg23 c16_i32_521
  let v885 : Index := Scalar.indexCast v884
  ![v885.toNat]

def k0_chk3 (v888 : IVec S16 32) : Prop :=
  (∀ a x, ((![v888] : Fin 1 → IVec S16 32) a x).toNat < S8192.size a)
theorem k0_idx4_inb : ∀ (v888 : IVec S16 32) (k0_hw3 : k0_chk3 v888), ∀ a x, ((![v888] : Fin 1 → IVec S16 32) a x).toNat < S8192.size a := fun v888 k0_hw3 => k0_hw3
def k0_off6 (k0_t2 : Fin k0_t2_loop.trips) : Fin 1 → Nat :=
  let c0_i32_54 : BitVec 32 := 0#32
  let c1_i32_55 : BitVec 32 := 1#32
  let arg23 : BitVec 32 := Scf.iv c0_i32_54 c1_i32_55 k0_t2
  let c16_i32_523 : BitVec 32 := 16#32
  let v889 : BitVec 32 := Scalar.muli arg23 c16_i32_523
  let v890 : Index := Scalar.indexCast v889
  ![v890.toNat]

def k0_chk4 (v893 : IVec S16 32) : Prop :=
  (∀ a x, ((![v893] : Fin 1 → IVec S16 32) a x).toNat < S8192.size a)
theorem k0_idx6_inb : ∀ (v893 : IVec S16 32) (k0_hw4 : k0_chk4 v893), ∀ a x, ((![v893] : Fin 1 → IVec S16 32) a x).toNat < S8192.size a := fun v893 k0_hw4 => k0_hw4
def k0_off7 (k0_t2 : Fin k0_t2_loop.trips) : Fin 1 → Nat :=
  let c0_i32_54 : BitVec 32 := 0#32
  let c1_i32_55 : BitVec 32 := 1#32
  let arg23 : BitVec 32 := Scf.iv c0_i32_54 c1_i32_55 k0_t2
  let c16_i32_525 : BitVec 32 := 16#32
  let v894 : BitVec 32 := Scalar.muli arg23 c16_i32_525
  let v895 : Index := Scalar.indexCast v894
  ![v895.toNat]

def k0_chk1 (v876 : IVec S16 32) : Prop :=
  (∀ a x, ((![v876] : Fin 1 → IVec S16 32) a x).toNat < S2048.size a) ∧
  (∀ a x, ((![v876] : Fin 1 → IVec S16 32) a x).toNat < S2048.size a) ∧
  (∀ a x, ((![v876] : Fin 1 → IVec S16 32) a x).toNat < S2048.size a) ∧
  (∀ a x, ((![v876] : Fin 1 → IVec S16 32) a x).toNat < S2048.size a)
theorem k0_idx1_inb : ∀ (v876 : IVec S16 32) (k0_hw1 : k0_chk1 v876), ∀ a x, ((![v876] : Fin 1 → IVec S16 32) a x).toNat < S2048.size a := fun v876 k0_hw1 => k0_hw1.1
theorem k0_idx3_inb : ∀ (v876 : IVec S16 32) (k0_hw1 : k0_chk1 v876), ∀ a x, ((![v876] : Fin 1 → IVec S16 32) a x).toNat < S2048.size a := fun v876 k0_hw1 => k0_hw1.2.1
theorem k0_idx5_inb : ∀ (v876 : IVec S16 32) (k0_hw1 : k0_chk1 v876), ∀ a x, ((![v876] : Fin 1 → IVec S16 32) a x).toNat < S2048.size a := fun v876 k0_hw1 => k0_hw1.2.2.1
theorem k0_idx7_inb : ∀ (v876 : IVec S16 32) (k0_hw1 : k0_chk1 v876), ∀ a x, ((![v876] : Fin 1 → IVec S16 32) a x).toNat < S2048.size a := fun v876 k0_hw1 => k0_hw1.2.2.2

def k0_chk5 (v898 : IVec S16 32) : Prop :=
  (∀ a x, ((![v898] : Fin 1 → IVec S16 32) a x).toNat < S8192.size a)
theorem k0_idx8_inb : ∀ (v898 : IVec S16 32) (k0_hw5 : k0_chk5 v898), ∀ a x, ((![v898] : Fin 1 → IVec S16 32) a x).toNat < S8192.size a := fun v898 k0_hw5 => k0_hw5
def k0_off8 (i : grid0.Coords) (k0_t1 : Fin k0_t1_loop.trips) (c0_i32_58 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v4 : BitVec 32 := Scalar.muli v1 c2_i32_3
  let c0_i32_0 : BitVec 32 := 0#32
  let c1_i32 : BitVec 32 := 1#32
  let arg21 : BitVec 32 := Scf.iv c0_i32_0 c1_i32 k0_t1
  let v5 : BitVec 32 := Scalar.addi v4 arg21
  let c4_i32_57 : BitVec 32 := 4#32
  let v92 : BitVec 32 := Scalar.muli v5 c4_i32_57
  let v93 : BitVec 32 := Scalar.addi v92 c0_i32_58
  let c2048_i32_59 : BitVec 32 := 2048#32
  let v94 : BitVec 32 := Scalar.muli v93 c2048_i32_59
  ![v94.toNat]
def k0_off9 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v4 : BitVec 32 := Scalar.muli v1 c2_i32_3
  let c0_i32_0 : BitVec 32 := 0#32
  let c1_i32 : BitVec 32 := 1#32
  let arg21 : BitVec 32 := Scf.iv c0_i32_0 c1_i32 k0_t1
  let v5 : BitVec 32 := Scalar.addi v4 arg21
  let c2048_i32_69 : BitVec 32 := 2048#32
  let v104 : BitVec 32 := Scalar.muli v5 c2048_i32_69
  let c4_i32_70 : BitVec 32 := 4#32
  let v105 : BitVec 32 := Scalar.muli v104 c4_i32_70
  ![v105.toNat]
def k0_off10 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v4 : BitVec 32 := Scalar.muli v1 c2_i32_3
  let c0_i32_0 : BitVec 32 := 0#32
  let c1_i32 : BitVec 32 := 1#32
  let arg21 : BitVec 32 := Scf.iv c0_i32_0 c1_i32 k0_t1
  let v5 : BitVec 32 := Scalar.addi v4 arg21
  let c0_i32_5 : BitVec 32 := 0#32
  let v7 : BitVec 1 := Scalar.cmpi .sgt v5 c0_i32_5
  let v8 : BitVec 32 := Scalar.extui v7
  let c0_i32_6 : BitVec 32 := 0#32
  let v9 : BitVec 1 := Scalar.cmpi .slt v5 c0_i32_6
  let v10 : BitVec 32 := Scalar.extui v9
  let v11 : BitVec 32 := Scalar.subi v8 v10
  let c2_i32_4 : BitVec 32 := 2#32
  let c0_i32_7 : BitVec 32 := 0#32
  let v12 : BitVec 1 := Scalar.cmpi .sgt c2_i32_4 c0_i32_7
  let v13 : BitVec 32 := Scalar.extui v12
  let c0_i32_8 : BitVec 32 := 0#32
  let v14 : BitVec 1 := Scalar.cmpi .slt c2_i32_4 c0_i32_8
  let v15 : BitVec 32 := Scalar.extui v14
  let v16 : BitVec 32 := Scalar.subi v13 v15
  let v17 : BitVec 1 := Scalar.cmpi .ne v11 v16
  let v18 : BitVec 32 := Scalar.remsi v5 c2_i32_4
  let c0_i32_9 : BitVec 32 := 0#32
  let v19 : BitVec 1 := Scalar.cmpi .ne v18 c0_i32_9
  let v20 : BitVec 1 := Scalar.andi v17 v19
  let v6 : BitVec 32 := Scalar.divsi v5 c2_i32_4
  let c1_i32_10 : BitVec 32 := 1#32
  let v21 : BitVec 32 := Scalar.subi v6 c1_i32_10
  let v22 : BitVec 32 := Scalar.select v20 v21 v6
  let c0_i32_518_r10 : BitVec 32 := 0#32
  let c0_i32_519_r10 : BitVec 32 := 0#32
  ![v22.toNat, 0, 0]
def k0_off11 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v4 : BitVec 32 := Scalar.muli v1 c2_i32_3
  let c0_i32_0 : BitVec 32 := 0#32
  let c1_i32 : BitVec 32 := 1#32
  let arg21 : BitVec 32 := Scf.iv c0_i32_0 c1_i32 k0_t1
  let v5 : BitVec 32 := Scalar.addi v4 arg21
  let c0_i32_5 : BitVec 32 := 0#32
  let v7 : BitVec 1 := Scalar.cmpi .sgt v5 c0_i32_5
  let v8 : BitVec 32 := Scalar.extui v7
  let c0_i32_6 : BitVec 32 := 0#32
  let v9 : BitVec 1 := Scalar.cmpi .slt v5 c0_i32_6
  let v10 : BitVec 32 := Scalar.extui v9
  let v11 : BitVec 32 := Scalar.subi v8 v10
  let c2_i32_4 : BitVec 32 := 2#32
  let c0_i32_7 : BitVec 32 := 0#32
  let v12 : BitVec 1 := Scalar.cmpi .sgt c2_i32_4 c0_i32_7
  let v13 : BitVec 32 := Scalar.extui v12
  let c0_i32_8 : BitVec 32 := 0#32
  let v14 : BitVec 1 := Scalar.cmpi .slt c2_i32_4 c0_i32_8
  let v15 : BitVec 32 := Scalar.extui v14
  let v16 : BitVec 32 := Scalar.subi v13 v15
  let v17 : BitVec 1 := Scalar.cmpi .ne v11 v16
  let v18 : BitVec 32 := Scalar.remsi v5 c2_i32_4
  let c0_i32_9 : BitVec 32 := 0#32
  let v19 : BitVec 1 := Scalar.cmpi .ne v18 c0_i32_9
  let v20 : BitVec 1 := Scalar.andi v17 v19
  let v6 : BitVec 32 := Scalar.divsi v5 c2_i32_4
  let c1_i32_10 : BitVec 32 := 1#32
  let v21 : BitVec 32 := Scalar.subi v6 c1_i32_10
  let v22 : BitVec 32 := Scalar.select v20 v21 v6
  let c512_i32_r11 : BitVec 32 := 512#32
  let c0_i32_518_r11 : BitVec 32 := 0#32
  ![v22.toNat, 512, 0]
def k0_off12 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v4 : BitVec 32 := Scalar.muli v1 c2_i32_3
  let c0_i32_0 : BitVec 32 := 0#32
  let c1_i32 : BitVec 32 := 1#32
  let arg21 : BitVec 32 := Scf.iv c0_i32_0 c1_i32 k0_t1
  let v5 : BitVec 32 := Scalar.addi v4 arg21
  let c0_i32_5 : BitVec 32 := 0#32
  let v7 : BitVec 1 := Scalar.cmpi .sgt v5 c0_i32_5
  let v8 : BitVec 32 := Scalar.extui v7
  let c0_i32_6 : BitVec 32 := 0#32
  let v9 : BitVec 1 := Scalar.cmpi .slt v5 c0_i32_6
  let v10 : BitVec 32 := Scalar.extui v9
  let v11 : BitVec 32 := Scalar.subi v8 v10
  let c2_i32_4 : BitVec 32 := 2#32
  let c0_i32_7 : BitVec 32 := 0#32
  let v12 : BitVec 1 := Scalar.cmpi .sgt c2_i32_4 c0_i32_7
  let v13 : BitVec 32 := Scalar.extui v12
  let c0_i32_8 : BitVec 32 := 0#32
  let v14 : BitVec 1 := Scalar.cmpi .slt c2_i32_4 c0_i32_8
  let v15 : BitVec 32 := Scalar.extui v14
  let v16 : BitVec 32 := Scalar.subi v13 v15
  let v17 : BitVec 1 := Scalar.cmpi .ne v11 v16
  let v18 : BitVec 32 := Scalar.remsi v5 c2_i32_4
  let c0_i32_9 : BitVec 32 := 0#32
  let v19 : BitVec 1 := Scalar.cmpi .ne v18 c0_i32_9
  let v20 : BitVec 1 := Scalar.andi v17 v19
  let v6 : BitVec 32 := Scalar.divsi v5 c2_i32_4
  let c1_i32_10 : BitVec 32 := 1#32
  let v21 : BitVec 32 := Scalar.subi v6 c1_i32_10
  let v22 : BitVec 32 := Scalar.select v20 v21 v6
  let c1024_i32_r12 : BitVec 32 := 1024#32
  let c0_i32_518_r12 : BitVec 32 := 0#32
  ![v22.toNat, 1024, 0]
def k0_off13 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v4 : BitVec 32 := Scalar.muli v1 c2_i32_3
  let c0_i32_0 : BitVec 32 := 0#32
  let c1_i32 : BitVec 32 := 1#32
  let arg21 : BitVec 32 := Scf.iv c0_i32_0 c1_i32 k0_t1
  let v5 : BitVec 32 := Scalar.addi v4 arg21
  let c0_i32_5 : BitVec 32 := 0#32
  let v7 : BitVec 1 := Scalar.cmpi .sgt v5 c0_i32_5
  let v8 : BitVec 32 := Scalar.extui v7
  let c0_i32_6 : BitVec 32 := 0#32
  let v9 : BitVec 1 := Scalar.cmpi .slt v5 c0_i32_6
  let v10 : BitVec 32 := Scalar.extui v9
  let v11 : BitVec 32 := Scalar.subi v8 v10
  let c2_i32_4 : BitVec 32 := 2#32
  let c0_i32_7 : BitVec 32 := 0#32
  let v12 : BitVec 1 := Scalar.cmpi .sgt c2_i32_4 c0_i32_7
  let v13 : BitVec 32 := Scalar.extui v12
  let c0_i32_8 : BitVec 32 := 0#32
  let v14 : BitVec 1 := Scalar.cmpi .slt c2_i32_4 c0_i32_8
  let v15 : BitVec 32 := Scalar.extui v14
  let v16 : BitVec 32 := Scalar.subi v13 v15
  let v17 : BitVec 1 := Scalar.cmpi .ne v11 v16
  let v18 : BitVec 32 := Scalar.remsi v5 c2_i32_4
  let c0_i32_9 : BitVec 32 := 0#32
  let v19 : BitVec 1 := Scalar.cmpi .ne v18 c0_i32_9
  let v20 : BitVec 1 := Scalar.andi v17 v19
  let v6 : BitVec 32 := Scalar.divsi v5 c2_i32_4
  let c1_i32_10 : BitVec 32 := 1#32
  let v21 : BitVec 32 := Scalar.subi v6 c1_i32_10
  let v22 : BitVec 32 := Scalar.select v20 v21 v6
  let c1536_i32_r13 : BitVec 32 := 1536#32
  let c0_i32_518_r13 : BitVec 32 := 0#32
  ![v22.toNat, 1536, 0]
abbrev grid1 : Pipeline.Grid := ⟨2, ![2, 16], ![false, false]⟩

@[reducible] def k1_t1_loop : Scf.Loop 32 :=
  let c0_i32_0 : BitVec 32 := 0#32
  let c2_i32_1 : BitVec 32 := 2#32
  let v2 : BitVec 32 := Scalar.addi c0_i32_0 c2_i32_1
  let c1_i32 : BitVec 32 := 1#32
  ⟨c0_i32_0, v2, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v4 : BitVec 32 := Scalar.muli v1 c2_i32_3
  let c0_i32_0 : BitVec 32 := 0#32
  let c1_i32 : BitVec 32 := 1#32
  let arg21 : BitVec 32 := Scf.iv c0_i32_0 c1_i32 k1_t1
  let v5 : BitVec 32 := Scalar.addi v4 arg21
  let c0_i32_5 : BitVec 32 := 0#32
  let v7 : BitVec 1 := Scalar.cmpi .sgt v5 c0_i32_5
  let v8 : BitVec 32 := Scalar.extui v7
  let c0_i32_6 : BitVec 32 := 0#32
  let v9 : BitVec 1 := Scalar.cmpi .slt v5 c0_i32_6
  let v10 : BitVec 32 := Scalar.extui v9
  let v11 : BitVec 32 := Scalar.subi v8 v10
  let c2_i32_4 : BitVec 32 := 2#32
  let c0_i32_7 : BitVec 32 := 0#32
  let v12 : BitVec 1 := Scalar.cmpi .sgt c2_i32_4 c0_i32_7
  let v13 : BitVec 32 := Scalar.extui v12
  let c0_i32_8 : BitVec 32 := 0#32
  let v14 : BitVec 1 := Scalar.cmpi .slt c2_i32_4 c0_i32_8
  let v15 : BitVec 32 := Scalar.extui v14
  let v16 : BitVec 32 := Scalar.subi v13 v15
  let v17 : BitVec 1 := Scalar.cmpi .ne v11 v16
  let v18 : BitVec 32 := Scalar.remsi v5 c2_i32_4
  let c0_i32_9 : BitVec 32 := 0#32
  let v19 : BitVec 1 := Scalar.cmpi .ne v18 c0_i32_9
  let v20 : BitVec 1 := Scalar.andi v17 v19
  let v6 : BitVec 32 := Scalar.divsi v5 c2_i32_4
  let c1_i32_10 : BitVec 32 := 1#32
  let v21 : BitVec 32 := Scalar.subi v6 c1_i32_10
  let v22 : BitVec 32 := Scalar.select v20 v21 v6
  let c4_i32 : BitVec 32 := 4#32
  let v35 : BitVec 32 := Scalar.muli v22 c4_i32
  let c2_i32_17 : BitVec 32 := 2#32
  let c2_i32_11 : BitVec 32 := 2#32
  let c0_i32_12 : BitVec 32 := 0#32
  let v23 : BitVec 1 := Scalar.cmpi .eq c2_i32_11 c0_i32_12
  let c1_i32_13 : BitVec 32 := 1#32
  let v24 : BitVec 32 := Scalar.select v23 c1_i32_13 c2_i32_11
  let v25 : BitVec 32 := Scalar.remsi v5 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let v33 : BitVec 32 := Scalar.addi c2_i32_17 v32
  let v36 : BitVec 32 := Scalar.addi v35 v33
  let c2048_i32_18 : BitVec 32 := 2048#32
  let v37 : BitVec 32 := Scalar.muli v36 c2048_i32_18
  ![v37.toNat]
def k1_off2 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v4 : BitVec 32 := Scalar.muli v1 c2_i32_3
  let c0_i32_0 : BitVec 32 := 0#32
  let c1_i32 : BitVec 32 := 1#32
  let arg21 : BitVec 32 := Scf.iv c0_i32_0 c1_i32 k1_t1
  let v5 : BitVec 32 := Scalar.addi v4 arg21
  let c0_i32_5 : BitVec 32 := 0#32
  let v7 : BitVec 1 := Scalar.cmpi .sgt v5 c0_i32_5
  let v8 : BitVec 32 := Scalar.extui v7
  let c0_i32_6 : BitVec 32 := 0#32
  let v9 : BitVec 1 := Scalar.cmpi .slt v5 c0_i32_6
  let v10 : BitVec 32 := Scalar.extui v9
  let v11 : BitVec 32 := Scalar.subi v8 v10
  let c2_i32_4 : BitVec 32 := 2#32
  let c0_i32_7 : BitVec 32 := 0#32
  let v12 : BitVec 1 := Scalar.cmpi .sgt c2_i32_4 c0_i32_7
  let v13 : BitVec 32 := Scalar.extui v12
  let c0_i32_8 : BitVec 32 := 0#32
  let v14 : BitVec 1 := Scalar.cmpi .slt c2_i32_4 c0_i32_8
  let v15 : BitVec 32 := Scalar.extui v14
  let v16 : BitVec 32 := Scalar.subi v13 v15
  let v17 : BitVec 1 := Scalar.cmpi .ne v11 v16
  let v18 : BitVec 32 := Scalar.remsi v5 c2_i32_4
  let c0_i32_9 : BitVec 32 := 0#32
  let v19 : BitVec 1 := Scalar.cmpi .ne v18 c0_i32_9
  let v20 : BitVec 1 := Scalar.andi v17 v19
  let v6 : BitVec 32 := Scalar.divsi v5 c2_i32_4
  let c1_i32_10 : BitVec 32 := 1#32
  let v21 : BitVec 32 := Scalar.subi v6 c1_i32_10
  let v22 : BitVec 32 := Scalar.select v20 v21 v6
  let c8_i32 : BitVec 32 := 8#32
  let v38 : BitVec 32 := Scalar.muli v22 c8_i32
  let c2_i32_19 : BitVec 32 := 2#32
  let c2_i32_17 : BitVec 32 := 2#32
  let c2_i32_11 : BitVec 32 := 2#32
  let c0_i32_12 : BitVec 32 := 0#32
  let v23 : BitVec 1 := Scalar.cmpi .eq c2_i32_11 c0_i32_12
  let c1_i32_13 : BitVec 32 := 1#32
  let v24 : BitVec 32 := Scalar.select v23 c1_i32_13 c2_i32_11
  let v25 : BitVec 32 := Scalar.remsi v5 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let v33 : BitVec 32 := Scalar.addi c2_i32_17 v32
  let v39 : BitVec 32 := Scalar.muli c2_i32_19 v33
  let v40 : BitVec 32 := Scalar.addi v38 v39
  let c2048_i32_20 : BitVec 32 := 2048#32
  let v41 : BitVec 32 := Scalar.muli v40 c2048_i32_20
  ![v41.toNat]
def k1_off3 (i : grid1.Coords) (k1_t1 : Fin k1_t1_loop.trips) (c1_i32_21 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v4 : BitVec 32 := Scalar.muli v1 c2_i32_3
  let c0_i32_0 : BitVec 32 := 0#32
  let c1_i32 : BitVec 32 := 1#32
  let arg21 : BitVec 32 := Scf.iv c0_i32_0 c1_i32 k1_t1
  let v5 : BitVec 32 := Scalar.addi v4 arg21
  let c0_i32_5 : BitVec 32 := 0#32
  let v7 : BitVec 1 := Scalar.cmpi .sgt v5 c0_i32_5
  let v8 : BitVec 32 := Scalar.extui v7
  let c0_i32_6 : BitVec 32 := 0#32
  let v9 : BitVec 1 := Scalar.cmpi .slt v5 c0_i32_6
  let v10 : BitVec 32 := Scalar.extui v9
  let v11 : BitVec 32 := Scalar.subi v8 v10
  let c2_i32_4 : BitVec 32 := 2#32
  let c0_i32_7 : BitVec 32 := 0#32
  let v12 : BitVec 1 := Scalar.cmpi .sgt c2_i32_4 c0_i32_7
  let v13 : BitVec 32 := Scalar.extui v12
  let c0_i32_8 : BitVec 32 := 0#32
  let v14 : BitVec 1 := Scalar.cmpi .slt c2_i32_4 c0_i32_8
  let v15 : BitVec 32 := Scalar.extui v14
  let v16 : BitVec 32 := Scalar.subi v13 v15
  let v17 : BitVec 1 := Scalar.cmpi .ne v11 v16
  let v18 : BitVec 32 := Scalar.remsi v5 c2_i32_4
  let c0_i32_9 : BitVec 32 := 0#32
  let v19 : BitVec 1 := Scalar.cmpi .ne v18 c0_i32_9
  let v20 : BitVec 1 := Scalar.andi v17 v19
  let v6 : BitVec 32 := Scalar.divsi v5 c2_i32_4
  let c1_i32_10 : BitVec 32 := 1#32
  let v21 : BitVec 32 := Scalar.subi v6 c1_i32_10
  let v22 : BitVec 32 := Scalar.select v20 v21 v6
  let c8_i32_28 : BitVec 32 := 8#32
  let v53 : BitVec 32 := Scalar.muli v22 c8_i32_28
  let c2_i32_29 : BitVec 32 := 2#32
  let c2_i32_17 : BitVec 32 := 2#32
  let c2_i32_11 : BitVec 32 := 2#32
  let c0_i32_12 : BitVec 32 := 0#32
  let v23 : BitVec 1 := Scalar.cmpi .eq c2_i32_11 c0_i32_12
  let c1_i32_13 : BitVec 32 := 1#32
  let v24 : BitVec 32 := Scalar.select v23 c1_i32_13 c2_i32_11
  let v25 : BitVec 32 := Scalar.remsi v5 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let v33 : BitVec 32 := Scalar.addi c2_i32_17 v32
  let v42 : BitVec 32 := Scalar.addi v33 c1_i32_21
  let c4_i32_22 : BitVec 32 := 4#32
  let c0_i32_23 : BitVec 32 := 0#32
  let v43 : BitVec 1 := Scalar.cmpi .eq c4_i32_22 c0_i32_23
  let c1_i32_24 : BitVec 32 := 1#32
  let v44 : BitVec 32 := Scalar.select v43 c1_i32_24 c4_i32_22
  let v45 : BitVec 32 := Scalar.remsi v42 v44
  let c0_i32_26 : BitVec 32 := 0#32
  let v47 : BitVec 1 := Scalar.cmpi .slt v45 c0_i32_26
  let c0_i32_27 : BitVec 32 := 0#32
  let v48 : BitVec 1 := Scalar.cmpi .slt v44 c0_i32_27
  let v49 : BitVec 1 := Scalar.xori v47 v48
  let c0_i32_25 : BitVec 32 := 0#32
  let v46 : BitVec 1 := Scalar.cmpi .ne v45 c0_i32_25
  let v50 : BitVec 1 := Scalar.andi v49 v46
  let v51 : BitVec 32 := Scalar.addi v45 v44
  let v52 : BitVec 32 := Scalar.select v50 v51 v45
  let v54 : BitVec 32 := Scalar.muli c2_i32_29 v52
  let v55 : BitVec 32 := Scalar.addi v53 v54
  let c1_i32_30 : BitVec 32 := 1#32
  let v56 : BitVec 32 := Scalar.addi v55 c1_i32_30
  let c2048_i32_31 : BitVec 32 := 2048#32
  let v57 : BitVec 32 := Scalar.muli v56 c2048_i32_31
  ![v57.toNat]
@[reducible] def k1_t2_loop : Scf.Loop 32 :=
  let c0_i32_54 : BitVec 32 := 0#32
  let c128_i32 : BitVec 32 := 128#32
  let v90 : BitVec 32 := Scalar.addi c0_i32_54 c128_i32
  let c1_i32_55 : BitVec 32 := 1#32
  ⟨c0_i32_54, v90, c1_i32_55⟩
def k1_off4 (k1_t2 : Fin k1_t2_loop.trips) : Fin 1 → Nat :=
  let c0_i32_54 : BitVec 32 := 0#32
  let c1_i32_55 : BitVec 32 := 1#32
  let arg23 : BitVec 32 := Scf.iv c0_i32_54 c1_i32_55 k1_t2
  let c16_i32 : BitVec 32 := 16#32
  let v874 : BitVec 32 := Scalar.muli arg23 c16_i32
  let v875 : Index := Scalar.indexCast v874
  ![v875.toNat]

def k1_chk2 (v883 : IVec S16 32) : Prop :=
  (∀ a x, ((![v883] : Fin 1 → IVec S16 32) a x).toNat < S8192.size a)
theorem k1_idx2_inb : ∀ (v883 : IVec S16 32) (k1_hw2 : k1_chk2 v883), ∀ a x, ((![v883] : Fin 1 → IVec S16 32) a x).toNat < S8192.size a := fun v883 k1_hw2 => k1_hw2
def k1_off5 (k1_t2 : Fin k1_t2_loop.trips) : Fin 1 → Nat :=
  let c0_i32_54 : BitVec 32 := 0#32
  let c1_i32_55 : BitVec 32 := 1#32
  let arg23 : BitVec 32 := Scf.iv c0_i32_54 c1_i32_55 k1_t2
  let c16_i32_521 : BitVec 32 := 16#32
  let v884 : BitVec 32 := Scalar.muli arg23 c16_i32_521
  let v885 : Index := Scalar.indexCast v884
  ![v885.toNat]

def k1_chk3 (v888 : IVec S16 32) : Prop :=
  (∀ a x, ((![v888] : Fin 1 → IVec S16 32) a x).toNat < S8192.size a)
theorem k1_idx4_inb : ∀ (v888 : IVec S16 32) (k1_hw3 : k1_chk3 v888), ∀ a x, ((![v888] : Fin 1 → IVec S16 32) a x).toNat < S8192.size a := fun v888 k1_hw3 => k1_hw3
def k1_off6 (k1_t2 : Fin k1_t2_loop.trips) : Fin 1 → Nat :=
  let c0_i32_54 : BitVec 32 := 0#32
  let c1_i32_55 : BitVec 32 := 1#32
  let arg23 : BitVec 32 := Scf.iv c0_i32_54 c1_i32_55 k1_t2
  let c16_i32_523 : BitVec 32 := 16#32
  let v889 : BitVec 32 := Scalar.muli arg23 c16_i32_523
  let v890 : Index := Scalar.indexCast v889
  ![v890.toNat]

def k1_chk4 (v893 : IVec S16 32) : Prop :=
  (∀ a x, ((![v893] : Fin 1 → IVec S16 32) a x).toNat < S8192.size a)
theorem k1_idx6_inb : ∀ (v893 : IVec S16 32) (k1_hw4 : k1_chk4 v893), ∀ a x, ((![v893] : Fin 1 → IVec S16 32) a x).toNat < S8192.size a := fun v893 k1_hw4 => k1_hw4
def k1_off7 (k1_t2 : Fin k1_t2_loop.trips) : Fin 1 → Nat :=
  let c0_i32_54 : BitVec 32 := 0#32
  let c1_i32_55 : BitVec 32 := 1#32
  let arg23 : BitVec 32 := Scf.iv c0_i32_54 c1_i32_55 k1_t2
  let c16_i32_525 : BitVec 32 := 16#32
  let v894 : BitVec 32 := Scalar.muli arg23 c16_i32_525
  let v895 : Index := Scalar.indexCast v894
  ![v895.toNat]

def k1_chk1 (v876 : IVec S16 32) : Prop :=
  (∀ a x, ((![v876] : Fin 1 → IVec S16 32) a x).toNat < S2048.size a) ∧
  (∀ a x, ((![v876] : Fin 1 → IVec S16 32) a x).toNat < S2048.size a) ∧
  (∀ a x, ((![v876] : Fin 1 → IVec S16 32) a x).toNat < S2048.size a) ∧
  (∀ a x, ((![v876] : Fin 1 → IVec S16 32) a x).toNat < S2048.size a)
theorem k1_idx1_inb : ∀ (v876 : IVec S16 32) (k1_hw1 : k1_chk1 v876), ∀ a x, ((![v876] : Fin 1 → IVec S16 32) a x).toNat < S2048.size a := fun v876 k1_hw1 => k1_hw1.1
theorem k1_idx3_inb : ∀ (v876 : IVec S16 32) (k1_hw1 : k1_chk1 v876), ∀ a x, ((![v876] : Fin 1 → IVec S16 32) a x).toNat < S2048.size a := fun v876 k1_hw1 => k1_hw1.2.1
theorem k1_idx5_inb : ∀ (v876 : IVec S16 32) (k1_hw1 : k1_chk1 v876), ∀ a x, ((![v876] : Fin 1 → IVec S16 32) a x).toNat < S2048.size a := fun v876 k1_hw1 => k1_hw1.2.2.1
theorem k1_idx7_inb : ∀ (v876 : IVec S16 32) (k1_hw1 : k1_chk1 v876), ∀ a x, ((![v876] : Fin 1 → IVec S16 32) a x).toNat < S2048.size a := fun v876 k1_hw1 => k1_hw1.2.2.2

def k1_chk5 (v898 : IVec S16 32) : Prop :=
  (∀ a x, ((![v898] : Fin 1 → IVec S16 32) a x).toNat < S8192.size a)
theorem k1_idx8_inb : ∀ (v898 : IVec S16 32) (k1_hw5 : k1_chk5 v898), ∀ a x, ((![v898] : Fin 1 → IVec S16 32) a x).toNat < S8192.size a := fun v898 k1_hw5 => k1_hw5
def k1_off8 (i : grid1.Coords) (k1_t1 : Fin k1_t1_loop.trips) (c0_i32_58 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v4 : BitVec 32 := Scalar.muli v1 c2_i32_3
  let c0_i32_0 : BitVec 32 := 0#32
  let c1_i32 : BitVec 32 := 1#32
  let arg21 : BitVec 32 := Scf.iv c0_i32_0 c1_i32 k1_t1
  let v5 : BitVec 32 := Scalar.addi v4 arg21
  let c4_i32_57 : BitVec 32 := 4#32
  let v92 : BitVec 32 := Scalar.muli v5 c4_i32_57
  let v93 : BitVec 32 := Scalar.addi v92 c0_i32_58
  let c2048_i32_59 : BitVec 32 := 2048#32
  let v94 : BitVec 32 := Scalar.muli v93 c2048_i32_59
  ![v94.toNat]
def k1_off9 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v4 : BitVec 32 := Scalar.muli v1 c2_i32_3
  let c0_i32_0 : BitVec 32 := 0#32
  let c1_i32 : BitVec 32 := 1#32
  let arg21 : BitVec 32 := Scf.iv c0_i32_0 c1_i32 k1_t1
  let v5 : BitVec 32 := Scalar.addi v4 arg21
  let c2048_i32_69 : BitVec 32 := 2048#32
  let v104 : BitVec 32 := Scalar.muli v5 c2048_i32_69
  let c4_i32_70 : BitVec 32 := 4#32
  let v105 : BitVec 32 := Scalar.muli v104 c4_i32_70
  ![v105.toNat]
def k1_off10 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v4 : BitVec 32 := Scalar.muli v1 c2_i32_3
  let c0_i32_0 : BitVec 32 := 0#32
  let c1_i32 : BitVec 32 := 1#32
  let arg21 : BitVec 32 := Scf.iv c0_i32_0 c1_i32 k1_t1
  let v5 : BitVec 32 := Scalar.addi v4 arg21
  let c0_i32_5 : BitVec 32 := 0#32
  let v7 : BitVec 1 := Scalar.cmpi .sgt v5 c0_i32_5
  let v8 : BitVec 32 := Scalar.extui v7
  let c0_i32_6 : BitVec 32 := 0#32
  let v9 : BitVec 1 := Scalar.cmpi .slt v5 c0_i32_6
  let v10 : BitVec 32 := Scalar.extui v9
  let v11 : BitVec 32 := Scalar.subi v8 v10
  let c2_i32_4 : BitVec 32 := 2#32
  let c0_i32_7 : BitVec 32 := 0#32
  let v12 : BitVec 1 := Scalar.cmpi .sgt c2_i32_4 c0_i32_7
  let v13 : BitVec 32 := Scalar.extui v12
  let c0_i32_8 : BitVec 32 := 0#32
  let v14 : BitVec 1 := Scalar.cmpi .slt c2_i32_4 c0_i32_8
  let v15 : BitVec 32 := Scalar.extui v14
  let v16 : BitVec 32 := Scalar.subi v13 v15
  let v17 : BitVec 1 := Scalar.cmpi .ne v11 v16
  let v18 : BitVec 32 := Scalar.remsi v5 c2_i32_4
  let c0_i32_9 : BitVec 32 := 0#32
  let v19 : BitVec 1 := Scalar.cmpi .ne v18 c0_i32_9
  let v20 : BitVec 1 := Scalar.andi v17 v19
  let v6 : BitVec 32 := Scalar.divsi v5 c2_i32_4
  let c1_i32_10 : BitVec 32 := 1#32
  let v21 : BitVec 32 := Scalar.subi v6 c1_i32_10
  let v22 : BitVec 32 := Scalar.select v20 v21 v6
  let c0_i32_518_r10 : BitVec 32 := 0#32
  let c0_i32_519_r10 : BitVec 32 := 0#32
  ![v22.toNat, 0, 0]
def k1_off11 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v4 : BitVec 32 := Scalar.muli v1 c2_i32_3
  let c0_i32_0 : BitVec 32 := 0#32
  let c1_i32 : BitVec 32 := 1#32
  let arg21 : BitVec 32 := Scf.iv c0_i32_0 c1_i32 k1_t1
  let v5 : BitVec 32 := Scalar.addi v4 arg21
  let c0_i32_5 : BitVec 32 := 0#32
  let v7 : BitVec 1 := Scalar.cmpi .sgt v5 c0_i32_5
  let v8 : BitVec 32 := Scalar.extui v7
  let c0_i32_6 : BitVec 32 := 0#32
  let v9 : BitVec 1 := Scalar.cmpi .slt v5 c0_i32_6
  let v10 : BitVec 32 := Scalar.extui v9
  let v11 : BitVec 32 := Scalar.subi v8 v10
  let c2_i32_4 : BitVec 32 := 2#32
  let c0_i32_7 : BitVec 32 := 0#32
  let v12 : BitVec 1 := Scalar.cmpi .sgt c2_i32_4 c0_i32_7
  let v13 : BitVec 32 := Scalar.extui v12
  let c0_i32_8 : BitVec 32 := 0#32
  let v14 : BitVec 1 := Scalar.cmpi .slt c2_i32_4 c0_i32_8
  let v15 : BitVec 32 := Scalar.extui v14
  let v16 : BitVec 32 := Scalar.subi v13 v15
  let v17 : BitVec 1 := Scalar.cmpi .ne v11 v16
  let v18 : BitVec 32 := Scalar.remsi v5 c2_i32_4
  let c0_i32_9 : BitVec 32 := 0#32
  let v19 : BitVec 1 := Scalar.cmpi .ne v18 c0_i32_9
  let v20 : BitVec 1 := Scalar.andi v17 v19
  let v6 : BitVec 32 := Scalar.divsi v5 c2_i32_4
  let c1_i32_10 : BitVec 32 := 1#32
  let v21 : BitVec 32 := Scalar.subi v6 c1_i32_10
  let v22 : BitVec 32 := Scalar.select v20 v21 v6
  let c512_i32_r11 : BitVec 32 := 512#32
  let c0_i32_518_r11 : BitVec 32 := 0#32
  ![v22.toNat, 512, 0]
def k1_off12 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v4 : BitVec 32 := Scalar.muli v1 c2_i32_3
  let c0_i32_0 : BitVec 32 := 0#32
  let c1_i32 : BitVec 32 := 1#32
  let arg21 : BitVec 32 := Scf.iv c0_i32_0 c1_i32 k1_t1
  let v5 : BitVec 32 := Scalar.addi v4 arg21
  let c0_i32_5 : BitVec 32 := 0#32
  let v7 : BitVec 1 := Scalar.cmpi .sgt v5 c0_i32_5
  let v8 : BitVec 32 := Scalar.extui v7
  let c0_i32_6 : BitVec 32 := 0#32
  let v9 : BitVec 1 := Scalar.cmpi .slt v5 c0_i32_6
  let v10 : BitVec 32 := Scalar.extui v9
  let v11 : BitVec 32 := Scalar.subi v8 v10
  let c2_i32_4 : BitVec 32 := 2#32
  let c0_i32_7 : BitVec 32 := 0#32
  let v12 : BitVec 1 := Scalar.cmpi .sgt c2_i32_4 c0_i32_7
  let v13 : BitVec 32 := Scalar.extui v12
  let c0_i32_8 : BitVec 32 := 0#32
  let v14 : BitVec 1 := Scalar.cmpi .slt c2_i32_4 c0_i32_8
  let v15 : BitVec 32 := Scalar.extui v14
  let v16 : BitVec 32 := Scalar.subi v13 v15
  let v17 : BitVec 1 := Scalar.cmpi .ne v11 v16
  let v18 : BitVec 32 := Scalar.remsi v5 c2_i32_4
  let c0_i32_9 : BitVec 32 := 0#32
  let v19 : BitVec 1 := Scalar.cmpi .ne v18 c0_i32_9
  let v20 : BitVec 1 := Scalar.andi v17 v19
  let v6 : BitVec 32 := Scalar.divsi v5 c2_i32_4
  let c1_i32_10 : BitVec 32 := 1#32
  let v21 : BitVec 32 := Scalar.subi v6 c1_i32_10
  let v22 : BitVec 32 := Scalar.select v20 v21 v6
  let c1024_i32_r12 : BitVec 32 := 1024#32
  let c0_i32_518_r12 : BitVec 32 := 0#32
  ![v22.toNat, 1024, 0]
def k1_off13 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v4 : BitVec 32 := Scalar.muli v1 c2_i32_3
  let c0_i32_0 : BitVec 32 := 0#32
  let c1_i32 : BitVec 32 := 1#32
  let arg21 : BitVec 32 := Scf.iv c0_i32_0 c1_i32 k1_t1
  let v5 : BitVec 32 := Scalar.addi v4 arg21
  let c0_i32_5 : BitVec 32 := 0#32
  let v7 : BitVec 1 := Scalar.cmpi .sgt v5 c0_i32_5
  let v8 : BitVec 32 := Scalar.extui v7
  let c0_i32_6 : BitVec 32 := 0#32
  let v9 : BitVec 1 := Scalar.cmpi .slt v5 c0_i32_6
  let v10 : BitVec 32 := Scalar.extui v9
  let v11 : BitVec 32 := Scalar.subi v8 v10
  let c2_i32_4 : BitVec 32 := 2#32
  let c0_i32_7 : BitVec 32 := 0#32
  let v12 : BitVec 1 := Scalar.cmpi .sgt c2_i32_4 c0_i32_7
  let v13 : BitVec 32 := Scalar.extui v12
  let c0_i32_8 : BitVec 32 := 0#32
  let v14 : BitVec 1 := Scalar.cmpi .slt c2_i32_4 c0_i32_8
  let v15 : BitVec 32 := Scalar.extui v14
  let v16 : BitVec 32 := Scalar.subi v13 v15
  let v17 : BitVec 1 := Scalar.cmpi .ne v11 v16
  let v18 : BitVec 32 := Scalar.remsi v5 c2_i32_4
  let c0_i32_9 : BitVec 32 := 0#32
  let v19 : BitVec 1 := Scalar.cmpi .ne v18 c0_i32_9
  let v20 : BitVec 1 := Scalar.andi v17 v19
  let v6 : BitVec 32 := Scalar.divsi v5 c2_i32_4
  let c1_i32_10 : BitVec 32 := 1#32
  let v21 : BitVec 32 := Scalar.subi v6 c1_i32_10
  let v22 : BitVec 32 := Scalar.select v20 v21 v6
  let c1536_i32_r13 : BitVec 32 := 1536#32
  let c0_i32_518_r13 : BitVec 32 := 0#32
  ![v22.toNat, 1536, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ScatterReferenceIdeal.lean ====
abbrev S32x2048x128 : Shape := ⟨3, ![32, 2048, 128]⟩
abbrev S32x8x2048 : Shape := ⟨3, ![32, 8, 2048]⟩
abbrev S32x4x2048x1 : Shape := ⟨4, ![32, 4, 2048, 1]⟩
abbrev S32x4x2048 : Shape := ⟨3, ![32, 4, 2048]⟩
abbrev S32x1x2048x128 : Shape := ⟨4, ![32, 1, 2048, 128]⟩
abbrev S32x4x2048x128 : Shape := ⟨4, ![32, 4, 2048, 128]⟩
abbrev S_ : Shape := ⟨0, ![]⟩
abbrev S1 : Shape := ⟨1, ![1]⟩
abbrev S1x1x1x1 : Shape := ⟨4, ![1, 1, 1, 1]⟩
abbrev S32x1x2048 : Shape := ⟨3, ![32, 1, 2048]⟩
abbrev S32x2048 : Shape := ⟨2, ![32, 2048]⟩
abbrev S32x1x4x2048 : Shape := ⟨4, ![32, 1, 4, 2048]⟩
abbrev S32x4x4x2048 : Shape := ⟨4, ![32, 4, 4, 2048]⟩
abbrev S32x4x1x2048 : Shape := ⟨4, ![32, 4, 1, 2048]⟩
abbrev S32x4x4x2048x1 : Shape := ⟨5, ![32, 4, 4, 2048, 1]⟩
abbrev S1x1x1x1x1 : Shape := ⟨5, ![1, 1, 1, 1, 1]⟩
abbrev S32x4x2048x4 : Shape := ⟨4, ![32, 4, 2048, 4]⟩
abbrev S32x2x2048x128 : Shape := ⟨4, ![32, 2, 2048, 128]⟩
abbrev S32x2x4x2048 : Shape := ⟨4, ![32, 2, 4, 2048]⟩
abbrev S32x2x2048x4 : Shape := ⟨4, ![32, 2, 2048, 4]⟩

abbrev nBuf : Space → Nat
  | .hbm => 120
  | .vmem => 0
  | .smem => 0
  | _ => 0

abbrev bufTy : (tb : Table) → Fin (tcTables nBuf tb) → BufTy
  | .hbm, ⟨0, _⟩ => ⟨S32x2048x128, .f32⟩
  | .hbm, ⟨1, _⟩ => ⟨S32x8x2048, .i32⟩
  | .hbm, ⟨2, _⟩ => ⟨S32x4x2048x1, .i32⟩
  | .hbm, ⟨3, _⟩ => ⟨S32x4x2048, .i32⟩
  | .hbm, ⟨4, _⟩ => ⟨S32x4x2048, .i32⟩
  | .hbm, ⟨5, _⟩ => ⟨S32x4x2048, .i32⟩
  | .hbm, ⟨6, _⟩ => ⟨S32x4x2048, .i32⟩
  | .hbm, ⟨7, _⟩ => ⟨S32x1x2048x128, .f32⟩
  | .hbm, ⟨8, _⟩ => ⟨S32x4x2048x128, .f32⟩
  | .hbm, ⟨9, _⟩ => ⟨S32x4x2048x1, .i32⟩
  | .hbm, ⟨10, _⟩ => ⟨S_, .i32⟩
  | .hbm, ⟨11, _⟩ => ⟨S32x4x2048x1, .i32⟩
  | .hbm, ⟨12, _⟩ => ⟨S32x4x2048x1, .i1⟩
  | .hbm, ⟨13, _⟩ => ⟨S_, .i32⟩
  | .hbm, ⟨14, _⟩ => ⟨S32x4x2048x1, .i32⟩
  | .hbm, ⟨15, _⟩ => ⟨S32x4x2048x1, .i32⟩
  | .hbm, ⟨16, _⟩ => ⟨S32x4x2048x1, .i32⟩
  | .hbm, ⟨17, _⟩ => ⟨S1, .i32⟩
  | .hbm, ⟨18, _⟩ => ⟨S_, .i32⟩
  | .hbm, ⟨19, _⟩ => ⟨S32x4x2048x1, .i32⟩
  | .hbm, ⟨20, _⟩ => ⟨S32x4x2048x1, .i1⟩
  | .hbm, ⟨21, _⟩ => ⟨S1x1x1x1, .i32⟩
  | .hbm, ⟨22, _⟩ => ⟨S32x4x2048x1, .i32⟩
  | .hbm, ⟨23, _⟩ => ⟨S32x4x2048x1, .i1⟩
  | .hbm, ⟨24, _⟩ => ⟨S32x4x2048x1, .i1⟩
  | .hbm, ⟨25, _⟩ => ⟨S_, .i1⟩
  | .hbm, ⟨26, _⟩ => ⟨S32x4x2048, .i1⟩
  | .hbm, ⟨27, _⟩ => ⟨S32x4x2048x128, .f32⟩
  | .hbm, ⟨28, _⟩ => ⟨S32x4x2048x128, .i1⟩
  | .hbm, ⟨29, _⟩ => ⟨S_, .f32⟩
  | .hbm, ⟨30, _⟩ => ⟨S32x4x2048x128, .f32⟩
  | .hbm, ⟨31, _⟩ => ⟨S32x4x2048x128, .f32⟩
  | .hbm, ⟨32, _⟩ => ⟨S32x1x2048, .i32⟩
  | .hbm, ⟨33, _⟩ => ⟨S32x2048, .i32⟩
  | .hbm, ⟨34, _⟩ => ⟨S32x1x2048, .i32⟩
  | .hbm, ⟨35, _⟩ => ⟨S32x2048, .i32⟩
  | .hbm, ⟨36, _⟩ => ⟨S32x1x2048, .i32⟩
  | .hbm, ⟨37, _⟩ => ⟨S32x2048, .i32⟩
  | .hbm, ⟨38, _⟩ => ⟨S32x1x2048, .i32⟩
  | .hbm, ⟨39, _⟩ => ⟨S32x2048, .i32⟩
  | .hbm, ⟨40, _⟩ => ⟨S32x1x2048, .i32⟩
  | .hbm, ⟨41, _⟩ => ⟨S32x1x2048, .i32⟩
  | .hbm, ⟨42, _⟩ => ⟨S32x1x2048, .i32⟩
  | .hbm, ⟨43, _⟩ => ⟨S32x1x2048, .i32⟩
  | .hbm, ⟨44, _⟩ => ⟨S32x4x2048, .i32⟩
  | .hbm, ⟨45, _⟩ => ⟨S32x1x2048, .i32⟩
  | .hbm, ⟨46, _⟩ => ⟨S32x2048, .i32⟩
  | .hbm, ⟨47, _⟩ => ⟨S32x1x2048, .i32⟩
  | .hbm, ⟨48, _⟩ => ⟨S32x2048, .i32⟩
  | .hbm, ⟨49, _⟩ => ⟨S32x1x2048, .i32⟩
  | .hbm, ⟨50, _⟩ => ⟨S32x2048, .i32⟩
  | .hbm, ⟨51, _⟩ => ⟨S32x1x2048, .i32⟩
  | .hbm, ⟨52, _⟩ => ⟨S32x2048, .i32⟩
  | .hbm, ⟨53, _⟩ => ⟨S32x1x2048, .i32⟩
  | .hbm, ⟨54, _⟩ => ⟨S32x1x2048, .i32⟩
  | .hbm, ⟨55, _⟩ => ⟨S32x1x2048, .i32⟩
  | .hbm, ⟨56, _⟩ => ⟨S32x1x2048, .i32⟩
  | .hbm, ⟨57, _⟩ => ⟨S32x4x2048, .i32⟩
  | .hbm, ⟨58, _⟩ => ⟨S32x1x2048, .i32⟩
  | .hbm, ⟨59, _⟩ => ⟨S32x2048, .i32⟩
  | .hbm, ⟨60, _⟩ => ⟨S32x1x2048, .i32⟩
  | .hbm, ⟨61, _⟩ => ⟨S32x2048, .i32⟩
  | .hbm, ⟨62, _⟩ => ⟨S32x1x2048, .i32⟩
  | .hbm, ⟨63, _⟩ => ⟨S32x2048, .i32⟩
  | .hbm, ⟨64, _⟩ => ⟨S32x1x2048, .i32⟩
  | .hbm, ⟨65, _⟩ => ⟨S32x2048, .i32⟩
  | .hbm, ⟨66, _⟩ => ⟨S32x1x2048, .i32⟩
  | .hbm, ⟨67, _⟩ => ⟨S32x1x2048, .i32⟩
  | .hbm, ⟨68, _⟩ => ⟨S32x1x2048, .i32⟩
  | .hbm, ⟨69, _⟩ => ⟨S32x1x2048, .i32⟩
  | .hbm, ⟨70, _⟩ => ⟨S32x4x2048, .i32⟩
  | .hbm, ⟨71, _⟩ => ⟨S32x1x2048, .i32⟩
  | .hbm, ⟨72, _⟩ => ⟨S32x2048, .i32⟩
  | .hbm, ⟨73, _⟩ => ⟨S32x1x2048, .i32⟩
  | .hbm, ⟨74, _⟩ => ⟨S32x2048, .i32⟩
  | .hbm, ⟨75, _⟩ => ⟨S32x1x2048, .i32⟩
  | .hbm, ⟨76, _⟩ => ⟨S32x2048, .i32⟩
  | .hbm, ⟨77, _⟩ => ⟨S32x1x2048, .i32⟩
  | .hbm, ⟨78, _⟩ => ⟨S32x2048, .i32⟩
  | .hbm, ⟨79, _⟩ => ⟨S32x1x2048, .i32⟩
  | .hbm, ⟨80, _⟩ => ⟨S32x1x2048, .i32⟩
  | .hbm, ⟨81, _⟩ => ⟨S32x1x2048, .i32⟩
  | .hbm, ⟨82, _⟩ => ⟨S32x1x2048, .i32⟩
  | .hbm, ⟨83, _⟩ => ⟨S32x4x2048, .i32⟩
  | .hbm, ⟨84, _⟩ => ⟨S32x1x4x2048, .i32⟩
  | .hbm, ⟨85, _⟩ => ⟨S32x1x4x2048, .i32⟩
  | .hbm, ⟨86, _⟩ => ⟨S32x1x4x2048, .i32⟩
  | .hbm, ⟨87, _⟩ => ⟨S32x1x4x2048, .i32⟩
  | .hbm, ⟨88, _⟩ => ⟨S32x4x4x2048, .i32⟩
  | .hbm, ⟨89, _⟩ => ⟨S32x4x1x2048, .i32⟩
  | .hbm, ⟨90, _⟩ => ⟨S32x4x4x2048, .i32⟩
  | .hbm, ⟨91, _⟩ => ⟨S_, .i32⟩
  | .hbm, ⟨92, _⟩ => ⟨S32x4x4x2048, .i32⟩
  | .hbm, ⟨93, _⟩ => ⟨S32x4x4x2048, .i1⟩
  | .hbm, ⟨94, _⟩ => ⟨S_, .i32⟩
  | .hbm, ⟨95, _⟩ => ⟨S32x4x4x2048, .i32⟩
  | .hbm, ⟨96, _⟩ => ⟨S32x4x4x2048, .i32⟩
  | .hbm, ⟨97, _⟩ => ⟨S32x4x4x2048, .i32⟩
  | .hbm, ⟨98, _⟩ => ⟨S32x4x4x2048x1, .i32⟩
  | .hbm, ⟨99, _⟩ => ⟨S1, .i32⟩
  | .hbm, ⟨100, _⟩ => ⟨S_, .i32⟩
  | .hbm, ⟨101, _⟩ => ⟨S32x4x4x2048x1, .i32⟩
  | .hbm, ⟨102, _⟩ => ⟨S32x4x4x2048x1, .i1⟩
  | .hbm, ⟨103, _⟩ => ⟨S1x1x1x1x1, .i32⟩
  | .hbm, ⟨104, _⟩ => ⟨S32x4x4x2048x1, .i32⟩
  | .hbm, ⟨105, _⟩ => ⟨S32x4x4x2048x1, .i1⟩
  | .hbm, ⟨106, _⟩ => ⟨S32x4x4x2048x1, .i1⟩
  | .hbm, ⟨107, _⟩ => ⟨S_, .i1⟩
  | .hbm, ⟨108, _⟩ => ⟨S32x4x4x2048, .i1⟩
  | .hbm, ⟨109, _⟩ => ⟨S32x4x4x2048, .i32⟩
  | .hbm, ⟨110, _⟩ => ⟨S_, .i32⟩
  | .hbm, ⟨111, _⟩ => ⟨S32x4x4x2048, .i32⟩
  | .hbm, ⟨112, _⟩ => ⟨S32x4x4x2048, .i32⟩
  | .hbm, ⟨113, _⟩ => ⟨S32x4x2048x4, .i32⟩
  | .hbm, ⟨114, _⟩ => ⟨S32x2x2048x128, .f32⟩
  | .hbm, ⟨115, _⟩ => ⟨S32x2x4x2048, .i32⟩
  | .hbm, ⟨116, _⟩ => ⟨S32x2x2048x4, .i32⟩
  | .hbm, ⟨117, _⟩ => ⟨S32x2x2048x128, .f32⟩
  | .hbm, ⟨118, _⟩ => ⟨S32x2x4x2048, .i32⟩
  | .hbm, ⟨119, _⟩ => ⟨S32x2x2048x4, .i32⟩
  | _, _ => ⟨S32x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_c_1 : Ref sig .tc := ⟨.hbm, 17, rfl⟩
abbrev main_call1_c_2 : Ref sig .tc := ⟨.hbm, 18, rfl⟩
abbrev main_call1_v5 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_c_3 : Ref sig .tc := ⟨.hbm, 25, rfl⟩
abbrev main_call1_v11 : Ref sig .tc := ⟨.hbm, 26, rfl⟩
abbrev main_call1_v12 : Ref sig .tc := ⟨.hbm, 27, rfl⟩
abbrev main_call1_v13 : Ref sig .tc := ⟨.hbm, 28, rfl⟩
abbrev main_call1_cst : Ref sig .tc := ⟨.hbm, 29, rfl⟩
abbrev main_call1_v14 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_c : Ref sig .tc := ⟨.hbm, 91, rfl⟩
abbrev main_call2_v0 : Ref sig .tc := ⟨.hbm, 92, rfl⟩
abbrev main_call2_v1 : Ref sig .tc := ⟨.hbm, 93, rfl⟩
abbrev main_call2_c_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_c_1 : Ref sig .tc := ⟨.hbm, 99, rfl⟩
abbrev main_call2_c_2 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_c_3 : Ref sig .tc := ⟨.hbm, 107, rfl⟩
abbrev main_call2_v12 : Ref sig .tc := ⟨.hbm, 108, rfl⟩
abbrev main_call2_v13 : Ref sig .tc := ⟨.hbm, 109, rfl⟩
abbrev main_call2_c_4 : Ref sig .tc := ⟨.hbm, 110, rfl⟩
abbrev main_call2_v14 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩

abbrev nD : Nat := 1
abbrev τ : Topo := Topo.v7x

variable {F : FTy → Type} [FloatOps F]
-- ==== Attend.lean ====
abbrev S32x2x2048x128 : Shape := ⟨4, ![32, 2, 2048, 128]⟩
abbrev S32x2x4x2048 : Shape := ⟨4, ![32, 2, 4, 2048]⟩
abbrev S32x2x2048x4 : Shape := ⟨4, ![32, 2, 2048, 4]⟩
abbrev S1x1x2048x128 : Shape := ⟨4, ![1, 1, 2048, 128]⟩
abbrev S1x1x4x2048 : Shape := ⟨4, ![1, 1, 4, 2048]⟩
abbrev S1x1x2048x4 : Shape := ⟨4, ![1, 1, 2048, 4]⟩
abbrev S2048x128 : Shape := ⟨2, ![2048, 128]⟩
abbrev S2048x64 : Shape := ⟨2, ![2048, 64]⟩
abbrev S4x2048 : Shape := ⟨2, ![4, 2048]⟩
abbrev S2048 : Shape := ⟨1, ![2048]⟩
abbrev S2048x1 : Shape := ⟨2, ![2048, 1]⟩
abbrev S64x64 : Shape := ⟨2, ![64, 64]⟩
abbrev S2112x64 : Shape := ⟨2, ![2112, 64]⟩
abbrev S4x64 : Shape := ⟨2, ![4, 64]⟩
abbrev S4x2112 : Shape := ⟨2, ![4, 2112]⟩
abbrev S2048x4 : Shape := ⟨2, ![2048, 4]⟩
abbrev S256x128 : Shape := ⟨2, ![256, 128]⟩
abbrev S128x64 : Shape := ⟨2, ![128, 64]⟩
abbrev S64x128 : Shape := ⟨2, ![64, 128]⟩
abbrev S1x128 : Shape := ⟨2, ![1, 128]⟩
abbrev S256x4 : Shape := ⟨2, ![256, 4]⟩
abbrev S256x1 : Shape := ⟨2, ![256, 1]⟩
abbrev S256 : Shape := ⟨1, ![256]⟩
abbrev S1x1x256x1 : Shape := ⟨4, ![1, 1, 256, 1]⟩
abbrev S256x63 : Shape := ⟨2, ![256, 63]⟩
abbrev S1x1x256x63 : Shape := ⟨4, ![1, 1, 256, 63]⟩
abbrev S1x1x64x64 : Shape := ⟨4, ![1, 1, 64, 64]⟩

abbrev nBuf : Space → Nat
  | .hbm => 4
  | .vmem => 8
  | .smem => 0
  | _ => 0

abbrev bufTy : (tb : Table) → Fin (tcTables nBuf tb) → BufTy
  | .hbm, ⟨0, _⟩ => ⟨S32x2x2048x128, .f32⟩
  | .hbm, ⟨1, _⟩ => ⟨S32x2x4x2048, .i32⟩
  | .hbm, ⟨2, _⟩ => ⟨S32x2x2048x4, .i32⟩
  | .hbm, ⟨3, _⟩ => ⟨S32x2x2048x128, .f32⟩
  | .local _ .vmem, ⟨0, _⟩ => ⟨S1x1x2048x128, .f32⟩
  | .local _ .vmem, ⟨1, _⟩ => ⟨S1x1x2048x128, .f32⟩
  | .local _ .vmem, ⟨2, _⟩ => ⟨S1x1x4x2048, .i32⟩
  | .local _ .vmem, ⟨3, _⟩ => ⟨S1x1x4x2048, .i32⟩
  | .local _ .vmem, ⟨4, _⟩ => ⟨S1x1x2048x4, .i32⟩
  | .local _ .vmem, ⟨5, _⟩ => ⟨S1x1x2048x4, .i32⟩
  | .local _ .vmem, ⟨6, _⟩ => ⟨S1x1x2048x128, .f32⟩
  | .local _ .vmem, ⟨7, _⟩ => ⟨S1x1x2048x128, .f32⟩
  | _, _ => ⟨S32x2x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttendReferenceIdeal.lean ====
abbrev S32x2x2048x128 : Shape := ⟨4, ![32, 2, 2048, 128]⟩
abbrev S32x2x4x2048 : Shape := ⟨4, ![32, 2, 4, 2048]⟩
abbrev S32x2x2048x4 : Shape := ⟨4, ![32, 2, 2048, 4]⟩
abbrev S32x2x2048x64 : Shape := ⟨4, ![32, 2, 2048, 64]⟩
abbrev S64x32x64x64 : Shape := ⟨4, ![64, 32, 64, 64]⟩
abbrev S_ : Shape := ⟨0, ![]⟩
abbrev S64x32x64 : Shape := ⟨3, ![64, 32, 64]⟩
abbrev S64x32x64x1 : Shape := ⟨4, ![64, 32, 64, 1]⟩
abbrev S64x1x64x64 : Shape := ⟨4, ![64, 1, 64, 64]⟩
abbrev S64x31x64x64 : Shape := ⟨4, ![64, 31, 64, 64]⟩
abbrev S64x32x128x64 : Shape := ⟨4, ![64, 32, 128, 64]⟩
abbrev S64x32x64x128 : Shape := ⟨4, ![64, 32, 64, 128]⟩
abbrev S64x32x64x4 : Shape := ⟨4, ![64, 32, 64, 4]⟩
abbrev S64x1x64x4 : Shape := ⟨4, ![64, 1, 64, 4]⟩
abbrev S64x31x64x4 : Shape := ⟨4, ![64, 31, 64, 4]⟩
abbrev S64x32x128x4 : Shape := ⟨4, ![64, 32, 128, 4]⟩
abbrev S2048 : Shape := ⟨1, ![2048]⟩
abbrev S1x32x64x1 : Shape := ⟨4, ![1, 32, 64, 1]⟩
abbrev S1x1x64x1 : Shape := ⟨4, ![1, 1, 64, 1]⟩
abbrev S1x31x64x1 : Shape := ⟨4, ![1, 31, 64, 1]⟩
abbrev S1x32x128x1 : Shape := ⟨4, ![1, 32, 128, 1]⟩
abbrev S1x32x1x128 : Shape := ⟨4, ![1, 32, 1, 128]⟩
abbrev S64x32x128x1 : Shape := ⟨4, ![64, 32, 128, 1]⟩
abbrev S64x32x128 : Shape := ⟨3, ![64, 32, 128]⟩
abbrev S64x32x1x128 : Shape := ⟨4, ![64, 32, 1, 128]⟩
abbrev S1x32x64x128 : Shape := ⟨4, ![1, 32, 64, 128]⟩
abbrev S32x2x2048x1 : Shape := ⟨4, ![32, 2, 2048, 1]⟩
abbrev S32x2x2048x63 : Shape := ⟨4, ![32, 2, 2048, 63]⟩

abbrev nBuf : Space → Nat
  | .hbm => 174
  | .vmem => 0
  | .smem => 0
  | _ => 0

abbrev hbmTy0_0 (i : Nat) : BufTy := match i % 128 with
  | 0 => ⟨S32x2x2048x128, .f32⟩
  | 1 => ⟨S32x2x4x2048, .i32⟩
  | 2 => ⟨S32x2x2048x4, .i32⟩
  | 3 => ⟨S32x2x2048x64, .f32⟩
  | 4 => ⟨S64x32x64x64, .f32⟩
  | 5 => ⟨S32x2x2048x64, .f32⟩
  | 6 => ⟨S64x32x64x64, .f32⟩
  | 7 => ⟨S64x32x64x64, .f32⟩
  | 8 => ⟨S_, .f32⟩
  | 9 => ⟨S64x32x64, .f32⟩
  | 10 => ⟨S64x32x64x1, .f32⟩
  | 11 => ⟨S64x32x64x1, .f32⟩
  | 12 => ⟨S_, .f32⟩
  | 13 => ⟨S64x32x64x1, .f32⟩
  | 14 => ⟨S64x32x64x1, .f32⟩
  | 15 => ⟨S64x32x64x64, .f32⟩
  | 16 => ⟨S64x32x64x64, .f32⟩
  | 17 => ⟨S64x1x64x64, .f32⟩
  | 18 => ⟨S64x31x64x64, .f32⟩
  | 19 => ⟨S64x32x64x64, .f32⟩
  | 20 => ⟨S64x32x128x64, .f32⟩
  | 21 => ⟨S64x32x64x128, .f32⟩
  | 22 => ⟨S_, .f32⟩
  | 23 => ⟨S64x32x64x128, .f32⟩
  | 24 => ⟨S64x32x64x128, .f32⟩
  | 25 => ⟨S32x2x2048x4, .f32⟩
  | 26 => ⟨S64x32x64x4, .f32⟩
  | 27 => ⟨S32x2x4x2048, .f32⟩
  | 28 => ⟨S32x2x2048x4, .f32⟩
  | 29 => ⟨S64x32x64x4, .f32⟩
  | 30 => ⟨S64x1x64x4, .f32⟩
  | 31 => ⟨S64x31x64x4, .f32⟩
  | 32 => ⟨S64x32x64x4, .f32⟩
  | 33 => ⟨S64x32x128x4, .f32⟩
  | 34 => ⟨S2048, .i32⟩
  | 35 => ⟨S1x32x64x1, .i32⟩
  | 36 => ⟨S1x1x64x1, .i32⟩
  | 37 => ⟨S1x31x64x1, .i32⟩
  | 38 => ⟨S1x32x64x1, .i32⟩
  | 39 => ⟨S1x32x128x1, .i32⟩
  | 40 => ⟨S1x32x1x128, .i32⟩
  | 41 => ⟨S64x32x64x1, .f32⟩
  | 42 => ⟨S64x32x64, .f32⟩
  | 43 => ⟨S64x32x64x1, .f32⟩
  | 44 => ⟨S64x32x128x1, .f32⟩
  | 45 => ⟨S64x32x128, .f32⟩
  | 46 => ⟨S64x32x1x128, .f32⟩
  | 47 => ⟨S64x32x64x128, .f32⟩
  | 48 => ⟨S64x32x64x128, .f32⟩
  | 49 => ⟨S64x32x64x128, .i1⟩
  | 50 => ⟨S_, .f32⟩
  | 51 => ⟨S_, .f32⟩
  | 52 => ⟨S64x32x64x128, .f32⟩
  | 53 => ⟨S64x32x64x128, .f32⟩
  | 54 => ⟨S1x32x64x128, .i32⟩
  | 55 => ⟨S1x32x64x128, .i32⟩
  | 56 => ⟨S1x32x64x128, .i1⟩
  | 57 => ⟨S_, .f32⟩
  | 58 => ⟨S_, .f32⟩
  | 59 => ⟨S64x32x64x128, .i1⟩
  | 60 => ⟨S64x32x64x128, .f32⟩
  | 61 => ⟨S64x32x64x128, .f32⟩
  | 62 => ⟨S1x32x64x128, .i32⟩
  | 63 => ⟨S1x32x64x128, .i32⟩
  | 64 => ⟨S1x32x64x128, .i1⟩
  | 65 => ⟨S_, .f32⟩
  | 66 => ⟨S_, .f32⟩
  | 67 => ⟨S64x32x64x128, .i1⟩
  | 68 => ⟨S64x32x64x128, .f32⟩
  | 69 => ⟨S64x32x64x128, .f32⟩
  | 70 => ⟨S_, .f32⟩
  | 71 => ⟨S64x32x64x128, .f32⟩
  | 72 => ⟨S64x32x64x1, .f32⟩
  | 73 => ⟨S64x32x64, .f32⟩
  | 74 => ⟨S64x32x64x1, .f32⟩
  | 75 => ⟨S64x32x128x1, .f32⟩
  | 76 => ⟨S64x32x128, .f32⟩
  | 77 => ⟨S64x32x1x128, .f32⟩
  | 78 => ⟨S_, .f32⟩
  | 79 => ⟨S64x32x64x1, .f32⟩
  | 80 => ⟨S64x32x64x1, .i1⟩
  | 81 => ⟨S_, .f32⟩
  | 82 => ⟨S64x32x64x1, .f32⟩
  | 83 => ⟨S64x32x64x1, .f32⟩
  | 84 => ⟨S_, .f32⟩
  | 85 => ⟨S_, .f32⟩
  | 86 => ⟨S64x32x64x1, .f32⟩
  | 87 => ⟨S64x32x64x1, .f32⟩
  | 88 => ⟨S64x32x64x128, .f32⟩
  | 89 => ⟨S64x32x64x128, .f32⟩
  | 90 => ⟨S64x32x64x128, .i1⟩
  | 91 => ⟨S64x32x64x128, .f32⟩
  | 92 => ⟨S64x32x64x128, .f32⟩
  | 93 => ⟨S64x32x64x128, .f32⟩
  | 94 => ⟨S64x32x64x128, .f32⟩
  | 95 => ⟨S64x32x64x128, .i1⟩
  | 96 => ⟨S64x32x64x128, .f32⟩
  | 97 => ⟨S64x32x64x128, .f32⟩
  | 98 => ⟨S64x32x64x1, .f32⟩
  | 99 => ⟨S64x32x64, .f32⟩
  | 100 => ⟨S64x32x64x1, .f32⟩
  | 101 => ⟨S64x32x128x1, .f32⟩
  | 102 => ⟨S64x32x128, .f32⟩
  | 103 => ⟨S64x32x1x128, .f32⟩
  | 104 => ⟨S_, .f32⟩
  | 105 => ⟨S64x32x64x1, .f32⟩
  | 106 => ⟨S64x32x64x1, .i1⟩
  | 107 => ⟨S_, .f32⟩
  | 108 => ⟨S64x32x64x1, .f32⟩
  | 109 => ⟨S64x32x64x1, .f32⟩
  | 110 => ⟨S_, .f32⟩
  | 111 => ⟨S_, .f32⟩
  | 112 => ⟨S64x32x64x1, .f32⟩
  | 113 => ⟨S64x32x64x1, .f32⟩
  | 114 => ⟨S64x32x64x128, .f32⟩
  | 115 => ⟨S64x32x64x128, .f32⟩
  | 116 => ⟨S64x32x64x128, .i1⟩
  | 117 => ⟨S64x32x64x128, .f32⟩
  | 118 => ⟨S64x32x64x128, .f32⟩
  | 119 => ⟨S64x32x64x128, .f32⟩
  | 120 => ⟨S64x32x64x128, .f32⟩
  | 121 => ⟨S64x32x64x128, .i1⟩
  | 122 => ⟨S64x32x64x128, .f32⟩
  | 123 => ⟨S64x32x64x128, .f32⟩
  | 124 => ⟨S64x32x64x1, .f32⟩
  | 125 => ⟨S64x32x64, .f32⟩
  | 126 => ⟨S64x32x64x1, .f32⟩
  | 127 => ⟨S64x32x128x1, .f32⟩
  | _ => ⟨S32x2x2048x128, .f32⟩

abbrev hbmTy0_1 (i : Nat) : BufTy := match i % 128 with
  | 0 => ⟨S64x32x128, .f32⟩
  | 1 => ⟨S64x32x1x128, .f32⟩
  | 2 => ⟨S_, .f32⟩
  | 3 => ⟨S64x32x64x1, .f32⟩
  | 4 => ⟨S64x32x64x1, .i1⟩
  | 5 => ⟨S_, .f32⟩
  | 6 => ⟨S64x32x64x1, .f32⟩
  | 7 => ⟨S64x32x64x1, .f32⟩
  | 8 => ⟨S_, .f32⟩
  | 9 => ⟨S_, .f32⟩
  | 10 => ⟨S64x32x64x1, .f32⟩
  | 11 => ⟨S64x32x64x1, .f32⟩
  | 12 => ⟨S64x32x64x128, .f32⟩
  | 13 => ⟨S64x32x64x128, .f32⟩
  | 14 => ⟨S64x32x64x128, .i1⟩
  | 15 => ⟨S64x32x64x128, .f32⟩
  | 16 => ⟨S64x32x64x128, .f32⟩
  | 17 => ⟨S64x32x64x128, .f32⟩
  | 18 => ⟨S64x32x64x128, .f32⟩
  | 19 => ⟨S64x32x64x128, .i1⟩
  | 20 => ⟨S64x32x64x128, .f32⟩
  | 21 => ⟨S64x32x64x128, .f32⟩
  | 22 => ⟨S_, .f32⟩
  | 23 => ⟨S64x32x64, .f32⟩
  | 24 => ⟨S64x32x64x1, .f32⟩
  | 25 => ⟨S64x32x64x128, .f32⟩
  | 26 => ⟨S64x32x64x128, .f32⟩
  | 27 => ⟨S64x32x64x128, .f32⟩
  | 28 => ⟨S_, .f32⟩
  | 29 => ⟨S64x32x64, .f32⟩
  | 30 => ⟨S64x32x64x1, .f32⟩
  | 31 => ⟨S64x32x64x128, .f32⟩
  | 32 => ⟨S64x32x64x128, .f32⟩
  | 33 => ⟨S64x32x64x128, .f32⟩
  | 34 => ⟨S64x1x64x64, .f32⟩
  | 35 => ⟨S64x31x64x64, .f32⟩
  | 36 => ⟨S64x32x64x64, .f32⟩
  | 37 => ⟨S64x32x128x64, .f32⟩
  | 38 => ⟨S64x32x64x64, .f32⟩
  | 39 => ⟨S32x2x2048x64, .f32⟩
  | 40 => ⟨S64x32x64x1, .f32⟩
  | 41 => ⟨S64x32x64x1, .f32⟩
  | 42 => ⟨S32x2x2048x1, .f32⟩
  | 43 => ⟨S_, .f32⟩
  | 44 => ⟨S32x2x2048x63, .f32⟩
  | 45 => ⟨S32x2x2048x128, .f32⟩
  | _ => ⟨S32x2x2048x128, .f32⟩

abbrev hbmTy (i : Nat) : BufTy := match i / 128 with
  | 0 => hbmTy0_0 i
  | 1 => hbmTy0_1 i
  | _ => ⟨S32x2x2048x128, .f32⟩

abbrev bufTy : (tb : Table) → Fin (tcTables nBuf tb) → BufTy
  | .hbm, ⟨i, _⟩ => hbmTy i
  | _, _ => ⟨S32x2x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_2 : Ref sig .tc := ⟨.hbm, 50, rfl⟩
abbrev main_call0_v0 : Ref sig .tc := ⟨.hbm, 51, rfl⟩
abbrev main_call0_v1 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_3 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v52 : Ref sig .tc := ⟨.hbm, 69, rfl⟩
abbrev main_cst_5 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_6 : Ref sig .tc := ⟨.hbm, 78, rfl⟩
abbrev main_v60 : Ref sig .tc := ⟨.hbm, 79, rfl⟩
abbrev main_v61 : Ref sig .tc := ⟨.hbm, 80, rfl⟩
abbrev main_cst_7 : Ref sig .tc := ⟨.hbm, 81, rfl⟩
abbrev main_v62 : Ref sig .tc := ⟨.hbm, 82, rfl⟩
abbrev main_v63 : Ref sig .tc := ⟨.hbm, 83, rfl⟩
abbrev main_cst_8 : Ref sig .tc := ⟨.hbm, 84, rfl⟩
abbrev main_call3_v0 : Ref sig .tc := ⟨.hbm, 85, rfl⟩
abbrev main_call3_v1 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_9 : Ref sig .tc := ⟨.hbm, 104, rfl⟩
abbrev main_v81 : Ref sig .tc := ⟨.hbm, 105, rfl⟩
abbrev main_v82 : Ref sig .tc := ⟨.hbm, 106, rfl⟩
abbrev main_cst_10 : Ref sig .tc := ⟨.hbm, 107, rfl⟩
abbrev main_v83 : Ref sig .tc := ⟨.hbm, 108, rfl⟩
abbrev main_v84 : Ref sig .tc := ⟨.hbm, 109, rfl⟩
abbrev main_cst_11 : Ref sig .tc := ⟨.hbm, 110, rfl⟩
abbrev main_call4_v0 : Ref sig .tc := ⟨.hbm, 111, rfl⟩
abbrev main_call4_v1 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_12 : Ref sig .tc := ⟨.hbm, 130, rfl⟩
abbrev main_v102 : Ref sig .tc := ⟨.hbm, 131, rfl⟩
abbrev main_v103 : Ref sig .tc := ⟨.hbm, 132, rfl⟩
abbrev main_cst_13 : Ref sig .tc := ⟨.hbm, 133, rfl⟩
abbrev main_v104 : Ref sig .tc := ⟨.hbm, 134, rfl⟩
abbrev main_v105 : Ref sig .tc := ⟨.hbm, 135, rfl⟩
abbrev main_cst_14 : Ref sig .tc := ⟨.hbm, 136, rfl⟩
abbrev main_call5_v0 : Ref sig .tc := ⟨.hbm, 137, rfl⟩
abbrev main_call5_v1 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_15 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_16 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_cst_17 : Ref sig .tc := ⟨.hbm, 171, rfl⟩
abbrev main_v136 : Ref sig .tc := ⟨.hbm, 172, rfl⟩
abbrev main_v137 : Ref sig .tc := ⟨.hbm, 173, rfl⟩

abbrev nD : Nat := 1
abbrev τ : Topo := Topo.v7x

variable {F : FTy → Type} [FloatOps F]
-- ==== Proof.Trip.lean ====
/-
  One trip of the gathering kernel's loop, written once for both of its calls: the offsets of the two windows in high
  bandwidth memory and the first row of the table are parameters.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Trip

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The program -/

section Program

variable {c : Fin τ.nSC} {s : Fin τ.nSub}

/-- A subcore's programs. -/
abbrev PR (F : FTy → Type) (c : Fin τ.nSC) (s : Fin τ.nSub) (α : Type) : Type 1 := Prog (TpuEff nD τ sig (Elt F) Λ₀ (.scVector c s)) α

theorem grp_inb (p : Fin 32) : ∀ a, (![16 * p.val] : Fin 1 → ℕ) a + S16.size a ≤ S512.size a := by
  intro a; fin_cases a; have := p.isLt; show 16 * p.val + 16 ≤ 512; omega
theorem cell_inb (p : Fin 32) : ∀ a, (![p.val / 8, 16 * (p.val % 8)] : Fin 2 → ℕ) a + S1x16.size a ≤ S4x128.size a := by
  intro a; have := p.isLt; fin_cases a
  · show p.val / 8 + 1 ≤ 4; omega
  · show 16 * (p.val % 8) + 16 ≤ 128; omega

/-- Sixteen of the fetched ranks. -/
abbrev grp (p : Fin 32) : Rect S512 := Rect.unit (s := S512) ![16 * p.val] S16.size (grp_inb p)
/-- The sixteen row numbers made of them. -/
abbrev cell (p : Fin 32) : Rect S4x128 := Rect.unit (s := S4x128) ![p.val / 8, 16 * (p.val % 8)] S1x16.size (cell_inb p)

/-- The row numbers of sixteen ranks: the table's first row added. -/
def pay (base : BitVec 32) (v : IVec S16 32) : IVec S16 32 := addi v (broadcast S16 base)

/-- One group of sixteen ranks made row numbers. -/
def fillOne (arg5 : Memref sig .scVector .vmem S512 .i32) (arg6 : Memref sig .scVector .vmem S4x128 .i32) (base : BitVec 32) (p : Fin 32) : PR F c s PUnit := do
  let v : Vec F S16 .i32 ← Prog.lift (.load arg5 (grp p).toLoadRect (View.loadsAt_vmem h_S16))
  let _ : Vec F S1x16 .i32 ← Prog.lift (.load arg6 (cell p).toLoadRect (View.loadsAt_vmem h_S1x16))
  Prog.lift (.store arg6 (cell p) (shapeCast S1x16 (pay base v) shapeCasts_S16_S1x16) Finset.univ (View.stores_vmem_bits_univ h_S1x16 rfl) (.inl rfl))

/-- The groups of a list, in order. -/
def fill (arg5 : Memref sig .scVector .vmem S512 .i32) (arg6 : Memref sig .scVector .vmem S4x128 .i32) (base : BitVec 32) : List (Fin 32) → PR F c s PUnit
  | [] => pure ⟨⟩
  | p :: L => do
    fillOne arg5 arg6 base p
    fill arg5 arg6 base L

/-- All thirty-two. -/
def groups : List (Fin 32) :=
  [0, 1, 2, 3, 4, 5, 6, 7, 8, 9, 10, 11, 12, 13, 14, 15, 16, 17, 18, 19, 20, 21, 22, 23, 24, 25, 26, 27, 28, 29, 30, 31]

/-- A run of the rank array. -/
abbrev rankWin (arg3 : Memref sig .scVector .hbm S262144 .i32) (o1 : Fin 1 → ℕ) (h1 : ∀ a, o1 a + S512.size a ≤ S262144.size a) :
    Memref sig .scVector .hbm S512 .i32 := arg3.slice (Rect.unit (s := S262144) o1 S512.size h1) (fun _ => rfl)

/-- A block of the result. -/
abbrev outWin (arg4 : Memref sig .scVector .hbm S32x2x2048x128 .f32) (o2 : Fin 4 → ℕ) (h2 : ∀ a, o2 a + S1x1x512x128.size a ≤ S32x2x2048x128.size a) :
    Memref sig .scVector .hbm S512x128 .f32 :=
  (arg4.slice (Rect.unit (s := S32x2x2048x128) o2 S1x1x512x128.size h2) (fun _ => rfl)).squeeze S512x128 squeezes_S1x1x512x128_S512x128

/-- The fetch of 512 ranks. -/
def fetch (arg3 : Memref sig .scVector .hbm S262144 .i32) (arg5 : Memref sig .scVector .vmem S512 .i32) (harg5 : arg5.IsWhole)
    (sm : DmaSem sig) (o1 : Fin 1 → ℕ) (h1 : ∀ a, o1 a + S512.size a ≤ S262144.size a) : PR F c s PUnit := do
  Prog.lift (.enqueueDma (rankWin arg3 o1 h1) (.here arg5) (.dma sm) (View.wordExact_bits rfl) harg5.wordExact ⟨Or.inl rfl, trivial⟩)
  Prog.lift (.waitDma2 sm (rankWin arg3 o1 h1) arg5 (View.wordExact_bits rfl) harg5.wordExact)

theorem row_inb (r : ℕ) (hr : r < 4) : ∀ a, (![r, 0] : Fin 2 → ℕ) a + S1x128.size a ≤ S4x128.size a := by
  intro a; fin_cases a
  · show r + 1 ≤ 4; omega
  · show 0 + 128 ≤ 128; omega
theorem land_inb (r : ℕ) (hr : r ≤ 384) : ∀ a, (![r, 0] : Fin 2 → ℕ) a + S128x128.size a ≤ S512x128.size a := by
  intro a; fin_cases a
  · show r + 128 ≤ 512; omega
  · show 0 + 128 ≤ 128; omega

/-- The table of rows, as the streams name it. -/
abbrev tab (arg2 : Memref sig .scVector .hbm S131072x128 .f32) : Memref sig .scVector .hbm S131072x128 .f32 :=
  arg2.slice (Rect.unit (s := S131072x128) ![0, 0] S131072x128.size inb_S131072x128_S131072x128_0_0) (fun _ => rfl)
/-- One row of the row numbers: the list of one stream. -/
abbrev list (arg6 : Memref sig .scVector .vmem S4x128 .i32) (r : ℕ) (hr : r < 4) : Memref sig .scVector .vmem S128 .i32 :=
  (arg6.slice (Rect.unit (s := S4x128) ![r, 0] S1x128.size (row_inb r hr)) (fun _ => rfl)).squeeze S128 squeezes_S1x128_S128
/-- Where that stream lands. -/
abbrev land (arg7 : Memref sig .scVector .vmem S512x128 .f32) (r : ℕ) (hr : r ≤ 384) : Memref sig .scVector .vmem S128x128 .f32 :=
  arg7.slice (Rect.unit (s := S512x128) ![r, 0] S128x128.size (land_inb r hr)) (fun _ => rfl)

/-- The four streams and their waits. -/
def streams (arg2 : Memref sig .scVector .hbm S131072x128 .f32) (arg6 : Memref sig .scVector .vmem S4x128 .i32)
    (arg7 : Memref sig .scVector .vmem S512x128 .f32) (sm : DmaSem sig) : PR F c s PUnit := do
  SparseCore.enqueueIndirectGather rfl (tab arg2) (land arg7 0 (by decide)) gathers_S131072x128_S128x128 (list arg6 0 (by decide)) rfl sm (View.wordExact_bits rfl) rfl (Or.inl rfl)
  SparseCore.enqueueIndirectGather rfl (tab arg2) (land arg7 128 (by decide)) gathers_S131072x128_S128x128 (list arg6 1 (by decide)) rfl sm (View.wordExact_bits rfl) rfl (Or.inl rfl)
  SparseCore.enqueueIndirectGather rfl (tab arg2) (land arg7 256 (by decide)) gathers_S131072x128_S128x128 (list arg6 2 (by decide)) rfl sm (View.wordExact_bits rfl) rfl (Or.inl rfl)
  SparseCore.enqueueIndirectGather rfl (tab arg2) (land arg7 384 (by decide)) gathers_S131072x128_S128x128 (list arg6 3 (by decide)) rfl sm (View.wordExact_bits rfl) rfl (Or.inl rfl)
  SparseCore.waitIndirectGather sm (tab arg2) (land arg7 0 (by decide)) (View.wordExact_bits rfl) (View.wordExact_bits rfl)
  SparseCore.waitIndirectGather sm (tab arg2) (land arg7 128 (by decide)) (View.wordExact_bits rfl) (View.wordExact_bits rfl)
  SparseCore.waitIndirectGather sm (tab arg2) (land arg7 256 (by decide)) (View.wordExact_bits rfl) (View.wordExact_bits rfl)
  SparseCore.waitIndirectGather sm (tab arg2) (land arg7 384 (by decide)) (View.wordExact_bits rfl) (View.wordExact_bits rfl)

/-- The block written out. -/
def writeOut (arg4 : Memref sig .scVector .hbm S32x2x2048x128 .f32) (arg7 : Memref sig .scVector .vmem S512x128 .f32) (harg7 : arg7.IsWhole)
    (sm : DmaSem sig) (o2 : Fin 4 → ℕ) (h2 : ∀ a, o2 a + S1x1x512x128.size a ≤ S32x2x2048x128.size a) : PR F c s PUnit := do
  Prog.lift (.enqueueDma arg7 (.here (outWin arg4 o2 h2)) (.dma sm) harg7.wordExact ((View.wordExact_bits rfl).reshape _ _) ⟨Or.inl rfl, trivial⟩)
  Prog.lift (.waitDma2 sm arg7 (outWin arg4 o2 h2) harg7.wordExact ((View.wordExact_bits rfl).reshape _ _))

/-- One trip. -/
def trip (arg2 : Memref sig .scVector .hbm S131072x128 .f32) (arg3 : Memref sig .scVector .hbm S262144 .i32)
    (arg4 : Memref sig .scVector .hbm S32x2x2048x128 .f32) (arg5 : Memref sig .scVector .vmem S512 .i32) (harg5 : arg5.IsWhole)
    (arg6 : Memref sig .scVector .vmem S4x128 .i32) (arg7 : Memref sig .scVector .vmem S512x128 .f32) (harg7 : arg7.IsWhole)
    (sg sr so : DmaSem sig) (o1 : Fin 1 → ℕ) (h1 : ∀ a, o1 a + S512.size a ≤ S262144.size a)
    (o2 : Fin 4 → ℕ) (h2 : ∀ a, o2 a + S1x1x512x128.size a ≤ S32x2x2048x128.size a) (base : BitVec 32) : PR F c s (BitVec 32) := do
  fetch arg3 arg5 harg5 sr o1 h1
  fill arg5 arg6 base groups
  streams arg2 arg6 arg7 sg
  writeOut arg4 arg7 harg7 so o2 h2
  pure 0#32

end Program

/-! ## The two loops' trips are this one -/

/-- The first row of the table's part that a trip reads, as the program computes it: the batch-and-round `2 v + ⌊t / 4⌋`
    times the 2048 rows of one. -/
def baseW (v : BitVec 32) (n : BitVec 32) : BitVec 32 :=
  let q := Scalar.divsi n 4#32
  let d := Scalar.andi
    (Scalar.cmpi .ne (Scalar.subi (Scalar.extui (Scalar.cmpi .sgt n 0#32)) (Scalar.extui (Scalar.cmpi .slt n 0#32)))
      (Scalar.subi (Scalar.extui (Scalar.cmpi .sgt 4#32 0#32)) (Scalar.extui (Scalar.cmpi .slt 4#32 0#32))))
    (Scalar.cmpi .ne (Scalar.remsi n 4#32) 0#32)
  Scalar.muli (Scalar.addi (Scalar.muli v 2#32) (Scalar.select d (Scalar.subi q 1#32) q)) 2048#32

set_option maxRecDepth 65536 in
theorem body0_eq (i : grid0.Coords) (arg2 : Memref sig .scVector .hbm S131072x128 .f32) (harg2 : arg2.IsWhole) (arg3 : Memref sig .scVector .hbm S262144 .i32) (harg3 : arg3.IsWhole)
    (arg4 : Memref sig .scVector .hbm S32x2x2048x128 .f32) (harg4 : arg4.IsWhole) (arg5 : Memref sig .scVector .vmem S512 .i32) (harg5 : arg5.IsWhole)
    (arg6 : Memref sig .scVector .vmem S4x128 .i32) (harg6 : arg6.IsWhole) (arg7 : Memref sig .scVector .vmem S512x128 .f32) (harg7 : arg7.IsWhole)
    (arg8 r0 r1 : DmaSems sig S_) (v1 : BitVec 32) (t : Fin k0_t1_loop.trips) (x : BitVec 32) :
    k0_t1_body (F := F) i arg2 harg2 arg3 harg3 arg4 harg4 arg5 harg5 arg6 harg6 arg7 harg7 arg8 r0 r1 v1 t x
      = trip arg2 arg3 arg4 arg5 harg5 arg6 arg7 harg7 arg8.sem r0.sem r1.sem (k0_off1 i t) (k0_off1_inb i t) (k0_off2 i t) (k0_off2_inb i t) (baseW v1 (Scf.iv 0#32 1#32 t)) := rfl

set_option maxRecDepth 65536 in
theorem body1_eq (i : grid1.Coords) (arg2 : Memref sig .scVector .hbm S131072x128 .f32) (harg2 : arg2.IsWhole) (arg3 : Memref sig .scVector .hbm S262144 .i32) (harg3 : arg3.IsWhole)
    (arg4 : Memref sig .scVector .hbm S32x2x2048x128 .f32) (harg4 : arg4.IsWhole) (arg5 : Memref sig .scVector .vmem S512 .i32) (harg5 : arg5.IsWhole)
    (arg6 : Memref sig .scVector .vmem S4x128 .i32) (harg6 : arg6.IsWhole) (arg7 : Memref sig .scVector .vmem S512x128 .f32) (harg7 : arg7.IsWhole)
    (arg8 r0 r1 : DmaSems sig S_) (v1 : BitVec 32) (t : Fin k1_t1_loop.trips) (x : BitVec 32) :
    k1_t1_body (F := F) i arg2 harg2 arg3 harg3 arg4 harg4 arg5 harg5 arg6 harg6 arg7 harg7 arg8 r0 r1 v1 t x
      = trip arg2 arg3 arg4 arg5 harg5 arg6 arg7 harg7 arg8.sem r0.sem r1.sem (k1_off1 i t) (k1_off1_inb i t) (k1_off2 i t) (k1_off2_inb i t) (baseW v1 (Scf.iv 0#32 1#32 t)) := rfl

end Cert.Proof.Trip

end
-- ==== Proof.Streams.lean ====
/-
  Several indirect gathers outstanding on one cell: their rows are one batch of transfers of one size each, so the cell's
  counted batch serves them, a stream issuing as many of the batch's transfers as its list has entries.
-/
module

public import Idealize.ShloMosaic.Lib.Batch
public import Idealize.ShloMosaic.Lib.SparseCore.Stream

@[expose] public section

noncomputable section

namespace Cert.Proof.Streams

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)

local notation "𝕄" => MT nD τ sig Ix (Elt F) Name U Lvl

/-- The numbers `j, …, j + o - 1` of a batch. -/
def num {n : ℕ} (j o : ℕ) (h : j + o ≤ n) : Fin o ↪ Fin n :=
  ⟨fun i => ⟨j + i.val, by have := i.isLt; omega⟩, fun i i' e => Fin.ext (by have := congrArg Fin.val e; simp only at this; omega)⟩

/-- The rights to issue from `j` on: the next `o`, and those after. -/
theorem bigSep_pending_add {n : ℕ} (Φ : Fin n → sProp 𝕄) (j o : ℕ) (h : j + o ≤ n) :
    bigSep (pending j) Φ = iprop((bigSep Finset.univ fun i : Fin o => Φ (num j o h i)) ∗ bigSep (pending (j + o)) Φ) := by
  classical
  have hs : pending (n := n) j = Finset.univ.map (num (n := n) j o h) ∪ pending (j + o) := by
    ext t
    simp only [pending, Finset.mem_filter, Finset.mem_univ, true_and, Finset.mem_union, Finset.mem_map]
    constructor
    · intro ht
      by_cases h' : j + o ≤ t.val
      · exact .inr h'
      · exact .inl ⟨⟨t.val - j, by omega⟩, Fin.ext (by show j + (t.val - j) = t.val; omega)⟩
    · rintro (⟨i, rfl⟩ | h')
      · show j ≤ j + i.val; omega
      · omega
  have hd : Disjoint (Finset.univ.map (num (n := n) j o h)) (pending (j + o)) := by
    refine Finset.disjoint_left.mpr fun t ht ht' => ?_
    obtain ⟨i, -, rfl⟩ := Finset.mem_map.mp ht
    simp only [pending, Finset.mem_filter, Finset.mem_univ, true_and] at ht'
    have h1 : j + o ≤ j + i.val := ht'
    have := i.isLt; omega
  rw [hs, BI.bigSep_union hd, BI.bigSep_map]; rfl

variable {sp : Space} {s₀ s si : Shape} {e : EltTy} {a : Nat} {α : Type} {Q : α → sProp (MT nD τ sig Ix (Elt F) Name U Lvl)}

/-- What row `j` of a gather delivers: its row of the destination written, its entry of the list, its share of the source. -/
def rowLanded (src : Memref sig c.2.kind sp s₀ e) (dst : Memref sig c.2.kind .vmem s e) (hg : s₀.Gathers a s)
    (offs : Memref sig c.2.kind .vmem si .i32) (hn : si.numel = s.size hg.axis') (hs : 0 < s.numel)
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop(((dst.view.loc c ↦[(dst.view.slice (s.rowRect hg.axis' j)).set]{fullShare} ((dst.view.slice (s.rowRect hg.axis' j)).write (Elt F) fd
            (fun i => src.view.read (Elt F) fs (hg.rowIdx (rows (offs.view.read (Elt F) fo) hn hin j) i)) Finset.univ))
        ∗ offs.view.loc c ↦[{offs.view.emb (si.rowMajor.symm (j.cast hn.symm))}]{qo} fo)
      ∗ (src.view.loc c ↦[src.view.set]{pieceOf q _ (Shape.size_pos_of_numel_pos hs _) j} fs))

instance rowLanded_storable (src : Memref sig c.2.kind sp s₀ e) (dst : Memref sig c.2.kind .vmem s e) (hg : s₀.Gathers a s)
    (offs : Memref sig c.2.kind .vmem si .i32) (hn : si.numel = s.size hg.axis') (hs : 0 < s.numel)
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    Storable (upEmb : UEmb _ 𝕄) (rowLanded c src dst hg offs hn hs q qo fs fd fo hin j) := by
  unfold rowLanded; infer_instance

/-- All the rows together: the destination written with the gather's payload, the shares whole again. -/
theorem rowsLanded (src : Memref sig c.2.kind sp s₀ e) (dst : Memref sig c.2.kind .vmem s e) (hg : s₀.Gathers a s)
    (offs : Memref sig c.2.kind .vmem si .i32) (hn : si.numel = s.size hg.axis') (hs : 0 < s.numel)
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) :
    bigSep Finset.univ (rowLanded c src dst hg offs hn hs q qo fs fd fo hin)
      ⊢ (iprop((dst.view.loc c ↦[dst.view.set]{fullShare}
                  (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) : sProp 𝕄) := by
  unfold rowLanded
  have hw := pointsTo_rows_write (Ix := Ix) (Name := Name) (U := U) (Lvl := Lvl) c dst.view hg.axis' fd
    (fun j i => src.view.read (Elt F) fs (hg.rowIdx (rows (offs.view.read (Elt F) fo) hn hin j) i))
    (gatherPayload hg (src.view.read (Elt F) fs) (rows (offs.view.read (Elt F) fo) hn hin))
    (fun j i => by unfold gatherPayload; rw [Shape.Gathers.idx_rowRect_emb])
  iintro HD
  ihave H1 := bigSep_sep_out _ _ _ $$ HD
  icases H1 with ⟨H2, Hsrc⟩
  ihave H3 := bigSep_sep_out _ _ _ $$ H2
  icases H3 with ⟨Hrows, Hoffs⟩
  isplitl [Hrows]
  · iapply hw; iexact Hrows
  isplitl [Hsrc]
  · iapply (Entails.of_eq (pointsTo_piecesOf (src.view.set) fs (Shape.size_pos_of_numel_pos hs hg.axis') q).symm) $$ Hsrc
  · iapply (Entails.of_eq (pointsTo_entries c offs.view (fun j => si.rowMajor.symm (j.cast hn.symm))
      (si.rowMajor.symm.bijective.comp (finCongr hn.symm).bijective) qo fo).symm) $$ Hoffs

/-- A gather issued as the next `s.size hg.axis'` transfers of its cell's batch. -/
theorem wp_gatherBatch {n : ℕ} [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    (q qo : PosShare TreeShare) (fs : Buf (Elt F) (src.view.loc c)) (fd : Buf (Elt F) (dst.view.loc c)) (fo : Buf (Elt F) (offs.view.loc c))
    (ι : Ix) (N : ℕ) (hN : ∀ j, (dst.slice (s.rowRect hg.axis' j) (s.stride_rowRect hg.axis' j)).view.dmaCredit = N)
    (hs : 0 < s.numel) (hin : ∀ x, (offs.view.read (Elt F) fo x).toNat < s₀.size hg.axis)
    (D : Fin n → sProp 𝕄) (j : ℕ) (hj : j + s.size hg.axis' ≤ n)
    (hD : ∀ i, rowLanded c src dst hg offs hn hs q qo fs fd fo hin i ⊢ D (num j _ hj i)) :
    iprop((src.view.loc c ↦[src.view.set]{q} fs) ∗ (dst.view.loc c ↦[dst.view.set]{fullShare} fd)
        ∗ (offs.view.loc c ↦[offs.view.set]{qo} fo) ∗ Batch EC c (.dma sem) ι N D j 0)
      ⊢ iprop((Batch EC c (.dma sem) ι N D (j + s.size hg.axis') 0 -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  have ho : 0 < s.size hg.axis' := Shape.size_pos_of_numel_pos hs _
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hsum : ∑ i, (rd i).dst.view.dmaCredit = s.size hg.axis' * N := by
    rw [Finset.sum_congr rfl fun i _ => hN i, Finset.sum_const, Finset.card_univ, Fintype.card_fin, smul_eq_mul]
  unfold Batch
  iintro ⟨Hs, Hd, Ho, ⟨%γ, %γ₀, %κ, #Hinv, HI, H0, Hcred⟩⟩ Hk
  ihave HI' := (Entails.of_eq (bigSep_pending_add (fun t => count EC (γ t) 0) j _ hj)) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ i, iprop(inv κ (batchBody EC (c, SemLoc.dma sem) N D γ γ₀)
          ∗ ((((dst.view.loc c ↦[(dst.view.slice (s.rowRect hg.axis' i)).set]{fullShare} fd) ∗ S.heldEntry qo fo i)
          ∗ (src.view.loc c ↦[src.view.set]{pieceOf q _ ho i} fs)) ∗ count EC (γ (num j _ hj i)) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists pieceOf q _ ho i, fs, iprop((dst.view.loc c ↦[(dst.view.slice (s.rowRect hg.axis' i)).set]{fullShare} ((dst.view.slice (s.rowRect hg.axis' i)).write (Elt F) fd
            (fun x => src.view.read (Elt F) fs (hg.rowIdx (r i) x)) Finset.univ)) ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · have hb := batch_creditUpdate EC (g := (c, SemLoc.dma sem)) (N := N) (γ := γ) (γ₀ := γ₀) (ι := κ) (num j _ hj i) (hD i)
        have hamt : (rd i).dst.view.amount (.dma sem) = N := hN i
        rw [hamt]
        iapply hb
        isplitr; · iexact Hinv
        iexact Hγi
    unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hγ]; · isplitl [H2] <;> iassumption
    iapply (bigSep_mono_pers Finset.univ _ _ _ fun i _ => hrow i)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - 0 = (j * N - 0) + s.size hg.axis' * N by rw [Nat.add_mul]; omega, ← tallyAt_add]
    icombine Hcred Hcred' as H
    iexact H

end Cert.Proof.Streams

end
-- ==== Proof.Spec.lean ====
/-
  What one trip of the gathering kernel's loop does, at any offsets.
-/
module

public import proofs.«01_k».proof.Proof.Trip
public import Idealize.ShloMosaic.Lib.Pointwise.Index
public import Idealize.ShloMosaic.Lib.ValueLayout
public import Idealize.ShloMosaic.Lib.Pipeline.Value
public import proofs.«01_k».proof.Proof.Streams

@[expose] public section

noncomputable section

namespace Cert.Proof.Trip

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The launch's ghost state: the handshakes' rounds, the pipeline's rounds and the transfers' counters. -/
abbrev UH : Type := URounds (GSem nD τ sig) ℕ
abbrev UP : Type := URounds (GSem nD τ sig) Unit
abbrev UU : Type := UH × (UP × Counters)
local notation "𝕄" => MT nD τ sig (HIx 2) (Elt F) ℕ UU ℕ

abbrev 𝒱₀ : Variants := Variants.none

variable {c : Fin τ.nSC} {s : Fin τ.nSub} (d : Dev nD)

/-- A subcore's memref held by its own elements. -/
abbrev held {sp : Space} {sh : Shape} {e : EltTy} (c : Fin τ.nSC) (s : Fin τ.nSub) (d : Dev nD) (M : Memref sig .scVector sp sh e)
    (q : PosShare TreeShare) (f : Buf (Elt F) (M.view.loc (V d c s))) : sProp 𝕄 :=
  M.view.loc (V d c s) ↦[M.view.set]{q} f

/-- One part of a program after another. -/
theorem wp_seq {α β : Type} {p : PR F c s α} {k : α → PR F c s β} {P : sProp 𝕄} {Q : α → sProp 𝕄} {Q' : β → sProp 𝕄}
    (h : P ⊢ wp frame (wpE (defs₀ (F := F)) 𝒱₀ (V d c s) none) Set.univ p Q) :
    P ⊢ iprop((∀ a, Q a -∗ wp frame (wpE (defs₀ (F := F)) 𝒱₀ (V d c s) none) Set.univ (k a) Q')
      -∗ wp frame (wpE (defs₀ (F := F)) 𝒱₀ (V d c s) none) Set.univ (p >>= k) Q') := by
  rw [wp_bind]; exact h.trans (wp_wand frame _ _)

theorem fillOne_spec (arg5 : Memref sig .scVector .vmem S512 .i32) (arg6 : Memref sig .scVector .vmem S4x128 .i32) (base : BitVec 32) (p : Fin 32)
    (f5 : Buf (Elt F) (arg5.view.loc (V d c s))) (f6 : Buf (Elt F) (arg6.view.loc (V d c s))) :
    iprop(held c s d arg5 fullShare f5 ∗ held c s d arg6 fullShare f6)
      ⊢ wp frame (wpE (defs₀ (F := F)) 𝒱₀ (V d c s) none) Set.univ (fillOne arg5 arg6 base p)
          fun _ => iprop(held c s d arg5 fullShare f5 ∗ held c s d arg6 fullShare (arg6.view.writes (Elt F) f6
            [⟨cell p, shapeCast S1x16 (pay base ((arg5.view.slice (grp p)).read (Elt F) f5)) shapeCasts_S16_S1x16⟩])) := by
  unfold fillOne
  iintro ⟨H5, H6⟩
  sl_exec
  sl_step
  isplitl [H5]; · iexact H5
  iexact H6

/-- Which of the 512 ranks makes the row number at a place. -/
def at5 (y : S4x128.Idx) : S512.Idx := ix1 ⟨128 * (y 0).val + (y 1).val, by
  have h0 : (y 0).val < 4 := (y 0).isLt
  have h1 : (y 1).val < 128 := (y 1).isLt
  omega⟩

/-- The row number at a place. -/
abbrev rowAt (base : BitVec 32) (g : S512.Idx → BitVec 32) (y : S4x128.Idx) : BitVec 32 := IntOp.addi (g (at5 y)) base

/-- One group written makes its sixteen row numbers. -/
theorem cell_value (arg6 : Memref sig .scVector .vmem S4x128 .i32) (base : BitVec 32) (p : Fin 32) (g : S512.Idx → BitVec 32)
    (f6 : Buf (Elt F) (arg6.view.loc (V d c s))) (y : S4x128.Idx) (hy : y ∈ (cell p).set) :
    arg6.view.read (Elt F) (arg6.view.writes (Elt F) f6
        [⟨cell p, shapeCast S1x16 (pay base (fun z => g ((grp p).emb z))) shapeCasts_S16_S1x16⟩]) y = rowAt base g y := by
  have hpiece : ∀ x, shapeCast S1x16 (pay base (fun z => g ((grp p).emb z))) shapeCasts_S16_S1x16 x = rowAt base g ((cell p).emb x) := by
    intro x
    have hp := p.isLt
    have h0 : (x 0).val < 1 := (x 0).isLt
    have h1 : (x 1).val < 16 := (x 1).isLt
    refine (shapeCast_addUnit_apply ![16] (pay base (fun z => g ((grp p).emb z))) shapeCasts_S16_S1x16 x).trans ?_
    refine congrArg (fun z => IntOp.addi (g z) base) ?_
    funext a; fin_cases a
    apply Fin.ext
    show 16 * p.val + 1 * (x 1).val = 128 * (p.val / 8 + 1 * (x 0).val) + (16 * (p.val % 8) + 1 * (x 1).val)
    omega
  have hw := View.read_writes_apply_of_pieces arg6.view f6 (rowAt base g)
    [⟨cell p, shapeCast S1x16 (pay base (fun z => g ((grp p).emb z))) shapeCasts_S16_S1x16⟩]
    (fun q hq x => by rw [List.mem_singleton] at hq; subst hq; exact hpiece x) y ⟨_, List.mem_singleton_self _, hy⟩
  exact hw

theorem fill_spec (arg5 : Memref sig .scVector .vmem S512 .i32) (arg6 : Memref sig .scVector .vmem S4x128 .i32) (base : BitVec 32)
    (f5 : Buf (Elt F) (arg5.view.loc (V d c s))) :
    ∀ (L : List (Fin 32)) (f6 : Buf (Elt F) (arg6.view.loc (V d c s))),
    iprop(held c s d arg5 fullShare f5 ∗ held c s d arg6 fullShare f6)
      ⊢ wp frame (wpE (defs₀ (F := F)) 𝒱₀ (V d c s) none) Set.univ (fill arg5 arg6 base L)
          fun _ => iprop(held c s d arg5 fullShare f5 ∗ ∃ g6, held c s d arg6 fullShare g6
            ∗ ⌜∀ y, (arg6.view.read (Elt F) g6 y = rowAt base (arg5.view.read (Elt F) f5) y)
                ∨ ((∀ p ∈ L, y ∉ (cell p).set) ∧ arg6.view.read (Elt F) g6 y = arg6.view.read (Elt F) f6 y)⌝)
  | [], f6 => by
    unfold fill
    iintro ⟨H5, H6⟩
    sl_step
    isplitl [H5]; · iexact H5
    iexists f6
    isplitl [H6]; · iexact H6
    ipureintro; intro y; exact .inr ⟨by simp, rfl⟩
  | p :: L, f6 => by
    unfold fill
    rw [wp_bind]
    refine (fillOne_spec d arg5 arg6 base p f5 f6).trans (wp_mono frame _ _ fun _ => ?_)
    refine (fill_spec arg5 arg6 base f5 L _).trans (wp_mono frame _ _ fun _ => ?_)
    iintro ⟨H5, %g6, H6, %h⟩
    isplitl [H5]; · iexact H5
    iexists g6
    isplitl [H6]; · iexact H6
    ipureintro
    intro y
    rcases h y with h | ⟨hL, h⟩
    · exact .inl h
    by_cases hy : y ∈ (cell p).set
    · refine .inl (h.trans ?_)
      exact cell_value d arg6 base p (arg5.view.read (Elt F) f5) f6 y hy
    · refine .inr ⟨?_, h.trans (View.read_writes_apply_of_forall_not_mem _ _ y _ ?_)⟩
      · intro q hq
        rcases List.mem_cons.mp hq with rfl | hq
        · exact hy
        · exact hL q hq
      · intro q hq; rw [List.mem_singleton] at hq; subst hq; exact hy

/-- Every place is in some group. -/
theorem groups_cover (y : S4x128.Idx) : ¬ ∀ p ∈ groups, y ∉ (cell p).set := by
  intro h
  have h0 : (y 0).val < 4 := (y 0).isLt
  have h1 : (y 1).val < 128 := (y 1).isLt
  have hp : 8 * (y 0).val + (y 1).val / 16 < 32 := by omega
  have hm : ∀ p : Fin 32, p ∈ groups := by decide
  refine h ⟨_, hp⟩ (hm _) (Rect.mem_set_unit.mpr ?_)
  intro a; fin_cases a
  · show (8 * (y 0).val + (y 1).val / 16) / 8 ≤ (y 0).val ∧ (y 0).val < (8 * (y 0).val + (y 1).val / 16) / 8 + 1
    omega
  · show 16 * ((8 * (y 0).val + (y 1).val / 16) % 8) ≤ (y 1).val ∧ (y 1).val < 16 * ((8 * (y 0).val + (y 1).val / 16) % 8) + 16
    omega

/-- A whole write read back. -/
theorem read_whole_piece {κ : Kind} {sp : Space} {sh : Shape} {e : EltTy} (v : View sig κ sp sh e) (f : v.ty.Contents (Elt F)) (w : sh.Idx → Elt F e) (y : sh.Idx) :
    v.read (Elt F) (v.writes (Elt F) f [⟨Rect.whole sh, w⟩]) y = w y :=
  View.read_writes_apply_of_pieces _ _ w _ (fun p hp x => by
    rw [List.mem_singleton] at hp; subst hp
    exact congrArg w (Rect.emb_whole_apply _ _).symm) y ⟨_, List.mem_singleton_self _, by
      rw [Rect.set_whole]; exact Finset.mem_univ _⟩

theorem fetch_spec (arg3 : Memref sig .scVector .hbm S262144 .i32) (arg5 : Memref sig .scVector .vmem S512 .i32) (harg5 : arg5.IsWhole)
    (sm : DmaSem sig) (o1 : Fin 1 → ℕ) (h1 : ∀ a, o1 a + S512.size a ≤ S262144.size a) (q : PosShare TreeShare)
    (f3 : Buf (Elt F) (arg3.view.loc (V d c s))) (f5 : Buf (Elt F) (arg5.view.loc (V d c s)))
    (O : CellTallies nD τ sig (HIx 2)) (W : Waits sig (HIx 2)) :
    iprop(Transfers.MayWaits (V d c s) (default : HIx 2) O ∗ held c s d arg3 q f3 ∗ held c s d arg5 fullShare f5 ∗ semVal (V d c s, .dma sm) 0 ∗ owes (V d c s) O W)
      ⊢ wp frame (wpE (defs₀ (F := F)) 𝒱₀ (V d c s) none) Set.univ (fetch arg3 arg5 harg5 sm o1 h1)
          fun _ => iprop(Transfers.MayWaits (V d c s) (default : HIx 2) O ∗ held c s d arg3 q f3
            ∗ (∃ g5, held c s d arg5 fullShare g5 ∗ ⌜∀ x, arg5.view.read (Elt F) g5 x = (rankWin arg3 o1 h1).view.read (Elt F) f3 x⌝)
            ∗ semVal (V d c s, .dma sm) 0 ∗ ∃ W', ⌜∀ p ∈ W', p ∈ W ∨ p.2 = none⌝ ∗ owes (V d c s) O W') := by
  unfold fetch rankWin
  iintro ⟨#Hmw, H3, H5, Hs, HO⟩
  sl_exec
  sl_step
  isplitr; · iexact Hmw
  isplitl [H3]; · iexact H3
  isplitl [H5]
  · iexists _; isplitl [H5]; · iexact H5
    ipureintro; exact fun x => read_whole_piece _ _ _ x
  isplitl [Hs]; · iexact Hs
  iexists _
  isplitr; swap; · iexact HO
  ipureintro; intro p hp
  rcases Finset.mem_insert.mp hp with hp | hp; · exact .inr (hp ▸ rfl)
  exact .inl hp

/-! ## The four streams -/

/-- The elements of a view, by rectangles that part its shape. -/
theorem set_tiles {κ : Kind} {sp : Space} {sh : Shape} {e : EltTy} (v : View sig κ sp sh e) {m : ℕ} (R : Fin m → Rect sh)
    (hcov : ∀ x, ∃ k, x ∈ (R k).set) : v.set = Finset.univ.biUnion fun k => (v.slice (R k)).set := by
  ext i
  constructor
  · intro hi
    obtain ⟨x, -, rfl⟩ := Finset.mem_map.mp hi
    obtain ⟨k, hk⟩ := hcov x
    refine Finset.mem_biUnion.mpr ⟨k, Finset.mem_univ _, ?_⟩
    rw [View.set_slice]; exact Finset.mem_map_of_mem _ hk
  · intro hi
    obtain ⟨k, -, hk⟩ := Finset.mem_biUnion.mp hi
    exact View.set_slice_subset v (R k) hk

theorem disjoint_tiles {κ : Kind} {sp : Space} {sh : Shape} {e : EltTy} (v : View sig κ sp sh e) {R R' : Rect sh} (h : Disjoint R.set R'.set) :
    Disjoint (v.slice R).set (v.slice R').set := by
  rw [View.set_slice, View.set_slice]; exact (Finset.disjoint_map v.emb).mpr h

/-- Where stream `r` lands. -/
abbrev landR (r : Fin 4) : Rect S512x128 := Rect.unit (s := S512x128) ![128 * r.val, 0] S128x128.size (land_inb (128 * r.val) (by omega))
/-- The list of stream `r`. -/
abbrev listR (r : Fin 4) : Rect S4x128 := Rect.unit (s := S4x128) ![r.val, 0] S1x128.size (row_inb r.val r.isLt)

theorem landR_cover (x : S512x128.Idx) : ∃ r, x ∈ (landR r).set := by
  have h0 : (x 0).val < 512 := (x 0).isLt
  have h1 : (x 1).val < 128 := (x 1).isLt
  refine ⟨⟨(x 0).val / 128, by omega⟩, Rect.mem_set_unit.mpr ?_⟩
  intro a; fin_cases a
  · show 128 * ((x 0).val / 128) ≤ (x 0).val ∧ (x 0).val < 128 * ((x 0).val / 128) + 128; omega
  · show 0 ≤ (x 1).val ∧ (x 1).val < 0 + 128; omega
theorem landR_disjoint {r r' : Fin 4} (h : r ≠ r') : Disjoint (landR r).set (landR r').set := by
  refine Finset.disjoint_left.mpr fun x hx hx' => h ?_
  have h1 : 128 * r.val ≤ (x 0).val ∧ (x 0).val < 128 * r.val + 128 := Rect.mem_set_unit.mp hx 0
  have h2 : 128 * r'.val ≤ (x 0).val ∧ (x 0).val < 128 * r'.val + 128 := Rect.mem_set_unit.mp hx' 0
  exact Fin.ext (by omega)
theorem listR_cover (x : S4x128.Idx) : ∃ r, x ∈ (listR r).set := by
  have h1 : (x 1).val < 128 := (x 1).isLt
  refine ⟨x 0, Rect.mem_set_unit.mpr ?_⟩
  intro a; fin_cases a
  · show (x 0).val ≤ (x 0).val ∧ (x 0).val < (x 0).val + 1; omega
  · show 0 ≤ (x 1).val ∧ (x 1).val < 0 + 128; omega
theorem listR_disjoint {r r' : Fin 4} (h : r ≠ r') : Disjoint (listR r).set (listR r').set := by
  refine Finset.disjoint_left.mpr fun x hx hx' => h ?_
  have h1 : r.val ≤ (x 0).val ∧ (x 0).val < r.val + 1 := Rect.mem_set_unit.mp hx 0
  have h2 : r'.val ≤ (x 0).val ∧ (x 0).val < r'.val + 1 := Rect.mem_set_unit.mp hx' 0
  exact Fin.ext (by omega)

theorem list_set (arg6 : Memref sig .scVector .vmem S4x128 .i32) (r : Fin 4) : (list arg6 r.val r.isLt).view.set = (arg6.view.slice (listR r)).set :=
  View.set_reshape _ _

theorem tab_set (arg2 : Memref sig .scVector .hbm S131072x128 .f32) : (tab arg2).view.set = arg2.view.set := by
  show (arg2.view.slice _).set = _
  rw [View.set_slice, show (Rect.unit (s := S131072x128) ![0, 0] S131072x128.size inb_S131072x128_S131072x128_0_0).set = Finset.univ from ?_]; · rfl
  refine Finset.eq_univ_iff_forall.mpr fun x => Rect.mem_set_unit.mpr fun a => ?_
  have := (x a).isLt
  fin_cases a
  · exact ⟨Nat.zero_le _, by show _ < 0 + _; omega⟩
  · exact ⟨Nat.zero_le _, by show _ < 0 + _; omega⟩

/-- A list's word. -/
theorem list_read (arg6 : Memref sig .scVector .vmem S4x128 .i32) (r : Fin 4) (f6 : Buf (Elt F) (arg6.view.loc (V d c s))) (k : Fin 128) :
    (list arg6 r.val r.isLt).view.read (Elt F) f6 (ix1 k) = arg6.view.read (Elt F) f6 (ix2 r k) := by
  show arg6.view.read (Elt F) f6 ((listR r).emb (Shape.reshapeEquiv _ (ix1 k))) = _
  have h : Shape.reshapeEquiv (s := S1x128) (s' := S128) (by decide) (ix1 k) = ix2 0 k :=
    Shape.reshapeEquiv_eq_of_rowMajor _ (by
      rw [Shape.rowMajor_val_one, Shape.rowMajor_val_two]
      show 0 * 128 + k.val = k.val; omega)
  rw [h]
  refine congrArg _ ?_
  funext a; fin_cases a
  · exact Fin.ext (by show r.val + 1 * 0 = r.val; omega)
  · exact Fin.ext (by show 0 + 1 * k.val = k.val; omega)

/-- Whose row number a row of the landing place is read by. -/
def wordAt (y : S512x128.Idx) : S4x128.Idx := ix2 ⟨(y 0).val / 128, by
  have h0 : (y 0).val < 512 := (y 0).isLt
  omega⟩ ⟨(y 0).val % 128, Nat.mod_lt _ (by decide)⟩

/-- A row of the table. -/
abbrev rowOfTab (w : BitVec 32) (h : w.toNat < 131072) (j : Fin 128) : S131072x128.Idx := ix2 ⟨w.toNat, h⟩ j

theorem list_in (arg6 : Memref sig .scVector .vmem S4x128 .i32) (f6 : Buf (Elt F) (arg6.view.loc (V d c s)))
    (hin : ∀ y, (arg6.view.read (Elt F) f6 y).toNat < 131072) (r : Fin 4) (x : S128.Idx) :
    ((list arg6 r.val r.isLt).view.read (Elt F) f6 x).toNat < S131072x128.size gathers_S131072x128_S128x128.axis := by
  obtain ⟨k, rfl⟩ : ∃ k, x = ix1 k := ⟨x 0, by funext a; fin_cases a; rfl⟩
  rw [list_read d arg6 r f6 k]; exact hin _

/-- What a stream brings to row `k` of its landing place. -/
theorem payload_value (arg2 : Memref sig .scVector .hbm S131072x128 .f32) (arg6 : Memref sig .scVector .vmem S4x128 .i32)
    (f2 : Buf (Elt F) (arg2.view.loc (V d c s))) (f6 : Buf (Elt F) (arg6.view.loc (V d c s)))
    (hin : ∀ y, (arg6.view.read (Elt F) f6 y).toNat < 131072) (r : Fin 4) (k j : Fin 128) :
    SparseCore.gatherPayload gathers_S131072x128_S128x128 ((tab arg2).view.read (Elt F) f2)
        (SparseCore.rows ((list arg6 r.val r.isLt).view.read (Elt F) f6) rfl (list_in d arg6 f6 hin r)) (ix2 k j)
      = arg2.view.read (Elt F) f2 (rowOfTab (arg6.view.read (Elt F) f6 (ix2 r k)) (hin _) j) := by
  have hk : S128.rowMajor.symm (k.cast (by decide)) = ix1 k :=
    (Equiv.symm_apply_eq _).mpr (Fin.ext (by rw [Shape.rowMajor_val_one]; rfl))
  have hw : (SparseCore.rows ((list arg6 r.val r.isLt).view.read (Elt F) f6) (o := 128) rfl (list_in d arg6 f6 hin r) k).val
      = (arg6.view.read (Elt F) f6 (ix2 r k)).toNat := by
    rw [← list_read d arg6 r f6 k]
    exact congrArg (fun i => ((list arg6 r.val r.isLt).view.read (Elt F) f6 i).toNat) hk
  unfold SparseCore.gatherPayload
  show arg2.view.read (Elt F) f2 (Rect.emb _ _) = _
  refine congrArg _ ?_
  funext a
  fin_cases a
  · apply Fin.ext
    show 0 + 1 * (gathers_S131072x128_S128x128.idx _ (ix2 k j) gathers_S131072x128_S128x128.axis).val = _
    rw [Shape.Gathers.idx_axis]
    refine Eq.trans ?_ hw
    rw [Nat.zero_add, Nat.one_mul]; rfl
  · apply Fin.ext
    show 0 + 1 * (gathers_S131072x128_S128x128.idx _ (ix2 k j) 1).val = _
    rw [Shape.Gathers.idx_of_ne _ _ _ _ (by decide)]
    show 0 + 1 * j.val = j.val
    omega

abbrev EC : UEmb Counters 𝕄 := countersEmb

section Batch

variable (arg2 : Memref sig .scVector .hbm S131072x128 .f32) (arg6 : Memref sig .scVector .vmem S4x128 .i32)
    (arg7 : Memref sig .scVector .vmem S512x128 .f32) (q : PosShare TreeShare)
    (f2 : Buf (Elt F) (arg2.view.loc (V d c s))) (f6 : Buf (Elt F) (arg6.view.loc (V d c s))) (f7 : Buf (Elt F) (arg7.view.loc (V d c s)))
    (hin : ∀ y, (arg6.view.read (Elt F) f6 y).toNat < 131072)

/-- The landing place of stream `r`. -/
abbrev landM (r : Fin 4) : Memref sig .scVector .vmem S128x128 .f32 := land arg7 (128 * r.val) (by omega)

/-- Stream `r`'s share of the table. -/
abbrev qR (r : Fin 4) : PosShare TreeShare := pieceOf q 4 (by decide) r

theorem numel_pos : 0 < S128x128.numel := by decide

/-- What row `j` of stream `r` delivers. -/
def rowDone (r : Fin 4) (j : Fin 128) : sProp 𝕄 :=
  Streams.rowLanded (V d c s) (tab arg2) (landM arg7 r) gathers_S131072x128_S128x128 (list arg6 r.val r.isLt) rfl numel_pos
    (qR q r) fullShare f2 f7 f6 (list_in d arg6 f6 hin r) j

/-- What row `t` of the four streams delivers. -/
def done (t : Fin 512) : sProp 𝕄 :=
  rowDone d arg2 arg6 arg7 q f2 f6 f7 hin ⟨t.val / 128, by have := t.isLt; omega⟩ ⟨t.val % 128, Nat.mod_lt _ (by decide)⟩

instance (t : Fin 512) : Storable (upEmb : UEmb _ 𝕄) (done d arg2 arg6 arg7 q f2 f6 f7 hin t) :=
  Streams.rowLanded_storable (hs := numel_pos) ..

theorem done_num (r : Fin 4) (h : 128 * r.val + 128 ≤ 512) (j : Fin 128) :
    done d arg2 arg6 arg7 q f2 f6 f7 hin (Streams.num (128 * r.val) 128 h j) = rowDone d arg2 arg6 arg7 q f2 f6 f7 hin r j := by
  have hj := j.isLt
  unfold done
  have h1 : (⟨(Streams.num (n := 512) (128 * r.val) 128 h j).val / 128, by have := (Streams.num (n := 512) (128 * r.val) 128 h j).isLt; omega⟩ : Fin 4) = r :=
    Fin.ext (by show (128 * r.val + j.val) / 128 = r.val; omega)
  have h2 : (⟨(Streams.num (n := 512) (128 * r.val) 128 h j).val % 128, Nat.mod_lt _ (by decide)⟩ : Fin 128) = j :=
    Fin.ext (by show (128 * r.val + j.val) % 128 = j.val; omega)
  rw [h1, h2]

/-- The four streams' rows, stream by stream. -/
theorem done_all : bigSep Finset.univ (done d arg2 arg6 arg7 q f2 f6 f7 hin)
    = bigSep Finset.univ fun r : Fin 4 => bigSep Finset.univ fun j : Fin 128 => rowDone d arg2 arg6 arg7 q f2 f6 f7 hin r j := by
  rw [BI.bigSep_univ_equiv (finProdFinEquiv (m := 4) (n := 128)), BI.bigSep_univ_prod]
  refine BI.bigSep_congr fun r _ => BI.bigSep_congr fun j _ => ?_
  have hr := r.isLt
  rw [← done_num d arg2 arg6 arg7 q f2 f6 f7 hin r (by omega) j]
  refine congrArg _ (Fin.ext ?_)
  show j.val + 128 * r.val = 128 * r.val + j.val
  omega

set_option maxRecDepth 65536 in
/-- One stream issued. -/
theorem issue_spec (sm : DmaSem sig) (r : Fin 4) :
    iprop(((tab arg2).view.loc (V d c s) ↦[(tab arg2).view.set]{qR q r} f2) ∗ ((landM arg7 r).view.loc (V d c s) ↦[(landM arg7 r).view.set]{fullShare} f7)
        ∗ ((list arg6 r.val r.isLt).view.loc (V d c s) ↦[(list arg6 r.val r.isLt).view.set]{fullShare} f6)
        ∗ Transfers.Batch EC (V d c s) (.dma sm) (default : HIx 2) 4096 (done d arg2 arg6 arg7 q f2 f6 f7 hin) (128 * r.val) 0)
      ⊢ wp frame (wpE (defs₀ (F := F)) 𝒱₀ (V d c s) none) Set.univ
          (SparseCore.enqueueIndirectGather rfl (tab arg2) (landM arg7 r) gathers_S131072x128_S128x128 (list arg6 r.val r.isLt) rfl sm (View.wordExact_bits rfl) rfl (Or.inl rfl) (by decide) : PR F c s PUnit)
          fun _ => Transfers.Batch EC (V d c s) (.dma sm) (default : HIx 2) 4096 (done d arg2 arg6 arg7 q f2 f6 f7 hin) (128 * r.val + 128) 0 := by
  have hr := r.isLt
  have h := Streams.wp_gatherBatch (defs := defs₀ (F := F)) EC 𝒱₀ (V d c s) none (src := tab arg2) (dst := landM arg7 r)
    (hg := gathers_S131072x128_S128x128) (offs := list arg6 r.val r.isLt) (hn := rfl) (sem := sm) (hp := rfl) (hsrc := View.wordExact_bits rfl)
    (he := rfl) (hsp := Or.inl rfl) (hr := by decide) (k := pure)
    (Q := fun _ => Transfers.Batch EC (V d c s) (.dma sm) (default : HIx 2) 4096 (done d arg2 arg6 arg7 q f2 f6 f7 hin) (128 * r.val + 128) 0)
    (qR q r) fullShare f2 f7 f6 (default : HIx 2) 4096 (fun j => rfl) numel_pos (list_in d arg6 f6 hin r)
    (done d arg2 arg6 arg7 q f2 f6 f7 hin) (128 * r.val) (show 128 * r.val + 128 ≤ 512 by omega)
    (fun i => Entails.of_eq (done_num d arg2 arg6 arg7 q f2 f6 f7 hin r (by omega) i).symm)
  refine h.trans ?_
  iintro H
  iapply H
  iintro HB
  sl_step
  iexact HB

/-- A wait that hands nothing back. -/
theorem wait_spec (sm : DmaSem sig) (r : Fin 4) (u : ℕ) (hu : u + 524288 ≤ 2097152) (O : CellTallies nD τ sig (HIx 2)) (W : Waits sig (HIx 2)) :
    iprop(Transfers.MayWaits (V d c s) (default : HIx 2) O
        ∗ Transfers.Batch EC (V d c s) (.dma sm) (default : HIx 2) 4096 (done d arg2 arg6 arg7 q f2 f6 f7 hin) 512 u ∗ owes (V d c s) O W)
      ⊢ wp frame (wpE (defs₀ (F := F)) 𝒱₀ (V d c s) none) Set.univ
          (SparseCore.waitIndirectGather sm (tab arg2) (landM arg7 r) (View.wordExact_bits rfl) (View.wordExact_bits rfl) : PR F c s PUnit)
          fun _ => iprop(Transfers.MayWaits (V d c s) (default : HIx 2) O
            ∗ Transfers.Batch EC (V d c s) (.dma sm) (default : HIx 2) 4096 (done d arg2 arg6 arg7 q f2 f6 f7 hin) 512 (u + 524288)
            ∗ ∃ W', ⌜∀ p ∈ W', p ∈ W ∨ p.2 = none⌝ ∗ owes (V d c s) O W') := by
  unfold SparseCore.waitIndirectGather
  iintro ⟨#Hmw, HB, HO⟩
  iapply (Transfers.wp_waitBatchMulO EC 𝒱₀ (V d c s) none (default : HIx 2) (N := 4096) 128 (by rfl) (j := 512) (u := u) (by omega) (O := O) (W := W)) $$ [HB HO]
  · isplitl [HB]; · iexact HB
    isplitl [HO]; · iexact HO
    iapply (Transfers.MayWaits.elim (SemLoc.dma sm)); iexact Hmw
  iintro ⟨HB, HO⟩
  sl_step
  isplitr; · iexact Hmw
  isplitl [HB]; · iexact HB
  iexists _
  isplitr; swap; · iexact HO
  ipureintro; intro p hp
  rcases Finset.mem_insert.mp hp with hp | hp; · exact .inr (hp ▸ rfl)
  exact .inl hp

/-- The last wait: every row. -/
theorem waitLast_spec (sm : DmaSem sig) (r : Fin 4) (O : CellTallies nD τ sig (HIx 2)) (W : Waits sig (HIx 2)) :
    iprop(Transfers.MayWaits (V d c s) (default : HIx 2) O
        ∗ Transfers.Batch EC (V d c s) (.dma sm) (default : HIx 2) 4096 (done d arg2 arg6 arg7 q f2 f6 f7 hin) 512 1572864 ∗ owes (V d c s) O W)
      ⊢ wp frame (wpE (defs₀ (F := F)) 𝒱₀ (V d c s) none) Set.univ
          (SparseCore.waitIndirectGather sm (tab arg2) (landM arg7 r) (View.wordExact_bits rfl) (View.wordExact_bits rfl) : PR F c s PUnit)
          fun _ => iprop(Transfers.MayWaits (V d c s) (default : HIx 2) O
            ∗ bigSep Finset.univ (done d arg2 arg6 arg7 q f2 f6 f7 hin) ∗ semVal (V d c s, .dma sm) 0
            ∗ ∃ W', ⌜∀ p ∈ W', p ∈ W ∨ p.2 = none⌝ ∗ owes (V d c s) O W') := by
  unfold SparseCore.waitIndirectGather
  iintro ⟨#Hmw, HB, HO⟩
  iapply (Transfers.wp_waitBatchAllO EC 𝒱₀ (V d c s) none (default : HIx 2) (N := 4096) (J := 524288) (n := 512) (u := 1572864) (by rfl) (by decide) (by decide) (O := O) (W := W)) $$ [HB HO]
  · isplitl [HB]; · iexact HB
    isplitl [HO]; · iexact HO
    iapply (Transfers.MayWaits.elim (SemLoc.dma sm)); iexact Hmw
  iintro ⟨HB, Hs, HO⟩
  sl_step
  isplitr; · iexact Hmw
  isplitl [HB]; · iexact HB
  isplitl [Hs]; · iexact Hs
  iexists _
  isplitr; swap; · iexact HO
  ipureintro; intro p hp
  rcases Finset.mem_insert.mp hp with hp | hp; · exact .inr (hp ▸ rfl)
  exact .inl hp

/-- What the streams bring: each row of the landing place is the row of the table its row number names. -/
def Gathered (g7 : Buf (Elt F) (arg7.view.loc (V d c s))) : Prop :=
  ∀ y, arg7.view.read (Elt F) g7 y = arg2.view.read (Elt F) f2 (rowOfTab (arg6.view.read (Elt F) f6 (wordAt y)) (hin _) (y 1))

omit [FloatOps F] in
theorem tiles_of {sp} {s₀ : Shape} {E : EltTy} {n : ℕ} (M : Memref sig .scVector sp s₀ E) (p : PosShare TreeShare) (f : Buf (Elt F) (M.view.loc (V d c s)))
    (R : Fin n → Rect s₀) (hc : ∀ y, ∃ k, y ∈ (R k).set) (hd : ∀ {i j}, i ≠ j → Disjoint (R i).set (R j).set) :
    (held c s d M p f : sProp 𝕄) = bigSep Finset.univ fun k => (M.view.loc (V d c s) ↦[(M.view.slice (R k)).set]{p} f) := by
  unfold held
  rw [set_tiles M.view R hc]
  exact pointsTo_biUnion Finset.univ _ fun r _ r' _ h => disjoint_tiles M.view (hd h)

theorem four (P : Fin 4 → sProp 𝕄) : bigSep Finset.univ P = iprop(P 0 ∗ P 1 ∗ P 2 ∗ P 3) := by
  rw [bigSep_univ_succ, bigSep_univ_succ, bigSep_univ_succ, bigSep_univ_succ, Finset.univ_eq_empty, bigSep_empty]
  exact congrArg (fun X => iprop(P 0 ∗ P 1 ∗ P 2 ∗ X)) (BI.equiv_iff.mp BI.sep_emp)

/-- Every row in, the landing place is whole again. -/
theorem collect : bigSep Finset.univ (done d arg2 arg6 arg7 q f2 f6 f7 hin)
    ⊢ iprop(held c s d arg2 q f2 ∗ held c s d arg6 fullShare f6 ∗ ∃ g7, held c s d arg7 fullShare g7 ∗ ⌜Gathered d arg2 arg6 arg7 f2 f6 hin g7⌝) := by
  have hr : ∀ r : Fin 4, (bigSep Finset.univ fun j : Fin 128 => rowDone d arg2 arg6 arg7 q f2 f6 f7 hin r j)
      ⊢ iprop((arg7.view.loc (V d c s) ↦[(arg7.view.slice (landR r)).set]{fullShare}
          ((landM arg7 r).view.write (Elt F) f7 (SparseCore.gatherPayload gathers_S131072x128_S128x128 ((tab arg2).view.read (Elt F) f2)
            (SparseCore.rows ((list arg6 r.val r.isLt).view.read (Elt F) f6) rfl (list_in d arg6 f6 hin r))) Finset.univ))
        ∗ (arg2.view.loc (V d c s) ↦[arg2.view.set]{qR q r} f2) ∗ (arg6.view.loc (V d c s) ↦[(arg6.view.slice (listR r)).set]{fullShare} f6)) := fun r => by
    have h := Streams.rowsLanded (Ix := HIx 2) (Name := ℕ) (U := UU) (Lvl := ℕ) (V d c s) (tab arg2) (landM arg7 r) gathers_S131072x128_S128x128 (list arg6 r.val r.isLt) rfl numel_pos
      (qR q r) fullShare f2 f7 f6 (list_in d arg6 f6 hin r)
    rw [tab_set, list_set] at h
    exact h
  rw [done_all]
  iintro H
  ihave H' := (Transfers.ent (BI.bigSep_mono (s := Finset.univ) fun r _ => hr r)) $$ H
  ihave H1 := Transfers.bigSep_sep_out _ _ _ $$ H'
  icases H1 with ⟨H7, H2⟩
  ihave H3 := Transfers.bigSep_sep_out _ _ _ $$ H2
  icases H3 with ⟨H2, H6⟩
  isplitl [H2]
  · iapply (Entails.of_eq (pointsTo_piecesOf (ℓ := arg2.view.loc (V d c s)) arg2.view.set f2 (o := 4) (Nat.succ_pos 3) q).symm) $$ H2
  isplitl [H6]
  · unfold held
    rw [set_tiles arg6.view listR listR_cover]
    iapply (Entails.of_eq (pointsTo_biUnion Finset.univ _ fun r _ r' _ h => disjoint_tiles arg6.view (listR_disjoint h)).symm) $$ H6
  ihave H7' := (pointsTo_biUnion_join (ℓ := arg7.view.loc (V d c s)) (q := fullShare) Finset.univ (fun r : Fin 4 => (arg7.view.slice (landR r)).set) _ f7
    fun r _ r' _ h => disjoint_tiles arg7.view (landR_disjoint h)) $$ H7
  icases H7' with ⟨%g, %hg, H7⟩
  iexists g
  isplitl [H7]
  · unfold held
    rw [set_tiles arg7.view landR landR_cover]
    iexact H7
  ipureintro
  intro y
  have h0 : (y 0).val < 512 := (y 0).isLt
  obtain ⟨r, hr⟩ := landR_cover y
  have hr' := Rect.mem_set_unit.mp hr 0
  have hr' : 128 * r.val ≤ (y 0).val ∧ (y 0).val < 128 * r.val + 128 := hr'
  have hy : y = (landR r).emb (ix2 ⟨(y 0).val - 128 * r.val, by omega⟩ (y 1)) := by
    funext a; fin_cases a
    · exact Fin.ext (by show (y 0).val = 128 * r.val + 1 * ((y 0).val - 128 * r.val); omega)
    · exact Fin.ext (by show (y 1).val = 0 + 1 * (y 1).val; omega)
  have hv : arg7.view.read (Elt F) g y = (landM arg7 r).view.read (Elt F) ((landM arg7 r).view.write (Elt F) f7 (SparseCore.gatherPayload gathers_S131072x128_S128x128 ((tab arg2).view.read (Elt F) f2)
            (SparseCore.rows ((list arg6 r.val r.isLt).view.read (Elt F) f6) rfl (list_in d arg6 f6 hin r))) Finset.univ) (ix2 ⟨(y 0).val - 128 * r.val, by omega⟩ (y 1)) := by
    have := hg r (Finset.mem_univ r) (arg7.view.emb y) (by
      rw [View.set_slice]; exact Finset.mem_map_of_mem _ hr)
    unfold View.read
    rw [this]
    conv_lhs => rw [hy]
    rfl
  refine hv.trans ((congrFun (View.read_write_univ _ _) _).trans ((payload_value d arg2 arg6 f2 f6 hin r _ (y 1)).trans ?_))
  have hwd : wordAt y = ix2 r ⟨(y 0).val - 128 * r.val, by omega⟩ := by
    funext a; fin_cases a
    · exact Fin.ext (by show (y 0).val / 128 = r.val; omega)
    · exact Fin.ext (by show (y 0).val % 128 = (y 0).val - 128 * r.val; omega)
  have hz : ∀ z (h : z = ix2 r ⟨(y 0).val - 128 * r.val, by omega⟩),
      arg2.view.read (Elt F) f2 (rowOfTab (arg6.view.read (Elt F) f6 (ix2 r ⟨(y 0).val - 128 * r.val, by omega⟩)) (hin _) (y 1))
        = arg2.view.read (Elt F) f2 (rowOfTab (arg6.view.read (Elt F) f6 z) (hin z) (y 1)) := by
    rintro _ rfl; rfl
  exact hz _ hwd

theorem streams_spec (sm : DmaSem sig) (O : CellTallies nD τ sig (HIx 2)) (W : Waits sig (HIx 2)) :
    iprop(Transfers.MayWaits (V d c s) (default : HIx 2) O ∗ held c s d arg2 q f2 ∗ held c s d arg6 fullShare f6 ∗ held c s d arg7 fullShare f7
        ∗ semVal (V d c s, .dma sm) 0 ∗ owes (V d c s) O W)
      ⊢ wp frame (wpE (defs₀ (F := F)) 𝒱₀ (V d c s) none) Set.univ (streams arg2 arg6 arg7 sm)
          fun _ => iprop(Transfers.MayWaits (V d c s) (default : HIx 2) O ∗ held c s d arg2 q f2 ∗ held c s d arg6 fullShare f6
            ∗ (∃ g7, held c s d arg7 fullShare g7 ∗ ⌜Gathered d arg2 arg6 arg7 f2 f6 hin g7⌝)
            ∗ semVal (V d c s, .dma sm) 0 ∗ ∃ W', ⌜∀ p ∈ W', p ∈ W ∨ p.2 = none⌝ ∗ owes (V d c s) O W') := by
  unfold streams
  iintro ⟨#Hmw, H2, H6, H7, Hs, HO⟩
  imod (Transfers.batch_alloc' EC (V d c s) (default : HIx 2) 4096 (done d arg2 arg6 arg7 q f2 f6 f7 hin) (sm := .dma sm) (E := Set.univ)) $$ Hs with HB
  have e2 := (pointsTo_piecesOf (Ix := HIx 2) (Name := ℕ) (U := UU) (Lvl := ℕ) (ℓ := arg2.view.loc (V d c s)) arg2.view.set f2 (o := 4) (Nat.succ_pos 3) q).trans
    (four fun r => (arg2.view.loc (V d c s) ↦[arg2.view.set]{qR q r} f2))
  have e6 := (tiles_of d arg6 fullShare f6 listR listR_cover listR_disjoint).trans
    (four fun r => (arg6.view.loc (V d c s) ↦[(arg6.view.slice (listR r)).set]{fullShare} f6))
  have e7 := (tiles_of d arg7 fullShare f7 landR landR_cover landR_disjoint).trans
    (four fun r => (arg7.view.loc (V d c s) ↦[(arg7.view.slice (landR r)).set]{fullShare} f7))
  ihave H2 := (Entails.of_eq e2) $$ H2
  ihave H6 := (Entails.of_eq e6) $$ H6
  ihave H7 := (Entails.of_eq e7) $$ H7
  icases H2 with ⟨H20, H21, H22, H23⟩
  icases H6 with ⟨H60, H61, H62, H63⟩
  icases H7 with ⟨H70, H71, H72, H73⟩
  have i0 := issue_spec d arg2 arg6 arg7 q f2 f6 f7 hin sm 0
  have i1 := issue_spec d arg2 arg6 arg7 q f2 f6 f7 hin sm 1
  have i2 := issue_spec d arg2 arg6 arg7 q f2 f6 f7 hin sm 2
  have i3 := issue_spec d arg2 arg6 arg7 q f2 f6 f7 hin sm 3
  rw [tab_set, list_set] at i0 i1 i2 i3
  iapply (wp_seq d i0) $$ [H20 H70 H60 HB]
  · isplitl [H20]; · iexact H20
    isplitl [H70]; · iexact H70
    isplitl [H60]; · iexact H60
    iexact HB
  iintro %_ HB
  iapply (wp_seq d i1) $$ [H21 H71 H61 HB]
  · isplitl [H21]; · iexact H21
    isplitl [H71]; · iexact H71
    isplitl [H61]; · iexact H61
    iexact HB
  iintro %_ HB
  iapply (wp_seq d i2) $$ [H22 H72 H62 HB]
  · isplitl [H22]; · iexact H22
    isplitl [H72]; · iexact H72
    isplitl [H62]; · iexact H62
    iexact HB
  iintro %_ HB
  iapply (wp_seq d i3) $$ [H23 H73 H63 HB]
  · isplitl [H23]; · iexact H23
    isplitl [H73]; · iexact H73
    isplitl [H63]; · iexact H63
    iexact HB
  iintro %_ HB
  iapply (wp_seq d (wait_spec d arg2 arg6 arg7 q f2 f6 f7 hin sm 0 0 (by decide) O W)) $$ [HB HO]
  · iframe HB HO Hmw
  iintro %_ ⟨-, HB, %W1, %h1, HO⟩
  iapply (wp_seq d (wait_spec d arg2 arg6 arg7 q f2 f6 f7 hin sm 1 524288 (by decide) O W1)) $$ [HB HO]
  · iframe HB HO Hmw
  iintro %_ ⟨-, HB, %W2, %h2, HO⟩
  iapply (wp_seq d (wait_spec d arg2 arg6 arg7 q f2 f6 f7 hin sm 2 1048576 (by decide) O W2)) $$ [HB HO]
  · iframe HB HO Hmw
  iintro %_ ⟨-, HB, %W3, %h3, HO⟩
  iapply (wp_wand frame _ _) $$ [HB HO]
  · iapply (waitLast_spec d arg2 arg6 arg7 q f2 f6 f7 hin sm 3 O W3) $$ [HB HO]
    iframe HB HO Hmw
  iintro %_ ⟨-, HD, Hs, %W4, %h4, HO⟩
  ihave HC := (collect d arg2 arg6 arg7 q f2 f6 f7 hin) $$ HD
  icases HC with ⟨H2, H6, H7⟩
  iframe H2 H6 H7 Hs Hmw
  iexists W4
  iframe HO
  ipureintro
  intro p hp
  rcases h4 p hp with hp | hp
  · rcases h3 p hp with hp | hp
    · rcases h2 p hp with hp | hp
      · exact h1 p hp
      · exact .inr hp
    · exact .inr hp
  · exact .inr hp

end Batch

theorem writeOut_spec (arg4 : Memref sig .scVector .hbm S32x2x2048x128 .f32) (arg7 : Memref sig .scVector .vmem S512x128 .f32) (harg7 : arg7.IsWhole)
    (sm : DmaSem sig) (o2 : Fin 4 → ℕ) (h2 : ∀ a, o2 a + S1x1x512x128.size a ≤ S32x2x2048x128.size a)
    (f4 : Buf (Elt F) (arg4.view.loc (V d c s))) (f7 : Buf (Elt F) (arg7.view.loc (V d c s)))
    (O : CellTallies nD τ sig (HIx 2)) (W : Waits sig (HIx 2)) :
    iprop(Transfers.MayWaits (V d c s) (default : HIx 2) O ∗ held c s d (outWin arg4 o2 h2) fullShare f4 ∗ held c s d arg7 fullShare f7 ∗ semVal (V d c s, .dma sm) 0 ∗ owes (V d c s) O W)
      ⊢ wp frame (wpE (defs₀ (F := F)) 𝒱₀ (V d c s) none) Set.univ (writeOut arg4 arg7 harg7 sm o2 h2)
          fun _ => iprop(Transfers.MayWaits (V d c s) (default : HIx 2) O
            ∗ (∃ g4, held c s d (outWin arg4 o2 h2) fullShare g4 ∗ ⌜∀ x, (outWin arg4 o2 h2).view.read (Elt F) g4 x = arg7.view.read (Elt F) f7 x⌝)
            ∗ held c s d arg7 fullShare f7
            ∗ semVal (V d c s, .dma sm) 0 ∗ ∃ W', ⌜∀ p ∈ W', p ∈ W ∨ p.2 = none⌝ ∗ owes (V d c s) O W') := by
  unfold writeOut outWin
  iintro ⟨#Hmw, H4, H7, Hs, HO⟩
  sl_exec
  sl_step
  isplitr; · iexact Hmw
  isplitl [H4]
  · iexists _; isplitl [H4]; · iexact H4
    ipureintro; exact fun x => read_whole_piece _ _ _ x
  isplitl [H7]; · iexact H7
  isplitl [Hs]; · iexact Hs
  iexists _
  isplitr; swap; · iexact HO
  ipureintro; intro p hp
  rcases Finset.mem_insert.mp hp with hp | hp; · exact .inr (hp ▸ rfl)
  exact .inl hp

end Cert.Proof.Trip

end
-- ==== Proof.TripSpec.lean ====
/-
  One trip whole: the block it writes holds the rows of the table that the block's ranks name.
-/
module

public import proofs.«01_k».proof.Proof.Spec

@[expose] public section

noncomputable section

namespace Cert.Proof.Trip

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {c : Fin τ.nSC} {s : Fin τ.nSub} (d : Dev nD)

/-- The place in the rank array of position `p` of batch `b`, round `soff + r`. -/
def rankPlace (soff b r p : ℕ) : S262144.Idx := ix1 ⟨((4 * b + soff + r) * 2048 + p) % 262144, Nat.mod_lt _ (by decide)⟩

/-- An element of the table, by its row's number. -/
def tabPlace (n : ℕ) (j : Fin 128) : S131072x128.Idx := ix2 ⟨n % 131072, Nat.mod_lt _ (by decide)⟩ j

/-- What one call makes of its table and the ranks: at batch `b`, round `r` of the call's two and position `p`, the
    table's row `rank[b, soff + r, p]` of that batch and round. -/
def outV (soff : ℕ) (tb : S131072x128.Idx → Elt F .f32) (rk : S262144.Idx → BitVec 32) (y : S32x2x2048x128.Idx) : Elt F .f32 :=
  tb (tabPlace (2048 * (2 * (y 0).val + (y 1).val) + (rk (rankPlace soff (y 0).val (y 1).val (y 2).val)).toNat) (y 3))

/-- The block of a trip. -/
abbrev blockR (o2 : Fin 4 → ℕ) (h2 : ∀ a, o2 a + S1x1x512x128.size a ≤ S32x2x2048x128.size a) : Rect S32x2x2048x128 :=
  Rect.unit (s := S32x2x2048x128) o2 S1x1x512x128.size h2

theorem outWin_set (arg4 : Memref sig .scVector .hbm S32x2x2048x128 .f32) (o2 : Fin 4 → ℕ) (h2 : ∀ a, o2 a + S1x1x512x128.size a ≤ S32x2x2048x128.size a) :
    (outWin arg4 o2 h2).view.set = (arg4.view.slice (blockR o2 h2)).set :=
  View.set_reshape _ _

theorem outWin_read (arg4 : Memref sig .scVector .hbm S32x2x2048x128 .f32) (o2 : Fin 4 → ℕ) (h2 : ∀ a, o2 a + S1x1x512x128.size a ≤ S32x2x2048x128.size a)
    (f : Buf (Elt F) (arg4.view.loc (V d c s))) (k : Fin 512) (j : Fin 128) :
    (outWin arg4 o2 h2).view.read (Elt F) f (ix2 k j) = arg4.view.read (Elt F) f ((blockR o2 h2).emb (ix4 0 0 k j)) := by
  show arg4.view.read (Elt F) f ((blockR o2 h2).emb (Shape.reshapeEquiv _ (ix2 k j))) = _
  have h : Shape.reshapeEquiv (s := S1x1x512x128) (s' := S512x128) (by decide) (ix2 k j) = ix4 0 0 k j :=
    Shape.reshapeEquiv_eq_of_rowMajor _ (by
      rw [Shape.rowMajor_val_two, Shape.rowMajor_val_four]
      show ((0 * 1 + 0) * 512 + k.val) * 128 + j.val = k.val * 128 + j.val; omega)
  rw [h]

/-- A row number is the table's first row added to a rank. -/
theorem row_toNat (n : ℕ) (hn : n < 64) (w : BitVec 32) (hw : w.toNat < 2048) :
    (IntOp.addi w (BitVec.ofNat 32 (2048 * n))).toNat = 2048 * n + w.toNat := by
  show (w + BitVec.ofNat 32 (2048 * n)).toNat = _
  rw [BitVec.toNat_add, BitVec.toNat_ofNat]
  omega

section TripSpec

variable (arg2 : Memref sig .scVector .hbm S131072x128 .f32) (arg3 : Memref sig .scVector .hbm S262144 .i32)
    (arg4 : Memref sig .scVector .hbm S32x2x2048x128 .f32) (arg5 : Memref sig .scVector .vmem S512 .i32) (harg5 : arg5.IsWhole)
    (arg6 : Memref sig .scVector .vmem S4x128 .i32) (arg7 : Memref sig .scVector .vmem S512x128 .f32) (harg7 : arg7.IsWhole)

/-- What a subcore holds through its loop. -/
def slab (q2 q3 : PosShare TreeShare) (sg sr so : DmaSem sig) (f2 : Buf (Elt F) (arg2.view.loc (V d c s))) (f3 : Buf (Elt F) (arg3.view.loc (V d c s)))
    (O : CellTallies nD τ sig (HIx 2)) : sProp 𝕄 :=
  iprop(Transfers.MayWaits (V d c s) (default : HIx 2) O ∗ held c s d arg2 q2 f2 ∗ held c s d arg3 q3 f3
    ∗ (∃ f5, held c s d arg5 fullShare f5) ∗ (∃ f6, held c s d arg6 fullShare f6) ∗ (∃ f7, held c s d arg7 fullShare f7)
    ∗ semVal (V d c s, .dma sg) 0 ∗ semVal (V d c s, .dma sr) 0 ∗ semVal (V d c s, .dma so) 0)

theorem trip_spec (sg sr so : DmaSem sig) (q2 q3 : PosShare TreeShare) (f2 : Buf (Elt F) (arg2.view.loc (V d c s))) (f3 : Buf (Elt F) (arg3.view.loc (V d c s)))
    (hrk : ∀ i, (arg3.view.read (Elt F) f3 i).toNat < 2048)
    (soff : ℕ) (hso : soff ≤ 2) (b : Fin 32) (r : Fin 2) (cc : Fin 4)
    (o1 : Fin 1 → ℕ) (h1 : ∀ a, o1 a + S512.size a ≤ S262144.size a) (ho1 : o1 = ![(4 * b.val + soff + r.val) * 2048 + 512 * cc.val])
    (o2 : Fin 4 → ℕ) (h2 : ∀ a, o2 a + S1x1x512x128.size a ≤ S32x2x2048x128.size a) (ho2 : o2 = ![b.val, r.val, 512 * cc.val, 0])
    (base : BitVec 32) (hbase : base = BitVec.ofNat 32 (2048 * (2 * b.val + r.val)))
    (S₄ : Finset (Idx (arg4.view.loc (V d c s)))) (hS : (outWin arg4 o2 h2).view.set ⊆ S₄) (f4 : Buf (Elt F) (arg4.view.loc (V d c s)))
    (O : CellTallies nD τ sig (HIx 2)) (W : Waits sig (HIx 2)) :
    iprop(slab d arg2 arg3 arg5 arg6 arg7 q2 q3 sg sr so f2 f3 O ∗ (arg4.view.loc (V d c s) ↦[S₄]{fullShare} f4) ∗ owes (V d c s) O W)
      ⊢ wp frame (wpE (defs₀ (F := F)) 𝒱₀ (V d c s) none) Set.univ (trip arg2 arg3 arg4 arg5 harg5 arg6 arg7 harg7 sg sr so o1 h1 o2 h2 base)
          fun _ => iprop(slab d arg2 arg3 arg5 arg6 arg7 q2 q3 sg sr so f2 f3 O
            ∗ (∃ g4, (arg4.view.loc (V d c s) ↦[S₄]{fullShare} g4)
              ∗ ⌜∀ y, if y ∈ (blockR o2 h2).set then arg4.view.read (Elt F) g4 y = outV soff (arg2.view.read (Elt F) f2) (arg3.view.read (Elt F) f3) y
                  else arg4.view.read (Elt F) g4 y = arg4.view.read (Elt F) f4 y⌝)
            ∗ ∃ W', ⌜∀ p ∈ W', p ∈ W ∨ p.2 = none⌝ ∗ owes (V d c s) O W') := by
  unfold trip slab
  iintro ⟨⟨#Hmw, H2, H3, ⟨%f5, H5⟩, ⟨%f6, H6⟩, ⟨%f7, H7⟩, Hg, Hr, Ho⟩, H4, HO⟩
  iapply (wp_seq d (fetch_spec d arg3 arg5 harg5 sr o1 h1 q3 f3 f5 O W)) $$ [H3 H5 Hr HO]
  · iframe H3 H5 Hr HO Hmw
  iintro %_ ⟨-, H3, ⟨%g5, H5, %h5⟩, Hr, %W1, %hW1, HO⟩
  iapply (wp_seq d (fill_spec d arg5 arg6 base g5 groups f6)) $$ [H5 H6]
  · iframe H5 H6
  iintro %_ ⟨H5, %g6, H6, %h6⟩
  have h6' : ∀ y, arg6.view.read (Elt F) g6 y = rowAt base (arg5.view.read (Elt F) g5) y := fun y => by
    rcases h6 y with h | ⟨h, _⟩
    · exact h
    · exact absurd h (groups_cover y)
  have h56 : ∀ y, arg6.view.read (Elt F) g6 y = IntOp.addi ((rankWin arg3 o1 h1).view.read (Elt F) f3 (at5 y)) base := fun y =>
    (h6' y).trans (congrArg (fun z => IntOp.addi z base) (h5 _))
  have hb := b.isLt
  have hr := r.isLt
  have hrow : ∀ y, (arg6.view.read (Elt F) g6 y).toNat = 2048 * (2 * b.val + r.val) + ((rankWin arg3 o1 h1).view.read (Elt F) f3 (at5 y)).toNat := fun y => by
    rw [h56 y, hbase]
    exact row_toNat _ (by omega) _ (hrk _)
  have hin : ∀ y, (arg6.view.read (Elt F) g6 y).toNat < 131072 := fun y => by
    rw [hrow y]
    have : ((rankWin arg3 o1 h1).view.read (Elt F) f3 (at5 y)).toNat < 2048 := hrk _
    omega
  iapply (wp_seq d (streams_spec d arg2 arg6 arg7 q2 f2 g6 f7 hin sg O W1)) $$ [H2 H6 H7 Hg HO]
  · iframe H2 H6 H7 Hg HO Hmw
  iintro %_ ⟨-, H2, H6, ⟨%g7, H7, %h7⟩, Hg, %W2, %hW2, HO⟩
  ihave H4 := (pointsTo_split_subset hS).1 $$ H4
  icases H4 with ⟨Hb, H4⟩
  iapply (wp_seq d (writeOut_spec d arg4 arg7 harg7 so o2 h2 f4 g7 O W2)) $$ [Hb H7 Ho HO]
  · iframe Hb H7 Ho HO Hmw
  iintro %_ ⟨-, ⟨%g4, Hb, %h4⟩, H7, Ho, %W3, %hW3, HO⟩
  have hj := pointsTo_join_subset (Ix := HIx 2) (Name := ℕ) (U := UU) (Lvl := ℕ) (ℓ := arg4.view.loc (V d c s)) (q := fullShare) (g := g4) (f := f4) hS
  ihave H4 := hj $$ [Hb H4]
  · isplitl [Hb]; · iexact Hb
    iexact H4
  sl_step
  iframe H2 H3 Hg Hr Ho Hmw
  isplitl [H5 H6 H7]
  · isplitl [H5]; · iexists _; iexact H5
    isplitl [H6]; · iexists _; iexact H6
    iexists _; iexact H7
  isplitl [H4]
  · iexists _
    isplitl [H4]; · iexact H4
    ipureintro
    intro y
    have hmem : arg4.view.emb y ∈ (outWin arg4 o2 h2).view.set ↔ y ∈ (blockR o2 h2).set := by
      rw [outWin_set, View.set_slice]
      exact Finset.mem_map' _
    split
    next hy =>
      have e : arg4.view.read (Elt F) ((outWin arg4 o2 h2).view.set.piecewise g4 f4) y = arg4.view.read (Elt F) g4 y := by
        unfold View.read
        rw [Finset.piecewise_eq_of_mem _ _ _ (hmem.mpr hy)]
      have hm := Rect.mem_set_unit.mp hy
      subst ho1 ho2
      have m0 : b.val ≤ (y 0).val ∧ (y 0).val < b.val + 1 := hm 0
      have m1 : r.val ≤ (y 1).val ∧ (y 1).val < r.val + 1 := hm 1
      have m2 : 512 * cc.val ≤ (y 2).val ∧ (y 2).val < 512 * cc.val + 512 := hm 2
      have m3 : (y 3).val < 128 := (y 3).isLt
      obtain ⟨k, hk⟩ : ∃ k : Fin 512, (y 2).val = 512 * cc.val + k.val := ⟨⟨(y 2).val - 512 * cc.val, by omega⟩, by show _ = _ + (_ - _); omega⟩
      have hye : y = (blockR _ h2).emb (ix4 0 0 k (y 3)) := by
        funext a; apply Fin.ext; fin_cases a
        · show (y 0).val = b.val + 1 * 0; omega
        · show (y 1).val = r.val + 1 * 0; omega
        · show (y 2).val = 512 * cc.val + 1 * k.val; omega
        · show (y 3).val = 0 + 1 * (y 3).val; omega
      have e2 : arg4.view.read (Elt F) g4 y = arg7.view.read (Elt F) g7 (ix2 k (y 3)) :=
        (congrArg (arg4.view.read (Elt F) g4) hye).trans ((outWin_read d arg4 _ h2 g4 k (y 3)).symm.trans (h4 _))
      refine e.trans (e2.trans ((h7 _).trans ?_))
      refine congrArg (arg2.view.read (Elt F) f2) ?_
      have hcc := cc.isLt
      have hkl := k.isLt
      funext a; apply Fin.ext; fin_cases a
      · show (arg6.view.read (Elt F) g6 (wordAt (ix2 k (y 3)))).toNat
          = (2048 * (2 * (y 0).val + (y 1).val) + (arg3.view.read (Elt F) f3 (rankPlace soff (y 0).val (y 1).val (y 2).val)).toNat) % 131072
        rw [hrow]
        have hpl : (rankWin arg3 _ h1).view.read (Elt F) f3 (at5 (wordAt (ix2 k (y 3)))) = arg3.view.read (Elt F) f3 (rankPlace soff (y 0).val (y 1).val (y 2).val) := by
          refine congrArg (arg3.view.read (Elt F) f3) ?_
          funext a; apply Fin.ext; fin_cases a
          show ((4 * b.val + soff + r.val) * 2048 + 512 * cc.val) + 1 * (128 * (k.val / 128) + k.val % 128)
            = ((4 * (y 0).val + soff + (y 1).val) * 2048 + (y 2).val) % 262144
          have e0 : (y 0).val = b.val := by omega
          have e1 : (y 1).val = r.val := by omega
          rw [e0, e1, hk]
          omega
        rw [hpl]
        have := hrk (rankPlace soff (y 0).val (y 1).val (y 2).val)
        omega
      · rfl
    next hy =>
      unfold View.read
      rw [Finset.piecewise_eq_of_notMem _ _ _ (fun h => hy (hmem.mp h))]
  iexists W3
  iframe HO
  ipureintro
  intro p hp
  rcases hW3 p hp with hp | hp
  · rcases hW2 p hp with hp | hp
    · exact hW1 p hp
    · exact .inr hp
  · exact .inr hp

end TripSpec

end Cert.Proof.Trip

end
-- ==== Proof.Tile.lean ====
/-
  What a subcore does in either gathering call: eight trips, the batch of its own.
-/
module

public import proofs.«01_k».proof.Proof.TripSpec

@[expose] public section

noncomputable section

namespace Cert.Proof.Trip

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The offsets in closed form -/

def coordsV (c : Fin 2) (s : Fin 16) : grid0.Coords :=
  fun | 0 => c | 1 => s | ⟨_ + 2, h⟩ => absurd h (Nat.not_lt.2 (Nat.le_add_left _ _))

/-- The batch a subcore works on. -/
def wid (c : Fin 2) (s : Fin 16) : Fin 32 := ⟨2 * s.val + c.val, by omega⟩
/-- The round of a trip, and its quarter. -/
def tr (t : Fin 8) : Fin 2 := ⟨t.val / 4, by omega⟩
def tc (t : Fin 8) : Fin 4 := ⟨t.val % 4, by omega⟩

abbrev widW (c : Fin 2) (s : Fin 16) : BitVec 32 := Scalar.addi (Scalar.muli (BitVec.ofNat 32 s.val) 2#32) (BitVec.ofNat 32 c.val)

set_option maxRecDepth 16384 in
theorem off10 : ∀ (c : Fin 2) (s : Fin 16) (t : Fin 8), k0_off1 (coordsV c s) t = ![(4 * (wid c s).val + 0 + (tr t).val) * 2048 + 512 * (tc t).val] := by
  have h : ∀ (c : Fin 2) (s : Fin 16) (t : Fin k0_t1_loop.trips) (a : Fin 1), k0_off1 (coordsV c s) t a = (![(4 * (wid c s).val + 0 + (t.val / 4)) * 2048 + 512 * (t.val % 4)] : Fin 1 → ℕ) a := by decide +kernel
  exact fun c s t => funext (h c s t)
set_option maxRecDepth 16384 in
theorem off11 : ∀ (c : Fin 2) (s : Fin 16) (t : Fin 8), k1_off1 (coordsV c s) t = ![(4 * (wid c s).val + 2 + (tr t).val) * 2048 + 512 * (tc t).val] := by
  have h : ∀ (c : Fin 2) (s : Fin 16) (t : Fin k1_t1_loop.trips) (a : Fin 1), k1_off1 (coordsV c s) t a = (![(4 * (wid c s).val + 2 + (t.val / 4)) * 2048 + 512 * (t.val % 4)] : Fin 1 → ℕ) a := by decide +kernel
  exact fun c s t => funext (h c s t)
set_option maxRecDepth 16384 in
theorem off20 : ∀ (c : Fin 2) (s : Fin 16) (t : Fin 8), k0_off2 (coordsV c s) t = ![(wid c s).val, (tr t).val, 512 * (tc t).val, 0] := by
  have h : ∀ (c : Fin 2) (s : Fin 16) (t : Fin k0_t1_loop.trips) (a : Fin 4), k0_off2 (coordsV c s) t a = (![(wid c s).val, t.val / 4, 512 * (t.val % 4), 0] : Fin 4 → ℕ) a := by decide +kernel
  exact fun c s t => funext (h c s t)
set_option maxRecDepth 16384 in
theorem off21 : ∀ (c : Fin 2) (s : Fin 16) (t : Fin 8), k1_off2 (coordsV c s) t = ![(wid c s).val, (tr t).val, 512 * (tc t).val, 0] := by
  have h : ∀ (c : Fin 2) (s : Fin 16) (t : Fin k1_t1_loop.trips) (a : Fin 4), k1_off2 (coordsV c s) t a = (![(wid c s).val, t.val / 4, 512 * (t.val % 4), 0] : Fin 4 → ℕ) a := by decide +kernel
  exact fun c s t => funext (h c s t)
set_option maxRecDepth 16384 in
theorem base_eq : ∀ (c : Fin 2) (s : Fin 16) (t : Fin 8), baseW (widW c s) (Scf.iv 0#32 1#32 t) = BitVec.ofNat 32 (2048 * (2 * (wid c s).val + (tr t).val)) := by
  decide +kernel

/-! ## The loop -/

/-- A subcore's part of the result: its batch. -/
theorem batch_inb (b : Fin 32) : ∀ a, (![b.val, 0, 0, 0] : Fin 4 → ℕ) a + (![1, 2, 2048, 128] : Fin 4 → ℕ) a ≤ S32x2x2048x128.size a := by
  intro a; have := b.isLt; fin_cases a
  · show b.val + 1 ≤ 32; omega
  · show 0 + 2 ≤ 2; omega
  · show 0 + 2048 ≤ 2048; omega
  · show 0 + 128 ≤ 128; omega
abbrev batchR (b : Fin 32) : Rect S32x2x2048x128 := Rect.unit (s := S32x2x2048x128) ![b.val, 0, 0, 0] ![1, 2, 2048, 128] (batch_inb b)

section Loop

variable {c : Fin τ.nSC} {s : Fin τ.nSub} (d : Dev nD)
variable (arg2 : Memref sig .scVector .hbm S131072x128 .f32) (arg3 : Memref sig .scVector .hbm S262144 .i32)
    (arg4 : Memref sig .scVector .hbm S32x2x2048x128 .f32) (arg5 : Memref sig .scVector .vmem S512 .i32) (harg5 : arg5.IsWhole)
    (arg6 : Memref sig .scVector .vmem S4x128 .i32) (arg7 : Memref sig .scVector .vmem S512x128 .f32) (harg7 : arg7.IsWhole)
    (sg sr so : DmaSem sig) (q2 q3 : PosShare TreeShare) (f2 : Buf (Elt F) (arg2.view.loc (V d c s))) (f3 : Buf (Elt F) (arg3.view.loc (V d c s)))

/-- Before trip `t`: the trips done have written their blocks. -/
def inv (soff : ℕ) (b : Fin 32) (O : CellTallies nD τ sig (HIx 2)) (W : Waits sig (HIx 2)) (t : ℕ) (_ : BitVec 32) : sProp 𝕄 :=
  iprop(slab d arg2 arg3 arg5 arg6 arg7 q2 q3 sg sr so f2 f3 O
    ∗ (∃ g4, (arg4.view.loc (V d c s) ↦[(arg4.view.slice (batchR b)).set]{fullShare} g4)
      ∗ ⌜∀ y ∈ (batchR b).set, 4 * (y 1).val + (y 2).val / 512 < t →
          arg4.view.read (Elt F) g4 y = outV soff (arg2.view.read (Elt F) f2) (arg3.view.read (Elt F) f3) y⌝)
    ∗ ∃ W', ⌜∀ p ∈ W', p ∈ W ∨ p.2 = none⌝ ∗ owes (V d c s) O W')

theorem loop_spec (hrk : ∀ i, (arg3.view.read (Elt F) f3 i).toNat < 2048) (soff : ℕ) (hso : soff ≤ 2) (b : Fin 32)
    (o1 : Fin 8 → Fin 1 → ℕ) (h1 : ∀ t a, o1 t a + S512.size a ≤ S262144.size a) (ho1 : ∀ t, o1 t = ![(4 * b.val + soff + (tr t).val) * 2048 + 512 * (tc t).val])
    (o2 : Fin 8 → Fin 4 → ℕ) (h2 : ∀ t a, o2 t a + S1x1x512x128.size a ≤ S32x2x2048x128.size a) (ho2 : ∀ t, o2 t = ![b.val, (tr t).val, 512 * (tc t).val, 0])
    (base : Fin 8 → BitVec 32) (hbase : ∀ t, base t = BitVec.ofNat 32 (2048 * (2 * b.val + (tr t).val)))
    (f4 : Buf (Elt F) (arg4.view.loc (V d c s))) (O : CellTallies nD τ sig (HIx 2)) (W : Waits sig (HIx 2)) :
    iprop(slab d arg2 arg3 arg5 arg6 arg7 q2 q3 sg sr so f2 f3 O ∗ (arg4.view.loc (V d c s) ↦[(arg4.view.slice (batchR b)).set]{fullShare} f4) ∗ owes (V d c s) O W)
      ⊢ wp frame (wpE (defs₀ (F := F)) 𝒱₀ (V d c s) none) Set.univ
          (Scf.for 0#32 8#32 1#32 k0_t1_ok 0#32 (fun t _ => trip arg2 arg3 arg4 arg5 harg5 arg6 arg7 harg7 sg sr so (o1 t) (h1 t) (o2 t) (h2 t) (base t)) : PR F c s (BitVec 32))
          fun _ => iprop(slab d arg2 arg3 arg5 arg6 arg7 q2 q3 sg sr so f2 f3 O
            ∗ (∃ g4, (arg4.view.loc (V d c s) ↦[(arg4.view.slice (batchR b)).set]{fullShare} g4)
              ∗ ⌜∀ y ∈ (batchR b).set, arg4.view.read (Elt F) g4 y = outV soff (arg2.view.read (Elt F) f2) (arg3.view.read (Elt F) f3) y⌝)
            ∗ ∃ W', ⌜∀ p ∈ W', p ∈ W ∨ p.2 = none⌝ ∗ owes (V d c s) O W') := by
  have hfor := fun Q => Scf.wp_for (Q := Q) frame (wpE (defs₀ (F := F)) 𝒱₀ (V d c s) none) Set.univ 0#32 8#32 1#32 k0_t1_ok 0#32
    (fun (t : Fin 8) _ => (trip arg2 arg3 arg4 arg5 harg5 arg6 arg7 harg7 sg sr so (o1 t) (h1 t) (o2 t) (h2 t) (base t) : PR F c s (BitVec 32)))
    (inv d arg2 arg3 arg4 arg5 arg6 arg7 sg sr so q2 q3 f2 f3 soff b O W) (by
      intro t acc
      unfold inv
      iintro ⟨HS, ⟨%g4, H4, %h4⟩, %W1, %hW1, HO⟩
      have hsub : (outWin arg4 (o2 t) (h2 t)).view.set ⊆ (arg4.view.slice (batchR b)).set := by
        rw [outWin_set, View.set_slice, View.set_slice]
        refine Finset.map_subset_map.mpr fun y hy => Rect.mem_set_unit.mpr ?_
        have hm := Rect.mem_set_unit.mp hy
        have m0 := hm 0
        rw [ho2 t] at m0
        have m0 : b.val ≤ (y 0).val ∧ (y 0).val < b.val + 1 := m0
        have l1 : (y 1).val < 2 := (y 1).isLt
        have l2 : (y 2).val < 2048 := (y 2).isLt
        have l3 : (y 3).val < 128 := (y 3).isLt
        intro a; fin_cases a
        · exact m0
        · show 0 ≤ (y 1).val ∧ (y 1).val < 0 + 2; omega
        · show 0 ≤ (y 2).val ∧ (y 2).val < 0 + 2048; omega
        · show 0 ≤ (y 3).val ∧ (y 3).val < 0 + 128; omega
      have ht := trip_spec d arg2 arg3 arg4 arg5 harg5 arg6 arg7 harg7 sg sr so q2 q3 f2 f3 hrk soff hso b (tr t) (tc t) (o1 t) (h1 t) (ho1 t) (o2 t) (h2 t) (ho2 t)
        (base t) (hbase t) (arg4.view.slice (batchR b)).set hsub g4 O W1
      have hw := fun Q' => ht.trans (wp_wand frame _ _ (Q' := Q'))
      iapply (hw _) $$ [HS H4 HO]
      · isplitl [HS]; · iexact HS
        isplitl [H4]; · iexact H4
        iexact HO
      iintro %_ ⟨HS, ⟨%g, H4, %hg⟩, %W2, %hW2, HO⟩
      isplitl [HS]; · iexact HS
      isplitl [H4]
      · iexists g
        isplitl [H4]; · iexact H4
        ipureintro
        intro y hy hlt
        have hgy := hg y
        by_cases hb : y ∈ (blockR (o2 t) (h2 t)).set
        · rw [if_pos hb] at hgy; exact hgy
        · rw [if_neg hb] at hgy
          refine hgy.trans (h4 y hy ?_)
          by_contra hge
          refine hb (Rect.mem_set_unit.mpr ?_)
          have e : 4 * (y 1).val + (y 2).val / 512 = t.val := by omega
          have b0 : b.val ≤ (y 0).val ∧ (y 0).val < b.val + 1 := Rect.mem_set_unit.mp hy 0
          have l2 : (y 2).val < 2048 := (y 2).isLt
          have l3 : (y 3).val < 128 := (y 3).isLt
          rw [ho2 t]
          intro a; fin_cases a
          · exact b0
          · show t.val / 4 ≤ (y 1).val ∧ (y 1).val < t.val / 4 + 1; omega
          · show 512 * (t.val % 4) ≤ (y 2).val ∧ (y 2).val < 512 * (t.val % 4) + 512; omega
          · show 0 ≤ (y 3).val ∧ (y 3).val < 0 + 128; omega
      iexists W2
      isplitr
      · ipureintro
        intro p hp
        rcases hW2 p hp with hp | hp
        · exact hW1 p hp
        · exact .inr hp
      iexact HO)
  refine (show _ ⊢ _ from ?_).trans (hfor _)
  unfold inv
  iintro ⟨HS, H4, HO⟩
  isplitl [HS H4 HO]
  · isplitl [HS]; · iexact HS
    isplitl [H4]
    · iexists f4
      isplitl [H4]; · iexact H4
      ipureintro
      intro y _ h; exact absurd h (Nat.not_lt_zero _)
    iexists W
    isplitr
    · ipureintro; exact fun p hp => .inl hp
    iexact HO
  iintro %_ ⟨HS, ⟨%g, H4, %hg⟩, H⟩
  isplitl [HS]; · iexact HS
  isplitl [H4]
  · iexists g
    isplitl [H4]; · iexact H4
    ipureintro
    intro y hy
    refine hg y hy ?_
    have l1 : (y 1).val < 2 := (y 1).isLt
    have l2 : (y 2).val < 2048 := (y 2).isLt
    show _ < 8
    omega
  iexact H

end Loop

end Cert.Proof.Trip

end
-- ==== Proof.Calls.lean ====
/-
  The two gathering calls: what the handshakes carry, a subcore's task, and how the operands are dealt.
-/
module

public import proofs.«01_k».proof.Proof.Tile
public import Idealize.ShloMosaic.Lib.SparseCore.Quiescent
public import Idealize.ShloMosaic.Lib.Pipeline.Kit
public import Idealize.ShloMosaic.Lib.StableHlo.Run

@[expose] public section

noncomputable section

namespace Cert.Proof.Trip

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

abbrev ΛP : Labels := Pipeline.Sig Λ₀ (Fin 1) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 2) (Elt F) ℕ UU ℕ) := embL

/-- Batch `b`'s reader's share of what every subcore reads. -/
abbrev rq (b : Fin 32) : PosShare TreeShare := pieceOf fullShare 32 (by decide) b

/-! ## Subcores and batches -/

/-- The subcores of both SparseCores, in the order of the batches they take. -/
def widEquiv : Fin 2 × Fin 16 ≃ Fin 32 where
  toFun p := wid p.1 p.2
  invFun b := (⟨b.val % 2, by omega⟩, ⟨b.val / 2, by omega⟩)
  left_inv p := by
    rcases p with ⟨c, s⟩
    have hc := c.isLt
    refine Prod.ext (Fin.ext ?_) (Fin.ext ?_)
    · show (2 * s.val + c.val) % 2 = c.val; omega
    · show (2 * s.val + c.val) / 2 = s.val; omega
  right_inv b := Fin.ext (show 2 * (b.val / 2) + b.val % 2 = b.val by omega)

theorem bigSep_wid (Φ : Fin 32 → sProp 𝕄) :
    bigSep Finset.univ Φ = bigSep Finset.univ fun c : Fin 2 => bigSep Finset.univ fun s : Fin 16 => Φ (wid c s) := by
  rw [bigSep_univ_equiv widEquiv, bigSep_univ_prod]; rfl

theorem mem_batch {b : Fin 32} {y : S32x2x2048x128.Idx} : y ∈ (batchR b).set ↔ (y 0).val = b.val := by
  refine ⟨fun h => ?_, fun h => Rect.mem_set_unit.mpr ?_⟩
  · have h0 : b.val ≤ (y 0).val ∧ (y 0).val < b.val + 1 := Rect.mem_set_unit.mp h 0
    omega
  · have l1 : (y 1).val < 2 := (y 1).isLt
    have l2 : (y 2).val < 2048 := (y 2).isLt
    have l3 : (y 3).val < 128 := (y 3).isLt
    intro a; fin_cases a
    · show b.val ≤ (y 0).val ∧ (y 0).val < b.val + 1; omega
    · show 0 ≤ (y 1).val ∧ (y 1).val < 0 + 2; omega
    · show 0 ≤ (y 2).val ∧ (y 2).val < 0 + 2048; omega
    · show 0 ≤ (y 3).val ∧ (y 3).val < 0 + 128; omega

theorem batches_disjoint : ∀ i ∈ (Finset.univ : Finset (Fin 32)), ∀ j ∈ (Finset.univ : Finset (Fin 32)), i ≠ j → Disjoint (batchR i).set (batchR j).set :=
  fun i _ j _ h => Finset.disjoint_left.mpr fun y hi hj => h (Fin.ext ((mem_batch.mp hi).symm.trans (mem_batch.mp hj)))

theorem batches_cover : (Finset.univ : Finset (Fin 32)).biUnion (fun b => (batchR b).set) = Finset.univ := by
  refine Finset.eq_univ_of_forall fun y => Finset.mem_biUnion.mpr ⟨⟨(y 0).val, (y 0).isLt⟩, Finset.mem_univ _, mem_batch.mpr rfl⟩

/-! ## The launch memory, and what the calls make of it -/

variable (m : (ℓ : Loc nD τ sig) → Buf (Elt F) ℓ) (ρ : Dev nD → PrngReg)

abbrev aLoc (d : Dev nD) : Loc nD τ sig := (SparseCore.T d).loc main_arg0
abbrev bLoc (d : Dev nD) : Loc nD τ sig := (SparseCore.T d).loc main_arg1
abbrev kLoc (d : Dev nD) : Loc nD τ sig := (SparseCore.T d).loc main_arg2
abbrev rLoc (d : Dev nD) : Loc nD τ sig := (SparseCore.T d).loc main_v0
abbrev t0Loc (d : Dev nD) : Loc nD τ sig := (SparseCore.T d).loc main_v1
abbrev o0Loc (d : Dev nD) : Loc nD τ sig := (SparseCore.T d).loc main_v2
abbrev t1Loc (d : Dev nD) : Loc nD τ sig := (SparseCore.T d).loc main_v3
abbrev o1Loc (d : Dev nD) : Loc nD τ sig := (SparseCore.T d).loc main_v4

/-- The ranks in a row, and each pair of rounds' rows in a row. -/
def rkV (d : Dev nD) : S262144.Idx → BitVec 32 := shapeCast S262144 (m (kLoc d) : S32x4x2048x1.Idx → BitVec 32) shapeCasts_S32x4x2048x1_S262144
def tb0V (d : Dev nD) : S131072x128.Idx → Elt F .f32 := shapeCast S131072x128 (m (aLoc d) : S32x2x2048x128.Idx → Elt F .f32) shapeCasts_S32x2x2048x128_S131072x128
def tb1V (d : Dev nD) : S131072x128.Idx → Elt F .f32 := shapeCast S131072x128 (m (bLoc d) : S32x2x2048x128.Idx → Elt F .f32) shapeCasts_S32x2x2048x128_S131072x128
/-- What each call gathers. -/
def g0V (d : Dev nD) : S32x2x2048x128.Idx → Elt F .f32 := outV 0 (tb0V m d) (rkV m d)
def g1V (d : Dev nD) : S32x2x2048x128.Idx → Elt F .f32 := outV 2 (tb1V m d) (rkV m d)

/-- What the proof asks of the launch memory: every rank names a row of its sequence. -/
def PreOK : Prop := ∀ (d : Dev nD) (j : S32x4x2048x1.Idx), (m (kLoc d) j).toNat < 2048

theorem rk_lt (h : PreOK m) (d : Dev nD) (i : S262144.Idx) : (rkV m d i).toNat < 2048 := by
  unfold rkV shapeCast
  exact h d _

/-- A subcore's task of a call, the batch at `f`. -/
def task0 (d : Dev nD) (b : Fin 32) (f : Buf (Elt F) (o0Loc d)) : sProp 𝕄 :=
  iprop((t0Loc d ↦{rq b} (tb0V m d : Buf (Elt F) (t0Loc d))) ∗ (rLoc d ↦{rq b} (rkV m d : Buf (Elt F) (rLoc d)))
    ∗ (o0Loc d) ↦[((batchR b).set : Finset (Idx (o0Loc d)))]{fullShare} f)
def task1 (d : Dev nD) (b : Fin 32) (f : Buf (Elt F) (o1Loc d)) : sProp 𝕄 :=
  iprop((t1Loc d ↦{rq b} (tb1V m d : Buf (Elt F) (t1Loc d))) ∗ (rLoc d ↦{rq b} (rkV m d : Buf (Elt F) (rLoc d)))
    ∗ (o1Loc d) ↦[((batchR b).set : Finset (Idx (o1Loc d)))]{fullShare} f)

instance task0_storable (d : Dev nD) (b : Fin 32) (f : Buf (Elt F) (o0Loc d)) : BI.Storable (upEmb : UEmb _ 𝕄) (task0 m d b f) := by
  unfold task0; infer_instance
instance task1_storable (d : Dev nD) (b : Fin 32) (f : Buf (Elt F) (o1Loc d)) : BI.Storable (upEmb : UEmb _ 𝕄) (task1 m d b f) := by
  unfold task1; infer_instance

abbrev wd0 (c : Fin ((K (F := F)).nCore 0)) (i : Fin ((K (F := F)).nSub 0)) : Fin 32 := wid ⟨c.val, c.isLt⟩ ⟨i.val, i.isLt⟩
abbrev wd1 (c : Fin ((K (F := F)).nCore 1)) (i : Fin ((K (F := F)).nSub 1)) : Fin 32 := wid ⟨c.val, c.isLt⟩ ⟨i.val, i.isLt⟩

/-- The whole of call 0's operands, the result at `f`. -/
theorem tasks0 (d : Dev nD) (f : Buf (Elt F) (o0Loc d)) :
    iprop((t0Loc d ↦{fullShare} (tb0V m d : Buf (Elt F) (t0Loc d))) ∗ (rLoc d ↦{fullShare} (rkV m d : Buf (Elt F) (rLoc d))) ∗ o0Loc d ↦{fullShare} f)
      = (bigSep Finset.univ fun c : Fin ((K (F := F)).nCore 0) => bigSep Finset.univ fun i : Fin ((K (F := F)).nSub 0) => task0 m d (wd0 (F := F) c i) f : sProp 𝕄) := by
  refine Eq.trans ?_ (bigSep_wid fun b => task0 m d b f)
  unfold task0
  rw [bigSep_sep', bigSep_sep', ← pointsTo_piecesOf, ← pointsTo_piecesOf,
    ← pointsTo_biUnion Finset.univ (ℓ := o0Loc d) (fun b => (batchR b).set) batches_disjoint]
  erw [batches_cover]

theorem tasks1 (d : Dev nD) (f : Buf (Elt F) (o1Loc d)) :
    iprop((t1Loc d ↦{fullShare} (tb1V m d : Buf (Elt F) (t1Loc d))) ∗ (rLoc d ↦{fullShare} (rkV m d : Buf (Elt F) (rLoc d))) ∗ o1Loc d ↦{fullShare} f)
      = (bigSep Finset.univ fun c : Fin ((K (F := F)).nCore 1) => bigSep Finset.univ fun i : Fin ((K (F := F)).nSub 1) => task1 m d (wd1 (F := F) c i) f : sProp 𝕄) := by
  refine Eq.trans ?_ (bigSep_wid fun b => task1 m d b f)
  unfold task1
  rw [bigSep_sep', bigSep_sep', ← pointsTo_piecesOf, ← pointsTo_piecesOf,
    ← pointsTo_biUnion Finset.univ (ℓ := o1Loc d) (fun b => (batchR b).set) batches_disjoint]
  erw [batches_cover]

/-- Each call takes its table, the ranks and its result whole, dealt to the subcores at once. -/
def P : (K (F := F)).Pay (nD := nD) (Val := Elt F) (Name := ℕ) (U := UU) where
  st := fun q d c => match q with
    | 0 => bigSep Finset.univ fun i : Fin ((K (F := F)).nSub 0) => task0 m d (wd0 (F := F) c i) (m (o0Loc d))
    | 1 => bigSep Finset.univ fun i : Fin ((K (F := F)).nSub 1) => task1 m d (wd1 (F := F) c i) (m (o1Loc d))
  dn := fun q d c => match q with
    | 0 => bigSep Finset.univ fun i : Fin ((K (F := F)).nSub 0) => task0 m d (wd0 (F := F) c i) (g0V m d)
    | 1 => bigSep Finset.univ fun i : Fin ((K (F := F)).nSub 1) => task1 m d (wd1 (F := F) c i) (g1V m d)
  go := fun q d c i => match q with
    | 0 => task0 m d (wd0 (F := F) c i) (m (o0Loc d))
    | 1 => task1 m d (wd1 (F := F) c i) (m (o1Loc d))
  td := fun q d c i => match q with
    | 0 => task0 m d (wd0 (F := F) c i) (g0V m d)
    | 1 => task1 m d (wd1 (F := F) c i) (g1V m d)
  x := fun _ _ => iprop(emp)

instance P_storable : (P (F := F) m).IsStorable where
  st q d c := match q with
    | 0 => (inferInstance : BI.Storable (upEmb : UEmb _ 𝕄) (bigSep Finset.univ fun i : Fin ((K (F := F)).nSub 0) => task0 m d (wd0 (F := F) c i) (m (o0Loc d))))
    | 1 => (inferInstance : BI.Storable (upEmb : UEmb _ 𝕄) (bigSep Finset.univ fun i : Fin ((K (F := F)).nSub 1) => task1 m d (wd1 (F := F) c i) (m (o1Loc d))))
  dn q d c := match q with
    | 0 => (inferInstance : BI.Storable (upEmb : UEmb _ 𝕄) (bigSep Finset.univ fun i : Fin ((K (F := F)).nSub 0) => task0 m d (wd0 (F := F) c i) (g0V m d)))
    | 1 => (inferInstance : BI.Storable (upEmb : UEmb _ 𝕄) (bigSep Finset.univ fun i : Fin ((K (F := F)).nSub 1) => task1 m d (wd1 (F := F) c i) (g1V m d)))
  go q d c i := match q with
    | 0 => task0_storable m d (wd0 (F := F) c i) (m (o0Loc d))
    | 1 => task1_storable m d (wd1 (F := F) c i) (m (o1Loc d))
  td q d c i := match q with
    | 0 => task0_storable m d (wd0 (F := F) c i) (g0V m d)
    | 1 => task1_storable m d (wd1 (F := F) c i) (g1V m d)

variable [FloatOps F]

/-! ## What a subcore owns -/

section Own

variable (d : Dev nD) (c : Fin τ.nSC) (s : Fin τ.nSub)

theorem own_sems {a b e : DmaSem sig} (hab : a ≠ b) (hae : a ≠ e) (hbe : b ≠ e) (ha : (SemLoc.dma a : SemLoc sig).isScoped .scVector = true)
    (hb : (SemLoc.dma b : SemLoc sig).isScoped .scVector = true) (he : (SemLoc.dma e : SemLoc sig).isScoped .scVector = true) :
    (ownSems0 (V d c s) : sProp 𝕄)
      = iprop(semVal (V d c s, .dma a) 0 ∗ semVal (V d c s, .dma b) 0 ∗ semVal (V d c s, .dma e) 0
          ∗ bigSep ((((ownCells (V d c s)).erase (V d c s, .dma a)).erase (V d c s, .dma b)).erase (V d c s, .dma e)) fun g => semVal g 0) := by
  have n1 : ((V d c s, SemLoc.dma b) : GSem nD τ sig) ≠ (V d c s, SemLoc.dma a) := fun h => hab (by injection h with _ h; injection h with h; exact h.symm)
  have n2 : ((V d c s, SemLoc.dma e) : GSem nD τ sig) ≠ (V d c s, SemLoc.dma b) := fun h => hbe (by injection h with _ h; injection h with h; exact h.symm)
  have n3 : ((V d c s, SemLoc.dma e) : GSem nD τ sig) ≠ (V d c s, SemLoc.dma a) := fun h => hae (by injection h with _ h; injection h with h; exact h.symm)
  unfold SparseCore.Cfg.ownSems0
  rw [SparseCore.bigSep_erase' ((mem_ownCells (g := (V d c s, .dma a))).mpr ⟨rfl, ha⟩),
    SparseCore.bigSep_erase' (Finset.mem_erase.mpr ⟨n1, (mem_ownCells (g := (V d c s, .dma b))).mpr ⟨rfl, hb⟩⟩),
    SparseCore.bigSep_erase' (Finset.mem_erase.mpr ⟨n2, Finset.mem_erase.mpr ⟨n3, (mem_ownCells (g := (V d c s, .dma e))).mpr ⟨rfl, he⟩⟩⟩)]

theorem own_bufs {a b e : Ref sig .scVector} (hab : a ≠ b) (hae : a ≠ e) (hbe : b ≠ e)
    (ha : (Proc.scVector c s).devRef a ∈ ownRefs (τ := τ) (.scVector c s)) (hb : (Proc.scVector c s).devRef b ∈ ownRefs (τ := τ) (.scVector c s))
    (he : (Proc.scVector c s).devRef e ∈ ownRefs (τ := τ) (.scVector c s)) :
    (ownBufs (V d c s) : sProp 𝕄)
      = iprop((∃ f, (V d c s).loc a ↦{fullShare} f) ∗ (∃ f, (V d c s).loc b ↦{fullShare} f) ∗ (∃ f, (V d c s).loc e ↦{fullShare} f)
          ∗ bigSep ((((ownRefs (τ := τ) (.scVector c s)).erase ((Proc.scVector c s).devRef a)).erase ((Proc.scVector c s).devRef b)).erase ((Proc.scVector c s).devRef e))
              fun b => iprop(∃ f, ((d, b) : Loc nD τ sig) ↦{fullShare} f)) := by
  unfold SparseCore.Cfg.ownBufs
  refine (SparseCore.bigSep_erase' ha).trans ?_
  rw [SparseCore.bigSep_erase' (Finset.mem_erase.mpr ⟨fun h => hab (Proc.devRef_injective _ h).symm, hb⟩),
    SparseCore.bigSep_erase' (Finset.mem_erase.mpr ⟨fun h => hbe (Proc.devRef_injective _ h).symm, Finset.mem_erase.mpr ⟨fun h => hae (Proc.devRef_injective _ h).symm, he⟩⟩)]

end Own

/-! ## The tasks -/

section Task

variable (d : Dev nD) (c : Fin 2) (s : Fin 16)

/-- A whole buffer held. -/
theorem held_whole (c : Fin τ.nSC) (s : Fin τ.nSub) (x : Ref sig .scVector) (q : PosShare TreeShare) (f : Buf (Elt F) ((V d c s).loc x)) :
    (held (F := F) c s d (Memref.whole x) q f : sProp 𝕄) = ((V d c s).loc x ↦{q} f) :=
  congrArg (fun I => ((V d c s).loc x ↦[I]{q} f : sProp 𝕄)) (View.set_whole x)

theorem pts_r (c : Fin τ.nSC) (s : Fin τ.nSub) (q : PosShare TreeShare) (f : Buf (Elt F) (rLoc d)) :
    ((V d c s).loc main_v0_scv ↦{q} f : sProp 𝕄) = (rLoc d ↦{q} f) := rfl
theorem pts_t0 (c : Fin τ.nSC) (s : Fin τ.nSub) (q : PosShare TreeShare) (f : Buf (Elt F) (t0Loc d)) :
    ((V d c s).loc main_v1_scv ↦{q} f : sProp 𝕄) = (t0Loc d ↦{q} f) := rfl
theorem pts_t1 (c : Fin τ.nSC) (s : Fin τ.nSub) (q : PosShare TreeShare) (f : Buf (Elt F) (t1Loc d)) :
    ((V d c s).loc main_v3_scv ↦{q} f : sProp 𝕄) = (t1Loc d ↦{q} f) := rfl
theorem pts_o0 (c : Fin τ.nSC) (s : Fin τ.nSub) (b : Fin 32) (f : Buf (Elt F) (o0Loc d)) :
    ((Memref.whole main_v2_scv).view.loc (V d c s) ↦[((Memref.whole main_v2_scv).view.slice (batchR b)).set]{fullShare} f : sProp 𝕄)
      = (o0Loc d ↦[((batchR b).set : Finset (Idx (o0Loc d)))]{fullShare} f) :=
  congrArg (fun I : Finset (Idx (o0Loc d)) => (o0Loc d ↦[I]{fullShare} f : sProp 𝕄)) ((View.set_slice _ _).trans Finset.map_refl)
theorem pts_o1 (c : Fin τ.nSC) (s : Fin τ.nSub) (b : Fin 32) (f : Buf (Elt F) (o1Loc d)) :
    ((Memref.whole main_v4_scv).view.loc (V d c s) ↦[((Memref.whole main_v4_scv).view.slice (batchR b)).set]{fullShare} f : sProp 𝕄)
      = (o1Loc d ↦[((batchR b).set : Finset (Idx (o1Loc d)))]{fullShare} f) :=
  congrArg (fun I : Finset (Idx (o1Loc d)) => (o1Loc d ↦[I]{fullShare} f : sProp 𝕄)) ((View.set_slice _ _).trans Finset.map_refl)

theorem pts_fill {ℓ : Loc nD τ sig} {I : Finset (Idx ℓ)} {g f : Buf (Elt F) ℓ} (hg : ∀ y ∈ I, g y = f y) :
    (ℓ ↦[I]{fullShare} g : sProp 𝕄) = ℓ ↦[I]{fullShare} f := pointsTo_congr hg

/-- A task around its loop: what it does not use goes past it. -/
theorem task_of_loop {α β γ δ : Type} {p : PR F (c : Fin τ.nSC) (s : Fin τ.nSub) (BitVec 32)} {Lv MW T₁ T₂ R₁ R₂ B₁ B₂ Bf Sg Sr So Hb Hs HO HO' : sProp 𝕄}
    {A₁ A₂ : α → sProp 𝕄} {B5 B6 : β → sProp 𝕄} {C₁ C₂ : γ → sProp 𝕄} {G : δ → sProp 𝕄} {φ : δ → Prop}
    (hl : iprop((MW ∗ T₁ ∗ R₁ ∗ (∃ f, A₁ f) ∗ (∃ f, B5 f) ∗ (∃ f, C₁ f) ∗ Sg ∗ Sr ∗ So) ∗ B₁ ∗ HO)
      ⊢ wp frame (wpE (defs₀ (F := F)) 𝒱₀ (V d (c : Fin τ.nSC) (s : Fin τ.nSub)) none) Set.univ p
          fun _ => iprop((MW ∗ T₁ ∗ R₁ ∗ (∃ f, A₁ f) ∗ (∃ f, B5 f) ∗ (∃ f, C₁ f) ∗ Sg ∗ Sr ∗ So) ∗ (∃ g, G g ∗ ⌜φ g⌝) ∗ HO'))
    (hmw : Lv ⊢ MW) (hT : T₁ = T₂) (hR : R₁ = R₂) (hB : B₁ = B₂) (hA : ∀ f, A₁ f = A₂ f) (hB5 : ∀ f, B5 f = B6 f) (hC : ∀ f, C₁ f = C₂ f)
    (hG : ∀ g, φ g → G g ⊢ Bf) :
    iprop(Lv ∗ emp ∗ (T₂ ∗ R₂ ∗ B₂) ∗ ((∃ f, A₂ f) ∗ (∃ f, B6 f) ∗ (∃ f, C₂ f) ∗ Hb) ∗ (Sg ∗ Sr ∗ So ∗ Hs) ∗ HO)
      ⊢ wp frame (wpE (defs₀ (F := F)) 𝒱₀ (V d (c : Fin τ.nSC) (s : Fin τ.nSub)) none) Set.univ
          (p >>= fun _ => pure PUnit.unit : PR F (c : Fin τ.nSC) (s : Fin τ.nSub) PUnit)
          fun _ => iprop((T₂ ∗ R₂ ∗ Bf) ∗ ((∃ f, A₂ f) ∗ (∃ f, B6 f) ∗ (∃ f, C₂ f) ∗ Hb) ∗ (Sg ∗ Sr ∗ So ∗ Hs) ∗ HO') := by
  subst hT hR hB
  obtain rfl : A₁ = A₂ := funext hA
  obtain rfl : B5 = B6 := funext hB5
  obtain rfl : C₁ = C₂ := funext hC
  iintro ⟨Hlv, -, ⟨Ht, Hr, Ho⟩, ⟨H5, H6, H7, Hbufs⟩, ⟨Hsg, Hsr, Hso, Hsems⟩, HO⟩
  ihave Hmw := hmw $$ Hlv
  iapply (wp_seq d hl) $$ [Hmw Ht Hr Ho H5 H6 H7 Hsg Hsr Hso HO]
  · isplitl [Hmw Ht Hr H5 H6 H7 Hsg Hsr Hso]
    · isplitl [Hmw]; · iexact Hmw
      isplitl [Ht]; · iexact Ht
      isplitl [Hr]; · iexact Hr
      isplitl [H5]; · iexact H5
      isplitl [H6]; · iexact H6
      isplitl [H7]; · iexact H7
      isplitl [Hsg]; · iexact Hsg
      isplitl [Hsr]; · iexact Hsr
      iexact Hso
    isplitl [Ho]
    · iexact Ho
    iexact HO
  iintro %_ ⟨⟨-, Ht, Hr, H5, H6, H7, Hsg, Hsr, Hso⟩, ⟨%g4, Ho, %hg⟩, HO⟩
  rw [wp_pure]
  imodintro
  isplitl [Ht Hr Ho]
  · isplitl [Ht]; · iexact Ht
    isplitl [Hr]; · iexact Hr
    iapply (hG g4 hg); iexact Ho
  isplitl [H5 H6 H7 Hbufs]
  · isplitl [H5]; · iexact H5
    isplitl [H6]; · iexact H6
    isplitl [H7]; · iexact H7
    iexact Hbufs
  isplitl [Hsg Hsr Hso Hsems]
  · isplitl [Hsg]; · iexact Hsg
    isplitl [Hsr]; · iexact Hsr
    isplitl [Hso]; · iexact Hso
    iexact Hsems
  iexact HO

set_option maxRecDepth 65536 in
set_option maxHeartbeats 2000000 in
theorem task0_spec (hpre : PreOK m) (O : CellTallies nD τ sig (HIx 2)) (W : Waits sig (HIx 2)) (hO : ∀ g, O g none = 0) :
    iprop(levAts (K (F := F)).L (K (F := F)).lev ∗ emp ∗ task0 m d (wid c s) (m (o0Loc d))
        ∗ scopedBufs (V d (c : Fin τ.nSC) (s : Fin τ.nSub)) ∗ scopedSems0 (V d (c : Fin τ.nSC) (s : Fin τ.nSub)) ∗ owes (V d (c : Fin τ.nSC) (s : Fin τ.nSub)) O W)
      ⊢ wp frame (wpE (defs₀ (F := F)) 𝒱₀ (V d (c : Fin τ.nSC) (s : Fin τ.nSub)) none) Set.univ
          (cc0__k4_body (F := F) (coordsV c s) (Memref.whole main_v1_scv) (Memref.isWhole_whole _) (Memref.whole main_v0_scv) (Memref.isWhole_whole _)
            (Memref.whole main_v2_scv) (Memref.isWhole_whole _) (Memref.whole cc0_scratch0) (Memref.isWhole_whole _) (Memref.whole cc0_scratch1) (Memref.isWhole_whole _)
            (Memref.whole cc0_scratch2) (Memref.isWhole_whole _) cc0_scratch3 cc0_scoped0 cc0_scoped1)
          fun _ => iprop(task0 m d (wid c s) (g0V m d) ∗ scopedBufs (V d (c : Fin τ.nSC) (s : Fin τ.nSub)) ∗ scopedSems0 (V d (c : Fin τ.nSC) (s : Fin τ.nSub))
            ∗ ∃ W', ⌜∀ p ∈ W', p ∈ W ∨ p.2 = none⌝ ∗ owes (V d (c : Fin τ.nSC) (s : Fin τ.nSub)) O W') := by
  have hb := own_bufs (F := F) d (c : Fin τ.nSC) (s : Fin τ.nSub) (a := cc0_scratch0) (b := cc0_scratch1) (e := cc0_scratch2) (by decide) (by decide) (by decide)
    (SparseCore.Cfg.mem_ownRefs_of_owner rfl) (SparseCore.Cfg.mem_ownRefs_of_owner rfl) (SparseCore.Cfg.mem_ownRefs_of_owner rfl)
  have hs := own_sems (F := F) d (c : Fin τ.nSC) (s : Fin τ.nSub) (a := cc0_scratch3.sem) (b := cc0_scoped0.sem) (e := cc0_scoped1.sem) (by decide) (by decide) (by decide)
    (by decide) (by decide) (by decide)
  rw [(K (F := F)).scopedBufs_V facts d c s, SparseCore.Cfg.scopedSems0_V (τ := τ) (Val := Elt F) d c s, hb, hs]
  have hl := loop_spec (F := F) d (Memref.whole main_v1_scv) (Memref.whole main_v0_scv) (Memref.whole main_v2_scv) (Memref.whole cc0_scratch0) (Memref.isWhole_whole _)
    (Memref.whole cc0_scratch1) (Memref.whole cc0_scratch2) (Memref.isWhole_whole _) cc0_scratch3.sem cc0_scoped0.sem cc0_scoped1.sem
    (c := (c : Fin τ.nSC)) (s := (s : Fin τ.nSub)) (rq (wid c s)) (rq (wid c s)) (tb0V m d) (rkV m d) (fun i => rk_lt m hpre d i) 0 (by decide) (wid c s)
    (fun t => k0_off1 (coordsV c s) t) (fun t => k0_off1_inb (coordsV c s) t) (off10 c s)
    (fun t => k0_off2 (coordsV c s) t) (fun t => k0_off2_inb (coordsV c s) t) (off20 c s)
    (fun t => baseW (widW c s) (Scf.iv 0#32 1#32 t)) (base_eq c s) (m (o0Loc d)) O W
  unfold slab at hl
  have hp : (cc0__k4_body (F := F) (coordsV c s) (Memref.whole main_v1_scv) (Memref.isWhole_whole _) (Memref.whole main_v0_scv) (Memref.isWhole_whole _)
            (Memref.whole main_v2_scv) (Memref.isWhole_whole _) (Memref.whole cc0_scratch0) (Memref.isWhole_whole _) (Memref.whole cc0_scratch1) (Memref.isWhole_whole _)
            (Memref.whole cc0_scratch2) (Memref.isWhole_whole _) cc0_scratch3 cc0_scoped0 cc0_scoped1 : PR F (c : Fin τ.nSC) (s : Fin τ.nSub) PUnit)
      = (Scf.for 0#32 8#32 1#32 k0_t1_ok 0#32 (fun t _ => trip (Memref.whole main_v1_scv) (Memref.whole main_v0_scv) (Memref.whole main_v2_scv) (Memref.whole cc0_scratch0) (Memref.isWhole_whole _)
          (Memref.whole cc0_scratch1) (Memref.whole cc0_scratch2) (Memref.isWhole_whole _) cc0_scratch3.sem cc0_scoped0.sem cc0_scoped1.sem
          (k0_off1 (coordsV c s) t) (k0_off1_inb (coordsV c s) t) (k0_off2 (coordsV c s) t) (k0_off2_inb (coordsV c s) t) (baseW (widW c s) (Scf.iv 0#32 1#32 t)))
          : PR F (c : Fin τ.nSC) (s : Fin τ.nSub) (BitVec 32)) >>= fun _ => pure ⟨⟩ := by
    rw [cc0__k4_body_eq_skeleton]; rfl
  refine (show _ ⊢ wp frame (wpE (defs₀ (F := F)) 𝒱₀ (V d (c : Fin τ.nSC) (s : Fin τ.nSub)) none) Set.univ (cc0__k4_body (F := F) (coordsV c s) (Memref.whole main_v1_scv) (Memref.isWhole_whole _) (Memref.whole main_v0_scv) (Memref.isWhole_whole _)
            (Memref.whole main_v2_scv) (Memref.isWhole_whole _) (Memref.whole cc0_scratch0) (Memref.isWhole_whole _) (Memref.whole cc0_scratch1) (Memref.isWhole_whole _)
            (Memref.whole cc0_scratch2) (Memref.isWhole_whole _) cc0_scratch3 cc0_scoped0 cc0_scoped1 : PR F (c : Fin τ.nSC) (s : Fin τ.nSub) PUnit) _ from ?_)
  rw [hp]
  unfold task0
  exact task_of_loop d c s hl ((K (F := F)).mayWaits_none (thr := V d (c : Fin τ.nSC) (s : Fin τ.nSub)) hO)
    ((held_whole d _ _ _ _ _).trans (pts_t0 d _ _ _ _)) ((held_whole d _ _ _ _ _).trans (pts_r d _ _ _ _)) (pts_o0 d c s _ _)
    (fun f => held_whole d _ _ _ _ f) (fun f => held_whole d _ _ _ _ f) (fun f => held_whole d _ _ _ _ f)
    (fun g hg => Entails.of_eq ((pts_o0 d c s _ g).trans (pts_fill (ℓ := o0Loc d) (f := g0V m d) hg)))

set_option maxRecDepth 65536 in
set_option maxHeartbeats 2000000 in
theorem task1_spec (hpre : PreOK m) (O : CellTallies nD τ sig (HIx 2)) (W : Waits sig (HIx 2)) (hO : ∀ g, O g none = 0) :
    iprop(levAts (K (F := F)).L (K (F := F)).lev ∗ emp ∗ task1 m d (wid c s) (m (o1Loc d))
        ∗ scopedBufs (V d (c : Fin τ.nSC) (s : Fin τ.nSub)) ∗ scopedSems0 (V d (c : Fin τ.nSC) (s : Fin τ.nSub)) ∗ owes (V d (c : Fin τ.nSC) (s : Fin τ.nSub)) O W)
      ⊢ wp frame (wpE (defs₀ (F := F)) 𝒱₀ (V d (c : Fin τ.nSC) (s : Fin τ.nSub)) none) Set.univ
          (cc1__k4_body (F := F) (coordsV c s) (Memref.whole main_v3_scv) (Memref.isWhole_whole _) (Memref.whole main_v0_scv) (Memref.isWhole_whole _)
            (Memref.whole main_v4_scv) (Memref.isWhole_whole _) (Memref.whole cc1_scratch0) (Memref.isWhole_whole _) (Memref.whole cc1_scratch1) (Memref.isWhole_whole _)
            (Memref.whole cc1_scratch2) (Memref.isWhole_whole _) cc1_scratch3 cc1_scoped0 cc1_scoped1)
          fun _ => iprop(task1 m d (wid c s) (g1V m d) ∗ scopedBufs (V d (c : Fin τ.nSC) (s : Fin τ.nSub)) ∗ scopedSems0 (V d (c : Fin τ.nSC) (s : Fin τ.nSub))
            ∗ ∃ W', ⌜∀ p ∈ W', p ∈ W ∨ p.2 = none⌝ ∗ owes (V d (c : Fin τ.nSC) (s : Fin τ.nSub)) O W') := by
  have hb := own_bufs (F := F) d (c : Fin τ.nSC) (s : Fin τ.nSub) (a := cc1_scratch0) (b := cc1_scratch1) (e := cc1_scratch2) (by decide) (by decide) (by decide)
    (SparseCore.Cfg.mem_ownRefs_of_owner rfl) (SparseCore.Cfg.mem_ownRefs_of_owner rfl) (SparseCore.Cfg.mem_ownRefs_of_owner rfl)
  have hs := own_sems (F := F) d (c : Fin τ.nSC) (s : Fin τ.nSub) (a := cc1_scratch3.sem) (b := cc1_scoped0.sem) (e := cc1_scoped1.sem) (by decide) (by decide) (by decide)
    (by decide) (by decide) (by decide)
  rw [(K (F := F)).scopedBufs_V facts d c s, SparseCore.Cfg.scopedSems0_V (τ := τ) (Val := Elt F) d c s, hb, hs]
  have hl := loop_spec (F := F) d (Memref.whole main_v3_scv) (Memref.whole main_v0_scv) (Memref.whole main_v4_scv) (Memref.whole cc1_scratch0) (Memref.isWhole_whole _)
    (Memref.whole cc1_scratch1) (Memref.whole cc1_scratch2) (Memref.isWhole_whole _) cc1_scratch3.sem cc1_scoped0.sem cc1_scoped1.sem
    (c := (c : Fin τ.nSC)) (s := (s : Fin τ.nSub)) (rq (wid c s)) (rq (wid c s)) (tb1V m d) (rkV m d) (fun i => rk_lt m hpre d i) 2 (by decide) (wid c s)
    (fun t => k1_off1 (coordsV c s) t) (fun t => k1_off1_inb (coordsV c s) t) (off11 c s)
    (fun t => k1_off2 (coordsV c s) t) (fun t => k1_off2_inb (coordsV c s) t) (off21 c s)
    (fun t => baseW (widW c s) (Scf.iv 0#32 1#32 t)) (base_eq c s) (m (o1Loc d)) O W
  unfold slab at hl
  have hp : (cc1__k4_body (F := F) (coordsV c s) (Memref.whole main_v3_scv) (Memref.isWhole_whole _) (Memref.whole main_v0_scv) (Memref.isWhole_whole _)
            (Memref.whole main_v4_scv) (Memref.isWhole_whole _) (Memref.whole cc1_scratch0) (Memref.isWhole_whole _) (Memref.whole cc1_scratch1) (Memref.isWhole_whole _)
            (Memref.whole cc1_scratch2) (Memref.isWhole_whole _) cc1_scratch3 cc1_scoped0 cc1_scoped1 : PR F (c : Fin τ.nSC) (s : Fin τ.nSub) PUnit)
      = (Scf.for 0#32 8#32 1#32 k1_t1_ok 0#32 (fun t _ => trip (Memref.whole main_v3_scv) (Memref.whole main_v0_scv) (Memref.whole main_v4_scv) (Memref.whole cc1_scratch0) (Memref.isWhole_whole _)
          (Memref.whole cc1_scratch1) (Memref.whole cc1_scratch2) (Memref.isWhole_whole _) cc1_scratch3.sem cc1_scoped0.sem cc1_scoped1.sem
          (k1_off1 (coordsV c s) t) (k1_off1_inb (coordsV c s) t) (k1_off2 (coordsV c s) t) (k1_off2_inb (coordsV c s) t) (baseW (widW c s) (Scf.iv 0#32 1#32 t)))
          : PR F (c : Fin τ.nSC) (s : Fin τ.nSub) (BitVec 32)) >>= fun _ => pure ⟨⟩ := by
    rw [cc1__k4_body_eq_skeleton]; rfl
  refine (show _ ⊢ wp frame (wpE (defs₀ (F := F)) 𝒱₀ (V d (c : Fin τ.nSC) (s : Fin τ.nSub)) none) Set.univ (cc1__k4_body (F := F) (coordsV c s) (Memref.whole main_v3_scv) (Memref.isWhole_whole _) (Memref.whole main_v0_scv) (Memref.isWhole_whole _)
            (Memref.whole main_v4_scv) (Memref.isWhole_whole _) (Memref.whole cc1_scratch0) (Memref.isWhole_whole _) (Memref.whole cc1_scratch1) (Memref.isWhole_whole _)
            (Memref.whole cc1_scratch2) (Memref.isWhole_whole _) cc1_scratch3 cc1_scoped0 cc1_scoped1 : PR F (c : Fin τ.nSC) (s : Fin τ.nSub) PUnit) _ from ?_)
  rw [hp]
  unfold task1
  exact task_of_loop d c s hl ((K (F := F)).mayWaits_none (thr := V d (c : Fin τ.nSC) (s : Fin τ.nSub)) hO)
    ((held_whole d _ _ _ _ _).trans (pts_t1 d _ _ _ _)) ((held_whole d _ _ _ _ _).trans (pts_r d _ _ _ _)) (pts_o1 d c s _ _)
    (fun f => held_whole d _ _ _ _ f) (fun f => held_whole d _ _ _ _ f) (fun f => held_whole d _ _ _ _ f)
    (fun g hg => Entails.of_eq ((pts_o1 d c s _ g).trans (pts_fill (ℓ := o1Loc d) (f := g1V m d) hg)))

end Task

/-! ## The launch theorem's obligations -/

theorem defs₀_vector0 (c : Fin τ.nSC) (s : Fin τ.nSub) :
    defs₀ (F := F) (.scVector c s) 0 ()
      = SparseCore.onTile hcore0 hsub0 (fun c s =>
          cc0__k4_body (F := F) (coordsV c s) (Memref.whole main_v1_scv) (Memref.isWhole_whole _) (Memref.whole main_v0_scv) (Memref.isWhole_whole _)
            (Memref.whole main_v2_scv) (Memref.isWhole_whole _) (Memref.whole cc0_scratch0) (Memref.isWhole_whole _) (Memref.whole cc0_scratch1) (Memref.isWhole_whole _)
            (Memref.whole cc0_scratch2) (Memref.isWhole_whole _) cc0_scratch3 cc0_scoped0 cc0_scoped1)
          ⟨⟩ c s := rfl

theorem obl_post {thr : Thread nD τ} {W : Waits sig (HIx 2)} {X A B : sProp 𝕄} {O : CellTallies nD τ sig (HIx 2)} {q : Fin 2} :
    (iprop(X ∗ A ∗ B ∗ ∃ W', ⌜∀ p ∈ W', p ∈ W ∨ p.2 = none⌝ ∗ owes thr O W') : sProp 𝕄)
      ⊢ iprop(X ∗ A ∗ B ∗ ∃ W', ⌜∀ p ∈ W', p ∈ W ∨ p.2 = none ∨ p.2 = some q⌝ ∗ owes thr O W') := by
  iintro ⟨Hx, Ha, Hb, %W', %hW, HO⟩
  isplitl [Hx]; · iexact Hx
  isplitl [Ha]; · iexact Ha
  isplitl [Hb]; · iexact Hb
  iexists W'; isplitr [HO]
  · ipureintro; exact fun p hp => (hW p hp).imp_right Or.inl
  iexact HO

theorem defs₀_vector1 (c : Fin τ.nSC) (s : Fin τ.nSub) :
    defs₀ (F := F) (.scVector c s) 1 ()
      = SparseCore.onTile hcore1 hsub1 (fun c s =>
          cc1__k4_body (F := F) (coordsV c s) (Memref.whole main_v3_scv) (Memref.isWhole_whole _) (Memref.whole main_v0_scv) (Memref.isWhole_whole _)
            (Memref.whole main_v4_scv) (Memref.isWhole_whole _) (Memref.whole cc1_scratch0) (Memref.isWhole_whole _) (Memref.whole cc1_scratch1) (Memref.isWhole_whole _)
            (Memref.whole cc1_scratch2) (Memref.isWhole_whole _) cc1_scratch3 cc1_scoped0 cc1_scoped1)
          ⟨⟩ c s := rfl

theorem tileObl0 (hpre : PreOK m) : (K (F := F)).TileObl (D (F := F)) 𝒱 (P (F := F) m) v₀ 0 := by
  intro d c i O W hO _ _
  simp only [show (P (F := F) m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]
  simp only [SparseCore.onTile, hci, and_self, ↓reduceDIte]
  exact (task0_spec m d ⟨c.val, c.isLt⟩ ⟨i.val, i.isLt⟩ hpre O W hO).trans (wp_mono frame _ _ fun _ => obl_post)

theorem tileObl1 (hpre : PreOK m) : (K (F := F)).TileObl (D (F := F)) 𝒱 (P (F := F) m) v₀ 1 := by
  intro d c i O W hO _ _
  simp only [show (P (F := F) m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]
  simp only [SparseCore.onTile, hci, and_self, ↓reduceDIte]
  exact (task1_spec m d ⟨c.val, c.isLt⟩ ⟨i.val, i.isLt⟩ hpre O W hO).trans (wp_mono frame _ _ fun _ => obl_post)

theorem split_triv {X Y : sProp 𝕄} : X ⊢ |={Set.univ}=> iprop(X ∗ (Y -∗ Y)) := by
  iintro H; imodintro
  isplitl [H]; · iexact H
  iintro H; iexact H

/-- Nothing is cut up on the way: a call's operands are its subcores' tasks from the first. -/
theorem vecSplit (q : Fin 2) : (K (F := F)).VecSplit' (P (F := F) m) q := fun _ _ =>
  match q with
  | 0 => split_triv
  | 1 => split_triv

end Cert.Proof.Trip

end
-- ==== Proof.Region.lean ====
/-
  The weighted sum over the four rounds, run by the TensorCore over blocks: the body's triple and the region of @main it makes.
-/
module

public import proofs.«01_k».proof.Proof.Calls
public import proofs.«01_k».proof.Proof.Gen.KernelIdeal.Launch
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.WordCmp

@[expose] public section

set_option maxRecDepth 16384

noncomputable section

namespace Cert.Proof.Trip

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 2) (Elt F) ℕ UU ℕ

/-! ## What the body reads and leaves -/

/-- Each round's column of logsumexps, and its 64 columns of attention, in a block of gathered rows. -/
abbrev rL0 : Rect S1x2x2048x128 := Rect.unit (s := S1x2x2048x128) ![0, 0, 0, 64] S1x1x2048x1.size inb_S1x2x2048x128_S1x1x2048x1_0_0_0_64
abbrev rA0 : Rect S1x2x2048x128 := Rect.unit (s := S1x2x2048x128) ![0, 0, 0, 0] S1x1x2048x64.size inb_S1x2x2048x128_S1x1x2048x64_0_0_0_0
abbrev rL1 : Rect S1x2x2048x128 := Rect.unit (s := S1x2x2048x128) ![0, 1, 0, 64] S1x1x2048x1.size inb_S1x2x2048x128_S1x1x2048x1_0_1_0_64
abbrev rA1 : Rect S1x2x2048x128 := Rect.unit (s := S1x2x2048x128) ![0, 1, 0, 0] S1x1x2048x64.size inb_S1x2x2048x128_S1x1x2048x64_0_1_0_0
abbrev rO : Rect S1x2048x64 := Rect.unit (s := S1x2048x64) ![0, 0, 0] S1x2048x64.size inb_S1x2048x64_S1x2048x64_0_0_0

/-- The body's result block, from the two blocks of gathered rows. -/
def mixV (x0 : Vec F S1x2x2048x128 .f32) (x1 : Vec F S1x2x2048x128 .f32) : Vec F S1x2048x64 .f32 :=
  k2_pay1 (k2_pay2 (View.ld x0 rL0) (View.ld x0 rA0) (View.ld x0 rL1) (View.ld x0 rA1)) (View.ld x1 rL0) (View.ld x1 rA0) (View.ld x1 rL1) (View.ld x1 rA1)

/-- The result's staging buffer after the body: its one store covers it. -/
def mixBuf (x0 : Vec F S1x2x2048x128 .f32) (x1 : Vec F S1x2x2048x128 .f32) : Vec F S1x2048x64 .f32 :=
  View.canon [⟨rO, mixV x0 x1⟩]

theorem mix_covers (p : Vec F S1x2048x64 .f32) (y : S1x2048x64.Idx) : ∃ pc ∈ ([⟨rO, p⟩] : List (View.Piece (Elt F) S1x2048x64 .f32)), y ∈ pc.1.set :=
  View.cover_of_tiled [⟨rO, p⟩] S1x2048x64.size (by rfl) y

set_option maxHeartbeats 1000000 in
/-- The body over whole staging buffers. -/
theorem mix_spec (c : Dev nD) (E : Set ℕ) (i : grid2.Coords) (arg1 : Memref sig .tc .vmem S1x2x2048x128 .f32) (harg1 : arg1.IsWhole) (arg2 : Memref sig .tc .vmem S1x2x2048x128 .f32) (harg2 : arg2.IsWhole) (arg3 : Memref sig .tc .vmem S1x2048x64 .f32) (harg3 : arg3.IsWhole)
    (x0 : Vec F S1x2x2048x128 .f32) (x1 : Vec F S1x2x2048x128 .f32) (Φ : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (mixBuf x0 x1)) -∗ Φ ⟨⟩))
      ⊢ wp frame (wpE (defs₀ (F := F)) 𝒱₀ c none) E (cc2__k5_body i arg1 harg1 arg2 harg2 arg3 harg3) Φ := by
  simp only [cc2__k5_body_eq_skeleton]; unfold cc2__k5_body_skel
  simp only [k2_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (mix_covers _)

/-! ## The loop's proof data, at any contents of the arrays it finds -/

variable (B : (c : Dev nD) → (b : Ref sig .tc) → Buf (Elt F) ((c : Thread nD τ).loc b))

/-- Window `w`'s block at point `t` of the array as found. -/
def blkV (c : Dev nD) (w : Fin cfg2.W) (t : Fin cfg2.N) : ((cfg2.win w).xblock (cfg2.grid.coords t)).Idx → Elt F (cfg2.win w).elt :=
  ((cfg2.win w).blk t).view.read (Elt F) (B c (Pipeline.arrRef spec2 w))

/-- The pairs a wait of the earlier calls may have recorded. -/
abbrev recB (c : Dev nD) : Set (SemLoc sig × HIx 2) := {p | (K (F := F)).lev (SparseCore.T c, p.1) p.2 ≤ 8 * SparseCore.Cfg.Blocks.fst (Q := 2) (N := 2) 2}

def pipeDats (_ : Fin 1) (c : Dev nD) : Dat τ (Elt F) (HIx 2) ℕ UU ℕ cfg2 c where
  A w := B c (Pipeline.arrRef spec2 w)
  after w t := match w with
    | ⟨0, _⟩ => blkV B c 0 t
    | ⟨1, _⟩ => blkV B c 1 t
    | ⟨2, _⟩ => mixBuf (blkV B c 0 t) (blkV B c 1 t)
  Φ _ := iprop(emp)
  q _ := fullShare
  owed _ := 0
  recorded _ := recB (F := F) c

theorem pd_A (c : Dev nD) (w : Fin cfg2.W) : (pipeDats B 0 c).A w = B c (Pipeline.arrRef spec2 w) := by dsimp only [pipeDats]
theorem pd_after0 (c : Dev nD) (t : Fin cfg2.N) : (pipeDats B 0 c).after 0 t = blkV B c 0 t := by dsimp only [pipeDats]
theorem pd_after1 (c : Dev nD) (t : Fin cfg2.N) : (pipeDats B 0 c).after 1 t = blkV B c 1 t := by dsimp only [pipeDats]
theorem pd_after2 (c : Dev nD) (t : Fin cfg2.N) : (pipeDats B 0 c).after 2 t = mixBuf (blkV B c 0 t) (blkV B c 1 t) := by dsimp only [pipeDats]

/-- Each input's staging buffer holds its block when the body runs. -/
theorem pd_before0 (c : Dev nD) (t : Fin cfg2.N) (d) : (pipeDats B 0 c).before 0 t d = blkV B c 0 t :=
  ((pipeDats B 0 c).before_in_eq_fetched 0 rfl (fun _ => rfl) (fun _ _ _ => rfl)
    (fun t => by rw [pd_after0]; unfold Dat.blockOf blkV; rw [pd_A]) t d).trans (by unfold Dat.fetched Dat.blockOf blkV; rw [pd_A]; rfl)
theorem pd_before1 (c : Dev nD) (t : Fin cfg2.N) (d) : (pipeDats B 0 c).before 1 t d = blkV B c 1 t :=
  ((pipeDats B 0 c).before_in_eq_fetched 1 rfl (fun _ => rfl) (fun _ _ _ => rfl)
    (fun t => by rw [pd_after1]; unfold Dat.blockOf blkV; rw [pd_A]) t d).trans (by unfold Dat.fetched Dat.blockOf blkV; rw [pd_A]; rfl)

/-- What the body starts from at a point, and what it leaves. -/
def mixPre (c : Dev nD) (t : Fin cfg2.N) : sProp 𝕄 :=
  iprop((pipeDats B 0 c).Φ t.castSucc ∗ (pipeDats B 0 c).owesAt none t.castSucc
    ∗ (∃ d, owns (c : Thread nD τ) (st2_0 t) fullShare ((pipeDats B 0 c).before 0 t d))
    ∗ (∃ d, owns (c : Thread nD τ) (st2_1 t) fullShare ((pipeDats B 0 c).before 1 t d))
    ∗ (∃ d, owns (c : Thread nD τ) (st2_2 t) fullShare ((pipeDats B 0 c).before 2 t d)))
def mixPost (c : Dev nD) (t : Fin cfg2.N) : sProp 𝕄 :=
  iprop((pipeDats B 0 c).Φ t.succ ∗ (pipeDats B 0 c).owesAt none t.succ
    ∗ owns (c : Thread nD τ) (st2_0 t) fullShare ((pipeDats B 0 c).after 0 t)
    ∗ owns (c : Thread nD τ) (st2_1 t) fullShare ((pipeDats B 0 c).after 1 t)
    ∗ owns (c : Thread nD τ) (st2_2 t) fullShare ((pipeDats B 0 c).after 2 t))

theorem mix_at (c : Dev nD) (t : Fin cfg2.N) :
    mixPre B c t ⊢ wp frame (wpE (defs₀ (F := F)) 𝒱₀ c none) Set.univ (bodyAt2 t) (fun _ => mixPost B c t) := by
  unfold mixPre mixPost bodyAt2
  simp only [pd_before0, pd_before1]
  rw [show (pipeDats B 0 c).Φ t.succ = (pipeDats B 0 c).Φ t.castSucc from rfl,
    show (pipeDats B 0 c).owesAt none t.succ = (pipeDats B 0 c).owesAt none t.castSucc from rfl,
    pd_after0, pd_after1, pd_after2]
  iintro ⟨HΦ, Ho, ⟨%d0, H0⟩, ⟨%d1, H1⟩, ⟨%d2, H2⟩⟩
  iapply (mix_spec c Set.univ (grid2.coords t) _ _ _ _ _ _ (blkV B c 0 t) (blkV B c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_mix (t : Fin cfg2.N) : defs₀ (F := F) .tc cfg2.body (cfg2.bodyArgs t (cfg2.slots t)) = bodyAt2 t := rfl

theorem mix_obligation (c : Dev nD) : BodyObligation (pipeDats (F := F) B 0 c) (defs₀ (F := F)) 𝒱₀ none Set.univ := fun t => by
  rw [bigSep_W2, bigSep_W2, defs₀_mix]
  exact triple_restated (mix_at B c t) rfl .rfl fun _ => .rfl

/-! ## The region -/

abbrev adm : (p : Fin 1) → (pcfgs (F := F) p).Adm := fun p => (cfgs p).toPCfg_adm

/-- The result's array. -/
abbrev vLoc (d : Dev nD) : Loc nD τ sig := (SparseCore.T d).loc main_v5

/-- The three arrays of the region, each whole at contents `f`. -/
def mixHeld (c : Dev nD) (f0 : Buf (Elt F) (o0Loc c)) (f1 : Buf (Elt F) (o1Loc c)) (f2 : Buf (Elt F) (vLoc c)) : sProp 𝕄 :=
  iprop((o0Loc c ↦{fullShare} f0) ∗ (o1Loc c ↦{fullShare} f1) ∗ (vLoc c ↦{fullShare} f2))

/-- Nothing owed, the recorded waits bounded as the finished calls leave them. -/
def idleT (c : Dev nD) : sProp 𝕄 :=
  iprop(∃ W, ⌜(K (F := F)).WBelow (SparseCore.T c) W (8 * SparseCore.Cfg.Blocks.fst (Q := 2) (N := 2) 2)⌝ ∗ owes (SparseCore.T c) (0 : CellTallies nD τ sig (HIx 2)) W)

theorem mix_arrays (c : Dev nD) (f : (w : Fin 3) → Buf (Elt F) ((spec2 w).arr.view.loc (c.tc : Thread nD τ))) :
    (pipeDats B 0 c).arrays f = mixHeld c (f 0) (f 1) (f 2) := by
  have h := Pipeline.arrays_eq cfgs (fun p c => pipeDats B p c) 0 c launch2.arr_whole ((pipeDats B 0 c).share_full fun _ => rfl) f
  refine h.trans ?_
  rw [bigSep_W2]; rfl

set_option backward.isDefEq.respectTransparency.types false in
def mixRegion : Pipeline.RegionSeg (pcfgs (F := F)) adm (pipeDats B) none defs₀ 𝒱₀ (K (F := F)).L (K (F := F)).lev 0 where
  win := launch2.win.to₀
  block_pos := launch2.block_pos
  stage_whole := launch2.stage_whole
  K := PEmpty
  osem := fun k => k.elim
  ho := Pipeline.OwnSemFacts.none _
  hbody c := (mix_obligation B c).loose
  hwaits := Pipeline.hwaits_of_owed_zero _ _ _ _ (K (F := F)).L (K (F := F)).lev 0 fun _ _ => rfl
  pre c := iprop(mixHeld c (B c main_v2) (B c main_v4) (B c main_v5) ∗ idleT c)
  post c := iprop(mixHeld c (B c main_v2) (B c main_v4) ((pipeDats B 0 c).arrAt 2 cfg2.N) ∗ idleT c)
  X _ := iprop(emp)
  Y _ := iprop(emp)
  Z _ := iprop(emp)
  hentry c := by
    rw [show (pipeDats B 0 c).arrays ((pipeDats B 0 c).arrAt · 0) = mixHeld c (B c main_v2) (B c main_v4) (B c main_v5) from mix_arrays B c _]
    unfold idleT Pipeline.Dat.owesAt Pipeline.owesWithin
    iintro ⟨⟨Ha, %W, %hW, HO⟩, -, -⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun p hp => Or.inl (hW p hp)
      iexact HO
    isplitr; · iempintro
    iempintro
  hin c := by
    rw [show (pipeDats B 0 c).Φ 0 = iprop(emp) from rfl]
    iintro ⟨-, -, Hr⟩
    ihave H := (Entails.of_eq (scopedRest2_eq c)) $$ Hr
    iexact H
  hout c := by
    rw [show (pipeDats B 0 c).Φ (Fin.last cfg2.N) = iprop(emp) from rfl, Pipeline.ownSems0_none]
    iintro -
    isplitr; · iempintro
    isplitr; · iempintro
    iapply (Entails.of_eq (scopedRest2_eq c).symm)
    iempintro
  hexit c := by
    rw [show (pipeDats B 0 c).arrays ((pipeDats B 0 c).arrAt · cfg2.N) = mixHeld c (B c main_v2) (B c main_v4) ((pipeDats B 0 c).arrAt 2 cfg2.N) from by
      rw [mix_arrays, (pipeDats B 0 c).arrAt_in 0 rfl, (pipeDats B 0 c).arrAt_in 1 rfl, pd_A, pd_A]]
    unfold idleT Pipeline.Dat.owesAt Pipeline.owesWithin
    iintro ⟨Ha, ⟨%W, %hW, HO⟩, -, -⟩
    imodintro
    isplitl [Ha]; · iexact Ha
    iexists W; isplitr
    · ipureintro
      intro p hp
      rcases hW hp with h | ⟨w, s, h⟩
      · exact h
      · rw [h]; exact Nat.zero_le _
    iexact HO

end Cert.Proof.Trip

end
-- ==== Proof.Run.lean ====
/-
  @main on the TensorCore, and the run of the whole program: what every array ends at.
-/
module

public import proofs.«01_k».proof.Proof.Region
public import proofs.«01_k».proof.Defs
public import proofs.«01_k».proof.Proof.Gen.Kernel
public import proofs.«01_k».proof.Proof.Gen.Pre_rank_in_range
public import Idealize.ShloMosaic.Lib.ReduceAll

@[expose] public section

set_option maxRecDepth 16384

noncomputable section

namespace Cert.Proof.Trip

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (wp_hlo_within)
open Idealize.ShloMosaic.Pipeline (Dat Cfg Window BodyObligation cellOf)

variable {F : FTy → Type} [FloatOps F]

local notation "𝕄" => MT nD τ sig (HIx 2) (Elt F) ℕ UU ℕ

variable (m : (ℓ : Loc nD τ sig) → Buf (Elt F) ℓ) (ρ : Dev nD → PrngReg)

/-! ## The host's reshapes -/

/-- The launch valuation of device `d`. -/
def launchV (d : Dev nD) : Valuation τ sig (Elt F) := fun b => m (d, b)

/-- A reshape of an array at its launch contents into one still at its own. -/
theorem wp_reshape (d : Dev nD) (x y : Ref sig .tc) (he : x.ty.elt = y.ty.elt) (hn : x.ty.shape.ShapeCasts y.ty.shape)
    (hx : x.space ≠ .host ∧ (x : DevRef τ sig).isScoped = false) (hy : y.space ≠ .host ∧ (y : DevRef τ sig).isScoped = false) (hxy : y ≠ x)
    (g : Buf (Elt F) ((SparseCore.T d : Thread nD τ).loc y)) (hg : (fun i => he ▸ shapeCast y.ty.shape (m ((SparseCore.T d : Thread nD τ).loc x)) hn i) = g) (Φ : PUnit → sProp 𝕄) :
    iprop((boundary (SparseCore.T d) ∗ ((SparseCore.T d).loc x ↦{fullShare} m ((SparseCore.T d).loc x)) ∗ ((SparseCore.T d).loc y ↦{fullShare} m ((SparseCore.T d).loc y)))
        ∗ ((boundary (SparseCore.T d) ∗ ((SparseCore.T d).loc x ↦{fullShare} m ((SparseCore.T d).loc x)) ∗ ((SparseCore.T d).loc y ↦{fullShare} g)) -∗ Φ ⟨⟩))
      ⊢ wp frame (wpE ((K (F := F)).defs (D (F := F))) 𝒱 (SparseCore.T d) none) Set.univ
          (hlo rfl (StableHlo.reshape x y he hn hx hy) (fun _ => .ret ⟨⟩)) Φ := by
  have hne : (Proc.devRef .tc x : DevRef τ sig) ∉ ({Proc.devRef .tc y} : Finset (DevRef τ sig)) := by
    rw [Finset.mem_singleton]; exact StableHlo.devRef_ne_of_ne hxy.symm
  have hh (W : Valuation τ sig (Elt F)) : (StableHlo.held (SparseCore.T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := by
    unfold StableHlo.held
    rw [SparseCore.bigSep_insert' hne, bigSep_singleton]
  have hw := wp_hlo_within (defs := (K (F := F)).defs (D (F := F))) (Ix := HIx 2) (Name := ℕ) (U := UU) (Lvl := ℕ) 𝒱 (SparseCore.T d) none Set.univ (hp := rfl)
    (op := StableHlo.reshape (τ := τ) (Val := Elt F) x y he hn hx hy) (k := fun _ => .ret ⟨⟩)
    (S := {Proc.devRef .tc x, Proc.devRef .tc y}) (Finset.Subset.refl _) (V := launchV m d) (Q := Φ)
  rw [hh, hh, StableHlo.reshape_result_ne x y he hn hx hy _ hxy.symm,
    show (StableHlo.reshape (τ := τ) (Val := Elt F) x y he hn hx hy).result (launchV m d) (Proc.devRef .tc y) = g from
      (StableHlo.reshape_result x y he hn hx hy _).trans hg] at hw
  iintro ⟨⟨Hb, Hx, Hy⟩, Hk⟩
  iapply hw $$ [Hb Hx Hy]
  · isplitl [Hb]; · iexact Hb
    isplitl [Hx]; · iexact Hx
    iexact Hy
  iintro ⟨Hb, Hx, Hy⟩
  rw [wp_ret]; imodintro
  iapply Hk
  isplitl [Hb]; · iexact Hb
  isplitl [Hx]; · iexact Hx
  iexact Hy

/-! ## The TensorCore's call -/

/-- The arrays as the region finds them: both gathers done, the rest as launched. -/
def mixB (d : Dev nD) : (b : Ref sig .tc) → Buf (Elt F) ((d : Thread nD τ).loc b) :=
  Function.update (Function.update (fun b => m ((SparseCore.T d).loc b)) main_v2 (g0V m d)) main_v4 (g1V m d)

theorem mixB_v2 (d : Dev nD) : mixB m d main_v2 = g0V m d :=
  (Function.update_of_ne (show main_v2 ≠ main_v4 by decide) _ _).trans (Function.update_self _ _ _)
theorem mixB_v4 (d : Dev nD) : mixB m d main_v4 = g1V m d := Function.update_self _ _ _
theorem mixB_v5 (d : Dev nD) : mixB m d main_v5 = m (vLoc d) :=
  (Function.update_of_ne (show main_v5 ≠ main_v4 by decide) _ _).trans (Function.update_of_ne (show main_v5 ≠ main_v2 by decide) _ _)

/-- The program's result. -/
def resV (d : Dev nD) : Buf (Elt F) (vLoc d) := (pipeDats (mixB m) 0 d).arrAt 2 cfg2.N

abbrev EP : Emb UP (MT nD τ sig (HIx 2) (Elt F) ℕ UU ℕ) := (Emb.inl : Emb UP (UP × Counters)).trans embR

/-- The loop's staging cells and transfers, as launched. -/
def G (d : Dev nD) : sProp 𝕄 :=
  iprop(Pipeline.cellsGhost (Pipeline.pin (pcfgs (F := F)) adm) EP 0 d ∗ Pipeline.toksInit (Pipeline.pin (pcfgs (F := F)) adm) EP 0 d)

set_option backward.isDefEq.respectTransparency.types false in
theorem mix_call [∀ e, Nonempty (Elt F e)] (d : Dev nD) (Φ : PUnit → sProp 𝕄) :
    iprop((boundary (SparseCore.T d) ∗ mixHeld d (g0V m d) (g1V m d) (m (vLoc d)) ∗ idleT (F := F) d)
        ∗ levAts (K (F := F)).L (K (F := F)).lev ∗ G (F := F) d
        ∗ ((boundary (SparseCore.T d) ∗ mixHeld d (g0V m d) (g1V m d) (resV m d) ∗ idleT (F := F) d) -∗ Φ ⟨⟩))
      ⊢ wp frame (wpE ((K (F := F)).defs (D (F := F))) 𝒱 (SparseCore.T d) none) Set.univ
          (Prog.lift (.customCall (SparseCore.inner (Pipeline.entry 0)) ())) Φ := by
  have hw := (K (F := F)).wp_liftProg (D (F := F)) 𝒱 (SparseCore.T d) Set.univ none (Prog.lift (.customCall (Pipeline.entry 0) ())) Φ
  refine (show _ ⊢ _ from ?_).trans hw
  have hr := (mixRegion (mixB m)).wp (pcfgs (F := F)) adm (pipeDats (mixB m)) none cellOf_inj EP defs₀ 𝒱₀ (K (F := F)).L (K (F := F)).lev d none
    (fun u hu => nomatch hu) (fun _ => .ret ⟨⟩) Φ
  refine (show _ ⊢ _ from ?_).trans hr
  rw [wp_ret, show (mixRegion (mixB m)).pre d = iprop(mixHeld d (mixB m d main_v2) (mixB m d main_v4) (mixB m d main_v5) ∗ idleT (F := F) d) from rfl,
    show (mixRegion (mixB m)).post d = iprop(mixHeld d (mixB m d main_v2) (mixB m d main_v4) (resV m d) ∗ idleT (F := F) d) from rfl,
    mixB_v2, mixB_v4, mixB_v5]
  unfold G
  iintro ⟨⟨Hb, Ha, Hi⟩, Hl, ⟨Hg, Ht⟩, Hk⟩
  isplitl [Hk]
  · iintro ⟨Hb, Ha, Hi⟩
    imodintro
    iapply Hk
    isplitl [Hb]; · iexact Hb
    isplitl [Ha] <;> iassumption
  isplitl [Hb]; · iexact Hb
  isplitl [Ha Hi]
  · isplitl [Ha] <;> iassumption
  isplitl [Hl]; · iexact Hl
  isplitl [Hg] <;> iassumption

/-! ## The launch -/

/-- The launch element: the calls' handshakes, the loop's staging cells, no counter. -/
def u₀ : UU := (initOf (K (F := F)).hsCells (K (F := F)).hsToks,
  (initOf (Pipeline.cells cfgs cellOf_inj) (Pipeline.launchToks cfgs cellOf_inj), 1))

theorem emps {I : Type} (s : Finset I) : (bigSep s fun _ => iprop(emp)) = (iprop(emp) : sProp 𝕄) := bigSep_emp_const s

theorem G_deal : iprop((bigSep Finset.univ fun c : Dev nD => bigSep Finset.univ fun p : Fin 1 => Pipeline.cellsGhost (Pipeline.pin (pcfgs (F := F)) adm) EP p c)
      ∗ (bigSep Finset.univ fun c : Dev nD => bigSep Finset.univ fun p : Fin 1 => (Pipeline.toksInit (Pipeline.pin (pcfgs (F := F)) adm) EP p c : sProp 𝕄)))
    = (bigSep Finset.univ fun d : Dev nD => G (F := F) d) := by
  unfold G
  rw [bigSep_sep']
  congr 1 <;> exact bigSep_congr fun _ _ => bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HR⟩
  ihave H := (own_pair_emb embR (initOf (Pipeline.cells cfgs cellOf_inj) (Pipeline.launchToks cfgs cellOf_inj) : UP) (1 : Counters)) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · iapply (Entails.of_eq (G_deal (F := F)))
    isplitl [Hg] <;> iassumption
  rw [show (bigSep Finset.univ fun thr : Thread nD τ => bigSep Finset.univ fun q : Fin 2 => (P (F := F) m).x q thr) = bigSep Finset.univ fun _ => iprop(emp) from
    bigSep_congr fun _ _ => emps _, emps]
  iempintro

/-! ## @main on the TensorCore -/

theorem unscoped_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ (kLoc d ↦{fullShare} W main_arg2)
      ∗ (rLoc d ↦{fullShare} W main_v0) ∗ (t0Loc d ↦{fullShare} W main_v1) ∗ (o0Loc d ↦{fullShare} W main_v2) ∗ (t1Loc d ↦{fullShare} W main_v3)
      ∗ (o1Loc d ↦{fullShare} W main_v4) ∗ vLoc d ↦{fullShare} W main_v5) := by
  unfold unscopedBufs
  rw [show (Finset.univ.filter fun b : Ref sig .tc => ¬ b.isScoped) = {main_arg0, main_arg1, main_arg2, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

theorem st0 (d : Dev nD) : iprop((t0Loc d ↦{fullShare} (tb0V m d : Buf (Elt F) (t0Loc d))) ∗ (rLoc d ↦{fullShare} (rkV m d : Buf (Elt F) (rLoc d))) ∗ o0Loc d ↦{fullShare} m (o0Loc d))
    ⊢ (bigSep Finset.univ fun c : Fin ((K (F := F)).nCore 0) => (P m).st 0 d c : sProp 𝕄) := Entails.of_eq (tasks0 m d (m (o0Loc d)))
theorem dn0 (d : Dev nD) : (bigSep Finset.univ fun c : Fin ((K (F := F)).nCore 0) => (P m).dn 0 d c : sProp 𝕄)
    ⊢ iprop((t0Loc d ↦{fullShare} (tb0V m d : Buf (Elt F) (t0Loc d))) ∗ (rLoc d ↦{fullShare} (rkV m d : Buf (Elt F) (rLoc d))) ∗ o0Loc d ↦{fullShare} (g0V m d : Buf (Elt F) (o0Loc d))) :=
  Entails.of_eq (tasks0 m d (g0V m d)).symm
theorem st1 (d : Dev nD) : iprop((t1Loc d ↦{fullShare} (tb1V m d : Buf (Elt F) (t1Loc d))) ∗ (rLoc d ↦{fullShare} (rkV m d : Buf (Elt F) (rLoc d))) ∗ o1Loc d ↦{fullShare} m (o1Loc d))
    ⊢ (bigSep Finset.univ fun c : Fin ((K (F := F)).nCore 1) => (P m).st 1 d c : sProp 𝕄) := Entails.of_eq (tasks1 m d (m (o1Loc d)))
theorem dn1 (d : Dev nD) : (bigSep Finset.univ fun c : Fin ((K (F := F)).nCore 1) => (P m).dn 1 d c : sProp 𝕄)
    ⊢ iprop((t1Loc d ↦{fullShare} (tb1V m d : Buf (Elt F) (t1Loc d))) ∗ (rLoc d ↦{fullShare} (rkV m d : Buf (Elt F) (rLoc d))) ∗ o1Loc d ↦{fullShare} (g1V m d : Buf (Elt F) (o1Loc d))) :=
  Entails.of_eq (tasks1 m d (g1V m d)).symm

/-- What @main leaves the claims: the arguments as launched, the result. -/
def FIN (d : Dev nD) : sProp 𝕄 :=
  iprop((aLoc d ↦{fullShare} m (aLoc d)) ∗ (bLoc d ↦{fullShare} m (bLoc d)) ∗ (kLoc d ↦{fullShare} m (kLoc d)) ∗ vLoc d ↦{fullShare} resV m d)

/-- A finished TensorCore thread's state is the idle one and the rest, and back. -/
theorem tcSt_end (d : Dev nD) : ∃ Z : sProp 𝕄, (K (F := F)).tcSt EH d 2 = iprop(idleT (F := F) d ∗ Z) := by
  unfold SparseCore.Cfg.tcSt idleT
  rw [(K (F := F)).Otc_end d (le_refl 2)]
  exact ⟨_, rfl⟩

set_option maxHeartbeats 1000000 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  obtain ⟨Z, hZ⟩ := tcSt_end (F := F) d
  have hZ' : (K (F := F)).tcSt EH d ((1 : Fin 2).val + 1) = iprop(idleT (F := F) d ∗ Z) := hZ
  unfold SparseCore.Cfg.tcRes SparseCore.Cfg.tcEnd FIN
  rw [unscoped_eq]
  simp only [main, wp_bind, wp_pure]
  iintro ⟨#Hctx, Hst, ⟨Hb, ⟨Ha, Hbb, Hk, Hr, Ht0, Ho0, Ht1, Ho1, Hv⟩, Hts, -⟩, HG⟩
  iapply (wp_reshape m d main_arg2 main_v0 rfl shapeCasts_S32x4x2048x1_S262144 _ _ (by decide) (rkV m d) rfl _)
  isplitl [Hb Hk Hr]
  · isplitl [Hb]; · iexact Hb
    isplitl [Hk] <;> iassumption
  iintro ⟨Hb, Hk, Hr⟩
  iapply (wp_reshape m d main_arg0 main_v1 rfl shapeCasts_S32x2x2048x128_S131072x128 _ _ (by decide) (tb0V m d) rfl _)
  isplitl [Hb Ha Ht0]
  · isplitl [Hb]; · iexact Hb
    isplitl [Ha] <;> iassumption
  iintro ⟨Hb, Ha, Ht0⟩
  iapply ((K (F := F)).wp_run (D (F := F)) 𝒱 (EH := EH) (P := P m) κ d 0)
  isplitr; · iexact Hctx
  isplitl [Hst]; · iexact Hst
  isplitl [Hr Ht0 Ho0]
  · iapply (st0 m d)
    isplitl [Ht0]; · iexact Ht0
    isplitl [Hr] <;> iassumption
  iintro ⟨Hst, Hdn⟩
  ihave Hdn' := (dn0 m d) $$ Hdn
  icases Hdn' with ⟨-, Hr, Ho0⟩
  iapply (wp_reshape m d main_arg1 main_v3 rfl shapeCasts_S32x2x2048x128_S131072x128 _ _ (by decide) (tb1V m d) rfl _)
  isplitl [Hb Hbb Ht1]
  · isplitl [Hb]; · iexact Hb
    isplitl [Hbb] <;> iassumption
  iintro ⟨Hb, Hbb, Ht1⟩
  iapply ((K (F := F)).wp_run (D (F := F)) 𝒱 (EH := EH) (P := P m) κ d 1)
  isplitr; · iexact Hctx
  isplitl [Hst]; · iexact Hst
  isplitl [Hr Ht1 Ho1]
  · iapply (st1 m d)
    isplitl [Ht1]; · iexact Ht1
    isplitl [Hr] <;> iassumption
  iintro ⟨Hst, Hdn⟩
  ihave Hdn' := (dn1 m d) $$ Hdn
  icases Hdn' with ⟨-, -, Ho1⟩
  ihave Hst' := (Entails.of_eq hZ') $$ Hst
  icases Hst' with ⟨Hi, HZ⟩
  iapply (mix_call m d _)
  isplitl [Hb Ho0 Ho1 Hv Hi]
  · isplitl [Hb]; · iexact Hb
    isplitl [Ho0 Ho1 Hv]
    · unfold mixHeld
      isplitl [Ho0]; · iexact Ho0
      isplitl [Ho1] <;> iassumption
    iexact Hi
  isplitr
  · iapply ((K (F := F)).ctx_levAts κ); iexact Hctx
  isplitl [HG]; · iexact HG
  iintro ⟨Hb, Hm, Hi⟩
  unfold mixHeld
  icases Hm with ⟨-, -, Hv⟩
  imodintro
  isplitl [Hi HZ]
  · iapply (Entails.of_eq hZ.symm)
    isplitl [Hi] <;> iassumption
  isplitl [Ha Hbb Hk Hv]
  · isplitl [Ha]; · iexact Ha
    isplitl [Hbb]; · iexact Hbb
    isplitl [Hk] <;> iassumption
  isplitl [Hb] <;> iassumption

/-! ## The program's run -/

def fq (d : Dev nD) (s' : Phys nD τ sig (Elt F)) : Prop :=
  s'.mem.mem (aLoc d) = m (aLoc d) ∧ s'.mem.mem (bLoc d) = m (bLoc d) ∧ s'.mem.mem (kLoc d) = m (kLoc d) ∧ s'.mem.mem (vLoc d) = resV m d

theorem hfin (d : Dev nD) (s' : Phys nD τ sig (Elt F)) : iprop(FIN m d ∗ SI s') ⊢ (⌜fq m d s'⌝ : sProp 𝕄) := by
  unfold FIN
  iintro ⟨⟨Ha, Hb, Hk, Hv⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (persistent_entails_right (SI_pointsTo_agree (st := s') (ℓ := kLoc d) (I := Finset.univ) (q := fullShare) (f := m (kLoc d)))) $$ [HSI Hk]
  · isplitl [HSI] <;> iassumption
  icases H with ⟨%h3, HSI, -⟩
  ihave H := (SI_pointsTo_agree (st := s') (ℓ := vLoc d) (I := Finset.univ) (q := fullShare) (f := resV m d)) $$ [HSI Hv]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

def QC : PUnit × MemSt nD τ sig (Elt F) → Prop := fun r =>
  (∀ d : Dev nD, r.2.mem (aLoc d) = m (aLoc d) ∧ r.2.mem (bLoc d) = m (bLoc d) ∧ r.2.mem (kLoc d) = m (kLoc d) ∧ r.2.mem (vLoc d) = resV m d)
    ∧ r.2.sem = fun _ => 0

set_option backward.isDefEq.respectTransparency.types false in
/-- Every run ends, the arguments unchanged, the result at `resV`, every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m hpre | 1 => tileObl1 m hpre)
    (fun q _ => SparseCore.Cfg.VecSplit.of_plain (vecSplit m q))
    m ρ main (G (F := F)) (FIN m) (u₀ (F := F)) (sep_elim_left.trans (hu₀ m)) (hmain m ρ) (fq m) (hfin m) (QC m) (fun _ h hz => ⟨h, hz⟩)

/-! ## The precondition -/

/-- A word the comparisons pass, as the precondition takes them, is below 2048. -/
theorem word_lt (v : BitVec 32) (e : IntOp.andi (IntOp.cmpi .sge v 0#32) (IntOp.cmpi .slt v 2048#32) = 1#1) : v.toNat < 2048 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition, over any instance of the floats, gives what the proof asks of the launch memory. -/
theorem ok_of_pre (m : (ℓ : Loc nD τ sig) → Buf (Elt F) ℓ)
    (h : ∀ c : Dev nD, Cert.Pre_rank_in_range.fn (F := F) (m (aLoc c)) (m (bLoc c)) (m (kLoc c)) = fun _ => 1#1) : PreOK m := by
  intro d j
  have e := congrFun (h d) (fun k => k.elim0)
  dsimp only [Pre_rank_in_range.fn] at e
  haveI : Subsingleton Pre_rank_in_range.S_.Idx := ⟨fun x y => funext fun k => k.elim0⟩
  have e := Host.reduce_andi_all _ _ _ _ _ e j
  exact word_lt _ e

/-! ## The claims about the kernel alone -/

theorem frame_ideal : Cert.quiescent_KernelIdeal := fun m ρ hpre =>
  (θ_run Cert.KernelIdeal.defs _ _).mono (fun _ h => ⟨fun c => ⟨(h.1 c).1, (h.1 c).2.1, (h.1 c).2.2.1⟩, h.2⟩) (run_main (F := Ideal) m ρ (ok_of_pre m hpre))

/-- The two programs have one text, so their tables of bodies are the same, row by row. -/
theorem kernel_bodies {F : FTy → Type} [FloatOps F] : Cert.Kernel.defs₀ (F := F) = Cert.KernelIdeal.defs₀ (F := F) := by
  funext p ℓ a
  match p, ℓ, a with
  | .scVector c s, 0, _ => rfl
  | .scVector c s, 1, _ => rfl
  | .scVector c s, 2, _ => rfl
  | .tc, 0, _ => rfl
  | .tc, 1, _ => rfl
  | .tc, 2, _ => rfl
  | .scScalar _, _, _ => rfl

theorem kernel_defs {F : FTy → Type} [FloatOps F] : Cert.Kernel.defs (F := F) = Cert.KernelIdeal.defs (F := F) :=
  congrArg (fun D => Cert.KernelIdeal.sc.defs (Pipeline.defs Cert.KernelIdeal.pcfgs D)) kernel_bodies

theorem frame_kernel : Cert.quiescent_Kernel := fun m ρ hpre => by
  have h := (θ_run Cert.KernelIdeal.defs _ _).mono (fun _ h => (⟨fun c => ⟨(h.1 c).1, (h.1 c).2.1, (h.1 c).2.2.1⟩, h.2⟩ : (∀ c : Dev nD,
      _ ∧ _ ∧ _) ∧ _)) (run_main (F := Bits) m ρ (ok_of_pre m hpre))
  rw [← kernel_defs] at h
  exact h

end Cert.Proof.Trip

end
-- ==== Proof.Share.lean ====
/-
  The softmax over positions as a function of one column of extended reals, and the kernel's payload read at an element.
-/
module

public import proofs.«01_k».proof.Proof.Gen.KernelIdeal.Skeleton
public import Idealize.ShloMosaic.Lib.Pointwise

@[expose] public section

set_option maxRecDepth 16384

noncomputable section

namespace Cert.Proof.Mix

open Cert.KernelIdeal Cert.KernelIdeal.Gen
open Idealize.ShloMosaic

/-- A column's greatest value. -/
def peak (x : Fin 2048 → EReal) : EReal := (Finset.univ : Finset (Fin 2048)).fold max (FloatOps.ofBits (F := Ideal) .f32 0xFF800000#32) x

/-- Position `l`'s weight in the softmax of a column. -/
def share (x : Fin 2048 → EReal) (l : Fin 2048) : EReal :=
  Ideal.div (Ideal.exp (x l - peak x)) (∑ j, Ideal.exp (x j - peak x))

theorem pay_apply (L0 L1 L2 L3 : Vec Ideal S1x1x2048x1 .f32) (A0 A1 A2 A3 : Vec Ideal S1x1x2048x64 .f32) (z : Fin 1) (l : Fin 2048) (k : Fin 64) :
    k2_pay1 (k2_pay2 L0 A0 L1 A1) L2 A2 L3 A3 (ix3 z l k)
      = share (fun j => L0 (ix4 0 0 j 0)) l * A0 (ix4 0 0 l k) + share (fun j => L1 (ix4 0 0 j 0)) l * A1 (ix4 0 0 l k)
        + share (fun j => L2 (ix4 0 0 j 0)) l * A2 (ix4 0 0 l k) + share (fun j => L3 (ix4 0 0 j 0)) l * A3 (ix4 0 0 l k) := by
  pointwise [k2_pay1, k2_pay2, share, peak]

end Cert.Proof.Mix

end
-- ==== Proof.Blocks.lean ====
/-
  The weighted sum's result read at an element: the block of a batch, and in it the rows that the ranks name.
-/
module

public import proofs.«01_k».proof.Proof.Run
public import proofs.«01_k».proof.Proof.Share
public import Idealize.ShloMosaic.Lib.Pipeline.ValueKit
public import Idealize.ShloMosaic.Lib.Pipeline.Value
public import Idealize.ShloMosaic.Lib.Pointwise

@[expose] public section

set_option maxRecDepth 16384

noncomputable section

namespace Cert.Proof.Mix

open Cert.KernelIdeal Cert.KernelIdeal.Gen Cert.Proof.Trip
open Idealize.ShloMosaic Idealize.ShloMosaic.TcCoe
open Idealize.ShloMosaic.Pipeline (Dat Window)

section Blocks
variable {F : FTy → Type} [FloatOps F]
variable (m : (ℓ : Loc nD τ sig) → Buf (Elt F) ℓ)

/-- The batch whose block grid point `b` works on is batch `b`. -/
theorem index0 : ∀ t : Fin cfg2.N, win2_0.index t = ![t.val, 0, 0, 0] := (by decide +kernel : ∀ t : Fin grid2.N, win2_0.index t = ![t.val, 0, 0, 0])
theorem index1 : ∀ t : Fin cfg2.N, win2_1.index t = ![t.val, 0, 0, 0] := (by decide +kernel : ∀ t : Fin grid2.N, win2_1.index t = ![t.val, 0, 0, 0])
theorem index2 : ∀ t : Fin cfg2.N, win2_2.index t = ![t.val, 0, 0] := (by decide +kernel : ∀ t : Fin grid2.N, win2_2.index t = ![t.val, 0, 0])

theorem apart2 : ∀ t t' : Fin cfg2.N, (cfg2.win 2).flush t = true → (cfg2.win 2).flush t' = true → t ≠ t' →
    Disjoint ((cfg2.win 2).blk t).view.set ((cfg2.win 2).blk t').view.set := by
  intro t t' _ _ hne
  refine (cfg2.win 2).disjoint_blk fun h => hne ?_
  have h' : win2_2.index t = win2_2.index t' := h
  rw [index2, index2] at h'
  exact Fin.ext (congrFun h' 0)

/-- Grid point `b`. -/
abbrev pt (b : Fin 32) : Fin cfg2.N := ⟨b.val, b.isLt⟩

theorem flush2 (t : Fin cfg2.N) : (cfg2.win 2).flush t = true := (by decide +kernel : ∀ t : Fin grid2.N, win2_2.flush t = true) t

theorem place2 (b : Fin 32) (l : Fin 2048) (k : Fin 64) :
    (((cfg2.win 2).blk (pt b)).view.emb (ix3 0 l k : S1x2048x64.Idx) : S32x2048x64.Idx) = ix3 b l k := by
  blk_ext [index2]
theorem place0 (b : Fin 32) (s : Fin 2) (l : Fin 2048) (k : Fin 128) :
    (((cfg2.win 0).blk (pt b)).view.emb (ix4 0 s l k : S1x2x2048x128.Idx) : S32x2x2048x128.Idx) = ix4 b s l k := by
  blk_ext [index0]
theorem place1 (b : Fin 32) (s : Fin 2) (l : Fin 2048) (k : Fin 128) :
    (((cfg2.win 1).blk (pt b)).view.emb (ix4 0 s l k : S1x2x2048x128.Idx) : S32x2x2048x128.Idx) = ix4 b s l k := by
  blk_ext [index1]

/-- Element by element, a block of gathered rows is the batch's. -/
theorem blk0_apply (d : Dev nD) (b : Fin 32) (s : Fin 2) (l : Fin 2048) (k : Fin 128) :
    blkV (mixB m) d 0 (pt b) (ix4 0 s l k : S1x2x2048x128.Idx) = g0V m d (ix4 b s l k) := by
  unfold blkV
  rw [View.read_apply]
  show mixB m d main_v2 (((cfg2.win 0).blk (pt b)).view.emb (ix4 0 s l k : S1x2x2048x128.Idx)) = _
  rw [mixB_v2]
  exact congrArg (g0V m d) (place0 b s l k)
theorem blk1_apply (d : Dev nD) (b : Fin 32) (s : Fin 2) (l : Fin 2048) (k : Fin 128) :
    blkV (mixB m) d 1 (pt b) (ix4 0 s l k : S1x2x2048x128.Idx) = g1V m d (ix4 b s l k) := by
  unfold blkV
  rw [View.read_apply]
  show mixB m d main_v4 (((cfg2.win 1).blk (pt b)).view.emb (ix4 0 s l k : S1x2x2048x128.Idx)) = _
  rw [mixB_v4]
  exact congrArg (g1V m d) (place1 b s l k)

/-- The result at an element of batch `b` is what grid point `b` left there. -/
theorem res_apply (d : Dev nD) (b : Fin 32) (l : Fin 2048) (k : Fin 64) :
    (resV m d : S32x2048x64.Idx → Elt F .f32) (ix3 b l k) = mixBuf (blkV (mixB m) d 0 (pt b)) (blkV (mixB m) d 1 (pt b)) (ix3 0 l k) := by
  have h := (pipeDats (mixB m) 0 d).arrAt_emb_eq_flushed 2 apart2 (pt b) (flush2 _) (ix3 0 l k : S1x2048x64.Idx)
  rw [place2] at h
  refine h.trans ?_
  show (pipeDats (mixB m) 0 d).after 2 (pt b) _ = _
  rw [pd_after2]
  rfl

theorem mixBuf_eq (x0 x1 : Vec F S1x2x2048x128 .f32) : mixBuf x0 x1 = mixV x0 x1 :=
  View.canon_unit_zero (funext fun a => by match a with | ⟨0, _⟩ => rfl | ⟨1, _⟩ => rfl | ⟨2, _⟩ => rfl) _ _

theorem ldL0 (x : Vec F S1x2x2048x128 .f32) (l : Fin 2048) (z : Fin 1) : View.ld x rL0 (ix4 0 0 l z) = x (ix4 0 0 l 64) := by
  refine congrArg x (funext fun a => Fin.ext ?_)
  match a with
  | ⟨0, _⟩ => rfl
  | ⟨1, _⟩ => rfl
  | ⟨2, _⟩ => exact show 0 + 1 * l.val = l.val by omega
  | ⟨3, _⟩ => exact show 64 + 1 * z.val = 64 by omega
theorem ldL1 (x : Vec F S1x2x2048x128 .f32) (l : Fin 2048) (z : Fin 1) : View.ld x rL1 (ix4 0 0 l z) = x (ix4 0 1 l 64) := by
  refine congrArg x (funext fun a => Fin.ext ?_)
  match a with
  | ⟨0, _⟩ => rfl
  | ⟨1, _⟩ => rfl
  | ⟨2, _⟩ => exact show 0 + 1 * l.val = l.val by omega
  | ⟨3, _⟩ => exact show 64 + 1 * z.val = 64 by omega
theorem ldA0 (x : Vec F S1x2x2048x128 .f32) (l : Fin 2048) (k : Fin 64) : View.ld x rA0 (ix4 0 0 l k) = x (ix4 0 0 l (Fin.castLE (by decide) k)) := by
  refine congrArg x (funext fun a => Fin.ext ?_)
  match a with
  | ⟨0, _⟩ => rfl
  | ⟨1, _⟩ => rfl
  | ⟨2, _⟩ => exact show 0 + 1 * l.val = l.val by omega
  | ⟨3, _⟩ => exact show 0 + 1 * k.val = k.val by omega
theorem ldA1 (x : Vec F S1x2x2048x128 .f32) (l : Fin 2048) (k : Fin 64) : View.ld x rA1 (ix4 0 0 l k) = x (ix4 0 1 l (Fin.castLE (by decide) k)) := by
  refine congrArg x (funext fun a => Fin.ext ?_)
  match a with
  | ⟨0, _⟩ => rfl
  | ⟨1, _⟩ => rfl
  | ⟨2, _⟩ => exact show 0 + 1 * l.val = l.val by omega
  | ⟨3, _⟩ => exact show 0 + 1 * k.val = k.val by omega

/-! ## The gathered rows at an element -/

theorem rk_at (d : Dev nD) (b : Fin 32) (s : Fin 4) (soff r : ℕ) (hs : s.val = soff + r) (l : Fin 2048) :
    rkV m d (rankPlace soff b.val r l.val) = (m (kLoc d) : S32x4x2048x1.Idx → BitVec 32) (ix4 b s l 0) := by
  unfold rkV
  refine shapeCast_apply (m (kLoc d) : S32x4x2048x1.Idx → BitVec 32) _ _ _ ?_
  show (S32x4x2048x1.rowMajor (ix4 b s l 0)).val = (S262144.rowMajor (rankPlace soff b.val r l.val)).val
  rw [Shape.rowMajor_val_four, Shape.rowMajor_val_one]
  show ((b.val * 4 + s.val) * 2048 + l.val) * 1 + 0 = ((4 * b.val + soff + r) * 2048 + l.val) % 262144
  omega

theorem tab_at (x : S32x2x2048x128.Idx → Elt F .f32) (b : Fin 32) (r : Fin 2) (n : Fin 2048) (k : Fin 128) :
    shapeCast S131072x128 x shapeCasts_S32x2x2048x128_S131072x128 (tabPlace (2048 * (2 * b.val + r.val) + n.val) k) = x (ix4 b r n k) := by
  refine shapeCast_apply _ _ _ _ ?_
  rw [Shape.rowMajor_val_four, Shape.rowMajor_val_two]
  show ((b.val * 2 + r.val) * 2048 + n.val) * 128 + k.val = (2048 * (2 * b.val + r.val) + n.val) % 131072 * 128 + k.val
  omega

variable (hpre : PreOK m)

theorem g0_apply (d : Dev nD) (b : Fin 32) (r : Fin 2) (s : Fin 4) (hs : s.val = r.val) (l : Fin 2048) (k : Fin 128) :
    g0V m d (ix4 b r l k) = (m (aLoc d) : S32x2x2048x128.Idx → Elt F .f32) (ix4 b r ⟨(m (kLoc d) (ix4 b s l 0 : S32x4x2048x1.Idx)).toNat, hpre d _⟩ k) := by
  show tb0V m d (tabPlace (2048 * (2 * b.val + r.val) + (rkV m d (rankPlace 0 b.val r.val l.val)).toNat) k) = _
  rw [rk_at m d b s 0 r.val (by omega) l]
  exact tab_at _ b r ⟨_, hpre d _⟩ k
theorem g1_apply (d : Dev nD) (b : Fin 32) (r : Fin 2) (s : Fin 4) (hs : s.val = 2 + r.val) (l : Fin 2048) (k : Fin 128) :
    g1V m d (ix4 b r l k) = (m (bLoc d) : S32x2x2048x128.Idx → Elt F .f32) (ix4 b r ⟨(m (kLoc d) (ix4 b s l 0 : S32x4x2048x1.Idx)).toNat, hpre d _⟩ k) := by
  show tb1V m d (tabPlace (2048 * (2 * b.val + r.val) + (rkV m d (rankPlace 2 b.val r.val l.val)).toNat) k) = _
  rw [rk_at m d b s 2 r.val (by omega) l]
  exact tab_at _ b r ⟨_, hpre d _⟩ k

end Blocks

end Cert.Proof.Mix

end
-- ==== Proof.Refer.lean ====
/-
  What the reference computes, element by element: rows and logsumexps taken back to their places by the ranks, the
  softmax over positions, and the weighted sum over the rounds.
-/
module

public import proofs.«01_k».proof.Proof.Share
public import proofs.«01_k».proof.Proof.Gen.ReferenceIdeal.Run

@[expose] public section

set_option maxRecDepth 16384

noncomputable section

namespace Cert.Proof.Mix

open Cert.ReferenceIdeal Cert.ReferenceIdeal.Gen
open Idealize.ShloMosaic

/-! ## The reference's stages -/

section Stages
variable (a0 a1 : FVec Ideal S32x2x2048x128 .f32) (rk : IVec S32x4x2048x1 32)

/-- Both halves of the rounds side by side. -/
def rowsR : FVec Ideal S32x4x2048x128 .f32 :=
  concatenate S32x4x2048x128 1 [⟨S32x2x2048x128, a0⟩, ⟨S32x2x2048x128, a1⟩] concatenates_S32x2x2048x128_S32x2x2048x128_S32x4x2048x128_d1

/-- The ranks as the index array of each gather. -/
def placeR : IVec S32x4x2048 32 := shapeCast _ rk shapeCasts_S32x4x2048x1_S32x4x2048
def placeA : IVec S32x4x2048x1 32 := broadcastInDim S32x4x2048x1 ![0, 1, 2] bcast_S32x4x2048_S32x4x2048x1_0_1_2 (placeR rk)

/-- A negative index counts from the end. -/
def wrapA (i : IVec S32x4x2048x1 32) : IVec S32x4x2048x1 32 :=
  select (cmpi .slt i (broadcastInDim S32x4x2048x1 ![] bcast_S_S32x4x2048x1 (constantI S_ 32 0#32)))
    (addi i (broadcastInDim S32x4x2048x1 ![] bcast_S_S32x4x2048x1 (constantI S_ 32 2048#32))) i
def wrapL (i : IVec S32x4x2048 32) : IVec S32x4x2048x1 32 :=
  shapeCast _ (select (cmpi .slt i (broadcastInDim S32x4x2048 ![] bcast_S_S32x4x2048 (constantI S_ 32 0#32)))
    (addi i (broadcastInDim S32x4x2048 ![] bcast_S_S32x4x2048 (constantI S_ 32 2048#32))) i) shapeCasts_S32x4x2048_S32x4x2048x1

/-- Which indices lie in range. -/
def fits (i : IVec S32x4x2048x1 32) : IVec S32x4x2048 1 :=
  Host.reduce IntOp.andi (andi (cmpi .sge i (broadcastInDim S32x4x2048x1 ![] bcast_S_S32x4x2048x1 (constantI S_ 32 0#32)))
    (cmpi .sle i (broadcastInDim S32x4x2048x1 ![0, 1, 2, 3] bcast_S1x1x1x1_S32x4x2048x1_0_1_2_3 (broadcastInDim S1x1x1x1 ![3] bcast_S1_S1x1x1x1_3 (constantI S1 32 2047#32)))))
    (constantI S_ 1 1#1) reducesTo_S32x4x2048x1_S32x4x2048_d3 h_S_

/-- The attention rows and the logsumexps, each back at its place. -/
def attR : FVec Ideal S32x4x2048x64 .f32 :=
  select (broadcastInDim S32x4x2048x64 ![0, 1, 2] bcast_S32x4x2048_S32x4x2048x64_0_1_2 (fits (wrapA (placeA rk))))
    (Host.gather gather_S32x4x2048x64_S32x4x2048x1_S32x4x2048x64_3_2_01_01_2_3_11164
      (extractStridedSlice S32x4x2048x64 ![0, 0, 0, 0] (rowsR a0 a1) slices_S32x4x2048x128_S32x4x2048x64_0_0_0_0) (wrapA (placeA rk)))
    (broadcastInDim S32x4x2048x64 ![] bcast_S_S32x4x2048x64 (constant S_ .f32 0x7FC00000#32))
def lseR : FVec Ideal S32x4x2048 .f32 :=
  select (fits (wrapL (placeR rk)))
    (Host.gather gather_S32x4x2048_S32x4x2048x1_S32x4x2048_n_2_01_01_2_3_111
      (shapeCast _ (extractStridedSlice S32x4x2048x1 ![0, 0, 0, 64] (rowsR a0 a1) slices_S32x4x2048x128_S32x4x2048x1_0_0_0_64) shapeCasts_S32x4x2048x1_S32x4x2048)
      (wrapL (placeR rk)))
    (broadcastInDim S32x4x2048 ![] bcast_S_S32x4x2048 (constant S_ .f32 0x7FC00000#32))

/-- The softmax over positions. -/
def expR (x : FVec Ideal S32x4x2048 .f32) : FVec Ideal S32x4x2048 .f32 :=
  Host.exp (subf x (broadcastInDim S32x4x2048 ![0, 1, 2] bcast_S32x4x1_S32x4x2048_0_1_2 (broadcastInDim S32x4x1 ![0, 1] bcast_S32x4_S32x4x1_0_1
    (maximumf (broadcastInDim S32x4 ![] bcast_S_S32x4 (constant S_ .f32 0xFF800000#32))
      (Host.reduce FloatOps.maximumf x (constant S_ .f32 0xFF800000#32) reducesTo_S32x4x2048_S32x4_d2 h_S_)))))
def softR (x : FVec Ideal S32x4x2048 .f32) : FVec Ideal S32x4x2048 .f32 :=
  Host.divf (expR x) (broadcastInDim S32x4x2048 ![0, 1, 2] bcast_S32x4x1_S32x4x2048_0_1_2 (broadcastInDim S32x4x1 ![0, 1] bcast_S32x4_S32x4x1_0_1
    (Host.reduceAdd (expR x) (constant S_ .f32 0x00000000#32) reducesTo_S32x4x2048_S32x4_d2 h_S_)))

def outR : FVec Ideal S32x2048x64 .f32 :=
  Host.dotGeneral dot_S32x4x2048x64_S32x4x2048_S32x2048x64_1_1_3_n_02_02 none (attR a0 a1 rk) (softR (lseR a0 a1 rk))

end Stages

theorem refer_eq (m : (ℓ : Loc nD τ sig) → Buf (Elt Ideal) ℓ) (c : Dev nD) :
    Cert.ReferenceIdeal.Value.res_main_v19 m c
      = outR (m ((c.tc : Thread nD τ).loc main_arg0)) (m ((c.tc : Thread nD τ).loc main_arg1)) (m ((c.tc : Thread nD τ).loc main_arg2)) := by
  unfold Cert.ReferenceIdeal.Value.res_main_v19
  rfl

/-! ## Each stage at an element -/

theorem softR_apply (x : FVec Ideal S32x4x2048 .f32) (b : Fin 32) (r : Fin 4) (l : Fin 2048) :
    softR x (ix3 b r l) = share (fun j => x (ix3 b r j)) l := by
  have hp : ∀ f : Fin 2048 → EReal, max (Ideal.ofBits FTy.f32 4286578688#32) (Finset.fold max (Ideal.ofBits FTy.f32 4286578688#32) f Finset.univ)
      = Finset.fold max (Ideal.ofBits FTy.f32 4286578688#32) f Finset.univ :=
    fun f => max_eq_right ((Finset.le_fold_max _).2 (Or.inl le_rfl))
  pointwise [softR, expR, share, peak]
  simp only [hp]

/-- Row `l` of round `r`'s sorted attention, of the half that holds it. -/
def rowAt (a0 a1 : FVec Ideal S32x2x2048x128 .f32) (b : Fin 32) (r : Fin 4) (l : Fin 2048) (k : Fin 128) : EReal :=
  if h : r.val < 2 then a0 (ix4 b ⟨r.val, h⟩ l k) else a1 (ix4 b ⟨r.val - 2, by omega⟩ l k)

theorem rowsR_apply (a0 a1 : FVec Ideal S32x2x2048x128 .f32) (b : Fin 32) (r : Fin 4) (l : Fin 2048) (k : Fin 128) :
    rowsR a0 a1 (ix4 b r l k) = rowAt a0 a1 b r l k := by
  pointwise [rowsR, rowAt]

/-- A rank is not negative and not past the end. -/
theorem not_neg (w : BitVec 32) (h : w.toNat < 2048) : IntOp.cmpi .slt w 0#32 = 0#1 := by
  have hw : (w.slt 0#32) = false := by
    simp only [BitVec.slt_eq_decide, BitVec.toInt_eq_toNat_cond, BitVec.toNat_ofNat, Nat.reducePow, Nat.reduceMod, decide_eq_false_iff_not]
    omega
  simp only [IntOp.cmpi, hw]; rfl
theorem in_row (w : BitVec 32) (h : w.toNat < 2048) : IntOp.andi (IntOp.cmpi .sge w 0#32) (IntOp.cmpi .sle w 2047#32) = 1#1 := by
  have h1 : ((0#32).sle w) = true := by
    simp only [BitVec.sle_eq_decide, BitVec.toInt_eq_toNat_cond, BitVec.toNat_ofNat, Nat.reducePow, Nat.reduceMod, decide_eq_true_eq]
    omega
  have h2 : (w.sle 2047#32) = true := by
    simp only [BitVec.sle_eq_decide, BitVec.toInt_eq_toNat_cond, BitVec.toNat_ofNat, Nat.reducePow, Nat.reduceMod, decide_eq_true_eq]
    omega
  simp only [IntOp.cmpi, h1, h2]; decide

section Ranks
variable (a0 a1 : FVec Ideal S32x2x2048x128 .f32) (rk : IVec S32x4x2048x1 32) (hk : ∀ j, (rk j).toNat < 2048)
include hk

theorem wrapA_apply (b : Fin 32) (r : Fin 4) (l : Fin 2048) (z : Fin 1) : wrapA (placeA rk) (ix4 b r l z) = rk (ix4 b r l 0) := by
  obtain rfl : z = 0 := Subsingleton.elim _ _
  pointwise [wrapA, placeA, placeR]
  rw [not_neg _ (hk _)]; rfl
theorem wrapL_apply (b : Fin 32) (r : Fin 4) (l : Fin 2048) (z : Fin 1) : wrapL (placeR rk) (ix4 b r l z) = rk (ix4 b r l 0) := by
  obtain rfl : z = 0 := Subsingleton.elim _ _
  pointwise [wrapL, placeR]
  rw [not_neg _ (hk _)]; rfl

omit hk in
theorem fits_apply (i : IVec S32x4x2048x1 32) (b : Fin 32) (r : Fin 4) (l : Fin 2048) (h : ∀ z, (i (ix4 b r l z)).toNat < 2048) :
    fits i (ix3 b r l) = 1#1 := by
  pointwise [fits]
  simp only [in_row _ (h _)]
  decide

/-- The position that a rank names. -/
def back (b : Fin 32) (r : Fin 4) (l : Fin 2048) : Fin 2048 := ⟨(rk (ix4 b r l 0)).toNat, hk _⟩

omit hk in
theorem gatherA_apply (x : FVec Ideal S32x4x2048x64 .f32) (i : IVec S32x4x2048x1 32) (b : Fin 32) (r : Fin 4) (l : Fin 2048) (k : Fin 64)
    (h : (i (ix4 b r l 0)).toNat < 2048) :
    Host.gather gather_S32x4x2048x64_S32x4x2048x1_S32x4x2048x64_3_2_01_01_2_3_11164 x i (ix4 b r l k)
      = x (ix4 b r ⟨(i (ix4 b r l 0)).toNat, h⟩ k) := by
  have hi : min (i (ix4 b r l 0)).toInt.toNat 2047 = (i (ix4 b r l 0)).toNat := by
    rw [BitVec.toInt_eq_toNat_of_lt (by omega)]; omega
  unfold Host.gather
  congr 1
  funext a
  refine Fin.ext ?_
  match a with
  | ⟨0, _⟩ => exact show 0 + b.val + 0 = b.val by omega
  | ⟨1, _⟩ => exact show 0 + r.val + 0 = r.val by omega
  | ⟨2, _⟩ =>
    refine Eq.trans ?_ hi
    show min _ _ + 0 + 0 = _
    simp only [Nat.add_zero]
    congr 4
    funext c
    match c with
    | ⟨0, _⟩ => rfl
    | ⟨1, _⟩ => rfl
    | ⟨2, _⟩ => rfl
    | ⟨3, _⟩ => rfl
  | ⟨3, _⟩ => exact show 0 + 0 + k.val = k.val by omega

omit hk in
theorem gatherL_apply (x : FVec Ideal S32x4x2048 .f32) (i : IVec S32x4x2048x1 32) (b : Fin 32) (r : Fin 4) (l : Fin 2048)
    (h : (i (ix4 b r l 0)).toNat < 2048) :
    Host.gather gather_S32x4x2048_S32x4x2048x1_S32x4x2048_n_2_01_01_2_3_111 x i (ix3 b r l)
      = x (ix3 b r ⟨(i (ix4 b r l 0)).toNat, h⟩) := by
  have hi : min (i (ix4 b r l 0)).toInt.toNat 2047 = (i (ix4 b r l 0)).toNat := by
    rw [BitVec.toInt_eq_toNat_of_lt (by omega)]; omega
  unfold Host.gather
  congr 1
  funext a
  refine Fin.ext ?_
  match a with
  | ⟨0, _⟩ => exact show 0 + b.val + 0 = b.val by omega
  | ⟨1, _⟩ => exact show 0 + r.val + 0 = r.val by omega
  | ⟨2, _⟩ =>
    refine Eq.trans ?_ hi
    show min _ _ + 0 + 0 = _
    simp only [Nat.add_zero]
    congr 4
    funext c
    match c with
    | ⟨0, _⟩ => rfl
    | ⟨1, _⟩ => rfl
    | ⟨2, _⟩ => rfl
    | ⟨3, _⟩ => rfl

theorem attR_apply (b : Fin 32) (r : Fin 4) (l : Fin 2048) (k : Fin 64) :
    attR a0 a1 rk (ix4 b r l k) = rowAt a0 a1 b r (back rk hk b r l) (Fin.castLE (by decide) k) := by
  have h (z) : (wrapA (placeA rk) (ix4 b r l z)).toNat < 2048 := by rw [wrapA_apply rk hk]; exact hk _
  pointwise [attR]
  rw [fits_apply _ _ _ _ h, gatherA_apply _ _ _ _ _ _ (h _)]
  have e : (⟨(wrapA (placeA rk) (ix4 b r l 0)).toNat, h 0⟩ : Fin 2048) = back rk hk b r l := by
    apply Fin.ext
    show (wrapA (placeA rk) (ix4 b r l 0)).toNat = (rk (ix4 b r l 0)).toNat
    rw [wrapA_apply rk hk]
  rw [e]
  pointwise
  exact rowsR_apply _ _ _ _ _ _

theorem lseR_apply (b : Fin 32) (r : Fin 4) (l : Fin 2048) :
    lseR a0 a1 rk (ix3 b r l) = rowAt a0 a1 b r (back rk hk b r l) 64 := by
  have h (z) : (wrapL (placeR rk) (ix4 b r l z)).toNat < 2048 := by rw [wrapL_apply rk hk]; exact hk _
  pointwise [lseR]
  rw [fits_apply _ _ _ _ h, gatherL_apply _ _ _ _ _ (h _)]
  have e : (⟨(wrapL (placeR rk) (ix4 b r l 0)).toNat, h 0⟩ : Fin 2048) = back rk hk b r l := by
    apply Fin.ext
    show (wrapL (placeR rk) (ix4 b r l 0)).toNat = (rk (ix4 b r l 0)).toNat
    rw [wrapL_apply rk hk]
  rw [e]
  pointwise
  exact rowsR_apply _ _ _ _ _ _

/-- The reference's result at an element: over the rounds, the row that the rank names, weighted by its share. -/
theorem outR_apply (b : Fin 32) (l : Fin 2048) (k : Fin 64) :
    outR a0 a1 rk (ix3 b l k)
      = ∑ r : Fin 4, rowAt a0 a1 b r (back rk hk b r l) (Fin.castLE (by decide) k) * share (fun j => rowAt a0 a1 b r (back rk hk b r j) 64) l := by
  pointwise [outR]
  refine Finset.sum_congr rfl fun r _ => ?_
  rw [attR_apply a0 a1 rk hk, softR_apply]
  simp only [lseR_apply a0 a1 rk hk]

end Ranks

end Cert.Proof.Mix

end
-- ==== Proof.Equal.lean ====
/-
  The kernel's result is the reference's, element by element; and so the equation of the two programs' runs.
-/
module

public import proofs.«01_k».proof.Proof.Blocks
public import proofs.«01_k».proof.Proof.Refer

@[expose] public section

set_option maxRecDepth 16384

noncomputable section

namespace Cert.Proof.Mix

open Cert.KernelIdeal Cert.KernelIdeal.Gen Cert.Proof.Trip
open Idealize.ShloMosaic Idealize.ShloMosaic.TcCoe Idealize.SL.Sem

theorem pay_at (L0 L1 L2 L3 : Vec Ideal S1x1x2048x1 .f32) (A0 A1 A2 A3 : Vec Ideal S1x1x2048x64 .f32) (p0 p1 p2 p3 : Fin 2048 → EReal) (q0 q1 q2 q3 : EReal) (l : Fin 2048) (k : Fin 64)
    (hL0 : ∀ j, L0 (ix4 0 0 j 0) = p0 j) (hL1 : ∀ j, L1 (ix4 0 0 j 0) = p1 j) (hL2 : ∀ j, L2 (ix4 0 0 j 0) = p2 j) (hL3 : ∀ j, L3 (ix4 0 0 j 0) = p3 j)
    (hA0 : A0 (ix4 0 0 l k) = q0) (hA1 : A1 (ix4 0 0 l k) = q1) (hA2 : A2 (ix4 0 0 l k) = q2) (hA3 : A3 (ix4 0 0 l k) = q3) :
    k2_pay1 (k2_pay2 L0 A0 L1 A1) L2 A2 L3 A3 (ix3 0 l k) = share p0 l * q0 + share p1 l * q1 + share p2 l * q2 + share p3 l * q3 := by
  rw [pay_apply, hA0, hA1, hA2, hA3, funext hL0, funext hL1, funext hL2, funext hL3]

/-- The body's result at an element, from its two blocks of gathered rows. -/
theorem mixV_apply (x0 x1 : Vec Ideal S1x2x2048x128 .f32) (l : Fin 2048) (k : Fin 64) :
    mixV x0 x1 (ix3 0 l k)
      = share (fun j => x0 (ix4 0 0 j 64)) l * x0 (ix4 0 0 l (Fin.castLE (by decide) k)) + share (fun j => x0 (ix4 0 1 j 64)) l * x0 (ix4 0 1 l (Fin.castLE (by decide) k))
        + share (fun j => x1 (ix4 0 0 j 64)) l * x1 (ix4 0 0 l (Fin.castLE (by decide) k)) + share (fun j => x1 (ix4 0 1 j 64)) l * x1 (ix4 0 1 l (Fin.castLE (by decide) k)) := by
  unfold mixV
  exact pay_at _ _ _ _ _ _ _ _ _ _ _ _ _ _ _ _ l k (fun j => ldL0 x0 j 0) (fun j => ldL1 x0 j 0) (fun j => ldL0 x1 j 0) (fun j => ldL1 x1 j 0)
    (ldA0 x0 l k) (ldA1 x0 l k) (ldA0 x1 l k) (ldA1 x1 l k)

/-- The same where the rows are those that `f` names, round by round. -/
theorem mixV_rows (x0 x1 : Vec Ideal S1x2x2048x128 .f32) (f : Fin 4 → Fin 2048 → Fin 128 → EReal)
    (f0 : ∀ j c, x0 (ix4 0 0 j c) = f 0 j c) (f1 : ∀ j c, x0 (ix4 0 1 j c) = f 1 j c) (f2 : ∀ j c, x1 (ix4 0 0 j c) = f 2 j c) (f3 : ∀ j c, x1 (ix4 0 1 j c) = f 3 j c)
    (l : Fin 2048) (k : Fin 64) : mixV x0 x1 (ix3 0 l k) = ∑ r, f r l (Fin.castLE (by decide) k) * share (fun j => f r j 64) l := by
  rw [mixV_apply, Fin.sum_univ_four]
  simp only [f0, f1, f2, f3]
  simp only [mul_comm]

variable (m : (ℓ : Loc nD τ sig) → Buf (Elt Ideal) ℓ) (hpre : PreOK m)
include hpre

/-- A gathered row is the one the rank names, in either half. -/
theorem g0_row (d : Dev nD) (b : Fin 32) (r : Fin 2) (s : Fin 4) (hs : s.val = r.val) (l : Fin 2048) (k : Fin 128) :
    g0V m d (ix4 b r l k) = rowAt (m (aLoc d)) (m (bLoc d)) b s (back (m (kLoc d)) (hpre d) b s l) k := by
  rw [g0_apply m hpre d b r s hs l k]
  unfold rowAt
  rw [dif_pos (by omega : s.val < 2)]
  congr 2
  exact Fin.ext hs.symm
theorem g1_row (d : Dev nD) (b : Fin 32) (r : Fin 2) (s : Fin 4) (hs : s.val = 2 + r.val) (l : Fin 2048) (k : Fin 128) :
    g1V m d (ix4 b r l k) = rowAt (m (aLoc d)) (m (bLoc d)) b s (back (m (kLoc d)) (hpre d) b s l) k := by
  rw [g1_apply m hpre d b r s hs l k]
  unfold rowAt
  rw [dif_neg (by omega : ¬ s.val < 2)]
  congr 2
  exact Fin.ext (show r.val = s.val - 2 by omega)

theorem res_at (d : Dev nD) (b : Fin 32) (l : Fin 2048) (k : Fin 64) :
    (resV m d : S32x2048x64.Idx → EReal) (ix3 b l k) = outR (m (aLoc d)) (m (bLoc d)) (m (kLoc d)) (ix3 b l k) := by
  refine (res_apply m d b l k).trans ?_
  rw [mixBuf_eq]
  refine Eq.trans (mixV_rows _ _ (fun r j c => rowAt (m (aLoc d)) (m (bLoc d)) b r (back (m (kLoc d)) (hpre d) b r j) c) ?_ ?_ ?_ ?_ l k)
    (outR_apply _ _ _ (hpre d) b l k).symm
  · exact fun j c => (blk0_apply m d b 0 j c).trans (g0_row m hpre d b 0 0 rfl j c)
  · exact fun j c => (blk0_apply m d b 1 j c).trans (g0_row m hpre d b 1 1 rfl j c)
  · exact fun j c => (blk1_apply m d b 0 j c).trans (g1_row m hpre d b 0 2 rfl j c)
  · exact fun j c => (blk1_apply m d b 1 j c).trans (g1_row m hpre d b 1 3 rfl j c)

theorem res_eq (d : Dev nD) :
    (resV m d : S32x2048x64.Idx → EReal) = outR (m (aLoc d)) (m (bLoc d)) (m (kLoc d)) := by
  funext y
  obtain ⟨b, l, k, rfl⟩ : ∃ b l k, y = ix3 b l k := ⟨y 0, y 1, y 2, funext fun a => by
    match a with | ⟨0, _⟩ => rfl | ⟨1, _⟩ => rfl | ⟨2, _⟩ => rfl⟩
  exact res_at m hpre d b l k

omit hpre in
theorem algebraic : Cert.algebraic_KernelIdeal_ReferenceIdeal := by
  intro m g m' g' hp hm
  refine ⟨fun c => resV m c, ?_, ?_⟩
  · refine (θ_run Cert.KernelIdeal.defs _ _).mono (fun r h c => ?_) (run_main m g (ok_of_pre m hp))
    exact ⟨(h.1 c).2.2.2, (h.1 c).1, (h.1 c).2.1, (h.1 c).2.2.1⟩
  · refine (θ_run Cert.ReferenceIdeal.defs _ _).mono (fun r h c => ?_) (Cert.ReferenceIdeal.Value.run (F := Ideal) m' g')
    refine ⟨(h c).1.trans ?_, (h c).2⟩
    rw [refer_eq, (hm c).1, (hm c).2.1, (hm c).2.2]
    exact (res_eq m (ok_of_pre m hp) c).symm

end Cert.Proof.Mix

end
-- ==== Proof.ScatTrip.lean ====
/-
  One trip of the scattering kernel's loop, written once for both of its calls: the offsets of the windows in high
  bandwidth memory and the first row of the trip's part of the sorted array are parameters.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Tactic
public import proofs.«01_k».proof.Proof.Gen.ScatterIdeal
public import proofs.«01_k».proof.Proof.Gen.ScatterIdeal.Skeleton

@[expose] public section

noncomputable section

namespace Cert.Proof.Scat

open Cert.ScatterIdeal Cert.ScatterIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The program -/

section Program

variable {c : Fin τ.nSC} {s : Fin τ.nSub}

/-- A subcore's programs. -/
abbrev PR (F : FTy → Type) (c : Fin τ.nSC) (s : Fin τ.nSub) (α : Type) : Type 1 := Prog (TpuEff nD τ sig (Elt F) Λ₀ (.scVector c s)) α

/-- A list of words. -/
abbrev Sn (n : ℕ) : Shape := ⟨1, ![n]⟩

/-- A run of a list. -/
abbrev win {N : ℕ} (n : ℕ) (A : Memref sig .scVector .hbm (Sn N) .i32) (o : Fin 1 → ℕ) (h : ∀ a, o a + (Sn n).size a ≤ (Sn N).size a) :
    Memref sig .scVector .hbm (Sn n) .i32 := A.slice (Rect.unit (s := Sn N) o (Sn n).size h) (fun _ => rfl)

/-- The fetch of a run. -/
def fetch {N n : ℕ} (A : Memref sig .scVector .hbm (Sn N) .i32) (B : Memref sig .scVector .vmem (Sn n) .i32) (hB : B.IsWhole) (sm : DmaSem sig)
    (o : Fin 1 → ℕ) (h : ∀ a, o a + (Sn n).size a ≤ (Sn N).size a) : PR F c s PUnit := do
  Prog.lift (.enqueueDma (win n A o h) (.here B) (.dma sm) (View.wordExact_bits rfl) hB.wordExact ⟨Or.inl rfl, trivial⟩)
  Prog.lift (.waitDma2 sm (win n A o h) B (View.wordExact_bits rfl) hB.wordExact)

/-- A run written out. -/
def writeOut {N n : ℕ} (A : Memref sig .scVector .hbm (Sn N) .i32) (B : Memref sig .scVector .vmem (Sn n) .i32) (hB : B.IsWhole) (sm : DmaSem sig)
    (o : Fin 1 → ℕ) (h : ∀ a, o a + (Sn n).size a ≤ (Sn N).size a) : PR F c s PUnit := do
  Prog.lift (.enqueueDma B (.here (win n A o h)) (.dma sm) hB.wordExact (View.wordExact_bits rfl) ⟨Or.inl rfl, trivial⟩)
  Prog.lift (.waitDma2 sm B (win n A o h) hB.wordExact (View.wordExact_bits rfl))

/-- The sixteen positions of a step. -/
abbrev seg (i : Fin k0_t2_loop.trips) : Rect S2048 := Rect.unit (s := S2048) (k0_off4 i) S16.size (k0_off4_inb i)

/-- The place of one of the four words of each of sixteen rows. -/
abbrev quad (v : IVec S16 32) (w : BitVec 32) : IVec S16 32 := addi (muli v (broadcast S16 4#32)) (broadcast S16 w)

/-- Sixteen words of one row of the metadata put in their places, in the row and among the four of each position. -/
def pair (mi mo : Memref sig .scVector .vmem S2048 .i32) (qc : Memref sig .scVector .vmem S8192 .i32) (i : Fin k0_t2_loop.trips) (v : IVec S16 32)
    (hv : k0_chk1 v) (w : BitVec 32) : PR F c s PUnit := do
  let x : Vec F S16 .i32 ← Prog.lift (.load mi (seg i).toLoadRect (View.loadsAt_vmem h_S16))
  SparseCore.vectorStoreIdx mo ![v] x (fun _ => 1#1) false (k0_idx1_inb v hv) (View.stores_vmem_bits_univ h_S2048 rfl)
  have hw : k0_chk2 (quad v w) := (← Prog.lift (TpuEff.assume (k0_chk2 (quad v w)) (k0_chk2.dec (quad v w)))).down
  SparseCore.vectorStoreIdx qc ![quad v w] x (fun _ => 1#1) false (k0_idx2_inb (quad v w) hw) (View.stores_vmem_bits_univ h_S8192 rfl)

/-- Sixteen positions' metadata put in their places. -/
def step (rk : Memref sig .scVector .vmem S2048 .i32) (mi0 mi1 mi2 mi3 mo0 mo1 mo2 mo3 : Memref sig .scVector .vmem S2048 .i32)
    (qc : Memref sig .scVector .vmem S8192 .i32) (i : Fin k0_t2_loop.trips) : PR F c s (BitVec 32) := do
  let v : Vec F S16 .i32 ← Prog.lift (.load rk (seg i).toLoadRect (View.loadsAt_vmem h_S16))
  have hv : k0_chk1 v := (← Prog.lift (TpuEff.assume (k0_chk1 v) (k0_chk1.dec v))).down
  pair mi0 mo0 qc i v hv 0#32
  pair mi1 mo1 qc i v hv 1#32
  pair mi2 mo2 qc i v hv 2#32
  pair mi3 mo3 qc i v hv 3#32
  pure 0#32

/-- All the positions' metadata put in their places; a word of no use is handed on. -/
def moves (rk : Memref sig .scVector .vmem S2048 .i32) (mi0 mi1 mi2 mi3 mo0 mo1 mo2 mo3 : Memref sig .scVector .vmem S2048 .i32)
    (qc : Memref sig .scVector .vmem S8192 .i32) (x : BitVec 32) : PR F c s (BitVec 32) := do
  let _ : BitVec 32 ← Scf.Loop.for k0_t2_loop k0_t2_ok 0#32 fun i _ => step rk mi0 mi1 mi2 mi3 mo0 mo1 mo2 mo3 qc i
  pure x

theorem grp_inb (q : Fin 4) (p : Fin 32) : ∀ a, (![512 * q.val + 16 * p.val] : Fin 1 → ℕ) a + S16.size a ≤ S2048.size a := by
  intro a; fin_cases a; have := p.isLt; have := q.isLt; show 512 * q.val + 16 * p.val + 16 ≤ 2048; omega
theorem cell_inb (p : Fin 32) : ∀ a, (![p.val / 8, 16 * (p.val % 8)] : Fin 2 → ℕ) a + S1x16.size a ≤ S4x128.size a := by
  intro a; have := p.isLt; fin_cases a
  · show p.val / 8 + 1 ≤ 4; omega
  · show 16 * (p.val % 8) + 16 ≤ 128; omega

/-- Sixteen ranks of a quarter. -/
abbrev grp (q : Fin 4) (p : Fin 32) : Rect S2048 := Rect.unit (s := S2048) ![512 * q.val + 16 * p.val] S16.size (grp_inb q p)
/-- The sixteen row numbers made of them. -/
abbrev cell (p : Fin 32) : Rect S4x128 := Rect.unit (s := S4x128) ![p.val / 8, 16 * (p.val % 8)] S1x16.size (cell_inb p)

/-- The row numbers of sixteen ranks: the first row added. -/
def pay (base : BitVec 32) (v : IVec S16 32) : IVec S16 32 := addi v (broadcast S16 base)

/-- One group of sixteen ranks made row numbers. -/
def fillOne (rk : Memref sig .scVector .vmem S2048 .i32) (ix : Memref sig .scVector .vmem S4x128 .i32) (base : BitVec 32) (q : Fin 4) (p : Fin 32) : PR F c s PUnit := do
  let v : Vec F S16 .i32 ← Prog.lift (.load rk (grp q p).toLoadRect (View.loadsAt_vmem h_S16))
  let _ : Vec F S1x16 .i32 ← Prog.lift (.load ix (cell p).toLoadRect (View.loadsAt_vmem h_S1x16))
  Prog.lift (.store ix (cell p) (shapeCast S1x16 (pay base v) shapeCasts_S16_S1x16) Finset.univ (View.stores_vmem_bits_univ h_S1x16 rfl) (.inl rfl))

/-- The groups of a list, in order. -/
def fill (rk : Memref sig .scVector .vmem S2048 .i32) (ix : Memref sig .scVector .vmem S4x128 .i32) (base : BitVec 32) (q : Fin 4) : List (Fin 32) → PR F c s PUnit
  | [] => pure ⟨⟩
  | p :: L => do
    fillOne rk ix base q p
    fill rk ix base q L

/-- All thirty-two. -/
def groups : List (Fin 32) :=
  [0, 1, 2, 3, 4, 5, 6, 7, 8, 9, 10, 11, 12, 13, 14, 15, 16, 17, 18, 19, 20, 21, 22, 23, 24, 25, 26, 27, 28, 29, 30, 31]

/-- 512 rows of one batch. -/
abbrev qvWin (qv : Memref sig .scVector .hbm S32x2048x128 .f32) (o : Fin 3 → ℕ) (h : ∀ a, o a + S1x512x128.size a ≤ S32x2048x128.size a) :
    Memref sig .scVector .hbm S512x128 .f32 :=
  (qv.slice (Rect.unit (s := S32x2048x128) o S1x512x128.size h) (fun _ => rfl)).squeeze S512x128 squeezes_S1x512x128_S512x128

/-- Their fetch. -/
def fetchV (qv : Memref sig .scVector .hbm S32x2048x128 .f32) (B : Memref sig .scVector .vmem S512x128 .f32) (hB : B.IsWhole) (sm : DmaSem sig)
    (o : Fin 3 → ℕ) (h : ∀ a, o a + S1x512x128.size a ≤ S32x2048x128.size a) : PR F c s PUnit := do
  Prog.lift (.enqueueDma (qvWin qv o h) (.here B) (.dma sm) ((View.wordExact_bits rfl).reshape _ _) hB.wordExact ⟨Or.inl rfl, trivial⟩)
  Prog.lift (.waitDma2 sm (qvWin qv o h) B ((View.wordExact_bits rfl).reshape _ _) hB.wordExact)

theorem row_inb (r : ℕ) (hr : r < 4) : ∀ a, (![r, 0] : Fin 2 → ℕ) a + S1x128.size a ≤ S4x128.size a := by
  intro a; fin_cases a
  · show r + 1 ≤ 4; omega
  · show 0 + 128 ≤ 128; omega
theorem land_inb (r : ℕ) (hr : r ≤ 384) : ∀ a, (![r, 0] : Fin 2 → ℕ) a + S128x128.size a ≤ S512x128.size a := by
  intro a; fin_cases a
  · show r + 128 ≤ 512; omega
  · show 0 + 128 ≤ 128; omega

/-- The sorted array, as the streams name it. -/
abbrev tab (A : Memref sig .scVector .hbm S131072x128 .f32) : Memref sig .scVector .hbm S131072x128 .f32 :=
  A.slice (Rect.unit (s := S131072x128) ![0, 0] S131072x128.size inb_S131072x128_S131072x128_0_0) (fun _ => rfl)
/-- One row of the row numbers: the list of one stream. -/
abbrev list (ix : Memref sig .scVector .vmem S4x128 .i32) (r : ℕ) (hr : r < 4) : Memref sig .scVector .vmem S128 .i32 :=
  (ix.slice (Rect.unit (s := S4x128) ![r, 0] S1x128.size (row_inb r hr)) (fun _ => rfl)).squeeze S128 squeezes_S1x128_S128
/-- The rows that stream sends. -/
abbrev land (B : Memref sig .scVector .vmem S512x128 .f32) (r : ℕ) (hr : r ≤ 384) : Memref sig .scVector .vmem S128x128 .f32 :=
  B.slice (Rect.unit (s := S512x128) ![r, 0] S128x128.size (land_inb r hr)) (fun _ => rfl)

/-- The four streams and their waits. -/
def streams (A : Memref sig .scVector .hbm S131072x128 .f32) (ix : Memref sig .scVector .vmem S4x128 .i32)
    (B : Memref sig .scVector .vmem S512x128 .f32) (sm : DmaSem sig) : PR F c s PUnit := do
  SparseCore.enqueueIndirectScatter rfl (land B 0 (by decide)) (tab A) gathers_S131072x128_S128x128 (list ix 0 (by decide)) rfl sm rfl (Or.inl rfl)
  SparseCore.enqueueIndirectScatter rfl (land B 128 (by decide)) (tab A) gathers_S131072x128_S128x128 (list ix 1 (by decide)) rfl sm rfl (Or.inl rfl)
  SparseCore.enqueueIndirectScatter rfl (land B 256 (by decide)) (tab A) gathers_S131072x128_S128x128 (list ix 2 (by decide)) rfl sm rfl (Or.inl rfl)
  SparseCore.enqueueIndirectScatter rfl (land B 384 (by decide)) (tab A) gathers_S131072x128_S128x128 (list ix 3 (by decide)) rfl sm rfl (Or.inl rfl)
  SparseCore.waitIndirectScatter sm (land B 0 (by decide)) (tab A) (View.wordExact_bits rfl) (View.wordExact_bits rfl)
  SparseCore.waitIndirectScatter sm (land B 128 (by decide)) (tab A) (View.wordExact_bits rfl) (View.wordExact_bits rfl)
  SparseCore.waitIndirectScatter sm (land B 256 (by decide)) (tab A) (View.wordExact_bits rfl) (View.wordExact_bits rfl)
  SparseCore.waitIndirectScatter sm (land B 384 (by decide)) (tab A) (View.wordExact_bits rfl) (View.wordExact_bits rfl)

/-- A quarter's rows sent to their places. -/
def quarter (qv : Memref sig .scVector .hbm S32x2048x128 .f32) (A : Memref sig .scVector .hbm S131072x128 .f32) (rk : Memref sig .scVector .vmem S2048 .i32)
    (ix : Memref sig .scVector .vmem S4x128 .i32) (B : Memref sig .scVector .vmem S512x128 .f32) (hB : B.IsWhole) (sg sm : DmaSem sig)
    (o : Fin 3 → ℕ) (h : ∀ a, o a + S1x512x128.size a ≤ S32x2048x128.size a) (base : BitVec 32) (q : Fin 4) : PR F c s PUnit := do
  fetchV qv B hB sm o h
  fill rk ix base q groups
  streams A ix B sg

/-- One trip. -/
def trip (arg2 : Memref sig .scVector .hbm S32x2048x128 .f32) (arg3 : Memref sig .scVector .hbm S524288 .i32) (arg4 : Memref sig .scVector .hbm S262144 .i32)
    (arg5 : Memref sig .scVector .hbm S131072x128 .f32) (arg6 : Memref sig .scVector .hbm S524288 .i32) (arg7 : Memref sig .scVector .hbm S524288 .i32)
    (arg8 : Memref sig .scVector .vmem S2048 .i32) (harg8 : arg8.IsWhole) (arg9 : Memref sig .scVector .vmem S4x128 .i32)
    (arg10 : Memref sig .scVector .vmem S512x128 .f32) (harg10 : arg10.IsWhole)
    (arg11 : Memref sig .scVector .vmem S2048 .i32) (harg11 : arg11.IsWhole) (arg12 : Memref sig .scVector .vmem S2048 .i32) (harg12 : arg12.IsWhole)
    (arg13 : Memref sig .scVector .vmem S2048 .i32) (harg13 : arg13.IsWhole) (arg14 : Memref sig .scVector .vmem S2048 .i32) (harg14 : arg14.IsWhole)
    (arg15 : Memref sig .scVector .vmem S2048 .i32) (harg15 : arg15.IsWhole) (arg16 : Memref sig .scVector .vmem S2048 .i32) (harg16 : arg16.IsWhole)
    (arg17 : Memref sig .scVector .vmem S2048 .i32) (harg17 : arg17.IsWhole) (arg18 : Memref sig .scVector .vmem S2048 .i32) (harg18 : arg18.IsWhole)
    (arg19 : Memref sig .scVector .vmem S8192 .i32) (harg19 : arg19.IsWhole)
    (sg r0 r1 r2 r3 r4 r5 r6 r7 r8 r9 r10 r11 r12 r13 : DmaSem sig)
    (oR : Fin 1 → ℕ) (hR : ∀ a, oR a + S2048.size a ≤ S262144.size a)
    (oI : Fin 4 → Fin 1 → ℕ) (hI : ∀ j a, oI j a + S2048.size a ≤ S524288.size a)
    (oM : Fin 4 → Fin 1 → ℕ) (hM : ∀ j a, oM j a + S2048.size a ≤ S524288.size a)
    (oQ : Fin 1 → ℕ) (hQ : ∀ a, oQ a + S8192.size a ≤ S524288.size a)
    (oV : Fin 4 → Fin 3 → ℕ) (hV : ∀ j a, oV j a + S1x512x128.size a ≤ S32x2048x128.size a) (base x : BitVec 32) : PR F c s (BitVec 32) := do
  fetch arg4 arg8 harg8 r0 oR hR
  fetch arg3 arg11 harg11 r1 (oI 0) (hI 0)
  fetch arg3 arg12 harg12 r2 (oI 1) (hI 1)
  fetch arg3 arg13 harg13 r3 (oI 2) (hI 2)
  fetch arg3 arg14 harg14 r4 (oI 3) (hI 3)
  let _ : BitVec 32 ← moves arg8 arg11 arg12 arg13 arg14 arg15 arg16 arg17 arg18 arg19 x
  writeOut arg6 arg15 harg15 r5 (oM 0) (hM 0)
  writeOut arg6 arg16 harg16 r6 (oM 1) (hM 1)
  writeOut arg6 arg17 harg17 r7 (oM 2) (hM 2)
  writeOut arg6 arg18 harg18 r8 (oM 3) (hM 3)
  writeOut arg7 arg19 harg19 r9 oQ hQ
  quarter arg2 arg5 arg8 arg9 arg10 harg10 sg r10 (oV 0) (hV 0) base 0
  quarter arg2 arg5 arg8 arg9 arg10 harg10 sg r11 (oV 1) (hV 1) base 1
  quarter arg2 arg5 arg8 arg9 arg10 harg10 sg r12 (oV 2) (hV 2) base 2
  quarter arg2 arg5 arg8 arg9 arg10 harg10 sg r13 (oV 3) (hV 3) base 3
  pure 0#32

end Program

/-! ## The two loops' trips are this one -/

/-- The offsets of call 0's four runs of metadata, in and out, and of its four quarters. -/
def oI0 (i : grid0.Coords) (t : Fin k0_t1_loop.trips) : Fin 4 → Fin 1 → ℕ
  | 0 => k0_off2 i t | 1 => k0_off3 i t 1#32 | 2 => k0_off3 i t 2#32 | 3 => k0_off3 i t 3#32
theorem hI0 (i : grid0.Coords) (t : Fin k0_t1_loop.trips) : ∀ j a, oI0 i t j a + S2048.size a ≤ S524288.size a
  | 0 => k0_off2_inb i t | 1 => k0_off3_inb i t 0 | 2 => k0_off3_inb i t 1 | 3 => k0_off3_inb i t 2
def oM0 (i : grid0.Coords) (t : Fin k0_t1_loop.trips) : Fin 4 → Fin 1 → ℕ
  | 0 => k0_off8 i t 0#32 | 1 => k0_off8 i t 1#32 | 2 => k0_off8 i t 2#32 | 3 => k0_off8 i t 3#32
theorem hM0 (i : grid0.Coords) (t : Fin k0_t1_loop.trips) : ∀ j a, oM0 i t j a + S2048.size a ≤ S524288.size a
  | 0 => k0_off8_inb i t 0 | 1 => k0_off8_inb i t 1 | 2 => k0_off8_inb i t 2 | 3 => k0_off8_inb i t 3
def oV0 (i : grid0.Coords) (t : Fin k0_t1_loop.trips) : Fin 4 → Fin 3 → ℕ
  | 0 => k0_off10 i t | 1 => k0_off11 i t | 2 => k0_off12 i t | 3 => k0_off13 i t
theorem hV0 (i : grid0.Coords) (t : Fin k0_t1_loop.trips) : ∀ j a, oV0 i t j a + S1x512x128.size a ≤ S32x2048x128.size a
  | 0 => k0_off10_inb i t | 1 => k0_off11_inb i t | 2 => k0_off12_inb i t | 3 => k0_off13_inb i t

set_option maxRecDepth 65536 in
theorem body0_eq (i : grid0.Coords) (arg2 : Memref sig .scVector .hbm S32x2048x128 .f32) (harg2 : arg2.IsWhole) (arg3 : Memref sig .scVector .hbm S524288 .i32) (harg3 : arg3.IsWhole) (arg4 : Memref sig .scVector .hbm S262144 .i32) (harg4 : arg4.IsWhole) (arg5 : Memref sig .scVector .hbm S131072x128 .f32) (harg5 : arg5.IsWhole) (arg6 : Memref sig .scVector .hbm S524288 .i32) (harg6 : arg6.IsWhole) (arg7 : Memref sig .scVector .hbm S524288 .i32) (harg7 : arg7.IsWhole) (arg8 : Memref sig .scVector .vmem S2048 .i32) (harg8 : arg8.IsWhole) (arg9 : Memref sig .scVector .vmem S4x128 .i32) (harg9 : arg9.IsWhole) (arg10 : Memref sig .scVector .vmem S512x128 .f32) (harg10 : arg10.IsWhole) (arg11 : Memref sig .scVector .vmem S2048 .i32) (harg11 : arg11.IsWhole) (arg12 : Memref sig .scVector .vmem S2048 .i32) (harg12 : arg12.IsWhole) (arg13 : Memref sig .scVector .vmem S2048 .i32) (harg13 : arg13.IsWhole) (arg14 : Memref sig .scVector .vmem S2048 .i32) (harg14 : arg14.IsWhole) (arg15 : Memref sig .scVector .vmem S2048 .i32) (harg15 : arg15.IsWhole) (arg16 : Memref sig .scVector .vmem S2048 .i32) (harg16 : arg16.IsWhole) (arg17 : Memref sig .scVector .vmem S2048 .i32) (harg17 : arg17.IsWhole) (arg18 : Memref sig .scVector .vmem S2048 .i32) (harg18 : arg18.IsWhole) (arg19 : Memref sig .scVector .vmem S8192 .i32) (harg19 : arg19.IsWhole)
    (arg20 r0 r1 r2 r3 r4 r5 r6 r7 r8 r9 r10 r11 r12 r13 : DmaSems sig S_) (v1 : BitVec 32) (t : Fin k0_t1_loop.trips) (x : BitVec 32) :
    k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 r0 r1 r2 r3 r4 r5 r6 r7 r8 r9 r10 r11 r12 r13 v1 t x
      = trip arg2 arg3 arg4 arg5 arg6 arg7 arg8 harg8 arg9 arg10 harg10 arg11 harg11 arg12 harg12 arg13 harg13 arg14 harg14 arg15 harg15 arg16 harg16 arg17 harg17 arg18 harg18 arg19 harg19 arg20.sem r0.sem r1.sem r2.sem r3.sem r4.sem r5.sem r6.sem r7.sem r8.sem r9.sem r10.sem r11.sem r12.sem r13.sem (k0_off1 i t) (k0_off1_inb i t) (oI0 i t) (hI0 i t) (oM0 i t) (hM0 i t)
          (k0_off9 i t) (k0_off9_inb i t) (oV0 i t) (hV0 i t) (Scalar.muli (Scalar.addi (Scalar.muli v1 2#32) (Scf.iv 0#32 1#32 t)) 2048#32)
          (Scalar.muli (Scalar.addi (Scalar.muli v1 2#32) (Scf.iv 0#32 1#32 t)) 4#32) := rfl

/-- The offsets of call 1's four runs of metadata, in and out, and of its four quarters. -/
def oI1 (i : grid1.Coords) (t : Fin k1_t1_loop.trips) : Fin 4 → Fin 1 → ℕ
  | 0 => k1_off2 i t | 1 => k1_off3 i t 1#32 | 2 => k1_off3 i t 2#32 | 3 => k1_off3 i t 3#32
theorem hI1 (i : grid1.Coords) (t : Fin k1_t1_loop.trips) : ∀ j a, oI1 i t j a + S2048.size a ≤ S524288.size a
  | 0 => k1_off2_inb i t | 1 => k1_off3_inb i t 0 | 2 => k1_off3_inb i t 1 | 3 => k1_off3_inb i t 2
def oM1 (i : grid1.Coords) (t : Fin k1_t1_loop.trips) : Fin 4 → Fin 1 → ℕ
  | 0 => k1_off8 i t 0#32 | 1 => k1_off8 i t 1#32 | 2 => k1_off8 i t 2#32 | 3 => k1_off8 i t 3#32
theorem hM1 (i : grid1.Coords) (t : Fin k1_t1_loop.trips) : ∀ j a, oM1 i t j a + S2048.size a ≤ S524288.size a
  | 0 => k1_off8_inb i t 0 | 1 => k1_off8_inb i t 1 | 2 => k1_off8_inb i t 2 | 3 => k1_off8_inb i t 3
def oV1 (i : grid1.Coords) (t : Fin k1_t1_loop.trips) : Fin 4 → Fin 3 → ℕ
  | 0 => k1_off10 i t | 1 => k1_off11 i t | 2 => k1_off12 i t | 3 => k1_off13 i t
theorem hV1 (i : grid1.Coords) (t : Fin k1_t1_loop.trips) : ∀ j a, oV1 i t j a + S1x512x128.size a ≤ S32x2048x128.size a
  | 0 => k1_off10_inb i t | 1 => k1_off11_inb i t | 2 => k1_off12_inb i t | 3 => k1_off13_inb i t

set_option maxRecDepth 65536 in
theorem body1_eq (i : grid1.Coords) (arg2 : Memref sig .scVector .hbm S32x2048x128 .f32) (harg2 : arg2.IsWhole) (arg3 : Memref sig .scVector .hbm S524288 .i32) (harg3 : arg3.IsWhole) (arg4 : Memref sig .scVector .hbm S262144 .i32) (harg4 : arg4.IsWhole) (arg5 : Memref sig .scVector .hbm S131072x128 .f32) (harg5 : arg5.IsWhole) (arg6 : Memref sig .scVector .hbm S524288 .i32) (harg6 : arg6.IsWhole) (arg7 : Memref sig .scVector .hbm S524288 .i32) (harg7 : arg7.IsWhole) (arg8 : Memref sig .scVector .vmem S2048 .i32) (harg8 : arg8.IsWhole) (arg9 : Memref sig .scVector .vmem S4x128 .i32) (harg9 : arg9.IsWhole) (arg10 : Memref sig .scVector .vmem S512x128 .f32) (harg10 : arg10.IsWhole) (arg11 : Memref sig .scVector .vmem S2048 .i32) (harg11 : arg11.IsWhole) (arg12 : Memref sig .scVector .vmem S2048 .i32) (harg12 : arg12.IsWhole) (arg13 : Memref sig .scVector .vmem S2048 .i32) (harg13 : arg13.IsWhole) (arg14 : Memref sig .scVector .vmem S2048 .i32) (harg14 : arg14.IsWhole) (arg15 : Memref sig .scVector .vmem S2048 .i32) (harg15 : arg15.IsWhole) (arg16 : Memref sig .scVector .vmem S2048 .i32) (harg16 : arg16.IsWhole) (arg17 : Memref sig .scVector .vmem S2048 .i32) (harg17 : arg17.IsWhole) (arg18 : Memref sig .scVector .vmem S2048 .i32) (harg18 : arg18.IsWhole) (arg19 : Memref sig .scVector .vmem S8192 .i32) (harg19 : arg19.IsWhole)
    (arg20 r0 r1 r2 r3 r4 r5 r6 r7 r8 r9 r10 r11 r12 r13 : DmaSems sig S_) (v1 : BitVec 32) (t : Fin k1_t1_loop.trips) (x : BitVec 32) :
    k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 r0 r1 r2 r3 r4 r5 r6 r7 r8 r9 r10 r11 r12 r13 v1 t x
      = trip arg2 arg3 arg4 arg5 arg6 arg7 arg8 harg8 arg9 arg10 harg10 arg11 harg11 arg12 harg12 arg13 harg13 arg14 harg14 arg15 harg15 arg16 harg16 arg17 harg17 arg18 harg18 arg19 harg19 arg20.sem r0.sem r1.sem r2.sem r3.sem r4.sem r5.sem r6.sem r7.sem r8.sem r9.sem r10.sem r11.sem r12.sem r13.sem (k1_off1 i t) (k1_off1_inb i t) (oI1 i t) (hI1 i t) (oM1 i t) (hM1 i t)
          (k1_off9 i t) (k1_off9_inb i t) (oV1 i t) (hV1 i t) (Scalar.muli (Scalar.addi (Scalar.muli v1 2#32) (Scf.iv 0#32 1#32 t)) 2048#32)
          (Scalar.muli (Scalar.addi (Scalar.muli v1 2#32) (Scf.iv 0#32 1#32 t)) 4#32) := rfl

end Cert.Proof.Scat

end
-- ==== Proof.Sends.lean ====
/-
  Several indirect scatters outstanding on one cell: their rows are one batch of transfers of one size each. The rows written
  are handed over one by one, so that no two entries name one row need not be said.
-/
module

public import proofs.«01_k».proof.Proof.Streams
public import Idealize.ShloMosaic.Lib.SparseCore.Scatter

@[expose] public section

noncomputable section

namespace Cert.Proof.Sends

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers
open Cert.Proof.Streams (num bigSep_pending_add)

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)

local notation "𝕄" => MT nD τ sig Ix (Elt F) Name U Lvl

variable {sp : Space} {s₀ s si : Shape} {e : EltTy} {a : Nat} {α : Type} {Q : α → sProp (MT nD τ sig Ix (Elt F) Name U Lvl)}

/-- Row `j` of the destination's rows that a list names, at the contents `f`. -/
abbrev rowAt (dst : Memref sig c.2.kind sp s₀ e) (hg : s₀.Gathers a s) (offs : Memref sig c.2.kind .vmem si .i32) (hn : si.numel = s.size hg.axis')
    (fo : Buf (Elt F) (offs.view.loc c)) (hin : ∀ x, (offs.view.read (Elt F) fo x).toNat < s₀.size hg.axis)
    (j : Fin (s.size hg.axis')) (f : Buf (Elt F) (dst.view.loc c)) : sProp 𝕄 :=
  dst.view.loc c ↦[(dst.view.slice (s₀.rowRect hg.axis (rows (offs.view.read (Elt F) fo) hn hin j))).set]{fullShare} f

/-- What row `j` of a scatter delivers: the row it names written, its entry of the list, its row of the source. -/
def rowSent (src : Memref sig c.2.kind .vmem s e) (dst : Memref sig c.2.kind sp s₀ e) (hg : s₀.Gathers a s)
    (offs : Memref sig c.2.kind .vmem si .i32) (hn : si.numel = s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop((rowAt c dst hg offs hn fo hin j ((dst.view.slice (s₀.rowRect hg.axis (rows (offs.view.read (Elt F) fo) hn hin j))).write (Elt F) fd
            (scatterRowPayload c src hg fs j) Finset.univ)
        ∗ offs.view.loc c ↦[{offs.view.emb (si.rowMajor.symm (j.cast hn.symm))}]{qo} fo)
      ∗ (src.view.loc c ↦[(src.view.slice (s.rowRect hg.axis' j)).set]{q} fs))

instance rowSent_storable (src : Memref sig c.2.kind .vmem s e) (dst : Memref sig c.2.kind sp s₀ e) (hg : s₀.Gathers a s)
    (offs : Memref sig c.2.kind .vmem si .i32) (hn : si.numel = s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    Storable (upEmb : UEmb _ 𝕄) (rowSent c src dst hg offs hn q qo fs fd fo hin j) := by
  unfold rowSent; infer_instance

/-- All the rows together: the rows named, each written, the source and the list whole again. -/
theorem rowsSent (src : Memref sig c.2.kind .vmem s e) (dst : Memref sig c.2.kind sp s₀ e) (hg : s₀.Gathers a s)
    (offs : Memref sig c.2.kind .vmem si .i32) (hn : si.numel = s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) :
    bigSep Finset.univ (rowSent c src dst hg offs hn q qo fs fd fo hin)
      ⊢ (iprop((bigSep Finset.univ fun j => rowAt c dst hg offs hn fo hin j
                  ((dst.view.slice (s₀.rowRect hg.axis (rows (offs.view.read (Elt F) fo) hn hin j))).write (Elt F) fd (scatterRowPayload c src hg fs j) Finset.univ))
          ∗ (src.view.loc c ↦[src.view.set]{q} fs) ∗ (offs.view.loc c ↦[offs.view.set]{qo} fo)) : sProp 𝕄) := by
  unfold rowSent
  iintro HD
  ihave H1 := bigSep_sep_out _ _ _ $$ HD
  icases H1 with ⟨H2, Hsrc⟩
  ihave H3 := bigSep_sep_out _ _ _ $$ H2
  icases H3 with ⟨Hrows, Hoffs⟩
  isplitl [Hrows]; · iexact Hrows
  isplitl [Hsrc]
  · iapply (Entails.of_eq (pointsTo_rows c src.view hg.axis' q fs).symm) $$ Hsrc
  · iapply (Entails.of_eq (pointsTo_entries c offs.view (fun j => si.rowMajor.symm (j.cast hn.symm))
      (si.rowMajor.symm.bijective.comp (finCongr hn.symm).bijective) qo fo).symm) $$ Hoffs

/-- A scatter issued as the next `s.size hg.axis'` transfers of its cell's batch. -/
theorem wp_scatterBatch {n : ℕ} [Infinite Name] [EC.LandsIn (upEmb : UEmb _ 𝕄)]
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α}
    (q qo : PosShare TreeShare) (fs : Buf (Elt F) (src.view.loc c)) (fd : Buf (Elt F) (dst.view.loc c)) (fo : Buf (Elt F) (offs.view.loc c))
    (ι : Ix) (N : ℕ) (hin : ∀ x, (offs.view.read (Elt F) fo x).toNat < s₀.size hg.axis)
    (hN : ∀ j, (dst.slice (s₀.rowRect hg.axis (rows (offs.view.read (Elt F) fo) hn hin j)) (s₀.stride_rowRect hg.axis _)).view.dmaCredit = N)
    (D : Fin n → sProp 𝕄) (j : ℕ) (hj : j + s.size hg.axis' ≤ n)
    (hD : ∀ i, rowSent c src dst hg offs hn q qo fs fd fo hin i ⊢ D (num j _ hj i)) :
    iprop((src.view.loc c ↦[src.view.set]{q} fs) ∗ (bigSep Finset.univ fun j => rowAt c dst hg offs hn fo hin j fd)
        ∗ (offs.view.loc c ↦[offs.view.set]{qo} fo) ∗ Batch EC c (.dma sem) ι N D j 0)
      ⊢ iprop((Batch EC c (.dma sem) ι N D (j + s.size hg.axis') 0 -∗ wp frame (wpE defs 𝒱 c bd) Set.univ (k ⟨⟩) Q)
          -∗ wp frame (wpE defs 𝒱 c bd) Set.univ (enqueueIndirectScatter hp src dst hg offs hn sem he hsp hr >>= k) Q) := by
  rw [enqueueIndirectScatter_bind]
  let S : Stream nD τ sig (Elt F) :=
    Stream.issued c offs.view hn sem (fun j w => (rowOf (s₀.size hg.axis) w).map (scatterRow c src dst hg sem he hsp hr j)) 0
  let r : Fin (s.size hg.axis') → Fin (s₀.size hg.axis) := rows (offs.view.read (Elt F) fo) hn hin
  let rd : Fin (s.size hg.axis') → RowDma τ sig (Elt F) c.2 sem := fun j => scatterRow c src dst hg sem he hsp hr j (r j)
  let w : (j : Fin (s.size hg.axis')) → (s₀.rowShape hg.axis).Idx → Elt F e := scatterRowPayload c src hg fs
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hsum : ∑ i, (rd i).dst.view.dmaCredit = s.size hg.axis' * N := by
    rw [Finset.sum_congr rfl fun i _ => hN i, Finset.sum_const, Finset.card_univ, Fintype.card_fin, smul_eq_mul]
  have hsrcset : ∀ j, (src.view.slice (s.rowRect hg.axis' j)).set = (rd j).src.view.set := fun j =>
    (View.set_cast (v := src.view.slice (s.rowRect hg.axis' j)) _ _).symm
  unfold Batch
  iintro ⟨Hs, Hd', Ho, ⟨%γ, %γ₀, %κ, #Hinv, HI, H0, Hcred⟩⟩ Hk
  ihave HI' := (Entails.of_eq (bigSep_pending_add (fun t => count EC (γ t) 0) j _ hj)) $$ HI
  icases HI' with ⟨Hγ, HI⟩
  ihave Ho' := (Entails.of_eq (pointsTo_entries c offs.view S.entry hen qo fo)) $$ Ho
  ihave Hs' := (Entails.of_eq (pointsTo_rows c src.view hg.axis' q fs)) $$ Hs
  iapply (wp_enqueueIndirectDma 𝒱 c bd Set.univ (qo := qo) (fo := fo) (rd := rd) ι (s.size hg.axis' * N) hA hrd hsum) $$ [Hd' Ho' Hs' Hγ]
  · have hrow : ∀ i, iprop(inv κ (batchBody EC (c, SemLoc.dma sem) N D γ γ₀)
          ∗ (((rowAt c dst hg offs hn fo hin i fd ∗ S.heldEntry qo fo i)
          ∗ (src.view.loc c ↦[(src.view.slice (s.rowRect hg.axis' i)).set]{q} fs)) ∗ count EC (γ (num j _ hj i)) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists q, fs, iprop((dst.view.loc c ↦[(dst.view.slice (s₀.rowRect hg.axis (r i))).set]{fullShare}
              ((dst.view.slice (s₀.rowRect hg.axis (r i))).write (Elt F) fd (w i) Finset.univ)) ∗ S.heldEntry qo fo i)
      isplitl [Hsq]; · iapply (Entails.of_eq (congrArg (fun I => (src.view.loc c ↦[I]{q} fs : sProp 𝕄)) (hsrcset i))) $$ Hsq
      isplitl [Hr He]
      · iapply writeUpdate_frame
        isplitl [Hr]
        · iapply (pointsTo_writeUpdate c (v := dst.view.slice (s₀.rowRect hg.axis (r i))) subset_rfl) $$ Hr
        · iexact He
      · iapply (Entails.of_eq (show (creditUpdate (c, SemLoc.dma sem) ((rd i).dst.view.amount (.dma sem)) 0
            iprop(((dst.view.loc c ↦[(dst.view.slice (s₀.rowRect hg.axis (r i))).set]{fullShare}
              ((dst.view.slice (s₀.rowRect hg.axis (r i))).write (Elt F) fd (w i) Finset.univ)) ∗ S.heldEntry qo fo i)
              ∗ (src.view.loc c ↦[(src.view.slice (s.rowRect hg.axis' i)).set]{q} fs)) : sProp 𝕄)
            = creditUpdate (c, SemLoc.dma sem) ((rd i).dst.view.amount (.dma sem)) 0
            iprop(((dst.view.loc c ↦[(dst.view.slice (s₀.rowRect hg.axis (r i))).set]{fullShare}
              ((dst.view.slice (s₀.rowRect hg.axis (r i))).write (Elt F) fd (w i) Finset.univ)) ∗ S.heldEntry qo fo i)
              ∗ ((rd i).src.view.loc c ↦[(rd i).src.view.set]{q} fs)) from by rw [hsrcset i]))
        have hb := batch_creditUpdate EC (g := (c, SemLoc.dma sem)) (N := N) (γ := γ) (γ₀ := γ₀) (ι := κ) (num j _ hj i) (hD i)
        have hamt : (rd i).dst.view.amount (.dma sem) = N := hN i
        rw [hamt]
        iapply hb
        isplitr; · iexact Hinv
        iexact Hγi
    unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hγ]; · isplitl [H2] <;> iassumption
    iapply (bigSep_mono_pers Finset.univ _ _ _ fun i _ => hrow i)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - 0 = (j * N - 0) + s.size hg.axis' * N by rw [Nat.add_mul]; omega, ← tallyAt_add]
    icombine Hcred Hcred' as H
    iexact H

end Cert.Proof.Sends

end
-- ==== Proof.ScatMove.lean ====
/-
  What the parts of a trip of the scattering kernel's loop do: the fetches and the writes out, and the metadata put in their
  places.
-/
module

public import proofs.«01_k».proof.Proof.ScatTrip
public import Idealize.ShloMosaic.Lib.Pointwise.Index
public import Idealize.ShloMosaic.Lib.ValueLayout
public import Idealize.ShloMosaic.Lib.Pipeline.Value
public import proofs.«01_k».proof.Proof.Sends

@[expose] public section

noncomputable section

namespace Cert.Proof.Scat

open Cert.ScatterIdeal Cert.ScatterIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The launch's ghost state: the handshakes' rounds and the transfers' counters. -/
abbrev UH : Type := URounds (GSem nD τ sig) ℕ
abbrev UU : Type := UH × Counters
local notation "𝕄" => MT nD τ sig (HIx 2) (Elt F) ℕ UU ℕ

abbrev 𝒱₀ : Variants := Variants.none

variable {c : Fin τ.nSC} {s : Fin τ.nSub} (d : Dev nD)

/-- A subcore's memref held by its own elements. -/
abbrev held {sp : Space} {sh : Shape} {e : EltTy} (c : Fin τ.nSC) (s : Fin τ.nSub) (d : Dev nD) (M : Memref sig .scVector sp sh e)
    (q : PosShare TreeShare) (f : Buf (Elt F) (M.view.loc (V d c s))) : sProp 𝕄 :=
  M.view.loc (V d c s) ↦[M.view.set]{q} f

/-- A subcore's weakest precondition. -/
abbrev wps {α : Type} (c : Fin τ.nSC) (s : Fin τ.nSub) (d : Dev nD) (p : PR F c s α) (Q : α → sProp 𝕄) : sProp 𝕄 := wp frame (wpE (defs₀ (F := F)) 𝒱₀ (V d c s) none) Set.univ p Q

/-- One part of a program after another. -/
theorem wp_seq {α β : Type} {p : PR F c s α} {k : α → PR F c s β} {P : sProp 𝕄} {Q : α → sProp 𝕄} {Q' : β → sProp 𝕄}
    (h : P ⊢ wps c s d p Q) :
    P ⊢ iprop((∀ a, Q a -∗ wps c s d (k a) Q') -∗ wps c s d (p >>= k) Q') := by
  unfold wps
  rw [wp_bind]; exact h.trans (wp_wand frame _ _)

/-- The waits a part adds are all above every rank. -/
abbrev owesFrom (c : Fin τ.nSC) (s : Fin τ.nSub) (d : Dev nD) (O : CellTallies nD τ sig (HIx 2)) (W : Waits sig (HIx 2)) : sProp 𝕄 :=
  iprop(∃ W', ⌜∀ p ∈ W', p ∈ W ∨ p.2 = none⌝ ∗ owes (V d c s) O W')

/-- A whole write read back. -/
theorem read_whole_piece {κ : Kind} {sp : Space} {sh : Shape} {e : EltTy} (v : View sig κ sp sh e) (f : v.ty.Contents (Elt F)) (w : sh.Idx → Elt F e) (y : sh.Idx) :
    v.read (Elt F) (v.writes (Elt F) f [⟨Rect.whole sh, w⟩]) y = w y :=
  View.read_writes_apply_of_pieces _ _ w _ (fun p hp x => by
    rw [List.mem_singleton] at hp; subst hp
    exact congrArg w (Rect.emb_whole_apply _ _).symm) y ⟨_, List.mem_singleton_self _, by
      rw [Rect.set_whole]; exact Finset.mem_univ _⟩

theorem fetch_spec {N : ℕ} (A : Memref sig .scVector .hbm (Sn N) .i32) (B : Memref sig .scVector .vmem (Sn 2048) .i32) (hB : B.IsWhole) (sm : DmaSem sig)
    (o : Fin 1 → ℕ) (h : ∀ a, o a + (Sn 2048).size a ≤ (Sn N).size a) (q : PosShare TreeShare)
    (fA : Buf (Elt F) (A.view.loc (V d c s))) (fB : Buf (Elt F) (B.view.loc (V d c s)))
    (O : CellTallies nD τ sig (HIx 2)) (W : Waits sig (HIx 2)) :
    iprop(Transfers.MayWaits (V d c s) (default : HIx 2) O ∗ held c s d A q fA ∗ held c s d B fullShare fB ∗ semVal (V d c s, .dma sm) 0 ∗ owes (V d c s) O W)
      ⊢ wps c s d (fetch A B hB sm o h)
          fun _ => iprop(Transfers.MayWaits (V d c s) (default : HIx 2) O ∗ held c s d A q fA
            ∗ (∃ g, held c s d B fullShare g ∗ ⌜∀ x, B.view.read (Elt F) g x = (win 2048 A o h).view.read (Elt F) fA x⌝)
            ∗ semVal (V d c s, .dma sm) 0 ∗ owesFrom c s d O W) := by
  unfold fetch wps win
  iintro ⟨#Hmw, HA, HB, Hs, HO⟩
  sl_exec
  sl_step
  isplitr; · iexact Hmw
  isplitl [HA]; · iexact HA
  isplitl [HB]
  · iexists _; isplitl [HB]; · iexact HB
    ipureintro; exact fun x => read_whole_piece _ _ _ x
  isplitl [Hs]; · iexact Hs
  iexists _
  isplitr; swap; · iexact HO
  ipureintro; intro p hp
  rcases Finset.mem_insert.mp hp with hp | hp; · exact .inr (hp ▸ rfl)
  exact .inl hp

theorem writeOut_spec {N n : ℕ} (hn : 0 < (Sn n).numel) (A : Memref sig .scVector .hbm (Sn N) .i32) (B : Memref sig .scVector .vmem (Sn n) .i32) (hB : B.IsWhole) (sm : DmaSem sig)
    (o : Fin 1 → ℕ) (h : ∀ a, o a + (Sn n).size a ≤ (Sn N).size a)
    (fA : Buf (Elt F) (A.view.loc (V d c s))) (fB : Buf (Elt F) (B.view.loc (V d c s)))
    (O : CellTallies nD τ sig (HIx 2)) (W : Waits sig (HIx 2)) :
    iprop(Transfers.MayWaits (V d c s) (default : HIx 2) O ∗ held c s d (win n A o h) fullShare fA ∗ held c s d B fullShare fB ∗ semVal (V d c s, .dma sm) 0 ∗ owes (V d c s) O W)
      ⊢ wps c s d (writeOut A B hB sm o h)
          fun _ => iprop(Transfers.MayWaits (V d c s) (default : HIx 2) O
            ∗ (∃ g, held c s d (win n A o h) fullShare g ∗ ⌜∀ x, (win n A o h).view.read (Elt F) g x = B.view.read (Elt F) fB x⌝)
            ∗ held c s d B fullShare fB
            ∗ semVal (V d c s, .dma sm) 0 ∗ owesFrom c s d O W) := by
  unfold writeOut wps
  have hamt : 0 < (win n A o h).view.amount (SemLoc.dma sm) := View.dmaCredit_pos _ hn
  iintro ⟨#Hmw, HA, HB, Hs, HO⟩
  sl_exec
  sl_step
  isplitr; · iexact Hmw
  isplitl [HA]
  · iexists _; isplitl [HA]; · iexact HA
    ipureintro; exact fun x => read_whole_piece _ _ _ x
  isplitl [HB]; · iexact HB
  isplitl [Hs]; · iexact Hs
  iexists _
  isplitr; swap; · iexact HO
  ipureintro; intro p hp
  rcases Finset.mem_insert.mp hp with hp | hp; · exact .inr (hp ▸ rfl)
  exact .inl hp

/-! ## Words stored at the places other words name -/

/-- The list `b` is the list `a` with `x k` at the place `i k` for each of sixteen `k`. -/
def Stored {n : ℕ} (i : Fin 16 → ℕ) (x : Fin 16 → BitVec 32) (a b : (Sn n).Idx → BitVec 32) : Prop :=
  ∀ y, (∃ k, (y 0).val = i k ∧ b y = x k) ∨ ((∀ k, (y 0).val ≠ i k) ∧ b y = a y)

theorem stored_storeIdx {n : ℕ} (a : Vec F (Sn n) .i32) (w : IVec S16 32) (x : Vec F S16 .i32) (h : ∀ b z, ((![w] : Fin 1 → IVec S16 32) b z).toNat < (Sn n).size b) :
    Stored (fun k => (w (ix1 k)).toNat) (fun k => x (ix1 k)) a (storeIdx (s := Sn n) (d := ![16]) a ![w] x (fun _ => 1#1) false h) := by
  have key : ∀ (L : List (Fin 16)) (a : Vec F (Sn n) .i32) (y : (Sn n).Idx),
      (∃ k, (y 0).val = (w (ix1 k)).toNat ∧ (L.foldl (fun (g : Vec F (Sn n) .i32) k => fun j => if (∀ b, (j b).val = (idxAt (s := Sn n) ![w] h (ix1 k) b).val) then x (ix1 k) else g j) a) y = x (ix1 k))
      ∨ ((∀ k ∈ L, (y 0).val ≠ (w (ix1 k)).toNat) ∧ (L.foldl (fun (g : Vec F (Sn n) .i32) k => fun j => if (∀ b, (j b).val = (idxAt (s := Sn n) ![w] h (ix1 k) b).val) then x (ix1 k) else g j) a) y = a y) := by
    intro L
    induction L with
    | nil => intro a y; exact .inr ⟨by simp, rfl⟩
    | cons k L ih =>
      intro a y
      rw [List.foldl_cons]
      rcases ih (fun j => if (∀ b, (j b).val = (idxAt (s := Sn n) ![w] h (ix1 k) b).val) then x (ix1 k) else a j) y with h1 | ⟨h1, h2⟩
      · exact .inl h1
      by_cases hk : (y 0).val = (w (ix1 k)).toNat
      · refine .inl ⟨k, hk, h2.trans (if_pos ?_)⟩
        intro b; fin_cases b; exact hk
      · refine .inr ⟨?_, h2.trans (if_neg fun hb => hk (hb 0))⟩
        intro k' hk'
        rcases List.mem_cons.mp hk' with rfl | hk'
        · exact hk
        · exact h1 k' hk'
  have hl : ∀ k : Fin 16, Shape.ofLane (d := ![16]) k = ix1 k := fun k => by funext b; fin_cases b; rfl
  have he : storeIdx (s := Sn n) (d := ![16]) a ![w] x (fun _ => 1#1) false h
      = (List.finRange 16).foldl (fun (g : Vec F (Sn n) .i32) k => fun j => if (∀ b, (j b).val = (idxAt (s := Sn n) ![w] h (ix1 k) b).val) then x (ix1 k) else g j) a := by
    unfold storeIdx
    refine congrFun (congrFun (congrArg List.foldl ?_) a) _
    funext g k
    rw [hl k]
    show (if (1#1 : BitVec 1) = 1 then _ else g) = _
    rw [if_pos (show (1#1 : BitVec 1) = 1 from rfl)]
    simp only [Bool.false_eq_true, ↓reduceIte]
  rw [he]
  intro y
  rcases key (List.finRange 16) a y with h1 | ⟨h1, h2⟩
  · exact .inl h1
  · exact .inr ⟨fun k => h1 k (List.mem_finRange k), h2⟩

theorem eq_of_read {κ : Kind} {sp : Space} {sh : Shape} {e : EltTy} (v : View sig κ sp sh e) {f g : v.ty.Contents (Elt F)} {x : sh.Idx}
    (h : v.read (Elt F) f x = v.read (Elt F) g x) : f (v.emb x) = g (v.emb x) := by
  unfold View.read at h
  exact (cast_inj _).mp h

/-- One store by places. -/
theorem store_spec {n : ℕ} (M : Memref sig .scVector .vmem (Sn n) .i32) (w : IVec S16 32) (x : Vec F S16 .i32)
    (h : ∀ b z, ((![w] : Fin 1 → IVec S16 32) b z).toNat < (Sn n).size b) (hs : (M.access (.whole (Sn n))).Stores Finset.univ)
    (f : Buf (Elt F) (M.view.loc (V d c s))) :
    held c s d M fullShare f
      ⊢ wps c s d (SparseCore.vectorStoreIdx (d := ![16]) M ![w] x (fun _ => 1#1) false h hs)
          fun _ => iprop(∃ g, held c s d M fullShare g ∗ ⌜Stored (fun k => (w (ix1 k)).toNat) (fun k => x (ix1 k)) (M.view.read (Elt F) f) (M.view.read (Elt F) g)⌝) := by
  have hset : (M.access (.whole (Sn n))).set = M.view.set := by
    show (M.view.slice (Rect.whole (Sn n))).set = _
    rw [View.set_slice, Rect.set_whole]; rfl
  have hread : ∀ g : Buf (Elt F) (M.view.loc (V d c s)), (M.access (.whole (Sn n))).read (Elt F) g = M.view.read (Elt F) g := fun g => by
    funext y
    show M.view.read (Elt F) g ((Rect.whole (Sn n)).emb y) = _
    rw [Rect.emb_whole_apply]
  have hw := SparseCore.wp_vectorStoreIdx (defs := defs₀ (F := F)) 𝒱₀ (V d c s) none (E := Set.univ) (base := M) (idxs := ![w]) (v := x) (mask := fun _ => 1#1) (add := false) (h := h) (hs := hs) (k := pure) (f := f)
    (Q := fun _ => iprop(∃ g, held c s d M fullShare g ∗ ⌜Stored (fun k => (w (ix1 k)).toNat) (fun k => x (ix1 k)) (M.view.read (Elt F) f) (M.view.read (Elt F) g)⌝))
  rw [hset] at hw
  unfold wps
  refine (show _ ⊢ _ from hw).trans ?_
  iintro H
  iapply H
  iintro HM
  sl_step
  iexists _
  isplitl [HM]; · iexact HM
  ipureintro
  rw [← hread, ← hread, View.read_write_univ]
  exact stored_storeIdx _ w x h

/-- The words sixteen positions hold. -/
abbrev wordsAt (M : Memref sig .scVector .vmem S2048 .i32) (i : Fin k0_t2_loop.trips) (f : Buf (Elt F) (M.view.loc (V d c s))) : Fin 16 → BitVec 32 :=
  fun k => M.view.read (Elt F) f ((seg i).emb (ix1 k))

theorem pair_spec (mi mo : Memref sig .scVector .vmem S2048 .i32) (qc : Memref sig .scVector .vmem S8192 .i32) (i : Fin k0_t2_loop.trips) (v : IVec S16 32)
    (hv : k0_chk1 v) (w : BitVec 32) (hq : k0_chk2 (quad v w))
    (fi : Buf (Elt F) (mi.view.loc (V d c s))) (fo : Buf (Elt F) (mo.view.loc (V d c s))) (fq : Buf (Elt F) (qc.view.loc (V d c s))) :
    iprop(held c s d mi fullShare fi ∗ held c s d mo fullShare fo ∗ held c s d qc fullShare fq)
      ⊢ wps c s d (pair mi mo qc i v hv w)
          fun _ => iprop(held c s d mi fullShare fi
            ∗ (∃ g, held c s d mo fullShare g ∗ ⌜Stored (fun k => (v (ix1 k)).toNat) (wordsAt d mi i fi) (mo.view.read (Elt F) fo) (mo.view.read (Elt F) g)⌝)
            ∗ ∃ g, held c s d qc fullShare g ∗ ⌜Stored (fun k => (quad v w (ix1 k)).toNat) (wordsAt d mi i fi) (qc.view.read (Elt F) fq) (qc.view.read (Elt F) g)⌝) := by
  unfold pair wps
  iintro ⟨Hi, Ho, Hq⟩
  rw [wp_bind]
  unfold Prog.lift
  sl_step
  sl_step
  iapply (wp_seq d (store_spec d mo v _ (k0_idx1_inb v hv) _ fo)) $$ [Ho]
  · iexact Ho
  iintro %_ ⟨%g, Ho, %hg⟩
  unfold wps
  rw [wp_bind, wp_assume_of 𝒱₀ (V d c s) none Set.univ hq]
  sl_step
  iapply (wp_wand frame _ _) $$ [Hq]
  · iapply (store_spec d qc (quad v w) _ (k0_idx2_inb _ hq) _ fq) $$ Hq
  iintro %_ ⟨%g', Hq, %hg'⟩
  isplitl [Hi]; · iexact Hi
  isplitl [Ho]
  · iexists g; isplitl [Ho]; · iexact Ho
    ipureintro; exact hg
  iexists g'; isplitl [Hq]; · iexact Hq
  ipureintro; exact hg'

/-! ## The loop over sixteens -/

/-- Of the positions below `m`, the word `x p` stands at the place `g p`. -/
def Placed {n : ℕ} (m : ℕ) (g : Fin 2048 → ℕ) (x : Fin 2048 → BitVec 32) (a : (Sn n).Idx → BitVec 32) : Prop :=
  ∀ p, p.val < m → ∀ y, (y 0).val = g p → a y = x p

theorem pos_lt (i : Fin 128) (k : Fin 16) : 16 * i.val + k.val < 2048 := by omega
/-- Position `k` of sixteen. -/
abbrev pos (i : Fin 128) (k : Fin 16) : Fin 2048 := ⟨16 * i.val + k.val, pos_lt i k⟩

theorem Placed.store {n : ℕ} {i : Fin 128} {g : Fin 2048 → ℕ} (hg : Function.Injective g) {x : Fin 2048 → BitVec 32} {a b : (Sn n).Idx → BitVec 32}
    (ha : Placed (16 * i.val) g x a) (hs : Stored (fun k => g (pos i k)) (fun k => x (pos i k)) a b) : Placed (16 * (i.val + 1)) g x b := by
  intro p hp y hy
  rcases hs y with ⟨k, hk, hb⟩ | ⟨hk, hb⟩
  · have : p = pos i k := hg (hy.symm.trans hk)
    subst this; exact hb
  · rw [hb]
    refine ha p ?_ y hy
    by_contra hlt
    refine hk ⟨p.val - 16 * i.val, by omega⟩ (hy.trans (congrArg g (Fin.ext ?_)))
    show p.val = 16 * i.val + (p.val - 16 * i.val); omega

theorem Placed.keep {n : ℕ} {m : ℕ} {g : Fin 2048 → ℕ} {i : Fin 16 → ℕ} {x : Fin 2048 → BitVec 32} {z : Fin 16 → BitVec 32} {a b : (Sn n).Idx → BitVec 32}
    (ha : Placed m g x a) (hs : Stored i z a b) (h : ∀ p k, g p ≠ i k) : Placed m g x b := by
  intro p hp y hy
  rcases hs y with ⟨k, hk, -⟩ | ⟨-, hb⟩
  · exact absurd (hy.symm.trans hk) (h p k)
  · rw [hb]; exact ha p hp y hy

/-- The place of word `j` of a position of rank `r` among the fours. -/
abbrev place (σ : Fin 2048 → Fin 2048) (j : Fin 4) (p : Fin 2048) : ℕ := 4 * (σ p).val + j.val

/-- The first `m j` positions' words `j` are in their places among the fours. -/
def Quads (m : Fin 4 → ℕ) (σ : Fin 2048 → Fin 2048) (X : Fin 4 → Fin 2048 → BitVec 32) (a : (Sn 8192).Idx → BitVec 32) : Prop :=
  ∀ j, Placed (m j) (place σ j) (X j) a

/-- Within step `i` the words below `n` are done. -/
abbrev upTo (i n : ℕ) (j : Fin 4) : ℕ := if j.val < n then 16 * (i + 1) else 16 * i

theorem Quads.store {i : Fin 128} {j : Fin 4} {σ : Fin 2048 → Fin 2048} (hσ : Function.Injective σ) {X : Fin 4 → Fin 2048 → BitVec 32} {a b : (Sn 8192).Idx → BitVec 32}
    (ha : Quads (upTo i.val j.val) σ X a) (hs : Stored (fun k => place σ j (pos i k)) (fun k => X j (pos i k)) a b) : Quads (upTo i.val (j.val + 1)) σ X b := by
  intro l
  have hl := ha l
  by_cases h : l = j
  · subst h
    rw [show upTo i.val (l.val + 1) l = 16 * (i.val + 1) from if_pos (Nat.lt_succ_self _)]
    rw [show upTo i.val l.val l = 16 * i.val from if_neg (Nat.lt_irrefl _)] at hl
    exact hl.store (fun p q h => hσ (Fin.ext (by simp only [place] at h; omega))) hs
  · have hne : l.val ≠ j.val := fun e => h (Fin.ext e)
    have e : upTo i.val (j.val + 1) l = upTo i.val j.val l := by
      unfold upTo
      by_cases hlt : l.val < j.val
      · rw [if_pos hlt, if_pos (by omega)]
      · rw [if_neg hlt, if_neg (by omega)]
    rw [e]
    refine hl.keep hs fun p k => ?_
    have := l.isLt; have := j.isLt
    simp only [place]; omega

theorem off4_val : ∀ i : Fin 128, k0_off4 i 0 = 16 * i.val := by decide +kernel
theorem seg_emb (i : Fin 128) (k : Fin 16) : (seg i).emb (ix1 k) = ix1 (pos i k) := by
  funext a; fin_cases a
  apply Fin.ext
  show k0_off4 i 0 + 1 * k.val = 16 * i.val + k.val
  rw [off4_val i]; omega

/-- The rank list says where the positions go. -/
def Ranks (σ : Fin 2048 → Fin 2048) (r : (Sn 2048).Idx → BitVec 32) : Prop := ∀ p, (r (ix1 p)).toNat = (σ p).val

theorem quad_val (v : IVec S16 32) (j : Fin 4) (w : BitVec 32) (hw : w.toNat = j.val) (k : S16.Idx) (hv : (v k).toNat < 2048) :
    (quad v w k).toNat = 4 * (v k).toNat + j.val := by
  show (IntOp.addi (IntOp.muli (v k) 4#32) w).toNat = _
  show (v k * 4#32 + w).toNat = _
  have := j.isLt
  rw [BitVec.toNat_add, BitVec.toNat_mul, hw]
  show ((v k).toNat * 4 % 4294967296 + j.val) % 4294967296 = _
  omega

theorem lane (k : S16.Idx) : ∃ j : Fin 16, k = ix1 j := ⟨k 0, by funext a; fin_cases a; rfl⟩

theorem chk1_of {v : IVec S16 32} (h : ∀ k, (v k).toNat < 2048) : k0_chk1 v := by
  have h' : ∀ a x, ((![v] : Fin 1 → IVec S16 32) a x).toNat < S2048.size a := by
    intro a x; fin_cases a; exact h x
  exact ⟨h', h', h', h'⟩

theorem chk2_of {v : IVec S16 32} {w : BitVec 32} (j : Fin 4) (hw : w.toNat = j.val) (h : ∀ k, (v k).toNat < 2048) : k0_chk2 (quad v w) := by
  intro a x; fin_cases a
  show (quad v w x).toNat < 8192
  have := j.isLt
  rw [quad_val v j w hw x (h x)]; have := h x; omega

section Moves

variable (σ : Fin 2048 → Fin 2048) (hσ : Function.Injective σ)

include hσ in
/-- One word of sixteen positions. -/
theorem pair_inv (mi mo : Memref sig .scVector .vmem S2048 .i32) (qc : Memref sig .scVector .vmem S8192 .i32) (i : Fin 128) (j : Fin 4) (v : IVec S16 32)
    (hv : k0_chk1 v) (hvσ : ∀ k, (v (ix1 k)).toNat = (σ (pos i k)).val) (w : BitVec 32) (hw : w.toNat = j.val)
    (fi : Buf (Elt F) (mi.view.loc (V d c s))) (X : Fin 4 → Fin 2048 → BitVec 32) (hX : ∀ p, mi.view.read (Elt F) fi (ix1 p) = X j p) :
    iprop(held c s d mi fullShare fi ∗ (∃ g, held c s d mo fullShare g ∗ ⌜Placed (16 * i.val) (fun p => (σ p).val) (X j) (mo.view.read (Elt F) g)⌝)
        ∗ ∃ g, held c s d qc fullShare g ∗ ⌜Quads (upTo i.val j.val) σ X (qc.view.read (Elt F) g)⌝)
      ⊢ wps c s d (pair mi mo qc i v hv w)
          fun _ => iprop(held c s d mi fullShare fi ∗ (∃ g, held c s d mo fullShare g ∗ ⌜Placed (16 * (i.val + 1)) (fun p => (σ p).val) (X j) (mo.view.read (Elt F) g)⌝)
            ∗ ∃ g, held c s d qc fullShare g ∗ ⌜Quads (upTo i.val (j.val + 1)) σ X (qc.view.read (Elt F) g)⌝) := by
  have hlt : ∀ k, (v k).toNat < 2048 := fun k => by
    obtain ⟨j, rfl⟩ := lane k
    exact lt_of_eq_of_lt (hvσ j) (σ _).isLt
  have hx : wordsAt d mi i fi = fun k => X j (pos i k) := by
    funext k
    show mi.view.read (Elt F) fi ((seg i).emb (ix1 k)) = _
    rw [seg_emb, hX]
  have hi1 : (fun k => (v (ix1 k)).toNat) = fun k => (σ (pos i k)).val := funext hvσ
  have hi2 : (fun k => (quad v w (ix1 k)).toNat) = fun k => place σ j (pos i k) := by
    funext k; rw [quad_val v j w hw _ (hlt _), hvσ]
  iintro ⟨Hi, ⟨%fo, Ho, %ho⟩, %fq, Hq, %hq⟩
  have hp := pair_spec d mi mo qc i v hv w (chk2_of j hw hlt) fi fo fq
  rw [hx, hi1, hi2] at hp
  unfold wps at hp ⊢
  iapply (wp_wand frame _ _) $$ [Hi Ho Hq]
  · iapply hp; iframe Hi Ho Hq
  iintro %_ ⟨Hi, ⟨%g, Ho, %hg⟩, %g', Hq, %hg'⟩
  isplitl [Hi]; · iexact Hi
  isplitl [Ho]
  · iexists g; isplitl [Ho]; · iexact Ho
    ipureintro; exact ho.store (fun p q h => hσ (Fin.ext h)) hg
  iexists g'; isplitl [Hq]; · iexact Hq
  ipureintro; exact Quads.store hσ hq hg'

variable (rk : Memref sig .scVector .vmem S2048 .i32) (mi mo : Fin 4 → Memref sig .scVector .vmem S2048 .i32) (qc : Memref sig .scVector .vmem S8192 .i32)

/-- What the loop over sixteens keeps: the first `m` positions' words are in their places. -/
def putBefore (fr : Buf (Elt F) (rk.view.loc (V d c s))) (fi : ∀ j, Buf (Elt F) ((mi j).view.loc (V d c s))) (X : Fin 4 → Fin 2048 → BitVec 32) (n : ℕ) : sProp 𝕄 :=
  iprop(held c s d rk fullShare fr ∗ (∃ g, held c s d qc fullShare g ∗ ⌜Quads (upTo n 0) σ X (qc.view.read (Elt F) g)⌝)
    ∗ (held c s d (mi 0) fullShare (fi 0) ∗ ∃ g, held c s d (mo 0) fullShare g ∗ ⌜Placed (16 * n) (fun p => (σ p).val) (X 0) ((mo 0).view.read (Elt F) g)⌝)
    ∗ (held c s d (mi 1) fullShare (fi 1) ∗ ∃ g, held c s d (mo 1) fullShare g ∗ ⌜Placed (16 * n) (fun p => (σ p).val) (X 1) ((mo 1).view.read (Elt F) g)⌝)
    ∗ (held c s d (mi 2) fullShare (fi 2) ∗ ∃ g, held c s d (mo 2) fullShare g ∗ ⌜Placed (16 * n) (fun p => (σ p).val) (X 2) ((mo 2).view.read (Elt F) g)⌝)
    ∗ (held c s d (mi 3) fullShare (fi 3) ∗ ∃ g, held c s d (mo 3) fullShare g ∗ ⌜Placed (16 * n) (fun p => (σ p).val) (X 3) ((mo 3).view.read (Elt F) g)⌝))

include hσ in
theorem step_spec (fr : Buf (Elt F) (rk.view.loc (V d c s))) (fi : ∀ j, Buf (Elt F) ((mi j).view.loc (V d c s))) (X : Fin 4 → Fin 2048 → BitVec 32)
    (hr : Ranks σ (rk.view.read (Elt F) fr)) (hX : ∀ j p, (mi j).view.read (Elt F) (fi j) (ix1 p) = X j p) (i : Fin 128) :
    putBefore d σ rk mi mo qc fr fi X i.val
      ⊢ wps c s d (step rk (mi 0) (mi 1) (mi 2) (mi 3) (mo 0) (mo 1) (mo 2) (mo 3) qc i) fun _ => putBefore d σ rk mi mo qc fr fi X (i.val + 1) := by
  unfold putBefore step wps
  iintro ⟨Hr, Hq, ⟨H0, M0⟩, ⟨H1, M1⟩, ⟨H2, M2⟩, ⟨H3, M3⟩⟩
  rw [wp_bind]
  unfold Prog.lift
  sl_step
  sl_step
  have hvσ : ∀ k, ((View.readAt (Elt F) rk.view (seg i).toLoadRect fr : IVec S16 32) (ix1 k)).toNat = (σ (pos i k)).val := fun k => by
    show (rk.view.read (Elt F) fr ((seg i).emb (ix1 k))).toNat = _
    rw [seg_emb]; exact hr _
  have hv : k0_chk1 (View.readAt (Elt F) rk.view (seg i).toLoadRect fr : IVec S16 32) := chk1_of fun k => by
    obtain ⟨j, rfl⟩ := lane k
    exact lt_of_eq_of_lt (hvσ j) (σ _).isLt
  rw [wp_bind, wp_assume_of 𝒱₀ (V d c s) none Set.univ hv]
  sl_step
  iapply (wp_seq d (pair_inv d σ hσ (mi 0) (mo 0) qc i 0 _ hv hvσ 0#32 rfl (fi 0) X (hX 0))) $$ [H0 M0 Hq]
  · iframe H0 M0 Hq
  iintro %_ ⟨H0, M0, Hq⟩
  iapply (wp_seq d (pair_inv d σ hσ (mi 1) (mo 1) qc i 1 _ hv hvσ 1#32 rfl (fi 1) X (hX 1))) $$ [H1 M1 Hq]
  · iframe H1 M1 Hq
  iintro %_ ⟨H1, M1, Hq⟩
  iapply (wp_seq d (pair_inv d σ hσ (mi 2) (mo 2) qc i 2 _ hv hvσ 2#32 rfl (fi 2) X (hX 2))) $$ [H2 M2 Hq]
  · iframe H2 M2 Hq
  iintro %_ ⟨H2, M2, Hq⟩
  iapply (wp_seq d (pair_inv d σ hσ (mi 3) (mo 3) qc i 3 _ hv hvσ 3#32 rfl (fi 3) X (hX 3))) $$ [H3 M3 Hq]
  · iframe H3 M3 Hq
  iintro %_ ⟨H3, M3, ⟨%g, Hq, %hq⟩⟩
  unfold wps
  sl_step
  iframe Hr H0 M0 H1 M1 H2 M2 H3 M3
  iexists g; isplitl [Hq]; · iexact Hq
  ipureintro
  intro j
  have := hq j
  rw [show upTo i.val ((3 : Fin 4).val + 1) j = 16 * (i.val + 1) from if_pos j.isLt] at this
  rw [show upTo (i.val + 1) 0 j = 16 * (i.val + 1) from if_neg (Nat.not_lt_zero _)]
  exact this

include hσ in
theorem moves_spec (fr : Buf (Elt F) (rk.view.loc (V d c s))) (fi : ∀ j, Buf (Elt F) ((mi j).view.loc (V d c s))) (X : Fin 4 → Fin 2048 → BitVec 32)
    (hr : Ranks σ (rk.view.read (Elt F) fr)) (hX : ∀ j p, (mi j).view.read (Elt F) (fi j) (ix1 p) = X j p) (x : BitVec 32) :
    putBefore d σ rk mi mo qc fr fi X 0
      ⊢ wps c s d (moves rk (mi 0) (mi 1) (mi 2) (mi 3) (mo 0) (mo 1) (mo 2) (mo 3) qc x) fun _ => putBefore d σ rk mi mo qc fr fi X 128 := by
  unfold moves wps
  rw [wp_bind]
  have hfor := fun Q => Scf.wp_for (Q := Q) frame (wpE (defs₀ (F := F)) 𝒱₀ (V d c s) none) Set.univ 0#32 128#32 1#32 k0_t2_ok 0#32
    (fun (i : Fin 128) _ => (step rk (mi 0) (mi 1) (mi 2) (mi 3) (mo 0) (mo 1) (mo 2) (mo 3) qc i : PR F c s (BitVec 32)))
    (fun n _ => putBefore d σ rk mi mo qc fr fi X n) (fun i _ => step_spec d σ hσ rk mi mo qc fr fi X hr hX i)
  refine BIBase.Entails.trans ?_ (hfor _)
  iintro H
  isplitl [H]; · iexact H
  iintro %_ H
  sl_step
  iexact H

/-- Nothing is asked before the first step. -/
theorem putBefore_start (fr : Buf (Elt F) (rk.view.loc (V d c s))) (fi : ∀ j, Buf (Elt F) ((mi j).view.loc (V d c s))) (X : Fin 4 → Fin 2048 → BitVec 32)
    (fq : Buf (Elt F) (qc.view.loc (V d c s))) (fo : ∀ j, Buf (Elt F) ((mo j).view.loc (V d c s))) :
    iprop(held c s d rk fullShare fr ∗ held c s d qc fullShare fq
      ∗ (held c s d (mi 0) fullShare (fi 0) ∗ held c s d (mo 0) fullShare (fo 0)) ∗ (held c s d (mi 1) fullShare (fi 1) ∗ held c s d (mo 1) fullShare (fo 1))
      ∗ (held c s d (mi 2) fullShare (fi 2) ∗ held c s d (mo 2) fullShare (fo 2)) ∗ held c s d (mi 3) fullShare (fi 3) ∗ held c s d (mo 3) fullShare (fo 3))
      ⊢ putBefore d σ rk mi mo qc fr fi X 0 := by
  unfold putBefore
  iintro ⟨Hr, Hq, ⟨H0, M0⟩, ⟨H1, M1⟩, ⟨H2, M2⟩, H3, M3⟩
  iframe Hr H0 H1 H2 H3
  isplitl [Hq]
  · iexists fq; isplitl [Hq]; · iexact Hq
    ipureintro; intro j p hp; simp [upTo] at hp
  isplitl [M0]
  · iexists (fo 0); isplitl [M0]; · iexact M0
    ipureintro; intro p hp; simp at hp
  isplitl [M1]
  · iexists (fo 1); isplitl [M1]; · iexact M1
    ipureintro; intro p hp; simp at hp
  isplitl [M2]
  · iexists (fo 2); isplitl [M2]; · iexact M2
    ipureintro; intro p hp; simp at hp
  iexists (fo 3); isplitl [M3]; · iexact M3
  ipureintro; intro p hp; simp at hp

end Moves

end Cert.Proof.Scat

end
-- ==== Proof.ScatRows.lean ====
/-
  The rows a quarter of a trip sends to their places: the row numbers made of the ranks, and the four streams.
-/
module

public import proofs.«01_k».proof.Proof.ScatMove

@[expose] public section

noncomputable section

namespace Cert.Proof.Scat

open Cert.ScatterIdeal Cert.ScatterIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {c : Fin τ.nSC} {s : Fin τ.nSub} (d : Dev nD)

/-! ## The row numbers -/

theorem fillOne_spec (rk : Memref sig .scVector .vmem S2048 .i32) (ix : Memref sig .scVector .vmem S4x128 .i32) (base : BitVec 32) (q : Fin 4) (p : Fin 32)
    (f5 : Buf (Elt F) (rk.view.loc (V d c s))) (f6 : Buf (Elt F) (ix.view.loc (V d c s))) :
    iprop(held c s d rk fullShare f5 ∗ held c s d ix fullShare f6)
      ⊢ wps c s d (fillOne rk ix base q p)
          fun _ => iprop(held c s d rk fullShare f5 ∗ held c s d ix fullShare (ix.view.writes (Elt F) f6
            [⟨cell p, shapeCast S1x16 (pay base ((rk.view.slice (grp q p)).read (Elt F) f5)) shapeCasts_S16_S1x16⟩])) := by
  unfold fillOne wps
  iintro ⟨H5, H6⟩
  sl_exec
  sl_step
  isplitl [H5]; · iexact H5
  iexact H6

theorem at5_lt (q r : Fin 4) (j : Fin 128) : 512 * q.val + (128 * r.val + j.val) < 2048 := by omega
/-- Which position row `j` of stream `r` of quarter `q` is. -/
abbrev at5 (q r : Fin 4) (j : Fin 128) : Fin 2048 := ⟨512 * q.val + (128 * r.val + j.val), at5_lt q r j⟩

/-- The row number at a place. -/
abbrev numAt (base : BitVec 32) (q : Fin 4) (g : S2048.Idx → BitVec 32) (y : S4x128.Idx) : BitVec 32 := IntOp.addi (g (ix1 (at5 q (y 0) (y 1)))) base

/-- One group written makes its sixteen row numbers. -/
theorem cell_value (ix : Memref sig .scVector .vmem S4x128 .i32) (base : BitVec 32) (q : Fin 4) (p : Fin 32) (g : S2048.Idx → BitVec 32)
    (f6 : Buf (Elt F) (ix.view.loc (V d c s))) (y : S4x128.Idx) (hy : y ∈ (cell p).set) :
    ix.view.read (Elt F) (ix.view.writes (Elt F) f6
        [⟨cell p, shapeCast S1x16 (pay base (fun z => g ((grp q p).emb z))) shapeCasts_S16_S1x16⟩]) y = numAt base q g y := by
  have hpiece : ∀ x, shapeCast S1x16 (pay base (fun z => g ((grp q p).emb z))) shapeCasts_S16_S1x16 x = numAt base q g ((cell p).emb x) := by
    intro x
    have hp := p.isLt
    have h0 : (x 0).val < 1 := (x 0).isLt
    have h1 : (x 1).val < 16 := (x 1).isLt
    refine (shapeCast_addUnit_apply ![16] (pay base (fun z => g ((grp q p).emb z))) shapeCasts_S16_S1x16 x).trans ?_
    refine congrArg (fun z => IntOp.addi (g z) base) ?_
    funext a; fin_cases a
    apply Fin.ext
    show 512 * q.val + 16 * p.val + 1 * (x 1).val = 512 * q.val + (128 * (p.val / 8 + 1 * (x 0).val) + (16 * (p.val % 8) + 1 * (x 1).val))
    omega
  have hw := View.read_writes_apply_of_pieces ix.view f6 (numAt base q g)
    [⟨cell p, shapeCast S1x16 (pay base (fun z => g ((grp q p).emb z))) shapeCasts_S16_S1x16⟩]
    (fun q hq x => by rw [List.mem_singleton] at hq; subst hq; exact hpiece x) y ⟨_, List.mem_singleton_self _, hy⟩
  exact hw

theorem fill_spec (rk : Memref sig .scVector .vmem S2048 .i32) (ix : Memref sig .scVector .vmem S4x128 .i32) (base : BitVec 32) (q : Fin 4)
    (f5 : Buf (Elt F) (rk.view.loc (V d c s))) :
    ∀ (L : List (Fin 32)) (f6 : Buf (Elt F) (ix.view.loc (V d c s))),
    iprop(held c s d rk fullShare f5 ∗ held c s d ix fullShare f6)
      ⊢ wps c s d (fill rk ix base q L)
          fun _ => iprop(held c s d rk fullShare f5 ∗ ∃ g6, held c s d ix fullShare g6
            ∗ ⌜∀ y, (ix.view.read (Elt F) g6 y = numAt base q (rk.view.read (Elt F) f5) y)
                ∨ ((∀ p ∈ L, y ∉ (cell p).set) ∧ ix.view.read (Elt F) g6 y = ix.view.read (Elt F) f6 y)⌝)
  | [], f6 => by
    unfold fill wps
    iintro ⟨H5, H6⟩
    sl_step
    isplitl [H5]; · iexact H5
    iexists f6
    isplitl [H6]; · iexact H6
    ipureintro; intro y; exact .inr ⟨by simp, rfl⟩
  | p :: L, f6 => by
    unfold fill wps
    rw [wp_bind]
    refine (fillOne_spec d rk ix base q p f5 f6).trans (wp_mono frame _ _ fun _ => ?_)
    refine (fill_spec rk ix base q f5 L _).trans (wp_mono frame _ _ fun _ => ?_)
    iintro ⟨H5, %g6, H6, %h⟩
    isplitl [H5]; · iexact H5
    iexists g6
    isplitl [H6]; · iexact H6
    ipureintro
    intro y
    rcases h y with h | ⟨hL, h⟩
    · exact .inl h
    by_cases hy : y ∈ (cell p).set
    · refine .inl (h.trans ?_)
      exact cell_value d ix base q p (rk.view.read (Elt F) f5) f6 y hy
    · refine .inr ⟨?_, h.trans (View.read_writes_apply_of_forall_not_mem _ _ y _ ?_)⟩
      · intro q hq
        rcases List.mem_cons.mp hq with rfl | hq
        · exact hy
        · exact hL q hq
      · intro q hq; rw [List.mem_singleton] at hq; subst hq; exact hy

/-- Every place is in some group. -/
theorem groups_cover (y : S4x128.Idx) : ¬ ∀ p ∈ groups, y ∉ (cell p).set := by
  intro h
  have h0 : (y 0).val < 4 := (y 0).isLt
  have h1 : (y 1).val < 128 := (y 1).isLt
  have hp : 8 * (y 0).val + (y 1).val / 16 < 32 := by omega
  have hm : ∀ p : Fin 32, p ∈ groups := by decide
  refine h ⟨_, hp⟩ (hm _) (Rect.mem_set_unit.mpr ?_)
  intro a; fin_cases a
  · show (8 * (y 0).val + (y 1).val / 16) / 8 ≤ (y 0).val ∧ (y 0).val < (8 * (y 0).val + (y 1).val / 16) / 8 + 1
    omega
  · show 16 * ((8 * (y 0).val + (y 1).val / 16) % 8) ≤ (y 1).val ∧ (y 1).val < 16 * ((8 * (y 0).val + (y 1).val / 16) % 8) + 16
    omega

/-- All the row numbers of a quarter. -/
theorem fillAll_spec (rk : Memref sig .scVector .vmem S2048 .i32) (ix : Memref sig .scVector .vmem S4x128 .i32) (base : BitVec 32) (q : Fin 4)
    (f5 : Buf (Elt F) (rk.view.loc (V d c s))) (f6 : Buf (Elt F) (ix.view.loc (V d c s))) :
    iprop(held c s d rk fullShare f5 ∗ held c s d ix fullShare f6)
      ⊢ wps c s d (fill rk ix base q groups)
          fun _ => iprop(held c s d rk fullShare f5 ∗ ∃ g6, held c s d ix fullShare g6
            ∗ ⌜∀ y, ix.view.read (Elt F) g6 y = numAt base q (rk.view.read (Elt F) f5) y⌝) := by
  refine (fill_spec d rk ix base q f5 groups f6).trans (wp_mono frame _ _ fun _ => ?_)
  iintro ⟨H5, %g6, H6, %h⟩
  isplitl [H5]; · iexact H5
  iexists g6
  isplitl [H6]; · iexact H6
  ipureintro
  intro y
  exact (h y).resolve_right fun h => groups_cover y h.1

/-! ## The four streams -/

/-- The elements of a view, by rectangles that part its shape. -/
theorem set_tiles {κ : Kind} {sp : Space} {sh : Shape} {e : EltTy} (v : View sig κ sp sh e) {m : ℕ} (R : Fin m → Rect sh)
    (hcov : ∀ x, ∃ k, x ∈ (R k).set) : v.set = Finset.univ.biUnion fun k => (v.slice (R k)).set := by
  ext i
  constructor
  · intro hi
    obtain ⟨x, -, rfl⟩ := Finset.mem_map.mp hi
    obtain ⟨k, hk⟩ := hcov x
    refine Finset.mem_biUnion.mpr ⟨k, Finset.mem_univ _, ?_⟩
    rw [View.set_slice]; exact Finset.mem_map_of_mem _ hk
  · intro hi
    obtain ⟨k, -, hk⟩ := Finset.mem_biUnion.mp hi
    exact View.set_slice_subset v (R k) hk

theorem disjoint_tiles {κ : Kind} {sp : Space} {sh : Shape} {e : EltTy} (v : View sig κ sp sh e) {R R' : Rect sh} (h : Disjoint R.set R'.set) :
    Disjoint (v.slice R).set (v.slice R').set := by
  rw [View.set_slice, View.set_slice]; exact (Finset.disjoint_map v.emb).mpr h

/-- What stream `r` sends. -/
abbrev landR (r : Fin 4) : Rect S512x128 := Rect.unit (s := S512x128) ![128 * r.val, 0] S128x128.size (land_inb (128 * r.val) (by omega))
/-- The list of stream `r`. -/
abbrev listR (r : Fin 4) : Rect S4x128 := Rect.unit (s := S4x128) ![r.val, 0] S1x128.size (row_inb r.val r.isLt)

theorem landR_cover (x : S512x128.Idx) : ∃ r, x ∈ (landR r).set := by
  have h0 : (x 0).val < 512 := (x 0).isLt
  have h1 : (x 1).val < 128 := (x 1).isLt
  refine ⟨⟨(x 0).val / 128, by omega⟩, Rect.mem_set_unit.mpr ?_⟩
  intro a; fin_cases a
  · show 128 * ((x 0).val / 128) ≤ (x 0).val ∧ (x 0).val < 128 * ((x 0).val / 128) + 128; omega
  · show 0 ≤ (x 1).val ∧ (x 1).val < 0 + 128; omega
theorem landR_disjoint {r r' : Fin 4} (h : r ≠ r') : Disjoint (landR r).set (landR r').set := by
  refine Finset.disjoint_left.mpr fun x hx hx' => h ?_
  have h1 : 128 * r.val ≤ (x 0).val ∧ (x 0).val < 128 * r.val + 128 := Rect.mem_set_unit.mp hx 0
  have h2 : 128 * r'.val ≤ (x 0).val ∧ (x 0).val < 128 * r'.val + 128 := Rect.mem_set_unit.mp hx' 0
  exact Fin.ext (by omega)
theorem listR_cover (x : S4x128.Idx) : ∃ r, x ∈ (listR r).set := by
  have h1 : (x 1).val < 128 := (x 1).isLt
  refine ⟨x 0, Rect.mem_set_unit.mpr ?_⟩
  intro a; fin_cases a
  · show (x 0).val ≤ (x 0).val ∧ (x 0).val < (x 0).val + 1; omega
  · show 0 ≤ (x 1).val ∧ (x 1).val < 0 + 128; omega
theorem listR_disjoint {r r' : Fin 4} (h : r ≠ r') : Disjoint (listR r).set (listR r').set := by
  refine Finset.disjoint_left.mpr fun x hx hx' => h ?_
  have h1 : r.val ≤ (x 0).val ∧ (x 0).val < r.val + 1 := Rect.mem_set_unit.mp hx 0
  have h2 : r'.val ≤ (x 0).val ∧ (x 0).val < r'.val + 1 := Rect.mem_set_unit.mp hx' 0
  exact Fin.ext (by omega)

theorem list_set (ix : Memref sig .scVector .vmem S4x128 .i32) (r : Fin 4) : (list ix r.val r.isLt).view.set = (ix.view.slice (listR r)).set :=
  View.set_reshape _ _

/-- A list's word. -/
theorem list_read (ix : Memref sig .scVector .vmem S4x128 .i32) (r : Fin 4) (fx : Buf (Elt F) (ix.view.loc (V d c s))) (k : Fin 128) :
    (list ix r.val r.isLt).view.read (Elt F) fx (ix1 k) = ix.view.read (Elt F) fx (ix2 r k) := by
  show ix.view.read (Elt F) fx ((listR r).emb (Shape.reshapeEquiv _ (ix1 k))) = _
  have h : Shape.reshapeEquiv (s := S1x128) (s' := S128) (by decide) (ix1 k) = ix2 0 k :=
    Shape.reshapeEquiv_eq_of_rowMajor _ (by
      rw [Shape.rowMajor_val_one, Shape.rowMajor_val_two]
      show 0 * 128 + k.val = k.val; omega)
  rw [h]
  refine congrArg _ ?_
  funext a; fin_cases a
  · exact Fin.ext (by show r.val + 1 * 0 = r.val; omega)
  · exact Fin.ext (by show 0 + 1 * k.val = k.val; omega)

omit [FloatOps F] in
theorem tiles_of {sp} {s₀ : Shape} {E : EltTy} {n : ℕ} (M : Memref sig .scVector sp s₀ E) (p : PosShare TreeShare) (f : Buf (Elt F) (M.view.loc (V d c s)))
    (R : Fin n → Rect s₀) (hc : ∀ y, ∃ k, y ∈ (R k).set) (hd : ∀ {i j}, i ≠ j → Disjoint (R i).set (R j).set) :
    (held c s d M p f : sProp 𝕄) = bigSep Finset.univ fun k => (M.view.loc (V d c s) ↦[(M.view.slice (R k)).set]{p} f) := by
  unfold held
  rw [set_tiles M.view R hc]
  exact pointsTo_biUnion Finset.univ _ fun r _ r' _ h => disjoint_tiles M.view (hd h)

theorem four (P : Fin 4 → sProp 𝕄) : bigSep Finset.univ P = iprop(P 0 ∗ P 1 ∗ P 2 ∗ P 3) := by
  rw [bigSep_univ_succ, bigSep_univ_succ, bigSep_univ_succ, bigSep_univ_succ, Finset.univ_eq_empty, bigSep_empty]
  exact congrArg (fun X => iprop(P 0 ∗ P 1 ∗ P 2 ∗ X)) (BI.equiv_iff.mp BI.sep_emp)

abbrev EC : UEmb Counters 𝕄 := countersEmb

/-- One row of the sorted array. -/
abbrev rowR (n : Fin 131072) : Rect S131072x128 := S131072x128.rowRect gathers_S131072x128_S128x128.axis n
/-- One row of the sorted array, held. -/
abbrev sentRow (c : Fin τ.nSC) (s : Fin τ.nSub) (d : Dev nD) (A : Memref sig .scVector .hbm S131072x128 .f32) (f : Buf (Elt F) (A.view.loc (V d c s))) (n : Fin 131072) : sProp 𝕄 :=
  A.view.loc (V d c s) ↦[(A.view.slice (rowR n)).set]{fullShare} f

theorem tabRow_emb (A : Memref sig .scVector .hbm S131072x128 .f32) (n : Fin 131072) : ((tab A).view.slice (rowR n)).emb = (A.view.slice (rowR n)).emb := by
  ext1 x
  show A.view.emb ((Rect.unit (s := S131072x128) ![0, 0] S131072x128.size inb_S131072x128_S131072x128_0_0).emb ((rowR n).emb x)) = A.view.emb ((rowR n).emb x)
  refine congrArg _ ?_
  funext a; fin_cases a
  · apply Fin.ext; show 0 + 1 * _ = _; omega
  · apply Fin.ext; show 0 + 1 * _ = _; omega

theorem tabRow_set (A : Memref sig .scVector .hbm S131072x128 .f32) (n : Fin 131072) : ((tab A).view.slice (rowR n)).set = (A.view.slice (rowR n)).set := by
  unfold View.set
  rw [tabRow_emb A n]

theorem numel_pos : 0 < S128x128.numel := by decide

section Batch

variable (A : Memref sig .scVector .hbm S131072x128 .f32) (ix : Memref sig .scVector .vmem S4x128 .i32)
    (B : Memref sig .scVector .vmem S512x128 .f32)
    (fA : Buf (Elt F) (A.view.loc (V d c s))) (fx : Buf (Elt F) (ix.view.loc (V d c s))) (fB : Buf (Elt F) (B.view.loc (V d c s)))
    (w : Fin 4 → Fin 128 → Fin 131072) (hw : ∀ r j, (ix.view.read (Elt F) fx (ix2 r j)).toNat = (w r j).val)

/-- The rows stream `r` sends. -/
abbrev landM (r : Fin 4) : Memref sig .scVector .vmem S128x128 .f32 := land B (128 * r.val) (by omega)

include hw in
theorem list_in (r : Fin 4) (x : S128.Idx) : ((list ix r.val r.isLt).view.read (Elt F) fx x).toNat < S131072x128.size gathers_S131072x128_S128x128.axis := by
  obtain ⟨k, rfl⟩ : ∃ k, x = ix1 k := ⟨x 0, by funext a; fin_cases a; rfl⟩
  rw [list_read d ix r fx k, hw]; exact (w r k).isLt

/-- The row a list's entry names. -/
theorem rows_eq (r : Fin 4) (j : Fin 128) :
    SparseCore.rows ((list ix r.val r.isLt).view.read (Elt F) fx) (o := 128) rfl (list_in d ix fx w hw r) j = w r j := by
  have hk : S128.rowMajor.symm (j.cast (by decide)) = ix1 j :=
    (Equiv.symm_apply_eq _).mpr (Fin.ext (by rw [Shape.rowMajor_val_one]; rfl))
  apply Fin.ext
  refine Eq.trans ?_ (hw r j)
  rw [← list_read d ix r fx j]
  exact congrArg (fun i => ((list ix r.val r.isLt).view.read (Elt F) fx i).toNat) hk

theorem rowAt_eq (r : Fin 4) (j : Fin 128) (f : Buf (Elt F) (A.view.loc (V d c s))) :
    (Sends.rowAt (V d c s) (tab A) gathers_S131072x128_S128x128 (list ix r.val r.isLt) rfl fx (list_in d ix fx w hw r) j f : sProp 𝕄)
      = sentRow c s d A f (w r j) := by
  have h := rows_eq d ix fx w hw r j
  unfold Sends.rowAt sentRow
  refine congrArg (fun I => (A.view.loc (V d c s) ↦[I]{fullShare} f : sProp 𝕄)) ?_
  rw [← tabRow_set, ← h]; rfl

/-- What row `j` of stream `r` delivers. -/
def rowDone (r : Fin 4) (j : Fin 128) : sProp 𝕄 :=
  Sends.rowSent (V d c s) (landM B r) (tab A) gathers_S131072x128_S128x128 (list ix r.val r.isLt) rfl
    fullShare fullShare fB fA fx (list_in d ix fx w hw r) j

/-- What row `t` of the four streams delivers. -/
def done (t : Fin 512) : sProp 𝕄 :=
  rowDone d A ix B fA fx fB w hw ⟨t.val / 128, by have := t.isLt; omega⟩ ⟨t.val % 128, Nat.mod_lt _ (by decide)⟩

instance (t : Fin 512) : Storable (upEmb : UEmb _ 𝕄) (done d A ix B fA fx fB w hw t) :=
  Sends.rowSent_storable ..

theorem done_num (r : Fin 4) (h : 128 * r.val + 128 ≤ 512) (j : Fin 128) :
    done d A ix B fA fx fB w hw (Streams.num (128 * r.val) 128 h j) = rowDone d A ix B fA fx fB w hw r j := by
  have hj := j.isLt
  unfold done
  have h1 : (⟨(Streams.num (n := 512) (128 * r.val) 128 h j).val / 128, by have := (Streams.num (n := 512) (128 * r.val) 128 h j).isLt; omega⟩ : Fin 4) = r :=
    Fin.ext (by show (128 * r.val + j.val) / 128 = r.val; omega)
  have h2 : (⟨(Streams.num (n := 512) (128 * r.val) 128 h j).val % 128, Nat.mod_lt _ (by decide)⟩ : Fin 128) = j :=
    Fin.ext (by show (128 * r.val + j.val) % 128 = j.val; omega)
  rw [h1, h2]

/-- The four streams' rows, stream by stream. -/
theorem done_all : bigSep Finset.univ (done d A ix B fA fx fB w hw)
    = bigSep Finset.univ fun r : Fin 4 => bigSep Finset.univ fun j : Fin 128 => rowDone d A ix B fA fx fB w hw r j := by
  rw [BI.bigSep_univ_equiv (finProdFinEquiv (m := 4) (n := 128)), BI.bigSep_univ_prod]
  refine BI.bigSep_congr fun r _ => BI.bigSep_congr fun j _ => ?_
  have hr := r.isLt
  rw [← done_num d A ix B fA fx fB w hw r (by omega) j]
  refine congrArg _ (Fin.ext ?_)
  show j.val + 128 * r.val = 128 * r.val + j.val
  omega

set_option maxRecDepth 65536 in
/-- One stream issued. -/
theorem issue_spec (sm : DmaSem sig) (r : Fin 4) :
    iprop((bigSep Finset.univ fun j => sentRow c s d A fA (w r j)) ∗ ((landM B r).view.loc (V d c s) ↦[(landM B r).view.set]{fullShare} fB)
        ∗ ((list ix r.val r.isLt).view.loc (V d c s) ↦[(list ix r.val r.isLt).view.set]{fullShare} fx)
        ∗ Transfers.Batch EC (V d c s) (.dma sm) (default : HIx 2) 4096 (done d A ix B fA fx fB w hw) (128 * r.val) 0)
      ⊢ wps c s d
          (SparseCore.enqueueIndirectScatter rfl (landM B r) (tab A) gathers_S131072x128_S128x128 (list ix r.val r.isLt) rfl sm rfl (Or.inl rfl) : PR F c s PUnit)
          fun _ => Transfers.Batch EC (V d c s) (.dma sm) (default : HIx 2) 4096 (done d A ix B fA fx fB w hw) (128 * r.val + 128) 0 := by
  have hr := r.isLt
  have h := Sends.wp_scatterBatch (defs := defs₀ (F := F)) EC 𝒱₀ (V d c s) none (src := landM B r) (dst := tab A)
    (hg := gathers_S131072x128_S128x128) (offs := list ix r.val r.isLt) (hn := rfl) (sem := sm) (hp := rfl)
    (he := rfl) (hsp := Or.inl rfl) (hr := by decide) (k := pure)
    (Q := fun _ => Transfers.Batch EC (V d c s) (.dma sm) (default : HIx 2) 4096 (done d A ix B fA fx fB w hw) (128 * r.val + 128) 0)
    fullShare fullShare fB fA fx (default : HIx 2) 4096 (list_in d ix fx w hw r) (fun j => rfl)
    (done d A ix B fA fx fB w hw) (128 * r.val) (show 128 * r.val + 128 ≤ 512 by omega)
    (fun i => Entails.of_eq (done_num d A ix B fA fx fB w hw r (by omega) i).symm)
  have e : (bigSep Finset.univ fun j : Fin 128 => sentRow c s d A fA (w r j))
      = (bigSep Finset.univ fun j : Fin 128 => (Sends.rowAt (V d c s) (tab A) gathers_S131072x128_S128x128 (list ix r.val r.isLt) rfl fx (list_in d ix fx w hw r) j fA : sProp 𝕄)) :=
    BI.bigSep_congr fun j _ => (rowAt_eq d A ix fx w hw r j fA).symm
  unfold wps
  iintro ⟨HA, HB, Hx, HD⟩
  ihave HA := (Entails.of_eq e) $$ HA
  iapply h $$ [HA HB Hx HD]
  · isplitl [HB]; · iexact HB
    isplitl [HA]; · iexact HA
    isplitl [Hx]; · iexact Hx
    iexact HD
  iintro HB
  sl_step
  iexact HB

/-- A wait that hands nothing back. -/
theorem wait_spec (sm : DmaSem sig) (r : Fin 4) (u : ℕ) (hu : u + 524288 ≤ 2097152) (O : CellTallies nD τ sig (HIx 2)) (W : Waits sig (HIx 2)) :
    iprop(Transfers.MayWaits (V d c s) (default : HIx 2) O
        ∗ Transfers.Batch EC (V d c s) (.dma sm) (default : HIx 2) 4096 (done d A ix B fA fx fB w hw) 512 u ∗ owes (V d c s) O W)
      ⊢ wps c s d
          (SparseCore.waitIndirectScatter sm (landM B r) (tab A) (View.wordExact_bits rfl) (View.wordExact_bits rfl) : PR F c s PUnit)
          fun _ => iprop(Transfers.MayWaits (V d c s) (default : HIx 2) O
            ∗ Transfers.Batch EC (V d c s) (.dma sm) (default : HIx 2) 4096 (done d A ix B fA fx fB w hw) 512 (u + 524288)
            ∗ owesFrom c s d O W) := by
  unfold SparseCore.waitIndirectScatter wps
  iintro ⟨#Hmw, HB, HO⟩
  iapply (Transfers.wp_waitBatchMulO EC 𝒱₀ (V d c s) none (default : HIx 2) (N := 4096) 128 (by rfl) (j := 512) (u := u) (by omega) (O := O) (W := W)) $$ [HB HO]
  · isplitl [HB]; · iexact HB
    isplitl [HO]; · iexact HO
    iapply (Transfers.MayWaits.elim (SemLoc.dma sm)); iexact Hmw
  iintro ⟨HB, HO⟩
  sl_step
  isplitr; · iexact Hmw
  isplitl [HB]; · iexact HB
  iexists _
  isplitr; swap; · iexact HO
  ipureintro; intro p hp
  rcases Finset.mem_insert.mp hp with hp | hp; · exact .inr (hp ▸ rfl)
  exact .inl hp

/-- The last wait: every row. -/
theorem waitLast_spec (sm : DmaSem sig) (r : Fin 4) (O : CellTallies nD τ sig (HIx 2)) (W : Waits sig (HIx 2)) :
    iprop(Transfers.MayWaits (V d c s) (default : HIx 2) O
        ∗ Transfers.Batch EC (V d c s) (.dma sm) (default : HIx 2) 4096 (done d A ix B fA fx fB w hw) 512 1572864 ∗ owes (V d c s) O W)
      ⊢ wps c s d
          (SparseCore.waitIndirectScatter sm (landM B r) (tab A) (View.wordExact_bits rfl) (View.wordExact_bits rfl) : PR F c s PUnit)
          fun _ => iprop(Transfers.MayWaits (V d c s) (default : HIx 2) O
            ∗ bigSep Finset.univ (done d A ix B fA fx fB w hw) ∗ semVal (V d c s, .dma sm) 0
            ∗ owesFrom c s d O W) := by
  unfold SparseCore.waitIndirectScatter wps
  iintro ⟨#Hmw, HB, HO⟩
  iapply (Transfers.wp_waitBatchAllO EC 𝒱₀ (V d c s) none (default : HIx 2) (N := 4096) (J := 524288) (n := 512) (u := 1572864) (by rfl) (by decide) (by decide) (O := O) (W := W)) $$ [HB HO]
  · isplitl [HB]; · iexact HB
    isplitl [HO]; · iexact HO
    iapply (Transfers.MayWaits.elim (SemLoc.dma sm)); iexact Hmw
  iintro ⟨HB, Hs, HO⟩
  sl_step
  isplitr; · iexact Hmw
  isplitl [HB]; · iexact HB
  isplitl [Hs]; · iexact Hs
  iexists _
  isplitr; swap; · iexact HO
  ipureintro; intro p hp
  rcases Finset.mem_insert.mp hp with hp | hp; · exact .inr (hp ▸ rfl)
  exact .inl hp

omit [FloatOps F] in
theorem idxEquiv_val {s₁ s₂ : Shape} (h : s₁ = s₂) (x : s₂.Idx) (b : Fin s₁.rank) :
    ((Shape.idxEquiv h).symm x b).val = (x (b.cast (congrArg Shape.rank h))).val := by
  subst h; rfl

/-- A row's payload is the row of the source. -/
theorem payload_value (r : Fin 4) (j : Fin 128) (x : (S131072x128.rowShape gathers_S131072x128_S128x128.axis).Idx) (l : Fin 128) (hl : (x (1 : Fin 2)).val = l.val) :
    SparseCore.scatterRowPayload (V d c s) (landM B r) gathers_S131072x128_S128x128 fB j x
      = B.view.read (Elt F) fB (ix2 ⟨128 * r.val + j.val, by omega⟩ l) := by
  show B.view.read (Elt F) fB ((landR r).emb ((S128x128.rowRect gathers_S131072x128_S128x128.axis' j).emb
    ((Shape.idxEquiv gathers_S131072x128_S128x128.rowShape_eq).symm x))) = _
  refine congrArg _ ?_
  funext a; fin_cases a
  · apply Fin.ext
    have h := congrArg Fin.val (Shape.rowRect_emb_axis (s := S128x128) gathers_S131072x128_S128x128.axis' j ((Shape.idxEquiv gathers_S131072x128_S128x128.rowShape_eq).symm x))
    refine (congrArg (fun n => 128 * r.val + 1 * n) h).trans ?_
    show 128 * r.val + 1 * j.val = 128 * r.val + j.val
    omega
  · apply Fin.ext
    show 0 + 1 * ((S128x128.rowRect gathers_S131072x128_S128x128.axis' j).emb _ (1 : Fin 2)).val = l.val
    have h := Shape.rowRect_emb_of_ne (s := S128x128) gathers_S131072x128_S128x128.axis' j ((Shape.idxEquiv gathers_S131072x128_S128x128.rowShape_eq).symm x) (b := (1 : Fin 2)) (by decide)
    have h2 := idxEquiv_val gathers_S131072x128_S128x128.rowShape_eq x (1 : Fin 2)
    rw [Nat.zero_add, Nat.one_mul, ← hl]
    exact h.trans h2

variable (G : Buf (Elt F) (A.view.loc (V d c s)))
  (hG : ∀ r j (l : Fin 128), B.view.read (Elt F) fB (ix2 ⟨128 * r.val + j.val, by omega⟩ l) = A.view.read (Elt F) G (ix2 (w r j) l))

include hw hG in
/-- A row sent is the row wanted. -/
theorem row_sent (r : Fin 4) (j : Fin 128) :
    (Sends.rowAt (V d c s) (tab A) gathers_S131072x128_S128x128 (list ix r.val r.isLt) rfl fx (list_in d ix fx w hw r) j
        (((tab A).view.slice (S131072x128.rowRect gathers_S131072x128_S128x128.axis
          (SparseCore.rows ((list ix r.val r.isLt).view.read (Elt F) fx) rfl (list_in d ix fx w hw r) j))).write (Elt F) fA
            (SparseCore.scatterRowPayload (V d c s) (landM B r) gathers_S131072x128_S128x128 fB j) Finset.univ) : sProp 𝕄)
      = sentRow c s d A G (w r j) := by
  rw [← rowAt_eq d A ix fx w hw r j G]
  refine pointsTo_congr fun i hi => ?_
  obtain ⟨x, -, rfl⟩ := Finset.mem_map.mp hi
  refine eq_of_read _ ?_
  refine (congrFun (View.read_write_univ _ _) x).trans ?_
  have hx : (x (1 : Fin 2)).val < 128 := (x (1 : Fin 2)).isLt
  refine (payload_value d B fB r j x ⟨_, hx⟩ rfl).trans ((hG r j ⟨_, hx⟩).trans ?_)
  show _ = A.view.read (Elt F) G ((Rect.unit (s := S131072x128) ![0, 0] S131072x128.size inb_S131072x128_S131072x128_0_0).emb ((rowR _).emb x))
  refine congrArg _ ?_
  funext a; fin_cases a
  · apply Fin.ext
    have h := (congrArg Fin.val (Shape.rowRect_emb_axis (s := S131072x128) gathers_S131072x128_S128x128.axis (SparseCore.rows ((list ix r.val r.isLt).view.read (Elt F) fx) (o := 128) rfl (list_in d ix fx w hw r) j) x)).trans (congrArg Fin.val (rows_eq d ix fx w hw r j))
    refine Eq.trans ?_ (congrArg (fun n => 0 + 1 * n) h).symm
    show (w r j).val = 0 + 1 * (w r j).val
    omega
  · apply Fin.ext
    have h := Shape.rowRect_emb_of_ne (s := S131072x128) gathers_S131072x128_S128x128.axis (SparseCore.rows ((list ix r.val r.isLt).view.read (Elt F) fx) (o := 128) rfl (list_in d ix fx w hw r) j) x (b := (1 : Fin 2)) (by decide)
    refine Eq.trans ?_ (congrArg (fun n => 0 + 1 * n) h).symm
    show (x (1 : Fin 2)).val = 0 + 1 * (x (1 : Fin 2)).val
    omega

include hw hG in
/-- Every row sent. -/
theorem collect : bigSep Finset.univ (done d A ix B fA fx fB w hw)
    ⊢ iprop((bigSep Finset.univ fun r : Fin 4 => bigSep Finset.univ fun j : Fin 128 => sentRow c s d A G (w r j))
      ∗ held c s d ix fullShare fx ∗ held c s d B fullShare fB) := by
  have hr : ∀ r : Fin 4, (bigSep Finset.univ fun j : Fin 128 => rowDone d A ix B fA fx fB w hw r j)
      ⊢ iprop((bigSep Finset.univ fun j : Fin 128 => sentRow c s d A G (w r j))
        ∗ (B.view.loc (V d c s) ↦[(B.view.slice (landR r)).set]{fullShare} fB) ∗ (ix.view.loc (V d c s) ↦[(ix.view.slice (listR r)).set]{fullShare} fx)) := fun r => by
    have h := Sends.rowsSent (Ix := HIx 2) (Name := ℕ) (U := UU) (Lvl := ℕ) (V d c s) (landM B r) (tab A) gathers_S131072x128_S128x128 (list ix r.val r.isLt) rfl
      fullShare fullShare fB fA fx (list_in d ix fx w hw r)
    rw [list_set] at h
    exact BIBase.Entails.trans h (sep_mono_left (Entails.of_eq (BI.bigSep_congr fun j _ => row_sent d A ix B fA fx fB w hw G hG r j)))
  rw [done_all]
  iintro H
  ihave H' := (Transfers.ent (BI.bigSep_mono (s := Finset.univ) fun r _ => hr r)) $$ H
  ihave H1 := Transfers.bigSep_sep_out _ _ _ $$ H'
  icases H1 with ⟨HA, H2⟩
  ihave H3 := Transfers.bigSep_sep_out _ _ _ $$ H2
  icases H3 with ⟨HB, Hx⟩
  isplitl [HA]; · iexact HA
  isplitl [Hx]
  · iapply (Entails.of_eq (tiles_of d ix fullShare fx listR listR_cover listR_disjoint).symm) $$ Hx
  · iapply (Entails.of_eq (tiles_of d B fullShare fB landR landR_cover landR_disjoint).symm) $$ HB

include hw hG in
theorem streams_spec (sm : DmaSem sig) (O : CellTallies nD τ sig (HIx 2)) (W : Waits sig (HIx 2)) :
    iprop(Transfers.MayWaits (V d c s) (default : HIx 2) O
        ∗ (bigSep Finset.univ fun r : Fin 4 => bigSep Finset.univ fun j : Fin 128 => sentRow c s d A fA (w r j))
        ∗ held c s d ix fullShare fx ∗ held c s d B fullShare fB ∗ semVal (V d c s, .dma sm) 0 ∗ owes (V d c s) O W)
      ⊢ wps c s d (streams A ix B sm)
          fun _ => iprop(Transfers.MayWaits (V d c s) (default : HIx 2) O
            ∗ (bigSep Finset.univ fun r : Fin 4 => bigSep Finset.univ fun j : Fin 128 => sentRow c s d A G (w r j))
            ∗ held c s d ix fullShare fx ∗ held c s d B fullShare fB
            ∗ semVal (V d c s, .dma sm) 0 ∗ owesFrom c s d O W) := by
  unfold streams
  iintro ⟨#Hmw, HA, Hx, HB, Hs, HO⟩
  imod (Transfers.batch_alloc' EC (V d c s) (default : HIx 2) 4096 (done d A ix B fA fx fB w hw) (sm := .dma sm) (E := Set.univ)) $$ Hs with HD
  have eA := four (F := F) fun r => bigSep Finset.univ fun j : Fin 128 => sentRow c s d A fA (w r j)
  have ex := (tiles_of d ix fullShare fx listR listR_cover listR_disjoint).trans
    (four fun r => (ix.view.loc (V d c s) ↦[(ix.view.slice (listR r)).set]{fullShare} fx))
  have eB := (tiles_of d B fullShare fB landR landR_cover landR_disjoint).trans
    (four fun r => (B.view.loc (V d c s) ↦[(B.view.slice (landR r)).set]{fullShare} fB))
  ihave HA := (Entails.of_eq eA) $$ HA
  ihave Hx := (Entails.of_eq ex) $$ Hx
  ihave HB := (Entails.of_eq eB) $$ HB
  icases HA with ⟨HA0, HA1, HA2, HA3⟩
  icases Hx with ⟨Hx0, Hx1, Hx2, Hx3⟩
  icases HB with ⟨HB0, HB1, HB2, HB3⟩
  have i0 := issue_spec d A ix B fA fx fB w hw sm 0
  have i1 := issue_spec d A ix B fA fx fB w hw sm 1
  have i2 := issue_spec d A ix B fA fx fB w hw sm 2
  have i3 := issue_spec d A ix B fA fx fB w hw sm 3
  rw [list_set] at i0 i1 i2 i3
  iapply (wp_seq d i0) $$ [HA0 Hx0 HB0 HD]
  · isplitl [HA0]; · iexact HA0
    isplitl [HB0]; · iexact HB0
    isplitl [Hx0]; · iexact Hx0
    iexact HD
  iintro %_ HD
  iapply (wp_seq d i1) $$ [HA1 Hx1 HB1 HD]
  · isplitl [HA1]; · iexact HA1
    isplitl [HB1]; · iexact HB1
    isplitl [Hx1]; · iexact Hx1
    iexact HD
  iintro %_ HD
  iapply (wp_seq d i2) $$ [HA2 Hx2 HB2 HD]
  · isplitl [HA2]; · iexact HA2
    isplitl [HB2]; · iexact HB2
    isplitl [Hx2]; · iexact Hx2
    iexact HD
  iintro %_ HD
  iapply (wp_seq d i3) $$ [HA3 Hx3 HB3 HD]
  · isplitl [HA3]; · iexact HA3
    isplitl [HB3]; · iexact HB3
    isplitl [Hx3]; · iexact Hx3
    iexact HD
  iintro %_ HD
  iapply (wp_seq d (wait_spec d A ix B fA fx fB w hw sm 0 0 (by decide) O W)) $$ [HD HO]
  · iframe HD HO Hmw
  iintro %_ ⟨-, HD, %W1, %h1, HO⟩
  iapply (wp_seq d (wait_spec d A ix B fA fx fB w hw sm 1 524288 (by decide) O W1)) $$ [HD HO]
  · iframe HD HO Hmw
  iintro %_ ⟨-, HD, %W2, %h2, HO⟩
  iapply (wp_seq d (wait_spec d A ix B fA fx fB w hw sm 2 1048576 (by decide) O W2)) $$ [HD HO]
  · iframe HD HO Hmw
  iintro %_ ⟨-, HD, %W3, %h3, HO⟩
  unfold wps
  iapply (wp_wand frame _ _) $$ [HD HO]
  · iapply (waitLast_spec d A ix B fA fx fB w hw sm 3 O W3) $$ [HD HO]
    iframe HD HO Hmw
  iintro %_ ⟨-, HD, Hs, %W4, %h4, HO⟩
  ihave HC := (collect d A ix B fA fx fB w hw G hG) $$ HD
  icases HC with ⟨HA, Hx, HB⟩
  iframe HA Hx HB Hs Hmw
  iexists W4
  iframe HO
  ipureintro
  intro p hp
  rcases h4 p hp with hp | hp
  · rcases h3 p hp with hp | hp
    · rcases h2 p hp with hp | hp
      · exact h1 p hp
      · exact .inr hp
    · exact .inr hp
  · exact .inr hp

end Batch

/-! ## A quarter -/

theorem fetchV_spec (qv : Memref sig .scVector .hbm S32x2048x128 .f32) (B : Memref sig .scVector .vmem S512x128 .f32) (hB : B.IsWhole) (sm : DmaSem sig)
    (o : Fin 3 → ℕ) (h : ∀ a, o a + S1x512x128.size a ≤ S32x2048x128.size a) (q : PosShare TreeShare)
    (fV : Buf (Elt F) (qv.view.loc (V d c s))) (fB : Buf (Elt F) (B.view.loc (V d c s)))
    (O : CellTallies nD τ sig (HIx 2)) (W : Waits sig (HIx 2)) :
    iprop(Transfers.MayWaits (V d c s) (default : HIx 2) O ∗ held c s d qv q fV ∗ held c s d B fullShare fB ∗ semVal (V d c s, .dma sm) 0 ∗ owes (V d c s) O W)
      ⊢ wps c s d (fetchV qv B hB sm o h)
          fun _ => iprop(Transfers.MayWaits (V d c s) (default : HIx 2) O ∗ held c s d qv q fV
            ∗ (∃ g, held c s d B fullShare g ∗ ⌜∀ x, B.view.read (Elt F) g x = (qvWin qv o h).view.read (Elt F) fV x⌝)
            ∗ semVal (V d c s, .dma sm) 0 ∗ owesFrom c s d O W) := by
  unfold fetchV wps qvWin
  iintro ⟨#Hmw, HA, HB, Hs, HO⟩
  sl_exec
  sl_step
  isplitr; · iexact Hmw
  isplitl [HA]; · iexact HA
  isplitl [HB]
  · iexists _; isplitl [HB]; · iexact HB
    ipureintro; exact fun x => read_whole_piece _ _ _ x
  isplitl [Hs]; · iexact Hs
  iexists _
  isplitr; swap; · iexact HO
  ipureintro; intro p hp
  rcases Finset.mem_insert.mp hp with hp | hp; · exact .inr (hp ▸ rfl)
  exact .inl hp

theorem part_lt (q : Fin 4) (i : Fin 512) : 512 * q.val + i.val < 2048 := by omega

/-- A word of the rows fetched. -/
theorem qvWin_read (qv : Memref sig .scVector .hbm S32x2048x128 .f32) (o : Fin 3 → ℕ) (h : ∀ a, o a + S1x512x128.size a ≤ S32x2048x128.size a)
    (b : Fin 32) (q : Fin 4) (ho : o = ![b.val, 512 * q.val, 0]) (fV : Buf (Elt F) (qv.view.loc (V d c s))) (i : Fin 512) (l : Fin 128) :
    (qvWin qv o h).view.read (Elt F) fV (ix2 i l) = qv.view.read (Elt F) fV (ix3 b ⟨512 * q.val + i.val, part_lt q i⟩ l) := by
  subst ho
  show qv.view.read (Elt F) fV ((Rect.unit (s := S32x2048x128) ![b.val, 512 * q.val, 0] S1x512x128.size h).emb (Shape.reshapeEquiv _ (ix2 i l))) = _
  have e : Shape.reshapeEquiv (s := S1x512x128) (s' := S512x128) (by decide) (ix2 i l) = ix3 0 i l :=
    Shape.reshapeEquiv_eq_of_rowMajor _ (by
      rw [Shape.rowMajor_val_two, Shape.rowMajor_val_three]
      show (0 * 512 + i.val) * 128 + l.val = i.val * 128 + l.val; omega)
  rw [e]
  refine congrArg _ ?_
  funext a; fin_cases a
  · exact Fin.ext (by show b.val + 1 * 0 = b.val; omega)
  · exact Fin.ext (by show 512 * q.val + 1 * i.val = 512 * q.val + i.val; omega)
  · exact Fin.ext (by show 0 + 1 * l.val = l.val; omega)

theorem dest_lt (k : Fin 64) (r : Fin 2048) : 2048 * k.val + r.val < 131072 := by omega
/-- Row `r` of part `k` of the sorted array. -/
abbrev dest (k : Fin 64) (r : Fin 2048) : Fin 131072 := ⟨2048 * k.val + r.val, dest_lt k r⟩

theorem numAt_val (base : BitVec 32) (k : Fin 64) (hbase : base = BitVec.ofNat 32 (2048 * k.val)) (q : Fin 4) (σ : Fin 2048 → Fin 2048) (g : S2048.Idx → BitVec 32) (hr : Ranks σ g)
    (r : Fin 4) (j : Fin 128) : (numAt base q g (ix2 r j)).toNat = (dest k (σ (at5 q r j))).val := by
  have h := hr (at5 q r j)
  have hk := k.isLt
  have hs := (σ (at5 q r j)).isLt
  show (g (ix1 (at5 q r j)) + base).toNat = 2048 * k.val + (σ (at5 q r j)).val
  rw [BitVec.toNat_add, h, hbase, BitVec.toNat_ofNat]
  omega

/-- The rows of one quarter. -/
abbrev quarterRows (c : Fin τ.nSC) (s : Fin τ.nSub) (d : Dev nD) (A : Memref sig .scVector .hbm S131072x128 .f32) (f : Buf (Elt F) (A.view.loc (V d c s))) (k : Fin 64)
    (σ : Fin 2048 → Fin 2048) (q : Fin 4) : sProp 𝕄 :=
  bigSep Finset.univ fun r : Fin 4 => bigSep Finset.univ fun j : Fin 128 => sentRow c s d A f (dest k (σ (at5 q r j)))

theorem quarter_spec (qv : Memref sig .scVector .hbm S32x2048x128 .f32) (A : Memref sig .scVector .hbm S131072x128 .f32) (rk : Memref sig .scVector .vmem S2048 .i32)
    (ix : Memref sig .scVector .vmem S4x128 .i32) (B : Memref sig .scVector .vmem S512x128 .f32) (hB : B.IsWhole) (sg sm : DmaSem sig)
    (o : Fin 3 → ℕ) (h : ∀ a, o a + S1x512x128.size a ≤ S32x2048x128.size a) (base : BitVec 32) (q : Fin 4)
    (b : Fin 32) (ho : o = ![b.val, 512 * q.val, 0]) (k : Fin 64) (hbase : base = BitVec.ofNat 32 (2048 * k.val)) (σ : Fin 2048 → Fin 2048) (qq : PosShare TreeShare)
    (fV : Buf (Elt F) (qv.view.loc (V d c s))) (fA G : Buf (Elt F) (A.view.loc (V d c s))) (fr : Buf (Elt F) (rk.view.loc (V d c s)))
    (hr : Ranks σ (rk.view.read (Elt F) fr)) (hG : ∀ p l, A.view.read (Elt F) G (ix2 (dest k (σ p)) l) = qv.view.read (Elt F) fV (ix3 b p l))
    (O : CellTallies nD τ sig (HIx 2)) (W : Waits sig (HIx 2)) :
    iprop(Transfers.MayWaits (V d c s) (default : HIx 2) O ∗ held c s d qv qq fV ∗ held c s d rk fullShare fr
        ∗ (∃ g, held c s d ix fullShare g) ∗ (∃ g, held c s d B fullShare g) ∗ semVal (V d c s, .dma sg) 0
        ∗ quarterRows c s d A fA k σ q ∗ semVal (V d c s, .dma sm) 0 ∗ owes (V d c s) O W)
      ⊢ wps c s d (quarter qv A rk ix B hB sg sm o h base q)
          fun _ => iprop(Transfers.MayWaits (V d c s) (default : HIx 2) O ∗ held c s d qv qq fV ∗ held c s d rk fullShare fr
            ∗ (∃ g, held c s d ix fullShare g) ∗ (∃ g, held c s d B fullShare g) ∗ semVal (V d c s, .dma sg) 0
            ∗ quarterRows c s d A G k σ q ∗ semVal (V d c s, .dma sm) 0 ∗ owesFrom c s d O W) := by
  unfold quarter
  iintro ⟨#Hmw, HV, Hr, ⟨%fx, Hx⟩, ⟨%fB, HB⟩, Hg, HA, Hm, HO⟩
  iapply (wp_seq d (fetchV_spec d qv B hB sm o h qq fV fB O W)) $$ [HV HB Hm HO]
  · iframe HV HB Hm HO Hmw
  iintro %_ ⟨-, HV, ⟨%gB, HB, %hgB⟩, Hm, %W1, %hW1, HO⟩
  iapply (wp_seq d (fillAll_spec d rk ix base q fr fx)) $$ [Hr Hx]
  · iframe Hr Hx
  iintro %_ ⟨Hr, %gx, Hx, %hgx⟩
  have hw : ∀ r j, (ix.view.read (Elt F) gx (ix2 r j)).toNat = (dest k (σ (at5 q r j))).val := fun r j => by
    rw [hgx]; exact numAt_val base k hbase q σ _ hr r j
  have hGG : ∀ (r : Fin 4) (j : Fin 128) (l : Fin 128), B.view.read (Elt F) gB (ix2 ⟨128 * r.val + j.val, by omega⟩ l)
      = A.view.read (Elt F) G (ix2 (dest k (σ (at5 q r j))) l) := fun r j l => by
    rw [hgB, hG]; exact qvWin_read d qv o h b q ho fV _ l
  unfold wps
  iapply (wp_wand frame _ _) $$ [HA Hx HB Hg HO]
  · iapply (streams_spec d A ix B fA gx gB (fun r j => dest k (σ (at5 q r j))) hw G hGG sg O W1) $$ [HA Hx HB Hg HO]
    iframe HA Hx HB Hg HO Hmw
  iintro %_ ⟨-, HA, Hx, HB, Hg, %W2, %hW2, HO⟩
  isplitr; · iexact Hmw
  iframe HV Hr HA Hg Hm
  isplitl [Hx]; · iexists gx; iexact Hx
  isplitl [HB]; · iexists gB; iexact HB
  iexists W2
  iframe HO
  ipureintro
  intro p hp
  rcases hW2 p hp with hp | hp
  · exact hW1 p hp
  · exact .inr hp

end Cert.Proof.Scat

end
-- ==== Proof.ScatTripSpec.lean ====
/-
  What one trip of the scattering kernel's loop does.
-/
module

public import proofs.«01_k».proof.Proof.ScatRows

@[expose] public section

noncomputable section

namespace Cert.Proof.Scat

open Cert.ScatterIdeal Cert.ScatterIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {c : Fin τ.nSC} {s : Fin τ.nSub} (d : Dev nD)

/-! ## Windows -/

theorem win_read {N n : ℕ} (A : Memref sig .scVector .hbm (Sn N) .i32) (m : ℕ) (h : ∀ a, (![m] : Fin 1 → ℕ) a + (Sn n).size a ≤ (Sn N).size a)
    (f : Buf (Elt F) (A.view.loc (V d c s))) (p : Fin n) (hm : m + p.val < N) :
    (win n A ![m] h).view.read (Elt F) f (ix1 p) = A.view.read (Elt F) f (ix1 ⟨m + p.val, hm⟩) := by
  show A.view.read (Elt F) f ((Rect.unit (s := Sn N) ![m] (Sn n).size h).emb (ix1 p)) = _
  refine congrArg _ ?_
  funext a; fin_cases a
  exact Fin.ext (by show m + 1 * p.val = m + p.val; omega)

/-- A run written out is the run wanted. -/
theorem written_eq {N n : ℕ} (A : Memref sig .scVector .hbm (Sn N) .i32) (o : Fin 1 → ℕ) (h : ∀ a, o a + (Sn n).size a ≤ (Sn N).size a)
    (x : (Sn n).Idx → BitVec 32) (G : Buf (Elt F) (A.view.loc (V d c s))) (hG : ∀ y, (win n A o h).view.read (Elt F) G y = x y) :
    iprop(∃ g, held c s d (win n A o h) fullShare g ∗ ⌜∀ y, (win n A o h).view.read (Elt F) g y = x y⌝)
      ⊢ (held c s d (win n A o h) fullShare G : sProp 𝕄) := by
  iintro ⟨%g, H, %hg⟩
  iapply (Entails.of_eq (pointsTo_congr fun i hi => ?_)) $$ H
  obtain ⟨y, -, rfl⟩ := Finset.mem_map.mp hi
  exact eq_of_read _ ((hg y).trans (hG y).symm)

theorem idx1_eq {n : ℕ} (y : (Sn n).Idx) : ∃ p : Fin n, y = ix1 p := ⟨y 0, by funext a; fin_cases a; rfl⟩

/-- The rows of a part, by quarters. -/
theorem rows_quarters (A : Memref sig .scVector .hbm S131072x128 .f32) (f : Buf (Elt F) (A.view.loc (V d c s))) (k : Fin 64)
    (σ : Fin 2048 → Fin 2048) (hσ : Function.Bijective σ) :
    (bigSep Finset.univ fun r : Fin 2048 => (sentRow c s d A f (dest k r) : sProp 𝕄))
      = bigSep Finset.univ fun q : Fin 4 => quarterRows c s d A f k σ q := by
  rw [BI.bigSep_univ_equiv (Equiv.ofBijective σ hσ), BI.bigSep_univ_equiv (finProdFinEquiv (m := 4) (n := 512)), BI.bigSep_univ_prod]
  refine BI.bigSep_congr fun q _ => ?_
  rw [BI.bigSep_univ_equiv (finProdFinEquiv (m := 4) (n := 128)), BI.bigSep_univ_prod]
  refine BI.bigSep_congr fun r _ => BI.bigSep_congr fun j _ => ?_
  show sentRow c s d A f (dest k (σ _)) = _
  refine congrArg (fun p => (sentRow c s d A f (dest k (σ p)) : sProp 𝕄)) (Fin.ext ?_)
  show j.val + 128 * r.val + 512 * q.val = 512 * q.val + (128 * r.val + j.val)
  omega

/-! ## The trip -/

section Trip

variable (arg2 : Memref sig .scVector .hbm S32x2048x128 .f32) (arg3 : Memref sig .scVector .hbm S524288 .i32) (arg4 : Memref sig .scVector .hbm S262144 .i32)
    (arg5 : Memref sig .scVector .hbm S131072x128 .f32) (arg6 : Memref sig .scVector .hbm S524288 .i32) (arg7 : Memref sig .scVector .hbm S524288 .i32)
    (arg8 : Memref sig .scVector .vmem S2048 .i32) (harg8 : arg8.IsWhole) (arg9 : Memref sig .scVector .vmem S4x128 .i32)
    (arg10 : Memref sig .scVector .vmem S512x128 .f32) (harg10 : arg10.IsWhole)
    (mi : Fin 4 → Memref sig .scVector .vmem S2048 .i32) (hmi : ∀ j, (mi j).IsWhole)
    (mo : Fin 4 → Memref sig .scVector .vmem S2048 .i32) (hmo : ∀ j, (mo j).IsWhole)
    (arg19 : Memref sig .scVector .vmem S8192 .i32) (harg19 : arg19.IsWhole)
    (sg : DmaSem sig) (rs : Fin 14 → DmaSem sig) (q2 q3 q4 : PosShare TreeShare)
    (fV : Buf (Elt F) (arg2.view.loc (V d c s))) (fM : Buf (Elt F) (arg3.view.loc (V d c s))) (fR : Buf (Elt F) (arg4.view.loc (V d c s)))

/-- The metadata going in and coming out, and its place among the fours. -/
def slabM (c : Fin τ.nSC) (s : Fin τ.nSub) : sProp 𝕄 :=
  iprop((∃ g, held c s d (mi 0) fullShare g) ∗ (∃ g, held c s d (mi 1) fullShare g) ∗ (∃ g, held c s d (mi 2) fullShare g) ∗ (∃ g, held c s d (mi 3) fullShare g)
    ∗ (∃ g, held c s d (mo 0) fullShare g) ∗ (∃ g, held c s d (mo 1) fullShare g) ∗ (∃ g, held c s d (mo 2) fullShare g) ∗ (∃ g, held c s d (mo 3) fullShare g)
    ∗ ∃ g, held c s d arg19 fullShare g)

/-- The fetches' and the writes' cells. -/
def slabS (c : Fin τ.nSC) (s : Fin τ.nSub) : sProp 𝕄 :=
  iprop(semVal (V d c s, .dma (rs 0)) 0 ∗ semVal (V d c s, .dma (rs 1)) 0 ∗ semVal (V d c s, .dma (rs 2)) 0 ∗ semVal (V d c s, .dma (rs 3)) 0 ∗ semVal (V d c s, .dma (rs 4)) 0
    ∗ semVal (V d c s, .dma (rs 5)) 0 ∗ semVal (V d c s, .dma (rs 6)) 0 ∗ semVal (V d c s, .dma (rs 7)) 0 ∗ semVal (V d c s, .dma (rs 8)) 0 ∗ semVal (V d c s, .dma (rs 9)) 0
    ∗ semVal (V d c s, .dma (rs 10)) 0 ∗ semVal (V d c s, .dma (rs 11)) 0 ∗ semVal (V d c s, .dma (rs 12)) 0 ∗ semVal (V d c s, .dma (rs 13)) 0)

/-- What every trip takes and gives back. -/
def slab (O : CellTallies nD τ sig (HIx 2)) : sProp 𝕄 :=
  iprop(Transfers.MayWaits (V d c s) (default : HIx 2) O ∗ held c s d arg2 q2 fV ∗ held c s d arg3 q3 fM ∗ held c s d arg4 q4 fR
    ∗ (∃ g, held c s d arg8 fullShare g) ∗ (∃ g, held c s d arg9 fullShare g) ∗ (∃ g, held c s d arg10 fullShare g) ∗ semVal (V d c s, .dma sg) 0
    ∗ slabM d mi mo arg19 c s ∗ slabS d rs c s)

theorem mPart_inb (k : Fin 64) (j : Fin 4) : ∀ a, (![(4 * k.val + j.val) * 2048] : Fin 1 → ℕ) a + S2048.size a ≤ S524288.size a := by
  intro a; fin_cases a; have := k.isLt; have := j.isLt; show (4 * k.val + j.val) * 2048 + 2048 ≤ 524288; omega
theorem qPart_inb (k : Fin 64) : ∀ a, (![k.val * 8192] : Fin 1 → ℕ) a + S8192.size a ≤ S524288.size a := by
  intro a; fin_cases a; have := k.isLt; show k.val * 8192 + 8192 ≤ 524288; omega

/-- Part `k` of the three arrays. -/
def part (k : Fin 64) (f5 : Buf (Elt F) (arg5.view.loc (V d c s))) (f6 : Buf (Elt F) (arg6.view.loc (V d c s))) (f7 : Buf (Elt F) (arg7.view.loc (V d c s))) : sProp 𝕄 :=
  iprop((bigSep Finset.univ fun r : Fin 2048 => sentRow c s d arg5 f5 (dest k r))
    ∗ (bigSep Finset.univ fun j : Fin 4 => held c s d (win 2048 arg6 ![(4 * k.val + j.val) * 2048] (mPart_inb k j)) fullShare f6)
    ∗ held c s d (win 8192 arg7 ![k.val * 8192] (qPart_inb k)) fullShare f7)

/-- What part `k` is to hold, when the ranks are `σ`, the metadata's rows `X` and the batch is `b`. -/
def Wanted (k : Fin 64) (b : Fin 32) (σ : Fin 2048 → Fin 2048) (X : Fin 4 → Fin 2048 → BitVec 32)
    (G5 : Buf (Elt F) (arg5.view.loc (V d c s))) (G6 : Buf (Elt F) (arg6.view.loc (V d c s))) (G7 : Buf (Elt F) (arg7.view.loc (V d c s))) : Prop :=
  (∀ (p : Fin 2048) (l : Fin 128), arg5.view.read (Elt F) G5 (ix2 (dest k (σ p)) l) = arg2.view.read (Elt F) fV (ix3 b p l))
  ∧ (∀ (j : Fin 4) (p : Fin 2048), (win 2048 arg6 ![(4 * k.val + j.val) * 2048] (mPart_inb k j)).view.read (Elt F) G6 (ix1 (σ p)) = X j p)
  ∧ ∀ (j : Fin 4) (p : Fin 2048) (y : (Sn 8192).Idx), (y 0).val = 4 * (σ p).val + j.val → (win 8192 arg7 ![k.val * 8192] (qPart_inb k)).view.read (Elt F) G7 y = X j p

theorem sub_trans {W W' W'' : Waits sig (HIx 2)} (h : ∀ p ∈ W', p ∈ W ∨ p.2 = none) (h' : ∀ p ∈ W'', p ∈ W' ∨ p.2 = none) :
    ∀ p ∈ W'', p ∈ W ∨ p.2 = none := fun p hp => (h' p hp).elim (h p) .inr

theorem trip_spec (k : Fin 64) (b : Fin 32) (σ : Fin 2048 → Fin 2048) (hσ : Function.Bijective σ) (X : Fin 4 → Fin 2048 → BitVec 32)
    (oR : Fin 1 → ℕ) (hR : ∀ a, oR a + S2048.size a ≤ S262144.size a)
    (oI : Fin 4 → Fin 1 → ℕ) (hI : ∀ j a, oI j a + S2048.size a ≤ S524288.size a)
    (oM : Fin 4 → Fin 1 → ℕ) (hM : ∀ j a, oM j a + S2048.size a ≤ S524288.size a)
    (oQ : Fin 1 → ℕ) (hQ : ∀ a, oQ a + S8192.size a ≤ S524288.size a)
    (oV : Fin 4 → Fin 3 → ℕ) (hV : ∀ j a, oV j a + S1x512x128.size a ≤ S32x2048x128.size a) (base x : BitVec 32)
    (hoM : ∀ j, oM j = ![(4 * k.val + j.val) * 2048]) (hoQ : oQ = ![k.val * 8192]) (hoV : ∀ q, oV q = ![b.val, 512 * q.val, 0])
    (hbase : base = BitVec.ofNat 32 (2048 * k.val))
    (hrank : ∀ p, ((win 2048 arg4 oR hR).view.read (Elt F) fR (ix1 p)).toNat = (σ p).val)
    (hX : ∀ j p, (win 2048 arg3 (oI j) (hI j)).view.read (Elt F) fM (ix1 p) = X j p)
    (f5 G5 : Buf (Elt F) (arg5.view.loc (V d c s))) (f6 G6 : Buf (Elt F) (arg6.view.loc (V d c s))) (f7 G7 : Buf (Elt F) (arg7.view.loc (V d c s)))
    (hG : Wanted d arg2 arg5 arg6 arg7 fV k b σ X G5 G6 G7) (O : CellTallies nD τ sig (HIx 2)) (W : Waits sig (HIx 2)) :
    iprop(slab d arg2 arg3 arg4 arg8 arg9 arg10 mi mo arg19 sg rs q2 q3 q4 fV fM fR O ∗ part d arg5 arg6 arg7 k f5 f6 f7 ∗ owes (V d c s) O W)
      ⊢ wps c s d (trip arg2 arg3 arg4 arg5 arg6 arg7 arg8 harg8 arg9 arg10 harg10 (mi 0) (hmi 0) (mi 1) (hmi 1) (mi 2) (hmi 2) (mi 3) (hmi 3)
            (mo 0) (hmo 0) (mo 1) (hmo 1) (mo 2) (hmo 2) (mo 3) (hmo 3) arg19 harg19 sg (rs 0) (rs 1) (rs 2) (rs 3) (rs 4) (rs 5) (rs 6) (rs 7) (rs 8) (rs 9)
            (rs 10) (rs 11) (rs 12) (rs 13) oR hR oI hI oM hM oQ hQ oV hV base x)
          fun _ => iprop(slab d arg2 arg3 arg4 arg8 arg9 arg10 mi mo arg19 sg rs q2 q3 q4 fV fM fR O ∗ part d arg5 arg6 arg7 k G5 G6 G7 ∗ owesFrom c s d O W) := by
  obtain rfl : oM = fun j => ![(4 * k.val + j.val) * 2048] := funext hoM
  subst hoQ
  unfold trip slab slabM slabS part
  rw [rows_quarters d arg5 f5 k σ hσ, rows_quarters d arg5 G5 k σ hσ, four, four, four, four]
  iintro ⟨⟨#Hmw, H2, H3, H4, ⟨%f8, H8⟩, H9, H10, Hg, ⟨⟨%i0, I0⟩, ⟨%i1, I1⟩, ⟨%i2, I2⟩, ⟨%i3, I3⟩, ⟨%o0, O0⟩, ⟨%o1, O1⟩, ⟨%o2, O2⟩, ⟨%o3, O3⟩, ⟨%fq, Hq⟩⟩,
    S0, S1, S2, S3, S4, S5, S6, S7, S8, S9, S10, S11, S12, S13⟩, ⟨⟨A0, A1, A2, A3⟩, ⟨M0, M1, M2, M3⟩, HQ⟩, HO⟩
  iapply (wp_seq d (fetch_spec d arg4 arg8 harg8 (rs 0) oR hR q4 fR f8 O W)) $$ [H4 H8 S0 HO]
  · iframe H4 H8 S0 HO Hmw
  iintro %_ ⟨-, H4, ⟨%g8, H8, %h8⟩, S0, %W1, %w1, HO⟩
  iapply (wp_seq d (fetch_spec d arg3 (mi 0) (hmi 0) (rs 1) (oI 0) (hI 0) q3 fM i0 O W1)) $$ [H3 I0 S1 HO]
  · iframe H3 I0 S1 HO Hmw
  iintro %_ ⟨-, H3, ⟨%g0, I0, %h0⟩, S1, %W2, %w2, HO⟩
  iapply (wp_seq d (fetch_spec d arg3 (mi 1) (hmi 1) (rs 2) (oI 1) (hI 1) q3 fM i1 O W2)) $$ [H3 I1 S2 HO]
  · iframe H3 I1 S2 HO Hmw
  iintro %_ ⟨-, H3, ⟨%g1, I1, %h1⟩, S2, %W3, %w3, HO⟩
  iapply (wp_seq d (fetch_spec d arg3 (mi 2) (hmi 2) (rs 3) (oI 2) (hI 2) q3 fM i2 O W3)) $$ [H3 I2 S3 HO]
  · iframe H3 I2 S3 HO Hmw
  iintro %_ ⟨-, H3, ⟨%g2, I2, %h2⟩, S3, %W4, %w4, HO⟩
  iapply (wp_seq d (fetch_spec d arg3 (mi 3) (hmi 3) (rs 4) (oI 3) (hI 3) q3 fM i3 O W4)) $$ [H3 I3 S4 HO]
  · iframe H3 I3 S4 HO Hmw
  iintro %_ ⟨-, H3, ⟨%g3, I3, %h3⟩, S4, %W5, %w5, HO⟩
  have hr : Ranks σ (arg8.view.read (Elt F) g8) := fun p => by rw [h8]; exact hrank p
  let fi : ∀ j, Buf (Elt F) ((mi j).view.loc (V d c s)) := fun | 0 => g0 | 1 => g1 | 2 => g2 | 3 => g3
  let fo : ∀ j, Buf (Elt F) ((mo j).view.loc (V d c s)) := fun | 0 => o0 | 1 => o1 | 2 => o2 | 3 => o3
  have hXi : ∀ j p, (mi j).view.read (Elt F) (fi j) (ix1 p) = X j p := fun
    | 0, p => (h0 _).trans (hX 0 p) | 1, p => (h1 _).trans (hX 1 p) | 2, p => (h2 _).trans (hX 2 p) | 3, p => (h3 _).trans (hX 3 p)
  iapply (wp_seq d (moves_spec d σ hσ.injective arg8 mi mo arg19 g8 fi X hr hXi x)) $$ [H8 I0 I1 I2 I3 O0 O1 O2 O3 Hq]
  · iapply (putBefore_start d σ arg8 mi mo arg19 g8 fi X fq fo) $$ [H8 I0 I1 I2 I3 O0 O1 O2 O3 Hq]
    iframe H8 I0 I1 I2 I3 O0 O1 O2 O3 Hq
  unfold putBefore
  iintro %_ ⟨H8, ⟨%fq', Hq, %hq⟩, ⟨I0, %o0', O0, %p0⟩, ⟨I1, %o1', O1, %p1⟩, ⟨I2, %o2', O2, %p2⟩, I3, %o3', O3, %p3⟩
  have e0 : ∀ j (fj : Buf (Elt F) ((mo j).view.loc (V d c s))), Placed (16 * 128) (fun p => (σ p).val) (X j) ((mo j).view.read (Elt F) fj) →
      ∀ y, (win 2048 arg6 ![(4 * k.val + j.val) * 2048] (mPart_inb k j)).view.read (Elt F) G6 y = (mo j).view.read (Elt F) fj y := fun j fj hp y => by
    obtain ⟨r, rfl⟩ := idx1_eq y
    obtain ⟨p, rfl⟩ := hσ.surjective r
    exact (hG.2.1 j p).trans (hp p p.isLt _ rfl).symm
  have eq : ∀ y, (win 8192 arg7 ![k.val * 8192] (qPart_inb k)).view.read (Elt F) G7 y = arg19.view.read (Elt F) fq' y := fun y => by
    have hy : (y 0).val < 8192 := (y 0).isLt
    obtain ⟨p, hp⟩ := hσ.surjective ⟨(y 0).val / 4, by omega⟩
    have hpl : (y 0).val = place σ ⟨(y 0).val % 4, by omega⟩ p := by
      unfold place; rw [hp]; show (y 0).val = 4 * ((y 0).val / 4) + (y 0).val % 4; omega
    refine (hG.2.2 _ p y hpl).trans (hq ⟨(y 0).val % 4, by omega⟩ p ?_ y hpl).symm
    show p.val < if _ then _ else _
    rw [if_neg (Nat.not_lt_zero _)]; exact p.isLt
  iapply (wp_seq d (writeOut_spec d (by decide) arg6 (mo 0) (hmo 0) (rs 5) _ (mPart_inb k 0) f6 o0' O W5)) $$ [M0 O0 S5 HO]
  · iframe M0 O0 S5 HO Hmw
  iintro %_ ⟨-, M0, O0, S5, %W6, %w6, HO⟩
  iapply (wp_seq d (writeOut_spec d (by decide) arg6 (mo 1) (hmo 1) (rs 6) _ (mPart_inb k 1) f6 o1' O W6)) $$ [M1 O1 S6 HO]
  · iframe M1 O1 S6 HO Hmw
  iintro %_ ⟨-, M1, O1, S6, %W7, %w7, HO⟩
  iapply (wp_seq d (writeOut_spec d (by decide) arg6 (mo 2) (hmo 2) (rs 7) _ (mPart_inb k 2) f6 o2' O W7)) $$ [M2 O2 S7 HO]
  · iframe M2 O2 S7 HO Hmw
  iintro %_ ⟨-, M2, O2, S7, %W8, %w8, HO⟩
  iapply (wp_seq d (writeOut_spec d (by decide) arg6 (mo 3) (hmo 3) (rs 8) _ (mPart_inb k 3) f6 o3' O W8)) $$ [M3 O3 S8 HO]
  · iframe M3 O3 S8 HO Hmw
  iintro %_ ⟨-, M3, O3, S8, %W9, %w9, HO⟩
  iapply (wp_seq d (writeOut_spec d (by decide) arg7 arg19 harg19 (rs 9) _ (qPart_inb k) f7 fq' O W9)) $$ [HQ Hq S9 HO]
  · iframe HQ Hq S9 HO Hmw
  iintro %_ ⟨-, HQ, Hq, S9, %W10, %w10, HO⟩
  ihave M0 := (written_eq d arg6 _ (mPart_inb k 0) _ G6 (e0 0 o0' p0)) $$ M0
  ihave M1 := (written_eq d arg6 _ (mPart_inb k 1) _ G6 (e0 1 o1' p1)) $$ M1
  ihave M2 := (written_eq d arg6 _ (mPart_inb k 2) _ G6 (e0 2 o2' p2)) $$ M2
  ihave M3 := (written_eq d arg6 _ (mPart_inb k 3) _ G6 (e0 3 o3' p3)) $$ M3
  ihave HQ := (written_eq d arg7 _ (qPart_inb k) _ G7 eq) $$ HQ
  have qs := fun q sm W' => quarter_spec d arg2 arg5 arg8 arg9 arg10 harg10 sg sm (oV q) (hV q) base q b (hoV q) k hbase σ q2 fV f5 G5 g8 hr hG.1 O W'
  iapply (wp_seq d (qs 0 (rs 10) W10)) $$ [H2 H8 H9 H10 Hg A0 S10 HO]
  · iframe H2 H8 H9 H10 Hg A0 S10 HO Hmw
  iintro %_ ⟨-, H2, H8, H9, H10, Hg, A0, S10, %W11, %w11, HO⟩
  iapply (wp_seq d (qs 1 (rs 11) W11)) $$ [H2 H8 H9 H10 Hg A1 S11 HO]
  · iframe H2 H8 H9 H10 Hg A1 S11 HO Hmw
  iintro %_ ⟨-, H2, H8, H9, H10, Hg, A1, S11, %W12, %w12, HO⟩
  iapply (wp_seq d (qs 2 (rs 12) W12)) $$ [H2 H8 H9 H10 Hg A2 S12 HO]
  · iframe H2 H8 H9 H10 Hg A2 S12 HO Hmw
  iintro %_ ⟨-, H2, H8, H9, H10, Hg, A2, S12, %W13, %w13, HO⟩
  iapply (wp_seq d (qs 3 (rs 13) W13)) $$ [H2 H8 H9 H10 Hg A3 S13 HO]
  · iframe H2 H8 H9 H10 Hg A3 S13 HO Hmw
  iintro %_ ⟨-, H2, H8, H9, H10, Hg, A3, S13, %W14, %w14, HO⟩
  unfold wps
  sl_step
  have hw := sub_trans (sub_trans (sub_trans (sub_trans (sub_trans (sub_trans (sub_trans (sub_trans (sub_trans (sub_trans (sub_trans (sub_trans (sub_trans w1 w2) w3) w4) w5) w6) w7) w8) w9) w10) w11) w12) w13) w14
  isplitl [H2 H3 H4 H8 H9 H10 Hg I0 I1 I2 I3 O0 O1 O2 O3 Hq S0 S1 S2 S3 S4 S5 S6 S7 S8 S9 S10 S11 S12 S13]
  · isplitr; · iexact Hmw
    iframe H2 H3 H4 H9 H10 Hg S0 S1 S2 S3 S4 S5 S6 S7 S8 S9 S10 S11 S12 S13
    isplitl [H8]; · iexists g8; iexact H8
    isplitl [I0]; · iexists _; iexact I0
    isplitl [I1]; · iexists _; iexact I1
    isplitl [I2]; · iexists _; iexact I2
    isplitl [I3]; · iexists _; iexact I3
    isplitl [O0]; · iexists _; iexact O0
    isplitl [O1]; · iexists _; iexact O1
    isplitl [O2]; · iexists _; iexact O2
    isplitl [O3]; · iexists _; iexact O3
    iexists _; iexact Hq
  isplitr [HO]
  · iframe A0 A1 A2 A3 M0 M1 M2 M3 HQ
  iexists W14
  iframe HO
  ipureintro; exact hw

end Trip

end Cert.Proof.Scat

end
-- ==== Proof.ScatVals.lean ====
/-
  What a subcore does in either scattering call: two trips, the two rounds of its own batch.
-/
module

public import proofs.«01_k».proof.Proof.ScatTripSpec

@[expose] public section

noncomputable section

namespace Cert.Proof.Scat

open Cert.ScatterIdeal Cert.ScatterIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {c : Fin τ.nSC} {s : Fin τ.nSub} (d : Dev nD)

/-! ## The offsets in closed form -/

def coordsV (c : Fin 2) (s : Fin 16) : grid0.Coords :=
  fun | 0 => c | 1 => s | ⟨_ + 2, h⟩ => absurd h (Nat.not_lt.2 (Nat.le_add_left _ _))

/-- The batch a subcore works on, and the part of a trip. -/
def wid (c : Fin 2) (s : Fin 16) : Fin 32 := ⟨2 * s.val + c.val, by omega⟩
def prt (b : Fin 32) (t : Fin 2) : Fin 64 := ⟨2 * b.val + t.val, by omega⟩

/-- The metadata's row for round `s`: the buckets, then the chunks of the three rounds after. -/
def mrow (s : ℕ) (j : Fin 4) : ℕ := if j.val = 0 then 2 * s else 2 * ((s + j.val) % 4) + 1

abbrev widW (c : Fin 2) (s : Fin 16) : BitVec 32 := Scalar.addi (Scalar.muli (BitVec.ofNat 32 s.val) 2#32) (BitVec.ofNat 32 c.val)
abbrev baseW (v1 a : BitVec 32) : BitVec 32 := Scalar.muli (Scalar.addi (Scalar.muli v1 2#32) a) 2048#32

set_option maxRecDepth 16384

theorem offR0 : ∀ (c : Fin 2) (s : Fin 16) (t : Fin 2), k0_off1 (coordsV c s) t = ![(4 * (wid c s).val + 0 + t.val) * 2048] := by
  have h : ∀ (c : Fin 2) (s : Fin 16) (t : Fin k0_t1_loop.trips) (a : Fin 1), k0_off1 (coordsV c s) t a = (![(4 * (wid c s).val + 0 + t.val) * 2048] : Fin 1 → ℕ) a := by decide +kernel
  exact fun c s t => funext (h c s t)
theorem offR1 : ∀ (c : Fin 2) (s : Fin 16) (t : Fin 2), k1_off1 (coordsV c s) t = ![(4 * (wid c s).val + 2 + t.val) * 2048] := by
  have h : ∀ (c : Fin 2) (s : Fin 16) (t : Fin k1_t1_loop.trips) (a : Fin 1), k1_off1 (coordsV c s) t a = (![(4 * (wid c s).val + 2 + t.val) * 2048] : Fin 1 → ℕ) a := by decide +kernel
  exact fun c s t => funext (h c s t)
theorem offI0 : ∀ (c : Fin 2) (s : Fin 16) (t : Fin 2) (j : Fin 4), oI0 (coordsV c s) t j = ![(8 * (wid c s).val + mrow (0 + t.val) j) * 2048] := by
  have h : ∀ (c : Fin 2) (s : Fin 16) (t : Fin k0_t1_loop.trips) (j : Fin 4) (a : Fin 1), oI0 (coordsV c s) t j a = (![(8 * (wid c s).val + mrow (0 + t.val) j) * 2048] : Fin 1 → ℕ) a := by decide +kernel
  exact fun c s t j => funext (h c s t j)
theorem offI1 : ∀ (c : Fin 2) (s : Fin 16) (t : Fin 2) (j : Fin 4), oI1 (coordsV c s) t j = ![(8 * (wid c s).val + mrow (2 + t.val) j) * 2048] := by
  have h : ∀ (c : Fin 2) (s : Fin 16) (t : Fin k1_t1_loop.trips) (j : Fin 4) (a : Fin 1), oI1 (coordsV c s) t j a = (![(8 * (wid c s).val + mrow (2 + t.val) j) * 2048] : Fin 1 → ℕ) a := by decide +kernel
  exact fun c s t j => funext (h c s t j)
theorem offM0 : ∀ (c : Fin 2) (s : Fin 16) (t : Fin 2) (j : Fin 4), oM0 (coordsV c s) t j = ![(4 * (prt (wid c s) t).val + j.val) * 2048] := by
  have h : ∀ (c : Fin 2) (s : Fin 16) (t : Fin k0_t1_loop.trips) (j : Fin 4) (a : Fin 1), oM0 (coordsV c s) t j a = (![(4 * (2 * (wid c s).val + t.val) + j.val) * 2048] : Fin 1 → ℕ) a := by decide +kernel
  exact fun c s t j => funext (h c s t j)
theorem offM1 : ∀ (c : Fin 2) (s : Fin 16) (t : Fin 2) (j : Fin 4), oM1 (coordsV c s) t j = ![(4 * (prt (wid c s) t).val + j.val) * 2048] := by
  have h : ∀ (c : Fin 2) (s : Fin 16) (t : Fin k1_t1_loop.trips) (j : Fin 4) (a : Fin 1), oM1 (coordsV c s) t j a = (![(4 * (2 * (wid c s).val + t.val) + j.val) * 2048] : Fin 1 → ℕ) a := by decide +kernel
  exact fun c s t j => funext (h c s t j)
theorem offQ0 : ∀ (c : Fin 2) (s : Fin 16) (t : Fin 2), k0_off9 (coordsV c s) t = ![(prt (wid c s) t).val * 8192] := by
  have h : ∀ (c : Fin 2) (s : Fin 16) (t : Fin k0_t1_loop.trips) (a : Fin 1), k0_off9 (coordsV c s) t a = (![(2 * (wid c s).val + t.val) * 8192] : Fin 1 → ℕ) a := by decide +kernel
  exact fun c s t => funext (h c s t)
theorem offQ1 : ∀ (c : Fin 2) (s : Fin 16) (t : Fin 2), k1_off9 (coordsV c s) t = ![(prt (wid c s) t).val * 8192] := by
  have h : ∀ (c : Fin 2) (s : Fin 16) (t : Fin k1_t1_loop.trips) (a : Fin 1), k1_off9 (coordsV c s) t a = (![(2 * (wid c s).val + t.val) * 8192] : Fin 1 → ℕ) a := by decide +kernel
  exact fun c s t => funext (h c s t)
theorem offV0 : ∀ (c : Fin 2) (s : Fin 16) (t : Fin 2) (q : Fin 4), oV0 (coordsV c s) t q = ![(wid c s).val, 512 * q.val, 0] := by
  have h : ∀ (c : Fin 2) (s : Fin 16) (t : Fin k0_t1_loop.trips) (q : Fin 4) (a : Fin 3), oV0 (coordsV c s) t q a = (![(wid c s).val, 512 * q.val, 0] : Fin 3 → ℕ) a := by decide +kernel
  exact fun c s t q => funext (h c s t q)
theorem offV1 : ∀ (c : Fin 2) (s : Fin 16) (t : Fin 2) (q : Fin 4), oV1 (coordsV c s) t q = ![(wid c s).val, 512 * q.val, 0] := by
  have h : ∀ (c : Fin 2) (s : Fin 16) (t : Fin k1_t1_loop.trips) (q : Fin 4) (a : Fin 3), oV1 (coordsV c s) t q a = (![(wid c s).val, 512 * q.val, 0] : Fin 3 → ℕ) a := by decide +kernel
  exact fun c s t q => funext (h c s t q)
theorem base_eq : ∀ (c : Fin 2) (s : Fin 16) (t : Fin 2), baseW (widW c s) (Scf.iv 0#32 1#32 t) = BitVec.ofNat 32 (2048 * (prt (wid c s) t).val) := by decide +kernel

/-! ## What a call makes of its operands -/

section Values

variable (so : Fin 3) {α : Type} (V : S32x2048x128.Idx → α) (M : (Sn 524288).Idx → BitVec 32) (R : (Sn 262144).Idx → BitVec 32)

/-- The rank of token `p` in part `k`, as a word and as a place. -/
def rankOf (k : Fin 64) (p : Fin 2048) : BitVec 32 := R (ix1 ⟨(4 * (k.val / 2) + so.val + k.val % 2) * 2048 + p.val, by omega⟩)
def perm (k : Fin 64) (p : Fin 2048) : Fin 2048 := ⟨(rankOf so R k p).toNat % 2048, Nat.mod_lt _ (by decide)⟩

/-- Every part's ranks are the places, each once. -/
def Perms : Prop := ∀ k, (∀ p, (rankOf so R k p).toNat < 2048) ∧ Function.Injective (perm so R k)

/-- The token at a place. -/
def posOf (k : Fin 64) (r : Fin 2048) : Fin 2048 := Function.invFun (perm so R k) r

theorem mrow_lt (s : ℕ) (hs : s < 4) (j : Fin 4) : mrow s j < 8 := by unfold mrow; split <;> omega

/-- Run `j` of part `k`'s metadata, at token `p`. -/
def metaOf (k : Fin 64) (j : Fin 4) (p : Fin 2048) : BitVec 32 :=
  M (ix1 ⟨(8 * (k.val / 2) + mrow (so.val + k.val % 2) j) * 2048 + p.val, by
    have := mrow_lt (so.val + k.val % 2) (by omega) j
    have := k.isLt; have := p.isLt; omega⟩)

/-- The rows, the four runs and the fours in sorted order. -/
def rowsV (y : S131072x128.Idx) : α :=
  V (ix3 (⟨(y 0).val / 4096, by have : (y 0).val < 131072 := (y 0).isLt; omega⟩ : Fin 32)
    (posOf so R ⟨(y 0).val / 2048, by have : (y 0).val < 131072 := (y 0).isLt; omega⟩ ⟨(y 0).val % 2048, Nat.mod_lt _ (by decide)⟩) (⟨(y 1).val, (y 1).isLt⟩ : Fin 128))
def runsV (y : (Sn 524288).Idx) : BitVec 32 :=
  metaOf so M ⟨(y 0).val / 8192, by have : (y 0).val < 524288 := (y 0).isLt; omega⟩ ⟨(y 0).val / 2048 % 4, Nat.mod_lt _ (by decide)⟩
    (posOf so R ⟨(y 0).val / 8192, by have : (y 0).val < 524288 := (y 0).isLt; omega⟩ ⟨(y 0).val % 2048, Nat.mod_lt _ (by decide)⟩)
def foursV (y : (Sn 524288).Idx) : BitVec 32 :=
  metaOf so M ⟨(y 0).val / 8192, by have : (y 0).val < 524288 := (y 0).isLt; omega⟩ ⟨(y 0).val % 4, Nat.mod_lt _ (by decide)⟩
    (posOf so R ⟨(y 0).val / 8192, by have : (y 0).val < 524288 := (y 0).isLt; omega⟩ ⟨(y 0).val % 8192 / 4, by have := Nat.mod_lt (y 0).val (show 0 < 8192 by decide); omega⟩)

theorem posOf_perm (h : Perms so R) (k : Fin 64) (p : Fin 2048) : posOf so R k (perm so R k p) = p := Function.leftInverse_invFun (h k).2 p

theorem rankOf_toNat (h : Perms so R) (k : Fin 64) (p : Fin 2048) : (rankOf so R k p).toNat = (perm so R k p).val :=
  (Nat.mod_eq_of_lt ((h k).1 p)).symm

theorem rowsV_at (h : Perms so R) (k : Fin 64) (b : Fin 32) (hb : k.val / 2 = b.val) (p : Fin 2048) (l : Fin 128) :
    rowsV so V R (ix2 (dest k (perm so R k p)) l) = V (ix3 b p l) := by
  have e1 : (dest k (perm so R k p)).val / 2048 = k.val := by have := (perm so R k p).isLt; show (2048 * k.val + (perm so R k p).val) / 2048 = _; omega
  have e2 : (dest k (perm so R k p)).val % 2048 = (perm so R k p).val := by have := (perm so R k p).isLt; show (2048 * k.val + (perm so R k p).val) % 2048 = _; omega
  have e3 : (dest k (perm so R k p)).val / 4096 = b.val := by omega
  have f1 : (⟨(dest k (perm so R k p)).val / 2048, by omega⟩ : Fin 64) = k := Fin.ext e1
  have f2 : (⟨(dest k (perm so R k p)).val % 2048, by omega⟩ : Fin 2048) = perm so R k p := Fin.ext e2
  have f3 : (⟨(dest k (perm so R k p)).val / 4096, by omega⟩ : Fin 32) = b := Fin.ext e3
  have hp : posOf so R (⟨(dest k (perm so R k p)).val / 2048, by omega⟩ : Fin 64) (⟨(dest k (perm so R k p)).val % 2048, by omega⟩ : Fin 2048) = p := by
    rw [f1, f2]; exact posOf_perm so R h k p
  exact congrArg₂ (fun (b : Fin 32) (p : Fin 2048) => V (ix3 b p l)) f3 hp

theorem runsV_at (h : Perms so R) (k : Fin 64) (j : Fin 4) (p : Fin 2048) (y : (Sn 524288).Idx) (hy : (y 0).val = (4 * k.val + j.val) * 2048 + (perm so R k p).val) :
    runsV so M R y = metaOf so M k j p := by
  have l := (perm so R k p).isLt
  have e1 : (y 0).val / 8192 = k.val := by omega
  have e2 : (y 0).val / 2048 % 4 = j.val := by omega
  have e3 : (y 0).val % 2048 = (perm so R k p).val := by omega
  unfold runsV
  rw [show (⟨(y 0).val / 8192, by omega⟩ : Fin 64) = k from Fin.ext e1, show (⟨(y 0).val / 2048 % 4, by omega⟩ : Fin 4) = j from Fin.ext e2,
    show (⟨(y 0).val % 2048, by omega⟩ : Fin 2048) = perm so R k p from Fin.ext e3, posOf_perm so R h]

theorem foursV_at (h : Perms so R) (k : Fin 64) (j : Fin 4) (p : Fin 2048) (y : (Sn 524288).Idx) (hy : (y 0).val = k.val * 8192 + (4 * (perm so R k p).val + j.val)) :
    foursV so M R y = metaOf so M k j p := by
  have l := (perm so R k p).isLt
  have e1 : (y 0).val / 8192 = k.val := by omega
  have e2 : (y 0).val % 4 = j.val := by omega
  have e3 : (y 0).val % 8192 / 4 = (perm so R k p).val := by omega
  unfold foursV
  rw [show (⟨(y 0).val / 8192, by omega⟩ : Fin 64) = k from Fin.ext e1, show (⟨(y 0).val % 4, by omega⟩ : Fin 4) = j from Fin.ext e2,
    show (⟨(y 0).val % 8192 / 4, by omega⟩ : Fin 2048) = perm so R k p from Fin.ext e3, posOf_perm so R h]

end Values

end Cert.Proof.Scat

end
-- ==== Proof.ScatLoop.lean ====
/-
  The two trips of a subcore, one for each round of its batch.
-/
module

public import proofs.«01_k».proof.Proof.ScatVals

@[expose] public section

noncomputable section

namespace Cert.Proof.Scat

open Cert.ScatterIdeal Cert.ScatterIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {c : Fin τ.nSC} {s : Fin τ.nSub} (d : Dev nD)

section Loop

variable (arg2 : Memref sig .scVector .hbm S32x2048x128 .f32) (arg3 : Memref sig .scVector .hbm S524288 .i32) (arg4 : Memref sig .scVector .hbm S262144 .i32)
    (arg5 : Memref sig .scVector .hbm S131072x128 .f32) (arg6 : Memref sig .scVector .hbm S524288 .i32) (arg7 : Memref sig .scVector .hbm S524288 .i32)
    (arg8 : Memref sig .scVector .vmem S2048 .i32) (harg8 : arg8.IsWhole) (arg9 : Memref sig .scVector .vmem S4x128 .i32)
    (arg10 : Memref sig .scVector .vmem S512x128 .f32) (harg10 : arg10.IsWhole)
    (mi : Fin 4 → Memref sig .scVector .vmem S2048 .i32) (hmi : ∀ j, (mi j).IsWhole)
    (mo : Fin 4 → Memref sig .scVector .vmem S2048 .i32) (hmo : ∀ j, (mo j).IsWhole)
    (arg19 : Memref sig .scVector .vmem S8192 .i32) (harg19 : arg19.IsWhole)
    (sg : DmaSem sig) (rs : Fin 14 → DmaSem sig) (q2 q3 q4 : PosShare TreeShare)
    (fV : Buf (Elt F) (arg2.view.loc (V d c s))) (fM : Buf (Elt F) (arg3.view.loc (V d c s))) (fR : Buf (Elt F) (arg4.view.loc (V d c s)))

/-- The arrays hold what a call is to make of its operands. -/
def Made (so : Fin 3) (G5 : Buf (Elt F) (arg5.view.loc (V d c s))) (G6 : Buf (Elt F) (arg6.view.loc (V d c s))) (G7 : Buf (Elt F) (arg7.view.loc (V d c s))) : Prop :=
  (∀ y, arg5.view.read (Elt F) G5 y = rowsV so (arg2.view.read (Elt F) fV) (arg4.view.read (Elt F) fR) y)
  ∧ (∀ y, arg6.view.read (Elt F) G6 y = runsV so (arg3.view.read (Elt F) fM) (arg4.view.read (Elt F) fR) y)
  ∧ ∀ y, arg7.view.read (Elt F) G7 y = foursV so (arg3.view.read (Elt F) fM) (arg4.view.read (Elt F) fR) y

theorem wanted_of_made (so : Fin 3) (hR : Perms so (arg4.view.read (Elt F) fR)) (G5 : Buf (Elt F) (arg5.view.loc (V d c s))) (G6 : Buf (Elt F) (arg6.view.loc (V d c s)))
    (G7 : Buf (Elt F) (arg7.view.loc (V d c s))) (hG : Made d arg2 arg3 arg4 arg5 arg6 arg7 fV fM fR so G5 G6 G7) (k : Fin 64) (b : Fin 32) (hb : k.val / 2 = b.val) :
    Wanted d arg2 arg5 arg6 arg7 fV k b (perm so (arg4.view.read (Elt F) fR) k) (metaOf so (arg3.view.read (Elt F) fM) k) G5 G6 G7 := by
  refine ⟨fun p l => (hG.1 _).trans (rowsV_at so _ _ hR k b hb p l), fun j p => ?_, fun j p y hy => ?_⟩
  · have h1 := (perm so (arg4.view.read (Elt F) fR) k p).isLt
    rw [win_read d arg6 _ _ G6 _ (by have := k.isLt; have := j.isLt; omega)]
    exact (hG.2.1 _).trans (runsV_at so _ _ hR k j p _ rfl)
  · obtain ⟨r, rfl⟩ := idx1_eq y
    have hy : r.val = 4 * (perm so (arg4.view.read (Elt F) fR) k p).val + j.val := hy
    rw [win_read d arg7 _ _ G7 _ (by have := k.isLt; have := r.isLt; omega)]
    exact (hG.2.2 _).trans (foursV_at so _ _ hR k j p _ (congrArg (k.val * 8192 + ·) hy))

/-- Before trip `t` of a subcore's two: the trips done have made their parts. -/
def inv (b : Fin 32) (f5 G5 : Buf (Elt F) (arg5.view.loc (V d c s))) (f6 G6 : Buf (Elt F) (arg6.view.loc (V d c s))) (f7 G7 : Buf (Elt F) (arg7.view.loc (V d c s)))
    (O : CellTallies nD τ sig (HIx 2)) (W : Waits sig (HIx 2)) : ℕ → BitVec 32 → sProp 𝕄
  | 0, _ => iprop(slab d arg2 arg3 arg4 arg8 arg9 arg10 mi mo arg19 sg rs q2 q3 q4 fV fM fR O ∗ part d arg5 arg6 arg7 (prt b 0) f5 f6 f7
      ∗ part d arg5 arg6 arg7 (prt b 1) f5 f6 f7 ∗ owesFrom c s d O W)
  | 1, _ => iprop(slab d arg2 arg3 arg4 arg8 arg9 arg10 mi mo arg19 sg rs q2 q3 q4 fV fM fR O ∗ part d arg5 arg6 arg7 (prt b 0) G5 G6 G7
      ∗ part d arg5 arg6 arg7 (prt b 1) f5 f6 f7 ∗ owesFrom c s d O W)
  | _ + 2, _ => iprop(slab d arg2 arg3 arg4 arg8 arg9 arg10 mi mo arg19 sg rs q2 q3 q4 fV fM fR O ∗ part d arg5 arg6 arg7 (prt b 0) G5 G6 G7
      ∗ part d arg5 arg6 arg7 (prt b 1) G5 G6 G7 ∗ owesFrom c s d O W)

theorem loop_spec (so : Fin 3) (hso : so.val ≤ 2) (b : Fin 32) (hR : Perms so (arg4.view.read (Elt F) fR))
    (oR : Fin 2 → Fin 1 → ℕ) (hoR : ∀ t a, oR t a + S2048.size a ≤ S262144.size a) (eR : ∀ t, oR t = ![(4 * b.val + so.val + t.val) * 2048])
    (oI : Fin 2 → Fin 4 → Fin 1 → ℕ) (hoI : ∀ t j a, oI t j a + S2048.size a ≤ S524288.size a) (eI : ∀ t j, oI t j = ![(8 * b.val + mrow (so.val + t.val) j) * 2048])
    (oM : Fin 2 → Fin 4 → Fin 1 → ℕ) (hoM : ∀ t j a, oM t j a + S2048.size a ≤ S524288.size a) (eM : ∀ t j, oM t j = ![(4 * (prt b t).val + j.val) * 2048])
    (oQ : Fin 2 → Fin 1 → ℕ) (hoQ : ∀ t a, oQ t a + S8192.size a ≤ S524288.size a) (eQ : ∀ t, oQ t = ![(prt b t).val * 8192])
    (oV : Fin 2 → Fin 4 → Fin 3 → ℕ) (hoV : ∀ t j a, oV t j a + S1x512x128.size a ≤ S32x2048x128.size a) (eV : ∀ t q, oV t q = ![b.val, 512 * q.val, 0])
    (base x : Fin 2 → BitVec 32) (hbase : ∀ t, base t = BitVec.ofNat 32 (2048 * (prt b t).val))
    (f5 G5 : Buf (Elt F) (arg5.view.loc (V d c s))) (f6 G6 : Buf (Elt F) (arg6.view.loc (V d c s))) (f7 G7 : Buf (Elt F) (arg7.view.loc (V d c s)))
    (hG : Made d arg2 arg3 arg4 arg5 arg6 arg7 fV fM fR so G5 G6 G7) (O : CellTallies nD τ sig (HIx 2)) (W : Waits sig (HIx 2)) :
    iprop(slab d arg2 arg3 arg4 arg8 arg9 arg10 mi mo arg19 sg rs q2 q3 q4 fV fM fR O ∗ (part d arg5 arg6 arg7 (prt b 0) f5 f6 f7 ∗ part d arg5 arg6 arg7 (prt b 1) f5 f6 f7)
        ∗ owes (V d c s) O W)
      ⊢ wps c s d
          (Scf.for 0#32 2#32 1#32 k0_t1_ok 0#32 (fun t _ => trip arg2 arg3 arg4 arg5 arg6 arg7 arg8 harg8 arg9 arg10 harg10 (mi 0) (hmi 0) (mi 1) (hmi 1) (mi 2) (hmi 2) (mi 3) (hmi 3)
            (mo 0) (hmo 0) (mo 1) (hmo 1) (mo 2) (hmo 2) (mo 3) (hmo 3) arg19 harg19 sg (rs 0) (rs 1) (rs 2) (rs 3) (rs 4) (rs 5) (rs 6) (rs 7) (rs 8) (rs 9)
            (rs 10) (rs 11) (rs 12) (rs 13) (oR t) (hoR t) (oI t) (hoI t) (oM t) (hoM t) (oQ t) (hoQ t) (oV t) (hoV t) (base t) (x t)) : PR F c s (BitVec 32))
          fun _ => iprop(slab d arg2 arg3 arg4 arg8 arg9 arg10 mi mo arg19 sg rs q2 q3 q4 fV fM fR O
            ∗ (part d arg5 arg6 arg7 (prt b 0) G5 G6 G7 ∗ part d arg5 arg6 arg7 (prt b 1) G5 G6 G7) ∗ owesFrom c s d O W) := by
  have ht : ∀ (t : Fin 2) (W1 : Waits sig (HIx 2)), _ := fun t W1 =>
    have hk : (prt b t).val / 2 = b.val := by show (2 * b.val + t.val) / 2 = b.val; omega
    have hk2 : (prt b t).val % 2 = t.val := by show (2 * b.val + t.val) % 2 = t.val; omega
    trip_spec d arg2 arg3 arg4 arg5 arg6 arg7 arg8 harg8 arg9 arg10 harg10 mi hmi mo hmo arg19 harg19 sg rs q2 q3 q4 fV fM fR (prt b t) b
      (perm so (arg4.view.read (Elt F) fR) (prt b t)) ((Finite.injective_iff_bijective).mp (hR (prt b t)).2) (metaOf so (arg3.view.read (Elt F) fM) (prt b t))
      (oR t) (hoR t) (oI t) (hoI t) (oM t) (hoM t) (oQ t) (hoQ t) (oV t) (hoV t) (base t) (x t) (eM t) (eQ t) (eV t) (hbase t)
      (fun p => by
        have key : ∀ (o : Fin 1 → ℕ) (h : ∀ a, o a + S2048.size a ≤ S262144.size a), o = ![(4 * b.val + so.val + t.val) * 2048] →
            (win 2048 arg4 o h).view.read (Elt F) fR (ix1 p) = rankOf so (arg4.view.read (Elt F) fR) (prt b t) p := by
          rintro o h rfl
          rw [win_read d arg4 _ _ fR p (by have := p.isLt; omega)]
          refine congrArg (fun i : Fin 262144 => arg4.view.read (Elt F) fR (ix1 i)) (Fin.ext ?_)
          show (4 * b.val + so.val + t.val) * 2048 + p.val = (4 * ((prt b t).val / 2) + so.val + (prt b t).val % 2) * 2048 + p.val
          rw [hk, hk2]
        rw [key _ (hoR t) (eR t)]
        exact rankOf_toNat so _ hR (prt b t) p)
      (fun j p => by
        have key : ∀ (o : Fin 1 → ℕ) (h : ∀ a, o a + S2048.size a ≤ S524288.size a), o = ![(8 * b.val + mrow (so.val + t.val) j) * 2048] →
            (win 2048 arg3 o h).view.read (Elt F) fM (ix1 p) = metaOf so (arg3.view.read (Elt F) fM) (prt b t) j p := by
          rintro o h rfl
          have hm := mrow_lt (so.val + t.val) (by omega) j
          rw [win_read d arg3 _ _ fM p (by have := p.isLt; omega)]
          refine congrArg (fun i : Fin 524288 => arg3.view.read (Elt F) fM (ix1 i)) (Fin.ext ?_)
          show (8 * b.val + mrow (so.val + t.val) j) * 2048 + p.val = (8 * ((prt b t).val / 2) + mrow (so.val + (prt b t).val % 2) j) * 2048 + p.val
          rw [hk, hk2]
        exact key _ (hoI t j) (eI t j))
      f5 G5 f6 G6 f7 G7 (wanted_of_made d arg2 arg3 arg4 arg5 arg6 arg7 fV fM fR so hR G5 G6 G7 hG (prt b t) b hk) O W1
  have hfor := fun Q => Scf.wp_for (Q := Q) frame (wpE (defs₀ (F := F)) 𝒱₀ (V d c s) none) Set.univ 0#32 2#32 1#32 k0_t1_ok 0#32
    (fun (t : Fin 2) _ => (trip arg2 arg3 arg4 arg5 arg6 arg7 arg8 harg8 arg9 arg10 harg10 (mi 0) (hmi 0) (mi 1) (hmi 1) (mi 2) (hmi 2) (mi 3) (hmi 3)
            (mo 0) (hmo 0) (mo 1) (hmo 1) (mo 2) (hmo 2) (mo 3) (hmo 3) arg19 harg19 sg (rs 0) (rs 1) (rs 2) (rs 3) (rs 4) (rs 5) (rs 6) (rs 7) (rs 8) (rs 9)
            (rs 10) (rs 11) (rs 12) (rs 13) (oR t) (hoR t) (oI t) (hoI t) (oM t) (hoM t) (oQ t) (hoQ t) (oV t) (hoV t) (base t) (x t) : PR F c s (BitVec 32)))
    (inv d arg2 arg3 arg4 arg5 arg6 arg7 arg8 arg9 arg10 mi mo arg19 sg rs q2 q3 q4 fV fM fR b f5 G5 f6 G6 f7 G7 O W) (by
      have hcase : ∀ t : Fin 2, t = 0 ∨ t = 1 := by decide
      intro t acc
      rcases hcase t with rfl | rfl
      · show iprop(slab d arg2 arg3 arg4 arg8 arg9 arg10 mi mo arg19 sg rs q2 q3 q4 fV fM fR O ∗ part d arg5 arg6 arg7 (prt b 0) f5 f6 f7
          ∗ part d arg5 arg6 arg7 (prt b 1) f5 f6 f7 ∗ owesFrom c s d O W) ⊢ _
        iintro ⟨HS, HA, HB, %W1, %hW1, HO⟩
        have hw := fun Q' => (ht 0 W1).trans (wp_wand frame _ _ (Q' := Q'))
        iapply (hw _) $$ [HS HA HO]
        · iframe HS HA HO
        iintro %_ ⟨HS, HA, %W2, %hW2, HO⟩
        iapply (show iprop(slab d arg2 arg3 arg4 arg8 arg9 arg10 mi mo arg19 sg rs q2 q3 q4 fV fM fR O ∗ part d arg5 arg6 arg7 (prt b 0) G5 G6 G7 ∗ part d arg5 arg6 arg7 (prt b 1) f5 f6 f7 ∗ owesFrom c s d O W) ⊢ inv d arg2 arg3 arg4 arg5 arg6 arg7 arg8 arg9 arg10 mi mo arg19 sg rs q2 q3 q4 fV fM fR b f5 G5 f6 G6 f7 G7 O W 1 _ from BIBase.Entails.rfl)
        iframe HS HA HB
        iexists W2
        iframe HO
        ipureintro; exact sub_trans hW1 hW2
      · show iprop(slab d arg2 arg3 arg4 arg8 arg9 arg10 mi mo arg19 sg rs q2 q3 q4 fV fM fR O ∗ part d arg5 arg6 arg7 (prt b 0) G5 G6 G7
          ∗ part d arg5 arg6 arg7 (prt b 1) f5 f6 f7 ∗ owesFrom c s d O W) ⊢ _
        iintro ⟨HS, HA, HB, %W1, %hW1, HO⟩
        have hw := fun Q' => (ht 1 W1).trans (wp_wand frame _ _ (Q' := Q'))
        iapply (hw _) $$ [HS HB HO]
        · iframe HS HB HO
        iintro %_ ⟨HS, HB, %W2, %hW2, HO⟩
        iapply (show iprop(slab d arg2 arg3 arg4 arg8 arg9 arg10 mi mo arg19 sg rs q2 q3 q4 fV fM fR O ∗ part d arg5 arg6 arg7 (prt b 0) G5 G6 G7 ∗ part d arg5 arg6 arg7 (prt b 1) G5 G6 G7 ∗ owesFrom c s d O W) ⊢ inv d arg2 arg3 arg4 arg5 arg6 arg7 arg8 arg9 arg10 mi mo arg19 sg rs q2 q3 q4 fV fM fR b f5 G5 f6 G6 f7 G7 O W 2 _ from BIBase.Entails.rfl)
        iframe HS HA HB
        iexists W2
        iframe HO
        ipureintro; exact sub_trans hW1 hW2)
  unfold wps
  refine (show _ ⊢ _ from ?_).trans (hfor _)
  iintro ⟨HS, ⟨HA, HB⟩, HO⟩
  isplitl [HS HA HB HO]
  · iapply (show iprop(slab d arg2 arg3 arg4 arg8 arg9 arg10 mi mo arg19 sg rs q2 q3 q4 fV fM fR O ∗ part d arg5 arg6 arg7 (prt b 0) f5 f6 f7 ∗ part d arg5 arg6 arg7 (prt b 1) f5 f6 f7 ∗ owesFrom c s d O W) ⊢ inv d arg2 arg3 arg4 arg5 arg6 arg7 arg8 arg9 arg10 mi mo arg19 sg rs q2 q3 q4 fV fM fR b f5 G5 f6 G6 f7 G7 O W 0 _ from BIBase.Entails.rfl)
    iframe HS HA HB
    iexists W
    iframe HO
    ipureintro; exact fun p hp => .inl hp
  iintro %_ H
  ihave H := (show inv d arg2 arg3 arg4 arg5 arg6 arg7 arg8 arg9 arg10 mi mo arg19 sg rs q2 q3 q4 fV fM fR b f5 G5 f6 G6 f7 G7 O W (Scf.trips 0#32 2#32 1#32) _
    ⊢ iprop(slab d arg2 arg3 arg4 arg8 arg9 arg10 mi mo arg19 sg rs q2 q3 q4 fV fM fR O ∗ part d arg5 arg6 arg7 (prt b 0) G5 G6 G7 ∗ part d arg5 arg6 arg7 (prt b 1) G5 G6 G7 ∗ owesFrom c s d O W) from BIBase.Entails.rfl) $$ H
  icases H with ⟨HS, HA, HB, HO⟩
  iframe HS HA HB HO

end Loop

end Cert.Proof.Scat

end
-- ==== Proof.ScatDeal.lean ====
/-
  Dealing the arrays of a scattering call to the subcores, and what a subcore owns.
-/
module

public import proofs.«01_k».proof.Proof.ScatLoop

@[expose] public section

noncomputable section

namespace Cert.Proof.Scat

open Cert.ScatterIdeal Cert.ScatterIdeal.Gen

open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {c : Fin τ.nSC} {s : Fin τ.nSub} (d : Dev nD)

/-! ## Arrays in parts -/

theorem rows_deal (A : Memref sig .scVector .hbm S131072x128 .f32) (f : Buf (Elt F) (A.view.loc (V d c s))) :
    (held c s d A fullShare f : sProp 𝕄) = bigSep Finset.univ fun k : Fin 64 => bigSep Finset.univ fun r : Fin 2048 => sentRow c s d A f (dest k r) := by
  have h : (held c s d A fullShare f : sProp 𝕄) = bigSep Finset.univ fun n : Fin 131072 => sentRow c s d A f n := by
    unfold held
    rw [View.set_eq_biUnion_rows A.view gathers_S131072x128_S128x128.axis]
    exact pointsTo_biUnion Finset.univ _ fun r _ r' _ h => View.disjoint_rows A.view gathers_S131072x128_S128x128.axis h
  refine h.trans ((bigSep_univ_equiv (finProdFinEquiv (m := 64) (n := 2048)) (fun n : Fin (64 * 2048) => sentRow c s d A f n)).trans ((bigSep_univ_prod _).trans ?_))
  refine bigSep_congr fun k _ => bigSep_congr fun r _ => congrArg (fun n : Fin 131072 => sentRow c s d A f n) (Fin.ext ?_)
  show r.val + 2048 * k.val = 2048 * k.val + r.val
  omega

theorem fours_deal (A : Memref sig .scVector .hbm S524288 .i32) (f : Buf (Elt F) (A.view.loc (V d c s))) :
    (held c s d A fullShare f : sProp 𝕄) = bigSep Finset.univ fun k : Fin 64 => held c s d (win 8192 A ![k.val * 8192] (qPart_inb k)) fullShare f := by
  refine tiles_of d A fullShare f (fun k : Fin 64 => Rect.unit (s := Sn 524288) ![k.val * 8192] (Sn 8192).size (qPart_inb k)) (fun y => ?_) (fun {i j} h => ?_)
  · have hy : (y 0).val < 524288 := (y 0).isLt
    refine ⟨⟨(y 0).val / 8192, by omega⟩, Rect.mem_set_unit.mpr fun a => ?_⟩
    fin_cases a
    show (y 0).val / 8192 * 8192 ≤ (y 0).val ∧ (y 0).val < (y 0).val / 8192 * 8192 + 8192
    omega
  · refine Finset.disjoint_left.mpr fun y hi hj => h (Fin.ext ?_)
    have hi : i.val * 8192 ≤ (y 0).val ∧ (y 0).val < i.val * 8192 + 8192 := Rect.mem_set_unit.mp hi 0
    have hj : j.val * 8192 ≤ (y 0).val ∧ (y 0).val < j.val * 8192 + 8192 := Rect.mem_set_unit.mp hj 0
    omega

theorem run_inb (n : Fin 256) : ∀ a, (![n.val * 2048] : Fin 1 → ℕ) a + (Sn 2048).size a ≤ (Sn 524288).size a := by
  intro a; fin_cases a; have := n.isLt; show n.val * 2048 + 2048 ≤ 524288; omega

theorem runs_deal (A : Memref sig .scVector .hbm S524288 .i32) (f : Buf (Elt F) (A.view.loc (V d c s))) :
    (held c s d A fullShare f : sProp 𝕄)
      = bigSep Finset.univ fun k : Fin 64 => bigSep Finset.univ fun j : Fin 4 => held c s d (win 2048 A ![(4 * k.val + j.val) * 2048] (mPart_inb k j)) fullShare f := by
  have h := tiles_of d A fullShare f (fun n : Fin 256 => Rect.unit (s := Sn 524288) ![n.val * 2048] (Sn 2048).size (run_inb n)) (fun y => by
      have hy : (y 0).val < 524288 := (y 0).isLt
      refine ⟨⟨(y 0).val / 2048, by omega⟩, Rect.mem_set_unit.mpr fun a => ?_⟩
      fin_cases a
      show (y 0).val / 2048 * 2048 ≤ (y 0).val ∧ (y 0).val < (y 0).val / 2048 * 2048 + 2048
      omega) (fun {i j} h => by
      refine Finset.disjoint_left.mpr fun y hi hj => h (Fin.ext ?_)
      have hi : i.val * 2048 ≤ (y 0).val ∧ (y 0).val < i.val * 2048 + 2048 := Rect.mem_set_unit.mp hi 0
      have hj : j.val * 2048 ≤ (y 0).val ∧ (y 0).val < j.val * 2048 + 2048 := Rect.mem_set_unit.mp hj 0
      omega)
  refine h.trans ((bigSep_univ_equiv (finProdFinEquiv (m := 64) (n := 4)) _).trans ((bigSep_univ_prod _).trans ?_))
  refine bigSep_congr fun k _ => bigSep_congr fun j _ => ?_
  have key : ∀ (n : ℕ) (hn : ∀ a, (![n * 2048] : Fin 1 → ℕ) a + (Sn 2048).size a ≤ (Sn 524288).size a), n = 4 * k.val + j.val →
      (held c s d (win 2048 A ![n * 2048] hn) fullShare f : sProp 𝕄) = held c s d (win 2048 A ![(4 * k.val + j.val) * 2048] (mPart_inb k j)) fullShare f := by
    rintro n hn rfl; rfl
  exact key _ (run_inb (finProdFinEquiv (k, j))) (show j.val + 4 * k.val = 4 * k.val + j.val by omega)

/-- The parts, by the batches they belong to. -/
theorem parts_by_batch (Φ : Fin 64 → sProp 𝕄) : bigSep Finset.univ Φ = bigSep Finset.univ fun b : Fin 32 => iprop(Φ (prt b 0) ∗ Φ (prt b 1)) := by
  refine (bigSep_univ_equiv (finProdFinEquiv (m := 32) (n := 2)) Φ).trans ((bigSep_univ_prod _).trans (bigSep_congr fun b _ => ?_))
  rw [bigSep_univ_succ, bigSep_univ_succ, Finset.univ_eq_empty, bigSep_empty]
  have e0 : (finProdFinEquiv (b, (0 : Fin 2)) : Fin 64) = prt b 0 := Fin.ext (show 0 + 2 * b.val = 2 * b.val + 0 by omega)
  have e1 : (finProdFinEquiv (b, (1 : Fin 2)) : Fin 64) = prt b 1 := Fin.ext (show 1 + 2 * b.val = 2 * b.val + 1 by omega)
  refine (congrArg (fun X => iprop(Φ (finProdFinEquiv (b, (0 : Fin 2))) ∗ X)) (BI.equiv_iff.mp BI.sep_emp)).trans ?_
  exact congrArg₂ (fun X Y => iprop(Φ X ∗ Φ Y)) e0 e1

/-- The three arrays whole are the batches' parts of them. -/
theorem parts_whole (A5 : Memref sig .scVector .hbm S131072x128 .f32) (A6 A7 : Memref sig .scVector .hbm S524288 .i32)
    (f5 : Buf (Elt F) (A5.view.loc (V d c s))) (f6 : Buf (Elt F) (A6.view.loc (V d c s))) (f7 : Buf (Elt F) (A7.view.loc (V d c s))) :
    iprop(held c s d A5 fullShare f5 ∗ held c s d A6 fullShare f6 ∗ held c s d A7 fullShare f7)
      = (bigSep Finset.univ fun b : Fin 32 => iprop(part d A5 A6 A7 (prt b 0) f5 f6 f7 ∗ part d A5 A6 A7 (prt b 1) f5 f6 f7) : sProp 𝕄) := by
  refine Eq.trans ?_ (parts_by_batch fun k => part d A5 A6 A7 k f5 f6 f7)
  unfold part
  rw [rows_deal, runs_deal, fours_deal, bigSep_sep', bigSep_sep']

/-! ## Subcores and batches -/

/-- The subcores of both SparseCores, in the order of the batches they take. -/
def widEquiv : Fin 2 × Fin 16 ≃ Fin 32 where
  toFun p := wid p.1 p.2
  invFun b := (⟨b.val % 2, by omega⟩, ⟨b.val / 2, by omega⟩)
  left_inv p := by
    rcases p with ⟨c, s⟩
    have hc := c.isLt
    refine Prod.ext (Fin.ext ?_) (Fin.ext ?_)
    · show (2 * s.val + c.val) % 2 = c.val; omega
    · show (2 * s.val + c.val) / 2 = s.val; omega
  right_inv b := Fin.ext (show 2 * (b.val / 2) + b.val % 2 = b.val by omega)

theorem bigSep_wid (Φ : Fin 32 → sProp 𝕄) :
    bigSep Finset.univ Φ = bigSep Finset.univ fun c : Fin 2 => bigSep Finset.univ fun s : Fin 16 => Φ (wid c s) := by
  rw [bigSep_univ_equiv widEquiv, bigSep_univ_prod]; rfl

/-! ## What a subcore owns -/

theorem own_sems {n : ℕ} (e : Fin n → DmaSem sig) (he : ∀ i j, e i = e j → i = j) (hs : ∀ j, (SemLoc.dma (e j) : SemLoc sig).isScoped .scVector = true) :
    ∃ Z : sProp 𝕄, (ownSems0 (V d c s) : sProp 𝕄) = iprop((bigSep Finset.univ fun j => semVal (V d c s, .dma (e j)) 0) ∗ Z) := by
  classical
  have hinj : Function.Injective fun j : Fin n => ((V d c s, SemLoc.dma (e j)) : GSem nD τ sig) := fun i j h => he i j (by injection h with _ h; injection h with h)
  have hsub : (Finset.univ.image fun j : Fin n => ((V d c s, SemLoc.dma (e j)) : GSem nD τ sig)) ⊆ ownCells (V d c s) := by
    intro g hg
    obtain ⟨j, -, rfl⟩ := Finset.mem_image.mp hg
    exact mem_ownCells.mpr ⟨rfl, hs j⟩
  refine ⟨bigSep (ownCells (V d c s) \ Finset.univ.image fun j : Fin n => ((V d c s, SemLoc.dma (e j)) : GSem nD τ sig)) fun g => semVal g 0, ?_⟩
  unfold SparseCore.Cfg.ownSems0
  rw [bigSep_sdiff_split hsub, SparseCore.bigSep_image_of_injOn hinj.injOn]
  rfl

theorem own_bufs {n : ℕ} (r : Fin n → Ref sig .scVector) (hr : ∀ i j, r i = r j → i = j)
    (hm : ∀ j, (Proc.scVector c s).devRef (r j) ∈ ownRefs (τ := τ) (.scVector c s)) :
    ∃ Z : sProp 𝕄, (ownBufs (V d c s) : sProp 𝕄) = iprop((bigSep Finset.univ fun j => iprop(∃ f, (V d c s).loc (r j) ↦{fullShare} f)) ∗ Z) := by
  classical
  have hinj : Function.Injective fun j : Fin n => (Proc.scVector c s).devRef (r j) := fun i j h => hr i j (Proc.devRef_injective _ h)
  have hsub : (Finset.univ.image fun j : Fin n => (Proc.scVector c s).devRef (r j)) ⊆ ownRefs (τ := τ) (.scVector c s) := by
    intro g hg
    obtain ⟨j, -, rfl⟩ := Finset.mem_image.mp hg
    exact hm j
  refine ⟨bigSep (ownRefs (τ := τ) (.scVector c s) \ Finset.univ.image fun j : Fin n => (Proc.scVector c s).devRef (r j))
    fun b => iprop(∃ f, ((d, b) : Loc nD τ sig) ↦{fullShare} f), ?_⟩
  unfold SparseCore.Cfg.ownBufs
  rw [bigSep_sdiff_split hsub, SparseCore.bigSep_image_of_injOn hinj.injOn]
  rfl

theorem twelve (P : Fin 12 → sProp 𝕄) : bigSep Finset.univ P = iprop(P 0 ∗ P 1 ∗ P 2 ∗ P 3 ∗ P 4 ∗ P 5 ∗ P 6 ∗ P 7 ∗ P 8 ∗ P 9 ∗ P 10 ∗ P 11) := by
  iterate 12 rw [bigSep_univ_succ]
  rw [Finset.univ_eq_empty, bigSep_empty]
  exact congrArg (fun X => iprop(P 0 ∗ P 1 ∗ P 2 ∗ P 3 ∗ P 4 ∗ P 5 ∗ P 6 ∗ P 7 ∗ P 8 ∗ P 9 ∗ P 10 ∗ X)) (BI.equiv_iff.mp BI.sep_emp)

theorem fifteen (P : Fin 15 → sProp 𝕄) : bigSep Finset.univ P = iprop(P 0 ∗ P 1 ∗ P 2 ∗ P 3 ∗ P 4 ∗ P 5 ∗ P 6 ∗ P 7 ∗ P 8 ∗ P 9 ∗ P 10 ∗ P 11 ∗ P 12 ∗ P 13 ∗ P 14) := by
  iterate 15 rw [bigSep_univ_succ]
  rw [Finset.univ_eq_empty, bigSep_empty]
  exact congrArg (fun X => iprop(P 0 ∗ P 1 ∗ P 2 ∗ P 3 ∗ P 4 ∗ P 5 ∗ P 6 ∗ P 7 ∗ P 8 ∗ P 9 ∗ P 10 ∗ P 11 ∗ P 12 ∗ P 13 ∗ X)) (BI.equiv_iff.mp BI.sep_emp)

end Cert.Proof.Scat

end
-- ==== Proof.ScatCalls.lean ====
/-
  The two scattering calls: what the handshakes carry, a subcore's task, and how the operands are dealt.
-/
module

public import proofs.«01_k».proof.Proof.ScatDeal
public import Idealize.ShloMosaic.Lib.SparseCore.Quiescent
public import Idealize.ShloMosaic.Lib.Pipeline.Kit
public import Idealize.ShloMosaic.Lib.StableHlo.Run

@[expose] public section

noncomputable section

namespace Cert.Proof.Scat

open Cert.ScatterIdeal Cert.ScatterIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 2) (Elt F) ℕ UU ℕ) := embL

/-- Batch `b`'s reader's share of what every subcore reads. -/
abbrev rq (b : Fin 32) : PosShare TreeShare := pieceOf fullShare 32 (by decide) b

variable (m : (ℓ : Loc nD τ sig) → Buf (Elt F) ℓ) (ρ : Dev nD → PrngReg)

abbrev aLoc (d : Dev nD) : Loc nD τ sig := (SparseCore.T d).loc main_arg0
abbrev bLoc (d : Dev nD) : Loc nD τ sig := (SparseCore.T d).loc main_arg1
abbrev kLoc (d : Dev nD) : Loc nD τ sig := (SparseCore.T d).loc main_arg2
abbrev rLoc (d : Dev nD) : Loc nD τ sig := (SparseCore.T d).loc main_v0
abbrev mtLoc (d : Dev nD) : Loc nD τ sig := (SparseCore.T d).loc main_v1
abbrev x0Loc (d : Dev nD) : Loc nD τ sig := (SparseCore.T d).loc main_v2_0
abbrev y0Loc (d : Dev nD) : Loc nD τ sig := (SparseCore.T d).loc main_v2_1
abbrev z0Loc (d : Dev nD) : Loc nD τ sig := (SparseCore.T d).loc main_v2_2
abbrev x1Loc (d : Dev nD) : Loc nD τ sig := (SparseCore.T d).loc main_v6_0
abbrev y1Loc (d : Dev nD) : Loc nD τ sig := (SparseCore.T d).loc main_v6_1
abbrev z1Loc (d : Dev nD) : Loc nD τ sig := (SparseCore.T d).loc main_v6_2

/-- The ranks in a row, the metadata in a row and the tokens' rows. -/
def rkV (d : Dev nD) : (Sn 262144).Idx → BitVec 32 := shapeCast S262144 (m (kLoc d) : S32x4x2048x1.Idx → BitVec 32) shapeCasts_S32x4x2048x1_S262144
def mtV (d : Dev nD) : (Sn 524288).Idx → BitVec 32 := shapeCast S524288 (m (bLoc d) : S32x8x2048.Idx → BitVec 32) shapeCasts_S32x8x2048_S524288
def tkV (d : Dev nD) : S32x2048x128.Idx → Elt F .f32 := m (aLoc d)

/-- What each call makes. -/
def gx0 (d : Dev nD) : Buf (Elt F) (x0Loc d) := rowsV 0 (tkV m d) (rkV m d)
def gy0 (d : Dev nD) : Buf (Elt F) (y0Loc d) := runsV 0 (mtV m d) (rkV m d)
def gz0 (d : Dev nD) : Buf (Elt F) (z0Loc d) := foursV 0 (mtV m d) (rkV m d)
def gx1 (d : Dev nD) : Buf (Elt F) (x1Loc d) := rowsV 2 (tkV m d) (rkV m d)
def gy1 (d : Dev nD) : Buf (Elt F) (y1Loc d) := runsV 2 (mtV m d) (rkV m d)
def gz1 (d : Dev nD) : Buf (Elt F) (z1Loc d) := foursV 2 (mtV m d) (rkV m d)

/-- What the proof asks of the launch memory: every round's ranks are the places, each once. -/
def PreOK : Prop := ∀ d : Dev nD, Perms 0 (rkV m d) ∧ Perms 2 (rkV m d)

variable [FloatOps F]

abbrev C0 : Fin τ.nSC := 0
abbrev S0 : Fin τ.nSub := 0

/-- A subcore's task of call 0, its batch of the results at the contents given. -/
def task0 (d : Dev nD) (b : Fin 32) (f5 : Buf (Elt F) (x0Loc d)) (f6 : Buf (Elt F) (y0Loc d)) (f7 : Buf (Elt F) (z0Loc d)) : sProp 𝕄 :=
  iprop((aLoc d ↦{rq b} m (aLoc d)) ∗ (mtLoc d ↦{rq b} (mtV m d : Buf (Elt F) (mtLoc d))) ∗ (rLoc d ↦{rq b} (rkV m d : Buf (Elt F) (rLoc d)))
    ∗ (part (c := C0) (s := S0) d (Memref.whole main_v2_0_scv) (Memref.whole main_v2_1_scv) (Memref.whole main_v2_2_scv) (prt b 0) f5 f6 f7
      ∗ part (c := C0) (s := S0) d (Memref.whole main_v2_0_scv) (Memref.whole main_v2_1_scv) (Memref.whole main_v2_2_scv) (prt b 1) f5 f6 f7))
instance task0_storable (d : Dev nD) (b : Fin 32) (f5 : Buf (Elt F) (x0Loc d)) (f6 : Buf (Elt F) (y0Loc d)) (f7 : Buf (Elt F) (z0Loc d)) :
    BI.Storable (upEmb : UEmb _ 𝕄) (task0 m d b f5 f6 f7) := by
  unfold task0 part; infer_instance
abbrev wd0 (c : Fin ((K (F := F)).nCore 0)) (i : Fin ((K (F := F)).nSub 0)) : Fin 32 := wid ⟨c.val, c.isLt⟩ ⟨i.val, i.isLt⟩

/-- A subcore's task of call 1, its batch of the results at the contents given. -/
def task1 (d : Dev nD) (b : Fin 32) (f5 : Buf (Elt F) (x1Loc d)) (f6 : Buf (Elt F) (y1Loc d)) (f7 : Buf (Elt F) (z1Loc d)) : sProp 𝕄 :=
  iprop((aLoc d ↦{rq b} m (aLoc d)) ∗ (mtLoc d ↦{rq b} (mtV m d : Buf (Elt F) (mtLoc d))) ∗ (rLoc d ↦{rq b} (rkV m d : Buf (Elt F) (rLoc d)))
    ∗ (part (c := C0) (s := S0) d (Memref.whole main_v6_0_scv) (Memref.whole main_v6_1_scv) (Memref.whole main_v6_2_scv) (prt b 0) f5 f6 f7
      ∗ part (c := C0) (s := S0) d (Memref.whole main_v6_0_scv) (Memref.whole main_v6_1_scv) (Memref.whole main_v6_2_scv) (prt b 1) f5 f6 f7))
instance task1_storable (d : Dev nD) (b : Fin 32) (f5 : Buf (Elt F) (x1Loc d)) (f6 : Buf (Elt F) (y1Loc d)) (f7 : Buf (Elt F) (z1Loc d)) :
    BI.Storable (upEmb : UEmb _ 𝕄) (task1 m d b f5 f6 f7) := by
  unfold task1 part; infer_instance
abbrev wd1 (c : Fin ((K (F := F)).nCore 1)) (i : Fin ((K (F := F)).nSub 1)) : Fin 32 := wid ⟨c.val, c.isLt⟩ ⟨i.val, i.isLt⟩

/-- A whole buffer held. -/
theorem held_whole (d : Dev nD) (c : Fin τ.nSC) (s : Fin τ.nSub) (x : Ref sig .scVector) (q : PosShare TreeShare) (f : Buf (Elt F) ((V d c s).loc x)) :
    (held (F := F) c s d (Memref.whole x) q f : sProp 𝕄) = ((V d c s).loc x ↦{q} f) :=
  congrArg (fun I => ((V d c s).loc x ↦[I]{q} f : sProp 𝕄)) (View.set_whole x)

/-- The whole of call 0's operands. -/
theorem tasks0 (d : Dev nD) (f5 : Buf (Elt F) (x0Loc d)) (f6 : Buf (Elt F) (y0Loc d)) (f7 : Buf (Elt F) (z0Loc d)) :
    iprop((aLoc d ↦{fullShare} m (aLoc d)) ∗ (mtLoc d ↦{fullShare} (mtV m d : Buf (Elt F) (mtLoc d))) ∗ (rLoc d ↦{fullShare} (rkV m d : Buf (Elt F) (rLoc d)))
        ∗ (x0Loc d ↦{fullShare} f5) ∗ (y0Loc d ↦{fullShare} f6) ∗ z0Loc d ↦{fullShare} f7)
      = (bigSep Finset.univ fun c : Fin ((K (F := F)).nCore 0) => bigSep Finset.univ fun i : Fin ((K (F := F)).nSub 0) => task0 m d (wd0 (F := F) c i) f5 f6 f7 : sProp 𝕄) := by
  refine Eq.trans ?_ (bigSep_wid fun b => task0 m d b f5 f6 f7)
  have h := parts_whole (c := C0) (s := S0) d (Memref.whole main_v2_0_scv) (Memref.whole main_v2_1_scv) (Memref.whole main_v2_2_scv) f5 f6 f7
  rw [held_whole, held_whole, held_whole] at h
  unfold task0
  rw [bigSep_sep', bigSep_sep', bigSep_sep', ← pointsTo_piecesOf, ← pointsTo_piecesOf, ← pointsTo_piecesOf, ← h]

/-- The whole of call 1's operands. -/
theorem tasks1 (d : Dev nD) (f5 : Buf (Elt F) (x1Loc d)) (f6 : Buf (Elt F) (y1Loc d)) (f7 : Buf (Elt F) (z1Loc d)) :
    iprop((aLoc d ↦{fullShare} m (aLoc d)) ∗ (mtLoc d ↦{fullShare} (mtV m d : Buf (Elt F) (mtLoc d))) ∗ (rLoc d ↦{fullShare} (rkV m d : Buf (Elt F) (rLoc d)))
        ∗ (x1Loc d ↦{fullShare} f5) ∗ (y1Loc d ↦{fullShare} f6) ∗ z1Loc d ↦{fullShare} f7)
      = (bigSep Finset.univ fun c : Fin ((K (F := F)).nCore 1) => bigSep Finset.univ fun i : Fin ((K (F := F)).nSub 1) => task1 m d (wd1 (F := F) c i) f5 f6 f7 : sProp 𝕄) := by
  refine Eq.trans ?_ (bigSep_wid fun b => task1 m d b f5 f6 f7)
  have h := parts_whole (c := C0) (s := S0) d (Memref.whole main_v6_0_scv) (Memref.whole main_v6_1_scv) (Memref.whole main_v6_2_scv) f5 f6 f7
  rw [held_whole, held_whole, held_whole] at h
  unfold task1
  rw [bigSep_sep', bigSep_sep', bigSep_sep', ← pointsTo_piecesOf, ← pointsTo_piecesOf, ← pointsTo_piecesOf, ← h]

/-- Each call takes the tokens, the metadata, the ranks and its results whole, dealt to the subcores at once. -/
def P : (K (F := F)).Pay (nD := nD) (Val := Elt F) (Name := ℕ) (U := UU) where
  st := fun q d c => match q with
    | 0 => bigSep Finset.univ fun i : Fin ((K (F := F)).nSub 0) => task0 m d (wd0 (F := F) c i) (m (x0Loc d)) (m (y0Loc d)) (m (z0Loc d))
    | 1 => bigSep Finset.univ fun i : Fin ((K (F := F)).nSub 1) => task1 m d (wd1 (F := F) c i) (m (x1Loc d)) (m (y1Loc d)) (m (z1Loc d))
  dn := fun q d c => match q with
    | 0 => bigSep Finset.univ fun i : Fin ((K (F := F)).nSub 0) => task0 m d (wd0 (F := F) c i) (gx0 m d) (gy0 m d) (gz0 m d)
    | 1 => bigSep Finset.univ fun i : Fin ((K (F := F)).nSub 1) => task1 m d (wd1 (F := F) c i) (gx1 m d) (gy1 m d) (gz1 m d)
  go := fun q d c i => match q with
    | 0 => task0 m d (wd0 (F := F) c i) (m (x0Loc d)) (m (y0Loc d)) (m (z0Loc d))
    | 1 => task1 m d (wd1 (F := F) c i) (m (x1Loc d)) (m (y1Loc d)) (m (z1Loc d))
  td := fun q d c i => match q with
    | 0 => task0 m d (wd0 (F := F) c i) (gx0 m d) (gy0 m d) (gz0 m d)
    | 1 => task1 m d (wd1 (F := F) c i) (gx1 m d) (gy1 m d) (gz1 m d)
  x := fun _ _ => iprop(emp)

theorem all_storable {n : ℕ} (Φ : Fin n → sProp 𝕄) (h : ∀ i, BI.Storable (upEmb : UEmb _ 𝕄) (Φ i)) : BI.Storable (upEmb : UEmb _ 𝕄) (bigSep Finset.univ Φ) :=
  haveI := h; inferInstance

instance P_storable : (P (F := F) m).IsStorable where
  st q d c := match q with
    | 0 => all_storable _ fun i => task0_storable m d (wd0 (F := F) c i) (m (x0Loc d)) (m (y0Loc d)) (m (z0Loc d))
    | 1 => all_storable _ fun i => task1_storable m d (wd1 (F := F) c i) (m (x1Loc d)) (m (y1Loc d)) (m (z1Loc d))
  dn q d c := match q with
    | 0 => all_storable _ fun i => task0_storable m d (wd0 (F := F) c i) (gx0 m d) (gy0 m d) (gz0 m d)
    | 1 => all_storable _ fun i => task1_storable m d (wd1 (F := F) c i) (gx1 m d) (gy1 m d) (gz1 m d)
  go q d c i := match q with
    | 0 => task0_storable m d (wd0 (F := F) c i) (m (x0Loc d)) (m (y0Loc d)) (m (z0Loc d))
    | 1 => task1_storable m d (wd1 (F := F) c i) (m (x1Loc d)) (m (y1Loc d)) (m (z1Loc d))
  td q d c i := match q with
    | 0 => task0_storable m d (wd0 (F := F) c i) (gx0 m d) (gy0 m d) (gz0 m d)
    | 1 => task1_storable m d (wd1 (F := F) c i) (gx1 m d) (gy1 m d) (gz1 m d)

/-! ## The tasks -/

/-- A task around its loop: what it does not use goes past it. -/
theorem task_of_loop {c : Fin τ.nSC} {s : Fin τ.nSub} (d : Dev nD) {p : PR F c s (BitVec 32)} {Lv MW A M R A₂ M₂ R₂ B₁ B₂ Bf B₃ Hb Hs HO HO' : sProp 𝕄} (P Pe : Fin 12 → sProp 𝕄) (S : Fin 15 → sProp 𝕄)
    (hl : iprop((MW ∗ A ∗ M ∗ R ∗ P 0 ∗ P 1 ∗ P 2 ∗ S 0 ∗ (P 3 ∗ P 4 ∗ P 5 ∗ P 6 ∗ P 7 ∗ P 8 ∗ P 9 ∗ P 10 ∗ P 11) ∗ (S 1 ∗ S 2 ∗ S 3 ∗ S 4 ∗ S 5 ∗ S 6 ∗ S 7 ∗ S 8 ∗ S 9 ∗ S 10 ∗ S 11 ∗ S 12 ∗ S 13 ∗ S 14)) ∗ B₁ ∗ HO) ⊢ wps c s d p fun _ => iprop((MW ∗ A ∗ M ∗ R ∗ P 0 ∗ P 1 ∗ P 2 ∗ S 0 ∗ (P 3 ∗ P 4 ∗ P 5 ∗ P 6 ∗ P 7 ∗ P 8 ∗ P 9 ∗ P 10 ∗ P 11) ∗ (S 1 ∗ S 2 ∗ S 3 ∗ S 4 ∗ S 5 ∗ S 6 ∗ S 7 ∗ S 8 ∗ S 9 ∗ S 10 ∗ S 11 ∗ S 12 ∗ S 13 ∗ S 14)) ∗ Bf ∗ HO'))
    (hmw : Lv ⊢ MW) (hA : A = A₂) (hM : M = M₂) (hR : R = R₂) (hB : B₁ = B₂) (hBf : Bf = B₃) (hP : ∀ j, P j = Pe j) :
    iprop(Lv ∗ emp ∗ (A₂ ∗ M₂ ∗ R₂ ∗ B₂) ∗ (bigSep Finset.univ Pe ∗ Hb) ∗ (bigSep Finset.univ S ∗ Hs) ∗ HO)
      ⊢ wps c s d (p >>= fun _ => pure PUnit.unit : PR F c s PUnit)
          fun _ => iprop((A₂ ∗ M₂ ∗ R₂ ∗ B₃) ∗ (bigSep Finset.univ Pe ∗ Hb) ∗ (bigSep Finset.univ S ∗ Hs) ∗ HO') := by
  subst hA hM hR hB hBf
  obtain rfl : P = Pe := funext hP
  rw [twelve, fifteen]
  iintro ⟨Hlv, -, ⟨HA, HM, HR, HB⟩, ⟨⟨P0, P1, P2, P3, P4, P5, P6, P7, P8, P9, P10, P11⟩, Hb⟩, ⟨⟨S0, S1, S2, S3, S4, S5, S6, S7, S8, S9, S10, S11, S12, S13, S14⟩, Hs⟩, HO⟩
  ihave Hmw := hmw $$ Hlv
  iapply (wp_seq d hl) $$ [Hmw HA HM HR HB P0 P1 P2 P3 P4 P5 P6 P7 P8 P9 P10 P11 S0 S1 S2 S3 S4 S5 S6 S7 S8 S9 S10 S11 S12 S13 S14 HO]
  · iframe Hmw HA HM HR HB P0 P1 P2 P3 P4 P5 P6 P7 P8 P9 P10 P11 S0 S1 S2 S3 S4 S5 S6 S7 S8 S9 S10 S11 S12 S13 S14 HO
  iintro %_ ⟨⟨-, HA, HM, HR, P0, P1, P2, S0, ⟨P3, P4, P5, P6, P7, P8, P9, P10, P11⟩, ⟨S1, S2, S3, S4, S5, S6, S7, S8, S9, S10, S11, S12, S13, S14⟩⟩, HB, HO⟩
  unfold wps
  rw [wp_pure]
  imodintro
  iframe HA HM HR HB P0 P1 P2 P3 P4 P5 P6 P7 P8 P9 P10 P11 S0 S1 S2 S3 S4 S5 S6 S7 S8 S9 S10 S11 S12 S13 S14 Hb Hs HO

/-- The scratch and the cells of call 0. -/
def ref0 : Fin 12 → Ref sig .scVector
  | 0 => cc0_scratch0 | 1 => cc0_scratch1 | 2 => cc0_scratch2 | 3 => cc0_scratch3 | 4 => cc0_scratch4 | 5 => cc0_scratch5 | 6 => cc0_scratch6 | 7 => cc0_scratch7 | 8 => cc0_scratch8 | 9 => cc0_scratch9 | 10 => cc0_scratch10 | 11 => cc0_scratch11
def cel0 : Fin 15 → DmaSem sig
  | 0 => cc0_scratch12.sem | 1 => cc0_scoped0.sem | 2 => cc0_scoped1.sem | 3 => cc0_scoped2.sem | 4 => cc0_scoped3.sem | 5 => cc0_scoped4.sem | 6 => cc0_scoped5.sem | 7 => cc0_scoped6.sem | 8 => cc0_scoped7.sem | 9 => cc0_scoped8.sem | 10 => cc0_scoped9.sem | 11 => cc0_scoped10.sem | 12 => cc0_scoped11.sem | 13 => cc0_scoped12.sem | 14 => cc0_scoped13.sem
def mi0 : Fin 4 → Memref sig .scVector .vmem S2048 .i32
  | 0 => Memref.whole cc0_scratch3 | 1 => Memref.whole cc0_scratch4 | 2 => Memref.whole cc0_scratch5 | 3 => Memref.whole cc0_scratch6
def mo0 : Fin 4 → Memref sig .scVector .vmem S2048 .i32
  | 0 => Memref.whole cc0_scratch7 | 1 => Memref.whole cc0_scratch8 | 2 => Memref.whole cc0_scratch9 | 3 => Memref.whole cc0_scratch10
theorem mi0_whole : ∀ j, (mi0 j).IsWhole
  | 0 => Memref.isWhole_whole _ | 1 => Memref.isWhole_whole _ | 2 => Memref.isWhole_whole _ | 3 => Memref.isWhole_whole _
theorem mo0_whole : ∀ j, (mo0 j).IsWhole
  | 0 => Memref.isWhole_whole _ | 1 => Memref.isWhole_whole _ | 2 => Memref.isWhole_whole _ | 3 => Memref.isWhole_whole _
def rs0 (j : Fin 14) : DmaSem sig := cel0 j.succ

theorem ref0_inj : ∀ i j, ref0 i = ref0 j → i = j := by decide +kernel
theorem cel0_inj : ∀ i j, cel0 i = cel0 j → i = j := by decide +kernel
theorem cel0_scoped : ∀ j, (SemLoc.dma (cel0 j) : SemLoc sig).isScoped .scVector = true := by decide +kernel
theorem ref0_own (c : Fin τ.nSC) (s : Fin τ.nSub) : ∀ j, (Proc.scVector c s).devRef (ref0 j) ∈ ownRefs (τ := τ) (.scVector c s)
  | 0 => SparseCore.Cfg.mem_ownRefs_of_owner rfl | 1 => SparseCore.Cfg.mem_ownRefs_of_owner rfl | 2 => SparseCore.Cfg.mem_ownRefs_of_owner rfl | 3 => SparseCore.Cfg.mem_ownRefs_of_owner rfl | 4 => SparseCore.Cfg.mem_ownRefs_of_owner rfl | 5 => SparseCore.Cfg.mem_ownRefs_of_owner rfl | 6 => SparseCore.Cfg.mem_ownRefs_of_owner rfl | 7 => SparseCore.Cfg.mem_ownRefs_of_owner rfl | 8 => SparseCore.Cfg.mem_ownRefs_of_owner rfl | 9 => SparseCore.Cfg.mem_ownRefs_of_owner rfl | 10 => SparseCore.Cfg.mem_ownRefs_of_owner rfl | 11 => SparseCore.Cfg.mem_ownRefs_of_owner rfl

set_option maxRecDepth 65536 in
set_option maxHeartbeats 2000000 in
theorem task0_spec (d : Dev nD) (c : Fin 2) (s : Fin 16) (hpre : PreOK m) (O : CellTallies nD τ sig (HIx 2)) (W : Waits sig (HIx 2)) (hO : ∀ g, O g none = 0) :
    iprop(levAts (K (F := F)).L (K (F := F)).lev ∗ emp ∗ task0 m d (wid c s) (m (x0Loc d)) (m (y0Loc d)) (m (z0Loc d))
        ∗ scopedBufs (V d (c : Fin τ.nSC) (s : Fin τ.nSub) : Thread nD τ) ∗ scopedSems0 (V d (c : Fin τ.nSC) (s : Fin τ.nSub) : Thread nD τ) ∗ owes (V d (c : Fin τ.nSC) (s : Fin τ.nSub) : Thread nD τ) O W)
      ⊢ wps (c : Fin τ.nSC) (s : Fin τ.nSub) d (cc0__k2_body (F := F) (coordsV c s) (Memref.whole main_arg0_scv) (Memref.isWhole_whole _) (Memref.whole main_v1_scv) (Memref.isWhole_whole _) (Memref.whole main_v0_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13)
          fun _ => iprop(task0 m d (wid c s) (gx0 m d) (gy0 m d) (gz0 m d) ∗ scopedBufs (V d (c : Fin τ.nSC) (s : Fin τ.nSub) : Thread nD τ) ∗ scopedSems0 (V d (c : Fin τ.nSC) (s : Fin τ.nSub) : Thread nD τ)
            ∗ owesFrom (c : Fin τ.nSC) (s : Fin τ.nSub) d O W) := by
  obtain ⟨Zb, hb⟩ := own_bufs (F := F) (c := (c : Fin τ.nSC)) (s := (s : Fin τ.nSub)) d ref0 ref0_inj (ref0_own _ _)
  obtain ⟨Zs, hs⟩ := own_sems (F := F) (c := (c : Fin τ.nSC)) (s := (s : Fin τ.nSub)) d cel0 cel0_inj cel0_scoped
  rw [(K (F := F)).scopedBufs_V facts d c s, SparseCore.Cfg.scopedSems0_V (τ := τ) (Val := Elt F) d c s, hb, hs]
  have hl := loop_spec (F := F) (c := (c : Fin τ.nSC)) (s := (s : Fin τ.nSub)) d (Memref.whole main_arg0_scv) (Memref.whole main_v1_scv) (Memref.whole main_v0_scv) (Memref.whole main_v2_0_scv) (Memref.whole main_v2_1_scv) (Memref.whole main_v2_2_scv)
    (Memref.whole cc0_scratch0) (Memref.isWhole_whole _) (Memref.whole cc0_scratch1) (Memref.whole cc0_scratch2) (Memref.isWhole_whole _) mi0 mi0_whole mo0 mo0_whole (Memref.whole cc0_scratch11) (Memref.isWhole_whole _)
    (cel0 0) rs0 (rq (wid c s)) (rq (wid c s)) (rq (wid c s)) (m (aLoc d)) (mtV m d) (rkV m d) 0 (by decide) (wid c s) (hpre d).1
    (fun t => k0_off1 (coordsV c s) t) (fun t => k0_off1_inb (coordsV c s) t) (offR0 c s) (fun t => oI0 (coordsV c s) t) (fun t => hI0 (coordsV c s) t) (offI0 c s) (fun t => oM0 (coordsV c s) t) (fun t => hM0 (coordsV c s) t) (offM0 c s) (fun t => k0_off9 (coordsV c s) t) (fun t => k0_off9_inb (coordsV c s) t) (offQ0 c s) (fun t => oV0 (coordsV c s) t) (fun t => hV0 (coordsV c s) t) (offV0 c s)
    (fun t => baseW (widW c s) (Scf.iv 0#32 1#32 t)) (fun t => (Scalar.muli (Scalar.addi (Scalar.muli (widW c s) 2#32) (Scf.iv 0#32 1#32 t)) 4#32)) (base_eq c s)
    (m (x0Loc d)) (gx0 m d) (m (y0Loc d)) (gy0 m d) (m (z0Loc d)) (gz0 m d) ⟨fun _ => rfl, fun _ => rfl, fun _ => rfl⟩ O W
  unfold slab slabM slabS at hl
  have hp : (cc0__k2_body (F := F) (coordsV c s) (Memref.whole main_arg0_scv) (Memref.isWhole_whole _) (Memref.whole main_v1_scv) (Memref.isWhole_whole _) (Memref.whole main_v0_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 : PR F (c : Fin τ.nSC) (s : Fin τ.nSub) PUnit)
      = (Scf.for 0#32 2#32 1#32 k0_t1_ok 0#32 (fun t _ => trip (Memref.whole main_arg0_scv) (Memref.whole main_v1_scv) (Memref.whole main_v0_scv) (Memref.whole main_v2_0_scv) (Memref.whole main_v2_1_scv) (Memref.whole main_v2_2_scv) (Memref.whole cc0_scratch0) (Memref.isWhole_whole _) (Memref.whole cc0_scratch1) (Memref.whole cc0_scratch2) (Memref.isWhole_whole _) (mi0 0) (mi0_whole 0) (mi0 1) (mi0_whole 1) (mi0 2) (mi0_whole 2) (mi0 3) (mi0_whole 3) (mo0 0) (mo0_whole 0) (mo0 1) (mo0_whole 1) (mo0 2) (mo0_whole 2) (mo0 3) (mo0_whole 3) (Memref.whole cc0_scratch11) (Memref.isWhole_whole _) (cel0 0) (rs0 0) (rs0 1) (rs0 2) (rs0 3) (rs0 4) (rs0 5) (rs0 6) (rs0 7) (rs0 8) (rs0 9) (rs0 10) (rs0 11) (rs0 12) (rs0 13)
          (k0_off1 (coordsV c s) t) (k0_off1_inb (coordsV c s) t) (oI0 (coordsV c s) t) (hI0 (coordsV c s) t) (oM0 (coordsV c s) t) (hM0 (coordsV c s) t) (k0_off9 (coordsV c s) t) (k0_off9_inb (coordsV c s) t) (oV0 (coordsV c s) t) (hV0 (coordsV c s) t) (baseW (widW c s) (Scf.iv 0#32 1#32 t)) (Scalar.muli (Scalar.addi (Scalar.muli (widW c s) 2#32) (Scf.iv 0#32 1#32 t)) 4#32))
          : PR F (c : Fin τ.nSC) (s : Fin τ.nSub) (BitVec 32)) >>= fun _ => pure ⟨⟩ := by
    rw [cc0__k2_body_eq_skeleton]; rfl
  refine (show _ ⊢ wps (c : Fin τ.nSC) (s : Fin τ.nSub) d (cc0__k2_body (F := F) (coordsV c s) (Memref.whole main_arg0_scv) (Memref.isWhole_whole _) (Memref.whole main_v1_scv) (Memref.isWhole_whole _) (Memref.whole main_v0_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 : PR F (c : Fin τ.nSC) (s : Fin τ.nSub) PUnit) _ from ?_)
  rw [hp]
  unfold task0
  exact task_of_loop d (fun j => iprop(∃ g, held (F := F) (c : Fin τ.nSC) (s : Fin τ.nSub) d (Memref.whole (ref0 j)) fullShare g)) _ _ hl
    ((K (F := F)).mayWaits_none (thr := (V d (c : Fin τ.nSC) (s : Fin τ.nSub) : Thread nD τ)) hO)
    (held_whole d _ _ _ _ _) (held_whole d _ _ _ _ _) (held_whole d _ _ _ _ _) rfl rfl
    (fun j => congrArg (fun Φ : Buf (Elt F) ((V d (c : Fin τ.nSC) (s : Fin τ.nSub) : Thread nD τ).loc (ref0 j)) → sProp 𝕄 => iprop(∃ g, Φ g)) (funext fun g => held_whole d (c : Fin τ.nSC) (s : Fin τ.nSub) _ _ g))

/-- The scratch and the cells of call 1. -/
def ref1 : Fin 12 → Ref sig .scVector
  | 0 => cc1_scratch0 | 1 => cc1_scratch1 | 2 => cc1_scratch2 | 3 => cc1_scratch3 | 4 => cc1_scratch4 | 5 => cc1_scratch5 | 6 => cc1_scratch6 | 7 => cc1_scratch7 | 8 => cc1_scratch8 | 9 => cc1_scratch9 | 10 => cc1_scratch10 | 11 => cc1_scratch11
def cel1 : Fin 15 → DmaSem sig
  | 0 => cc1_scratch12.sem | 1 => cc1_scoped0.sem | 2 => cc1_scoped1.sem | 3 => cc1_scoped2.sem | 4 => cc1_scoped3.sem | 5 => cc1_scoped4.sem | 6 => cc1_scoped5.sem | 7 => cc1_scoped6.sem | 8 => cc1_scoped7.sem | 9 => cc1_scoped8.sem | 10 => cc1_scoped9.sem | 11 => cc1_scoped10.sem | 12 => cc1_scoped11.sem | 13 => cc1_scoped12.sem | 14 => cc1_scoped13.sem
def mi1 : Fin 4 → Memref sig .scVector .vmem S2048 .i32
  | 0 => Memref.whole cc1_scratch3 | 1 => Memref.whole cc1_scratch4 | 2 => Memref.whole cc1_scratch5 | 3 => Memref.whole cc1_scratch6
def mo1 : Fin 4 → Memref sig .scVector .vmem S2048 .i32
  | 0 => Memref.whole cc1_scratch7 | 1 => Memref.whole cc1_scratch8 | 2 => Memref.whole cc1_scratch9 | 3 => Memref.whole cc1_scratch10
theorem mi1_whole : ∀ j, (mi1 j).IsWhole
  | 0 => Memref.isWhole_whole _ | 1 => Memref.isWhole_whole _ | 2 => Memref.isWhole_whole _ | 3 => Memref.isWhole_whole _
theorem mo1_whole : ∀ j, (mo1 j).IsWhole
  | 0 => Memref.isWhole_whole _ | 1 => Memref.isWhole_whole _ | 2 => Memref.isWhole_whole _ | 3 => Memref.isWhole_whole _
def rs1 (j : Fin 14) : DmaSem sig := cel1 j.succ

theorem ref1_inj : ∀ i j, ref1 i = ref1 j → i = j := by decide +kernel
theorem cel1_inj : ∀ i j, cel1 i = cel1 j → i = j := by decide +kernel
theorem cel1_scoped : ∀ j, (SemLoc.dma (cel1 j) : SemLoc sig).isScoped .scVector = true := by decide +kernel
theorem ref1_own (c : Fin τ.nSC) (s : Fin τ.nSub) : ∀ j, (Proc.scVector c s).devRef (ref1 j) ∈ ownRefs (τ := τ) (.scVector c s)
  | 0 => SparseCore.Cfg.mem_ownRefs_of_owner rfl | 1 => SparseCore.Cfg.mem_ownRefs_of_owner rfl | 2 => SparseCore.Cfg.mem_ownRefs_of_owner rfl | 3 => SparseCore.Cfg.mem_ownRefs_of_owner rfl | 4 => SparseCore.Cfg.mem_ownRefs_of_owner rfl | 5 => SparseCore.Cfg.mem_ownRefs_of_owner rfl | 6 => SparseCore.Cfg.mem_ownRefs_of_owner rfl | 7 => SparseCore.Cfg.mem_ownRefs_of_owner rfl | 8 => SparseCore.Cfg.mem_ownRefs_of_owner rfl | 9 => SparseCore.Cfg.mem_ownRefs_of_owner rfl | 10 => SparseCore.Cfg.mem_ownRefs_of_owner rfl | 11 => SparseCore.Cfg.mem_ownRefs_of_owner rfl

set_option maxRecDepth 65536 in
set_option maxHeartbeats 2000000 in
theorem task1_spec (d : Dev nD) (c : Fin 2) (s : Fin 16) (hpre : PreOK m) (O : CellTallies nD τ sig (HIx 2)) (W : Waits sig (HIx 2)) (hO : ∀ g, O g none = 0) :
    iprop(levAts (K (F := F)).L (K (F := F)).lev ∗ emp ∗ task1 m d (wid c s) (m (x1Loc d)) (m (y1Loc d)) (m (z1Loc d))
        ∗ scopedBufs (V d (c : Fin τ.nSC) (s : Fin τ.nSub) : Thread nD τ) ∗ scopedSems0 (V d (c : Fin τ.nSC) (s : Fin τ.nSub) : Thread nD τ) ∗ owes (V d (c : Fin τ.nSC) (s : Fin τ.nSub) : Thread nD τ) O W)
      ⊢ wps (c : Fin τ.nSC) (s : Fin τ.nSub) d (cc1__k2_body (F := F) (coordsV c s) (Memref.whole main_arg0_scv) (Memref.isWhole_whole _) (Memref.whole main_v1_scv) (Memref.isWhole_whole _) (Memref.whole main_v0_scv) (Memref.isWhole_whole _) (Memref.whole main_v6_0_scv) (Memref.isWhole_whole _) (Memref.whole main_v6_1_scv) (Memref.isWhole_whole _) (Memref.whole main_v6_2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) cc1_scratch12 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13)
          fun _ => iprop(task1 m d (wid c s) (gx1 m d) (gy1 m d) (gz1 m d) ∗ scopedBufs (V d (c : Fin τ.nSC) (s : Fin τ.nSub) : Thread nD τ) ∗ scopedSems0 (V d (c : Fin τ.nSC) (s : Fin τ.nSub) : Thread nD τ)
            ∗ owesFrom (c : Fin τ.nSC) (s : Fin τ.nSub) d O W) := by
  obtain ⟨Zb, hb⟩ := own_bufs (F := F) (c := (c : Fin τ.nSC)) (s := (s : Fin τ.nSub)) d ref1 ref1_inj (ref1_own _ _)
  obtain ⟨Zs, hs⟩ := own_sems (F := F) (c := (c : Fin τ.nSC)) (s := (s : Fin τ.nSub)) d cel1 cel1_inj cel1_scoped
  rw [(K (F := F)).scopedBufs_V facts d c s, SparseCore.Cfg.scopedSems0_V (τ := τ) (Val := Elt F) d c s, hb, hs]
  have hl := loop_spec (F := F) (c := (c : Fin τ.nSC)) (s := (s : Fin τ.nSub)) d (Memref.whole main_arg0_scv) (Memref.whole main_v1_scv) (Memref.whole main_v0_scv) (Memref.whole main_v6_0_scv) (Memref.whole main_v6_1_scv) (Memref.whole main_v6_2_scv)
    (Memref.whole cc1_scratch0) (Memref.isWhole_whole _) (Memref.whole cc1_scratch1) (Memref.whole cc1_scratch2) (Memref.isWhole_whole _) mi1 mi1_whole mo1 mo1_whole (Memref.whole cc1_scratch11) (Memref.isWhole_whole _)
    (cel1 0) rs1 (rq (wid c s)) (rq (wid c s)) (rq (wid c s)) (m (aLoc d)) (mtV m d) (rkV m d) 2 (by decide) (wid c s) (hpre d).2
    (fun t => k1_off1 (coordsV c s) t) (fun t => k1_off1_inb (coordsV c s) t) (offR1 c s) (fun t => oI1 (coordsV c s) t) (fun t => hI1 (coordsV c s) t) (offI1 c s) (fun t => oM1 (coordsV c s) t) (fun t => hM1 (coordsV c s) t) (offM1 c s) (fun t => k1_off9 (coordsV c s) t) (fun t => k1_off9_inb (coordsV c s) t) (offQ1 c s) (fun t => oV1 (coordsV c s) t) (fun t => hV1 (coordsV c s) t) (offV1 c s)
    (fun t => baseW (widW c s) (Scf.iv 0#32 1#32 t)) (fun t => (Scalar.muli (Scalar.addi (Scalar.muli (widW c s) 2#32) (Scf.iv 0#32 1#32 t)) 4#32)) (base_eq c s)
    (m (x1Loc d)) (gx1 m d) (m (y1Loc d)) (gy1 m d) (m (z1Loc d)) (gz1 m d) ⟨fun _ => rfl, fun _ => rfl, fun _ => rfl⟩ O W
  unfold slab slabM slabS at hl
  have hp : (cc1__k2_body (F := F) (coordsV c s) (Memref.whole main_arg0_scv) (Memref.isWhole_whole _) (Memref.whole main_v1_scv) (Memref.isWhole_whole _) (Memref.whole main_v0_scv) (Memref.isWhole_whole _) (Memref.whole main_v6_0_scv) (Memref.isWhole_whole _) (Memref.whole main_v6_1_scv) (Memref.isWhole_whole _) (Memref.whole main_v6_2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) cc1_scratch12 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 : PR F (c : Fin τ.nSC) (s : Fin τ.nSub) PUnit)
      = (Scf.for 0#32 2#32 1#32 k1_t1_ok 0#32 (fun t _ => trip (Memref.whole main_arg0_scv) (Memref.whole main_v1_scv) (Memref.whole main_v0_scv) (Memref.whole main_v6_0_scv) (Memref.whole main_v6_1_scv) (Memref.whole main_v6_2_scv) (Memref.whole cc1_scratch0) (Memref.isWhole_whole _) (Memref.whole cc1_scratch1) (Memref.whole cc1_scratch2) (Memref.isWhole_whole _) (mi1 0) (mi1_whole 0) (mi1 1) (mi1_whole 1) (mi1 2) (mi1_whole 2) (mi1 3) (mi1_whole 3) (mo1 0) (mo1_whole 0) (mo1 1) (mo1_whole 1) (mo1 2) (mo1_whole 2) (mo1 3) (mo1_whole 3) (Memref.whole cc1_scratch11) (Memref.isWhole_whole _) (cel1 0) (rs1 0) (rs1 1) (rs1 2) (rs1 3) (rs1 4) (rs1 5) (rs1 6) (rs1 7) (rs1 8) (rs1 9) (rs1 10) (rs1 11) (rs1 12) (rs1 13)
          (k1_off1 (coordsV c s) t) (k1_off1_inb (coordsV c s) t) (oI1 (coordsV c s) t) (hI1 (coordsV c s) t) (oM1 (coordsV c s) t) (hM1 (coordsV c s) t) (k1_off9 (coordsV c s) t) (k1_off9_inb (coordsV c s) t) (oV1 (coordsV c s) t) (hV1 (coordsV c s) t) (baseW (widW c s) (Scf.iv 0#32 1#32 t)) (Scalar.muli (Scalar.addi (Scalar.muli (widW c s) 2#32) (Scf.iv 0#32 1#32 t)) 4#32))
          : PR F (c : Fin τ.nSC) (s : Fin τ.nSub) (BitVec 32)) >>= fun _ => pure ⟨⟩ := by
    rw [cc1__k2_body_eq_skeleton]; rfl
  refine (show _ ⊢ wps (c : Fin τ.nSC) (s : Fin τ.nSub) d (cc1__k2_body (F := F) (coordsV c s) (Memref.whole main_arg0_scv) (Memref.isWhole_whole _) (Memref.whole main_v1_scv) (Memref.isWhole_whole _) (Memref.whole main_v0_scv) (Memref.isWhole_whole _) (Memref.whole main_v6_0_scv) (Memref.isWhole_whole _) (Memref.whole main_v6_1_scv) (Memref.isWhole_whole _) (Memref.whole main_v6_2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) cc1_scratch12 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 : PR F (c : Fin τ.nSC) (s : Fin τ.nSub) PUnit) _ from ?_)
  rw [hp]
  unfold task1
  exact task_of_loop d (fun j => iprop(∃ g, held (F := F) (c : Fin τ.nSC) (s : Fin τ.nSub) d (Memref.whole (ref1 j)) fullShare g)) _ _ hl
    ((K (F := F)).mayWaits_none (thr := (V d (c : Fin τ.nSC) (s : Fin τ.nSub) : Thread nD τ)) hO)
    (held_whole d _ _ _ _ _) (held_whole d _ _ _ _ _) (held_whole d _ _ _ _ _) rfl rfl
    (fun j => congrArg (fun Φ : Buf (Elt F) ((V d (c : Fin τ.nSC) (s : Fin τ.nSub) : Thread nD τ).loc (ref1 j)) → sProp 𝕄 => iprop(∃ g, Φ g)) (funext fun g => held_whole d (c : Fin τ.nSC) (s : Fin τ.nSub) _ _ g))

end Cert.Proof.Scat

end
-- ==== Proof.ScatRun.lean ====
/-
  The run of the scattering program: what every array ends at.
-/
module

public import proofs.«01_k».proof.Proof.ScatCalls
public import proofs.«01_k».proof.Defs
public import proofs.«01_k».proof.Proof.Gen.Scatter

@[expose] public section

set_option maxRecDepth 16384

noncomputable section

namespace Cert.Proof.Scat

open Cert.ScatterIdeal Cert.ScatterIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (wp_hlo_within)

variable {F : FTy → Type} [FloatOps F]

local notation "𝕄" => MT nD τ sig (HIx 2) (Elt F) ℕ UU ℕ

variable (m : (ℓ : Loc nD τ sig) → Buf (Elt F) ℓ) (ρ : Dev nD → PrngReg)

/-! ## The launch theorem's obligations -/

theorem obl_post {thr : Thread nD τ} {W : Waits sig (HIx 2)} {X A B : sProp 𝕄} {O : CellTallies nD τ sig (HIx 2)} {q : Fin 2} :
    (iprop(X ∗ A ∗ B ∗ ∃ W', ⌜∀ p ∈ W', p ∈ W ∨ p.2 = none⌝ ∗ owes thr O W') : sProp 𝕄)
      ⊢ iprop(X ∗ A ∗ B ∗ ∃ W', ⌜∀ p ∈ W', p ∈ W ∨ p.2 = none ∨ p.2 = some q⌝ ∗ owes thr O W') := by
  iintro ⟨Hx, Ha, Hb, %W', %hW, HO⟩
  iframe Hx Ha Hb
  iexists W'
  iframe HO
  ipureintro; exact fun p hp => (hW p hp).imp_right Or.inl

theorem defs₀_vector0 (c : Fin τ.nSC) (s : Fin τ.nSub) :
    defs₀ (F := F) (.scVector c s) 0 () = SparseCore.onTile hcore0 hsub0 (fun c s => cc0__k2_body (F := F) (coordsV c s) (Memref.whole main_arg0_scv) (Memref.isWhole_whole _) (Memref.whole main_v1_scv) (Memref.isWhole_whole _) (Memref.whole main_v0_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13) ⟨⟩ c s := rfl

theorem tileObl0 (hpre : PreOK m) : (K (F := F)).TileObl (D (F := F)) 𝒱 (P (F := F) m) v₀ 0 := by
  intro d c i O W hO _ _
  simp only [show (P (F := F) m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]
  simp only [SparseCore.onTile, hci, and_self, ↓reduceDIte]
  exact (task0_spec m d ⟨c.val, c.isLt⟩ ⟨i.val, i.isLt⟩ hpre O W hO).trans (wp_mono frame _ _ fun _ => obl_post)

theorem defs₀_vector1 (c : Fin τ.nSC) (s : Fin τ.nSub) :
    defs₀ (F := F) (.scVector c s) 1 () = SparseCore.onTile hcore1 hsub1 (fun c s => cc1__k2_body (F := F) (coordsV c s) (Memref.whole main_arg0_scv) (Memref.isWhole_whole _) (Memref.whole main_v1_scv) (Memref.isWhole_whole _) (Memref.whole main_v0_scv) (Memref.isWhole_whole _) (Memref.whole main_v6_0_scv) (Memref.isWhole_whole _) (Memref.whole main_v6_1_scv) (Memref.isWhole_whole _) (Memref.whole main_v6_2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) cc1_scratch12 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13) ⟨⟩ c s := rfl

theorem tileObl1 (hpre : PreOK m) : (K (F := F)).TileObl (D (F := F)) 𝒱 (P (F := F) m) v₀ 1 := by
  intro d c i O W hO _ _
  simp only [show (P (F := F) m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]
  simp only [SparseCore.onTile, hci, and_self, ↓reduceDIte]
  exact (task1_spec m d ⟨c.val, c.isLt⟩ ⟨i.val, i.isLt⟩ hpre O W hO).trans (wp_mono frame _ _ fun _ => obl_post)

theorem split_triv {X Y : sProp 𝕄} : X ⊢ |={Set.univ}=> iprop(X ∗ (Y -∗ Y)) := by
  iintro H; imodintro
  isplitl [H]; · iexact H
  iintro H; iexact H

/-- What a call is given and gives back, as its subcores' tasks. -/
theorem Pst0 (d : Dev nD) (c : Fin ((K (F := F)).nCore 0)) : (P (F := F) m).st 0 d c = (bigSep Finset.univ fun i : Fin ((K (F := F)).nSub 0) => (P (F := F) m).go 0 d c i : sProp 𝕄) := by
  unfold P; dsimp only
theorem Pdn0 (d : Dev nD) (c : Fin ((K (F := F)).nCore 0)) : (P (F := F) m).dn 0 d c = (bigSep Finset.univ fun i : Fin ((K (F := F)).nSub 0) => (P (F := F) m).td 0 d c i : sProp 𝕄) := by
  unfold P; dsimp only
theorem Pst1 (d : Dev nD) (c : Fin ((K (F := F)).nCore 1)) : (P (F := F) m).st 1 d c = (bigSep Finset.univ fun i : Fin ((K (F := F)).nSub 1) => (P (F := F) m).go 1 d c i : sProp 𝕄) := by
  unfold P; dsimp only
theorem Pdn1 (d : Dev nD) (c : Fin ((K (F := F)).nCore 1)) : (P (F := F) m).dn 1 d c = (bigSep Finset.univ fun i : Fin ((K (F := F)).nSub 1) => (P (F := F) m).td 1 d c i : sProp 𝕄) := by
  unfold P; dsimp only

theorem split0 : (K (F := F)).VecSplit' (P (F := F) m) 0 := by
  intro d c; rw [Pst0, Pdn0]; exact split_triv
theorem split1 : (K (F := F)).VecSplit' (P (F := F) m) 1 := by
  intro d c; rw [Pst1, Pdn1]; exact split_triv

/-- Nothing is cut up on the way: a call's operands are its subcores' tasks from the first. -/
theorem vecSplit (q : Fin 2) : (K (F := F)).VecSplit' (P (F := F) m) q :=
  match q with
  | 0 => split0 m
  | 1 => split1 m

/-! ## The host's reshapes -/

/-- A reshape of an array at given contents into one still at its launch contents. -/
theorem wp_reshape (d : Dev nD) (x y : Ref sig .tc) (he : x.ty.elt = y.ty.elt) (hn : x.ty.shape.ShapeCasts y.ty.shape)
    (hx : x.space ≠ .host ∧ (x : DevRef τ sig).isScoped = false) (hy : y.space ≠ .host ∧ (y : DevRef τ sig).isScoped = false) (hxy : y ≠ x)
    (f : Buf (Elt F) ((SparseCore.T d : Thread nD τ).loc x)) (g : Buf (Elt F) ((SparseCore.T d : Thread nD τ).loc y))
    (hg : (fun i => he ▸ shapeCast y.ty.shape f hn i) = g) (Φ : PUnit → sProp 𝕄) :
    iprop((boundary (SparseCore.T d) ∗ ((SparseCore.T d).loc x ↦{fullShare} f) ∗ ((SparseCore.T d).loc y ↦{fullShare} m ((SparseCore.T d).loc y)))
        ∗ ((boundary (SparseCore.T d) ∗ ((SparseCore.T d).loc x ↦{fullShare} f) ∗ ((SparseCore.T d).loc y ↦{fullShare} g)) -∗ Φ ⟨⟩))
      ⊢ wp frame (wpE ((K (F := F)).defs (D (F := F))) 𝒱 (SparseCore.T d) none) Set.univ
          (hlo rfl (StableHlo.reshape x y he hn hx hy) (fun _ => .ret ⟨⟩)) Φ := by
  obtain ⟨W₀, h1, h2⟩ : ∃ W₀ : Valuation τ sig (Elt F), W₀ (Proc.devRef .tc x) = f ∧ W₀ (Proc.devRef .tc y) = m ((SparseCore.T d : Thread nD τ).loc y) :=
    ⟨Function.update (fun b => m (d, b)) (Proc.devRef .tc x) f, Function.update_self _ _ _, Function.update_of_ne (StableHlo.devRef_ne_of_ne hxy) _ _⟩
  have hne : (Proc.devRef .tc x : DevRef τ sig) ∉ ({Proc.devRef .tc y} : Finset (DevRef τ sig)) := by
    rw [Finset.mem_singleton]; exact StableHlo.devRef_ne_of_ne hxy.symm
  have hh (W : Valuation τ sig (Elt F)) : (StableHlo.held (SparseCore.T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := by
    unfold StableHlo.held
    rw [SparseCore.bigSep_insert' hne, bigSep_singleton]
  have hw := wp_hlo_within (defs := (K (F := F)).defs (D (F := F))) (Ix := HIx 2) (Name := ℕ) (U := UU) (Lvl := ℕ) 𝒱 (SparseCore.T d) none Set.univ (hp := rfl)
    (op := StableHlo.reshape (τ := τ) (Val := Elt F) x y he hn hx hy) (k := fun _ => .ret ⟨⟩)
    (S := {Proc.devRef .tc x, Proc.devRef .tc y}) (Finset.Subset.refl _) (V := W₀) (Q := Φ)
  rw [hh, hh, StableHlo.reshape_result_ne x y he hn hx hy _ hxy.symm,
    show (StableHlo.reshape (τ := τ) (Val := Elt F) x y he hn hx hy).result W₀ (Proc.devRef .tc y) = g from
      (StableHlo.reshape_result x y he hn hx hy _).trans ((congrArg (fun v : Buf (Elt F) ((SparseCore.T d : Thread nD τ).loc x) => fun i => he ▸ shapeCast y.ty.shape v hn i) h1).trans hg), h1, h2] at hw
  iintro ⟨⟨Hb, Hx, Hy⟩, Hk⟩
  iapply hw $$ [Hb Hx Hy]
  · iframe Hb Hx Hy
  iintro ⟨Hb, Hx, Hy⟩
  rw [wp_ret]; imodintro
  iapply Hk
  iframe Hb Hx Hy

abbrev r3Loc (d : Dev nD) : Loc nD τ sig := (SparseCore.T d).loc main_v3
abbrev r4Loc (d : Dev nD) : Loc nD τ sig := (SparseCore.T d).loc main_v4
abbrev r5Loc (d : Dev nD) : Loc nD τ sig := (SparseCore.T d).loc main_v5
abbrev r7Loc (d : Dev nD) : Loc nD τ sig := (SparseCore.T d).loc main_v7
abbrev r8Loc (d : Dev nD) : Loc nD τ sig := (SparseCore.T d).loc main_v8
abbrev r9Loc (d : Dev nD) : Loc nD τ sig := (SparseCore.T d).loc main_v9

/-- The program's results. -/
def r3V (d : Dev nD) : Buf (Elt F) (r3Loc d) := shapeCast S32x2x2048x128 (gx0 m d : S131072x128.Idx → _) shapeCasts_S131072x128_S32x2x2048x128
def r4V (d : Dev nD) : Buf (Elt F) (r4Loc d) := shapeCast S32x2x4x2048 (gy0 m d : S524288.Idx → _) shapeCasts_S524288_S32x2x4x2048
def r5V (d : Dev nD) : Buf (Elt F) (r5Loc d) := shapeCast S32x2x2048x4 (gz0 m d : S524288.Idx → _) shapeCasts_S524288_S32x2x2048x4
def r7V (d : Dev nD) : Buf (Elt F) (r7Loc d) := shapeCast S32x2x2048x128 (gx1 m d : S131072x128.Idx → _) shapeCasts_S131072x128_S32x2x2048x128
def r8V (d : Dev nD) : Buf (Elt F) (r8Loc d) := shapeCast S32x2x4x2048 (gy1 m d : S524288.Idx → _) shapeCasts_S524288_S32x2x4x2048
def r9V (d : Dev nD) : Buf (Elt F) (r9Loc d) := shapeCast S32x2x2048x4 (gz1 m d : S524288.Idx → _) shapeCasts_S524288_S32x2x2048x4

/-! ## The launch -/

/-- The launch element: the calls' handshakes, no counter. -/
def u₀ : UU := (initOf (K (F := F)).hsCells (K (F := F)).hsToks, 1)

theorem emps {I : Type} (s : Finset I) : (bigSep s fun _ => iprop(emp)) = (iprop(emp) : sProp 𝕄) := bigSep_emp_const s

/-- Nothing but the handshakes is set up at the launch. -/
def G (_ : Dev nD) : sProp 𝕄 := iprop(emp)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  rw [show (bigSep Finset.univ fun d : Dev nD => G (F := F) d) = (iprop(emp) : sProp 𝕄) from emps _,
    show (bigSep Finset.univ fun thr : Thread nD τ => bigSep Finset.univ fun q : Fin 2 => (P (F := F) m).x q thr) = bigSep Finset.univ fun _ => iprop(emp) from
    bigSep_congr fun _ _ => emps _, emps]
  isplitl <;> iempintro

/-! ## @main on the TensorCore -/

set_option maxHeartbeats 4000000 in
theorem unscoped_eq (d : Dev nD) (W : (b : Ref sig .tc) → Buf (Elt F) ((d.tc : Thread nD τ).loc b)) :
    (unscopedBufs d W : sProp 𝕄) = iprop((aLoc d ↦{fullShare} W main_arg0)
      ∗ (bLoc d ↦{fullShare} W main_arg1)
      ∗ (kLoc d ↦{fullShare} W main_arg2)
      ∗ (rLoc d ↦{fullShare} W main_v0)
      ∗ (mtLoc d ↦{fullShare} W main_v1)
      ∗ (x0Loc d ↦{fullShare} W main_v2_0)
      ∗ (y0Loc d ↦{fullShare} W main_v2_1)
      ∗ (z0Loc d ↦{fullShare} W main_v2_2)
      ∗ (r3Loc d ↦{fullShare} W main_v3)
      ∗ (r4Loc d ↦{fullShare} W main_v4)
      ∗ (r5Loc d ↦{fullShare} W main_v5)
      ∗ (x1Loc d ↦{fullShare} W main_v6_0)
      ∗ (y1Loc d ↦{fullShare} W main_v6_1)
      ∗ (z1Loc d ↦{fullShare} W main_v6_2)
      ∗ (r7Loc d ↦{fullShare} W main_v7)
      ∗ (r8Loc d ↦{fullShare} W main_v8)
      ∗ (r9Loc d ↦{fullShare} W main_v9)) := by
  unfold unscopedBufs
  rw [show (Finset.univ.filter fun b : Ref sig .tc => ¬ b.isScoped) = {main_arg0, main_arg1, main_arg2, main_v0, main_v1, main_v2_0, main_v2_1, main_v2_2, main_v3, main_v4, main_v5, main_v6_0, main_v6_1, main_v6_2, main_v7, main_v8, main_v9} by decide]
  iterate 16 rw [SparseCore.bigSep_insert' (by decide)]
  rw [bigSep_singleton]

theorem st0 (d : Dev nD) : iprop((aLoc d ↦{fullShare} m (aLoc d)) ∗ (mtLoc d ↦{fullShare} (mtV m d : Buf (Elt F) (mtLoc d))) ∗ (rLoc d ↦{fullShare} (rkV m d : Buf (Elt F) (rLoc d)))
      ∗ (x0Loc d ↦{fullShare} m (x0Loc d)) ∗ (y0Loc d ↦{fullShare} m (y0Loc d)) ∗ z0Loc d ↦{fullShare} m (z0Loc d))
    ⊢ (bigSep Finset.univ fun c : Fin ((K (F := F)).nCore 0) => (P m).st 0 d c : sProp 𝕄) := by
  rw [tasks0 m d _ _ _]; unfold P; dsimp only; exact BIBase.Entails.rfl
theorem dn0 (d : Dev nD) : (bigSep Finset.univ fun c : Fin ((K (F := F)).nCore 0) => (P m).dn 0 d c : sProp 𝕄)
    ⊢ iprop((aLoc d ↦{fullShare} m (aLoc d)) ∗ (mtLoc d ↦{fullShare} (mtV m d : Buf (Elt F) (mtLoc d))) ∗ (rLoc d ↦{fullShare} (rkV m d : Buf (Elt F) (rLoc d)))
      ∗ (x0Loc d ↦{fullShare} gx0 m d) ∗ (y0Loc d ↦{fullShare} gy0 m d) ∗ z0Loc d ↦{fullShare} gz0 m d) := by
  rw [tasks0 m d _ _ _]; unfold P; dsimp only; exact BIBase.Entails.rfl
theorem st1 (d : Dev nD) : iprop((aLoc d ↦{fullShare} m (aLoc d)) ∗ (mtLoc d ↦{fullShare} (mtV m d : Buf (Elt F) (mtLoc d))) ∗ (rLoc d ↦{fullShare} (rkV m d : Buf (Elt F) (rLoc d)))
      ∗ (x1Loc d ↦{fullShare} m (x1Loc d)) ∗ (y1Loc d ↦{fullShare} m (y1Loc d)) ∗ z1Loc d ↦{fullShare} m (z1Loc d))
    ⊢ (bigSep Finset.univ fun c : Fin ((K (F := F)).nCore 1) => (P m).st 1 d c : sProp 𝕄) := by
  rw [tasks1 m d _ _ _]; unfold P; dsimp only; exact BIBase.Entails.rfl
theorem dn1 (d : Dev nD) : (bigSep Finset.univ fun c : Fin ((K (F := F)).nCore 1) => (P m).dn 1 d c : sProp 𝕄)
    ⊢ iprop((aLoc d ↦{fullShare} m (aLoc d)) ∗ (mtLoc d ↦{fullShare} (mtV m d : Buf (Elt F) (mtLoc d))) ∗ (rLoc d ↦{fullShare} (rkV m d : Buf (Elt F) (rLoc d)))
      ∗ (x1Loc d ↦{fullShare} gx1 m d) ∗ (y1Loc d ↦{fullShare} gy1 m d) ∗ z1Loc d ↦{fullShare} gz1 m d) := by
  rw [tasks1 m d _ _ _]; unfold P; dsimp only; exact BIBase.Entails.rfl

/-- What @main leaves the claims: the arguments as launched, the results. -/
def FIN (d : Dev nD) : sProp 𝕄 :=
  iprop((aLoc d ↦{fullShare} m (aLoc d)) ∗ (bLoc d ↦{fullShare} m (bLoc d)) ∗ (kLoc d ↦{fullShare} m (kLoc d)) ∗ (r3Loc d ↦{fullShare} r3V m d) ∗ (r4Loc d ↦{fullShare} r4V m d) ∗ (r5Loc d ↦{fullShare} r5V m d) ∗ (r7Loc d ↦{fullShare} r7V m d) ∗ (r8Loc d ↦{fullShare} r8V m d) ∗ (r9Loc d ↦{fullShare} r9V m d))

set_option maxHeartbeats 2000000 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd FIN
  rw [unscoped_eq]
  simp only [main, wp_bind, wp_pure]
  iintro ⟨#Hctx, Hst, ⟨Hb, ⟨Ha, Hbb, Hk, Hr, Hmt, Hx0, Hy0, Hz0, Hr3, Hr4, Hr5, Hx1, Hy1, Hz1, Hr7, Hr8, Hr9⟩, Hts, -⟩, -⟩
  iapply (wp_reshape m d main_arg2 main_v0 rfl shapeCasts_S32x4x2048x1_S262144 _ _ (by decide) (m (kLoc d)) (rkV m d) rfl _)
  isplitl [Hb Hk Hr]
  · iframe Hb Hk Hr
  iintro ⟨Hb, Hk, Hr⟩
  iapply (wp_reshape m d main_arg1 main_v1 rfl shapeCasts_S32x8x2048_S524288 _ _ (by decide) (m (bLoc d)) (mtV m d) rfl _)
  isplitl [Hb Hbb Hmt]
  · iframe Hb Hbb Hmt
  iintro ⟨Hb, Hbb, Hmt⟩
  iapply ((K (F := F)).wp_run (D (F := F)) 𝒱 (EH := EH) (P := P m) κ d 0)
  isplitr; · iexact Hctx
  isplitl [Hst]; · iexact Hst
  isplitl [Ha Hmt Hr Hx0 Hy0 Hz0]
  · iapply (st0 m d)
    iframe Ha Hmt Hr Hx0 Hy0 Hz0
  iintro ⟨Hst, Hdn⟩
  ihave Hdn' := (dn0 m d) $$ Hdn
  icases Hdn' with ⟨Ha, Hmt, Hr, Hx0, Hy0, Hz0⟩
  iapply (wp_reshape m d main_v2_0 main_v3 rfl shapeCasts_S131072x128_S32x2x2048x128 _ _ (by decide) (gx0 m d) (r3V m d) rfl _)
  isplitl [Hb Hx0 Hr3]
  · iframe Hb Hx0 Hr3
  iintro ⟨Hb, Hx0, Hr3⟩
  iapply (wp_reshape m d main_v2_1 main_v4 rfl shapeCasts_S524288_S32x2x4x2048 _ _ (by decide) (gy0 m d) (r4V m d) rfl _)
  isplitl [Hb Hy0 Hr4]
  · iframe Hb Hy0 Hr4
  iintro ⟨Hb, Hy0, Hr4⟩
  iapply (wp_reshape m d main_v2_2 main_v5 rfl shapeCasts_S524288_S32x2x2048x4 _ _ (by decide) (gz0 m d) (r5V m d) rfl _)
  isplitl [Hb Hz0 Hr5]
  · iframe Hb Hz0 Hr5
  iintro ⟨Hb, Hz0, Hr5⟩
  iapply ((K (F := F)).wp_run (D (F := F)) 𝒱 (EH := EH) (P := P m) κ d 1)
  isplitr; · iexact Hctx
  isplitl [Hst]; · iexact Hst
  isplitl [Ha Hmt Hr Hx1 Hy1 Hz1]
  · iapply (st1 m d)
    iframe Ha Hmt Hr Hx1 Hy1 Hz1
  iintro ⟨Hst, Hdn⟩
  ihave Hdn' := (dn1 m d) $$ Hdn
  icases Hdn' with ⟨Ha, Hmt, Hr, Hx1, Hy1, Hz1⟩
  iapply (wp_reshape m d main_v6_0 main_v7 rfl shapeCasts_S131072x128_S32x2x2048x128 _ _ (by decide) (gx1 m d) (r7V m d) rfl _)
  isplitl [Hb Hx1 Hr7]
  · iframe Hb Hx1 Hr7
  iintro ⟨Hb, Hx1, Hr7⟩
  iapply (wp_reshape m d main_v6_1 main_v8 rfl shapeCasts_S524288_S32x2x4x2048 _ _ (by decide) (gy1 m d) (r8V m d) rfl _)
  isplitl [Hb Hy1 Hr8]
  · iframe Hb Hy1 Hr8
  iintro ⟨Hb, Hy1, Hr8⟩
  iapply (wp_reshape m d main_v6_2 main_v9 rfl shapeCasts_S524288_S32x2x2048x4 _ _ (by decide) (gz1 m d) (r9V m d) rfl _)
  isplitl [Hb Hz1 Hr9]
  · iframe Hb Hz1 Hr9
  iintro ⟨Hb, Hz1, Hr9⟩
  imodintro
  isplitl [Hst]; · iexact Hst
  iframe Ha Hbb Hk Hr3 Hr4 Hr5 Hr7 Hr8 Hr9 Hb Hts

/-! ## The program's run -/

def fq (d : Dev nD) (s' : Phys nD τ sig (Elt F)) : Prop :=
  s'.mem.mem (aLoc d) = m (aLoc d) ∧ s'.mem.mem (bLoc d) = m (bLoc d) ∧ s'.mem.mem (kLoc d) = m (kLoc d) ∧ s'.mem.mem (r3Loc d) = r3V m d ∧ s'.mem.mem (r4Loc d) = r4V m d ∧ s'.mem.mem (r5Loc d) = r5V m d ∧ s'.mem.mem (r7Loc d) = r7V m d ∧ s'.mem.mem (r8Loc d) = r8V m d ∧ s'.mem.mem (r9Loc d) = r9V m d

theorem hfin (d : Dev nD) (s' : Phys nD τ sig (Elt F)) : iprop(FIN m d ∗ SI s') ⊢ (⌜fq m d s'⌝ : sProp 𝕄) := by
  unfold FIN
  iintro ⟨⟨H0, H1, H2, H3, H4, H5, H6, H7, H8⟩, HSI⟩
  ihave H := (persistent_entails_right (SI_pointsTo_agree (st := s') (ℓ := aLoc d) (I := Finset.univ) (q := fullShare) (f := m (aLoc d)))) $$ [HSI H0]
  · isplitl [HSI] <;> iassumption
  icases H with ⟨%h0, HSI, -⟩
  ihave H := (persistent_entails_right (SI_pointsTo_agree (st := s') (ℓ := bLoc d) (I := Finset.univ) (q := fullShare) (f := m (bLoc d)))) $$ [HSI H1]
  · isplitl [HSI] <;> iassumption
  icases H with ⟨%h1, HSI, -⟩
  ihave H := (persistent_entails_right (SI_pointsTo_agree (st := s') (ℓ := kLoc d) (I := Finset.univ) (q := fullShare) (f := m (kLoc d)))) $$ [HSI H2]
  · isplitl [HSI] <;> iassumption
  icases H with ⟨%h2, HSI, -⟩
  ihave H := (persistent_entails_right (SI_pointsTo_agree (st := s') (ℓ := r3Loc d) (I := Finset.univ) (q := fullShare) (f := r3V m d))) $$ [HSI H3]
  · isplitl [HSI] <;> iassumption
  icases H with ⟨%h3, HSI, -⟩
  ihave H := (persistent_entails_right (SI_pointsTo_agree (st := s') (ℓ := r4Loc d) (I := Finset.univ) (q := fullShare) (f := r4V m d))) $$ [HSI H4]
  · isplitl [HSI] <;> iassumption
  icases H with ⟨%h4, HSI, -⟩
  ihave H := (persistent_entails_right (SI_pointsTo_agree (st := s') (ℓ := r5Loc d) (I := Finset.univ) (q := fullShare) (f := r5V m d))) $$ [HSI H5]
  · isplitl [HSI] <;> iassumption
  icases H with ⟨%h5, HSI, -⟩
  ihave H := (persistent_entails_right (SI_pointsTo_agree (st := s') (ℓ := r7Loc d) (I := Finset.univ) (q := fullShare) (f := r7V m d))) $$ [HSI H6]
  · isplitl [HSI] <;> iassumption
  icases H with ⟨%h6, HSI, -⟩
  ihave H := (persistent_entails_right (SI_pointsTo_agree (st := s') (ℓ := r8Loc d) (I := Finset.univ) (q := fullShare) (f := r8V m d))) $$ [HSI H7]
  · isplitl [HSI] <;> iassumption
  icases H with ⟨%h7, HSI, -⟩
  ihave H := (persistent_entails_right (SI_pointsTo_agree (st := s') (ℓ := r9Loc d) (I := Finset.univ) (q := fullShare) (f := r9V m d))) $$ [HSI H8]
  · isplitl [HSI] <;> iassumption
  icases H with ⟨%h8, HSI, -⟩
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i), funext fun i => h8 i (Finset.mem_univ i)⟩

def QC : PUnit × MemSt nD τ sig (Elt F) → Prop := fun r =>
  (∀ d : Dev nD, r.2.mem (aLoc d) = m (aLoc d) ∧ r.2.mem (bLoc d) = m (bLoc d) ∧ r.2.mem (kLoc d) = m (kLoc d) ∧ r.2.mem (r3Loc d) = r3V m d ∧ r.2.mem (r4Loc d) = r4V m d ∧ r.2.mem (r5Loc d) = r5V m d ∧ r.2.mem (r7Loc d) = r7V m d ∧ r.2.mem (r8Loc d) = r8V m d ∧ r.2.mem (r9Loc d) = r9V m d) ∧ r.2.sem = fun _ => 0

set_option backward.isDefEq.respectTransparency.types false in
/-- Every run ends, the arguments unchanged, the results as named, every semaphore at zero. -/
theorem run_main [∀ e, Nonempty (Elt F e)] (hpre : PreOK m) :
    θ_run (Cert.ScatterIdeal.defs (F := F)) (Cert.ScatterIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m hpre | 1 => tileObl1 m hpre)
    (fun q _ => SparseCore.Cfg.VecSplit.of_plain (vecSplit m q))
    m ρ main (G (F := F)) (FIN m) (u₀ (F := F)) (sep_elim_left.trans (hu₀ m)) (hmain m ρ) (fq m) (hfin m) (QC m) (fun _ h hz => ⟨h, hz⟩)

/-- The two programs have one text, so their tables of bodies are the same, row by row. -/
theorem scatter_bodies {F : FTy → Type} [FloatOps F] : Cert.Scatter.defs₀ (F := F) = Cert.ScatterIdeal.defs₀ (F := F) := by
  funext p ℓ a
  match p, ℓ, a with
  | .scVector c s, 0, _ => rfl
  | .scVector c s, 1, _ => rfl
  | .tc, 0, _ => rfl
  | .tc, 1, _ => rfl
  | .scScalar _, _, _ => rfl

theorem scatter_defs {F : FTy → Type} [FloatOps F] : Cert.Scatter.defs (F := F) = Cert.ScatterIdeal.defs (F := F) :=
  congrArg (fun D => Cert.ScatterIdeal.sc.defs (Pipeline.defs Cert.ScatterIdeal.pcfgs D)) scatter_bodies

end Cert.Proof.Scat

end
-- ==== Proof.ScatPre.lean ====
/-
  What the precondition says of the ranks: each position is named once in every round.
-/
module

public import proofs.«01_k».proof.Proof.ScatRun
public import proofs.«01_k».proof.Proof.Refer
public import proofs.«01_k».proof.Proof.Gen.Pre_rank_permutes
public import Idealize.ShloMosaic.Lib.ReduceAll

@[expose] public section

set_option maxRecDepth 16384

noncomputable section

namespace Cert.Proof.Scat

open Cert.Pre_rank_permutes Cert.Pre_rank_permutes.Gen
open Idealize.ShloMosaic
open Cert.Proof.Mix (in_row)

/-- A negative index counts from the end. -/
def wrapW (v : BitVec 32) : BitVec 32 := Scalar.select (IntOp.cmpi .slt v 0#32) (IntOp.addi v 2048#32) v

theorem lt_of_in_row (v : BitVec 32) (e : IntOp.andi (IntOp.cmpi .sge v 0#32) (IntOp.cmpi .sle v 2047#32) = 1#1) : v.toNat < 2048 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide,
    decide_eq_true_eq, BitVec.toInt_eq_toNat_cond, BitVec.toNat_ofNat, Nat.reducePow, Nat.reduceMod] at e
  omega

/-- The order that sorts the ranks. -/
def order (rk : IVec S32x4x2048x1 32) : IVec S32x4x2048 32 :=
  (Host.sort2 S32x4x2048 2 comparator_i32_i32_d2 (shapeCast S32x4x2048 rk shapeCasts_S32x4x2048x1_S32x4x2048) (iotaInDim S32x4x2048 32 2)).2

def wrapP (i : IVec S32x4x2048 32) : IVec S32x4x2048x1 32 :=
  shapeCast _ (select (cmpi .slt i (broadcastInDim S32x4x2048 ![] bcast_S_S32x4x2048 (constantI S_ 32 0#32)))
    (addi i (broadcastInDim S32x4x2048 ![] bcast_S_S32x4x2048 (constantI S_ 32 2048#32))) i) shapeCasts_S32x4x2048_S32x4x2048x1
def fitsP (i : IVec S32x4x2048x1 32) : IVec S32x4x2048 1 :=
  Host.reduce IntOp.andi (andi (cmpi .sge i (broadcastInDim S32x4x2048x1 ![] bcast_S_S32x4x2048x1 (constantI S_ 32 0#32)))
    (cmpi .sle i (broadcastInDim S32x4x2048x1 ![0, 1, 2, 3] bcast_S1x1x1x1_S32x4x2048x1_0_1_2_3 (broadcastInDim S1x1x1x1 ![3] bcast_S1_S1x1x1x1_3 (constantI S1 32 2047#32)))))
    (constantI S_ 1 1#1) reducesTo_S32x4x2048x1_S32x4x2048_d3 h_S_
def takeP (x i : IVec S32x4x2048 32) : IVec S32x4x2048 32 :=
  select (fitsP (wrapP i)) (Host.gather gather_S32x4x2048_S32x4x2048x1_S32x4x2048_n_2_01_01_2_3_111 x (wrapP i))
    (broadcastInDim S32x4x2048 ![] bcast_S_S32x4x2048 (constantI S_ 32 2147483648#32))

theorem take_eq {F : FTy → Type} [FloatOps F] (x i : IVec S32x4x2048 32) : fn_take_along_axis (F := F) x i = takeP x i := rfl
theorem order_eq {F : FTy → Type} [FloatOps F] (rk : IVec S32x4x2048x1 32) :
    fn_argsort (F := F) (shapeCast S32x4x2048 rk shapeCasts_S32x4x2048x1_S32x4x2048) = order rk := rfl

theorem wrapP_apply (i : IVec S32x4x2048 32) (b : Fin 32) (r : Fin 4) (l : Fin 2048) (z : Fin 1) : wrapP i (ix4 b r l z) = wrapW (i (ix3 b r l)) := by
  obtain rfl : z = 0 := Subsingleton.elim _ _
  pointwise [wrapP, wrapW]

theorem fitsP_apply (i : IVec S32x4x2048x1 32) (b : Fin 32) (r : Fin 4) (l : Fin 2048) (w : BitVec 32) (hw : ∀ z, i (ix4 b r l z) = w) :
    fitsP i (ix3 b r l) = IntOp.andi (IntOp.cmpi .sge w 0#32) (IntOp.cmpi .sle w 2047#32) := by
  pointwise [fitsP]
  simp only [hw]
  generalize IntOp.andi (IntOp.cmpi .sge w 0#32) (IntOp.cmpi .sle w 2047#32) = e
  revert e; decide

theorem gatherP_apply (x : IVec S32x4x2048 32) (i : IVec S32x4x2048x1 32) (b : Fin 32) (r : Fin 4) (l : Fin 2048)
    (h : (i (ix4 b r l 0)).toNat < 2048) :
    Host.gather gather_S32x4x2048_S32x4x2048x1_S32x4x2048_n_2_01_01_2_3_111 x i (ix3 b r l)
      = x (ix3 b r ⟨(i (ix4 b r l 0)).toNat, h⟩) := by
  have hi : min (i (ix4 b r l 0)).toInt.toNat 2047 = (i (ix4 b r l 0)).toNat := by
    rw [BitVec.toInt_eq_toNat_of_lt (by omega)]; omega
  unfold Host.gather
  congr 1
  funext a
  refine Fin.ext ?_
  match a with
  | ⟨0, _⟩ => exact show 0 + b.val + 0 = b.val by omega
  | ⟨1, _⟩ => exact show 0 + r.val + 0 = r.val by omega
  | ⟨2, _⟩ =>
    refine Eq.trans ?_ hi
    show min _ _ + 0 + 0 = _
    simp only [Nat.add_zero]
    congr 4
    funext c
    match c with
    | ⟨0, _⟩ => rfl
    | ⟨1, _⟩ => rfl
    | ⟨2, _⟩ => rfl
    | ⟨3, _⟩ => rfl

theorem cmpi_eq (v w : BitVec 32) (h : IntOp.cmpi .eq v w = 1#1) : v = w := by
  have ofBool_eq_one (p : Bool) : (BitVec.ofBool p = 1#1) ↔ p = true := by cases p <;> decide
  simpa only [IntOp.cmpi, ofBool_eq_one, beq_iff_eq] using h

theorem back_place {n : ℕ} (u w : BitVec 32) (h : u = w) (hu : u.toNat < n) (hw : w.toNat < n) : (⟨u.toNat, hu⟩ : Fin n) = ⟨w.toNat, hw⟩ := by
  subst h; rfl

theorem place_mod (w : BitVec 32) (hw : w.toNat < 2048) : (⟨w.toNat % 2048, Nat.mod_lt _ (by decide)⟩ : Fin 2048) = ⟨w.toNat, hw⟩ := Fin.ext (Nat.mod_eq_of_lt hw)

/-- Entries taken along an order that come out as the places: the order names positions, and each entry it names is the place. -/
theorem take_reads (rk : IVec S32x4x2048x1 32) (i : IVec S32x4x2048 32) (b : Fin 32) (r : Fin 4) (l : Fin 2048)
    (e : takeP (shapeCast S32x4x2048 rk shapeCasts_S32x4x2048x1_S32x4x2048) i (ix3 b r l) = BitVec.ofNat 32 l.val) :
    ∃ hw : (wrapW (i (ix3 b r l))).toNat < 2048, (rk (ix4 b r ⟨_, hw⟩ 0)).toNat = l.val := by
  have hl : (BitVec.ofNat 32 l.val).toNat = l.val := by rw [BitVec.toNat_ofNat]; have := l.isLt; omega
  have hz : wrapP i (ix4 b r l 0) = wrapW (i (ix3 b r l)) := wrapP_apply i b r l 0
  have hfit := fitsP_apply _ b r l (wrapW (i (ix3 b r l))) (fun z => wrapP_apply i _ _ _ z)
  have e : (if fitsP (wrapP i) (ix3 b r l) = 1#1 then
      (Host.gather gather_S32x4x2048_S32x4x2048x1_S32x4x2048_n_2_01_01_2_3_111 (shapeCast S32x4x2048 rk shapeCasts_S32x4x2048x1_S32x4x2048) (wrapP i) (ix3 b r l))
        else 2147483648#32) = BitVec.ofNat 32 l.val := e
  by_cases hf : fitsP (wrapP i) (ix3 b r l) = 1#1
  · rw [if_pos hf] at e
    have hw := lt_of_in_row _ (hfit.symm.trans hf)
    have hz' : (wrapP i (ix4 b r l 0)).toNat < 2048 := by rw [hz]; exact hw
    have hx (q : Fin 2048) : shapeCast S32x4x2048 rk shapeCasts_S32x4x2048x1_S32x4x2048 (ix3 b r q) = rk (ix4 b r q 0) := by pointwise
    rw [gatherP_apply _ _ _ _ _ hz', hx, back_place _ _ hz hz' hw] at e
    exact ⟨hw, (congrArg BitVec.toNat e).trans hl⟩
  · exfalso
    rw [if_neg hf] at e
    have h1 := congrArg BitVec.toNat e
    rw [hl] at h1
    have h2 := l.isLt
    have h3 : (2147483648#32).toNat = 2147483648 := by decide
    omega

/-- The order names positions, and the rank of the position it names is the place. -/
theorem pre_reads {F : FTy → Type} [FloatOps F] (a0 : FVec F S32x2048x128 .f32) (a1 : IVec S32x8x2048 32) (rk : IVec S32x4x2048x1 32)
    (h : Cert.Pre_rank_permutes.fn (F := F) a0 a1 rk = fun _ => 1#1) (b : Fin 32) (r : Fin 4) (l : Fin 2048) :
    ∃ hw : (wrapW (order rk (ix3 b r l))).toNat < 2048, (rk (ix4 b r ⟨_, hw⟩ 0)).toNat = l.val := by
  have e := congrFun h (fun k => k.elim0)
  dsimp only [Cert.Pre_rank_permutes.fn] at e
  haveI : Subsingleton Cert.Pre_rank_permutes.S_.Idx := ⟨fun x y => funext fun k => k.elim0⟩
  have e := Host.reduce_andi_all _ _ _ _ _ e (ix3 b r l)
  rw [order_eq, take_eq] at e
  have e := cmpi_eq _ _ e
  have hr : broadcastInDim S32x4x2048 ![0, 1, 2] bcast_S1x1x2048_S32x4x2048_0_1_2 (broadcastInDim S1x1x2048 ![2] bcast_S2048_S1x1x2048_2 (iotaInDim S2048 32 0)) (ix3 b r l) = BitVec.ofNat 32 l.val := by
    pointwise
  exact take_reads rk (order rk) b r l (e.trans hr)

/-! ## The ranks as the calls read them -/

theorem rank_at (rk : IVec S32x4x2048x1 32) (so : Fin 3) (k : Fin 64) (p : Fin 2048) (b : Fin 32) (r : Fin 4) (hb : k.val / 2 = b.val) (hr : so.val + k.val % 2 = r.val) :
    rankOf so (shapeCast Cert.ScatterIdeal.S262144 rk Cert.ScatterIdeal.Gen.shapeCasts_S32x4x2048x1_S262144) k p = rk (ix4 b r p 0) := by
  unfold rankOf
  have e : (⟨(4 * (k.val / 2) + so.val + k.val % 2) * 2048 + p.val, by omega⟩ : Fin 262144) = ⟨(b.val * 4 + r.val) * 2048 + p.val, by omega⟩ :=
    Fin.ext (by show (4 * (k.val / 2) + so.val + k.val % 2) * 2048 + p.val = (b.val * 4 + r.val) * 2048 + p.val; rw [← hb, ← hr]; ring)
  rw [e]
  pointwise

attribute [local irreducible] order

/-- The position that the order names. -/
def named (rk : IVec S32x4x2048x1 32) (b : Fin 32) (r : Fin 4) (l : Fin 2048) : Fin 2048 := ⟨(wrapW (order rk (ix3 b r l))).toNat % 2048, Nat.mod_lt _ (by decide)⟩

section Round
variable {F : FTy → Type} [FloatOps F] (a0 : FVec F S32x2048x128 .f32) (a1 : IVec S32x8x2048 32) (rk : IVec S32x4x2048x1 32)
  (h : Cert.Pre_rank_permutes.fn (F := F) a0 a1 rk = fun _ => 1#1)
include h

theorem named_val (b : Fin 32) (r : Fin 4) (l : Fin 2048) : (wrapW (order rk (ix3 b r l))).toNat = (named rk b r l).val := by
  obtain ⟨hw, -⟩ := pre_reads a0 a1 rk h b r l
  exact (Nat.mod_eq_of_lt hw).symm

theorem rank_named (b : Fin 32) (r : Fin 4) (l : Fin 2048) : (rk (ix4 b r (named rk b r l) 0)).toNat = l.val := by
  obtain ⟨hw, e⟩ := pre_reads a0 a1 rk h b r l
  exact (congrArg (fun q : Fin 2048 => (rk (ix4 b r q 0)).toNat) (place_mod _ hw)).trans e

theorem named_onto (b : Fin 32) (r : Fin 4) : Function.Surjective (named rk b r) :=
  Finite.injective_iff_surjective.1 fun l l' e => Fin.ext (by rw [← rank_named a0 a1 rk h b r l, ← rank_named a0 a1 rk h b r l', e])

theorem perms_of_pre (so : Fin 3) (hso : so.val ≤ 2) :
    Perms so (shapeCast Cert.ScatterIdeal.S262144 rk Cert.ScatterIdeal.Gen.shapeCasts_S32x4x2048x1_S262144) := by
  intro k
  obtain ⟨b, hb⟩ : ∃ b : Fin 32, k.val / 2 = b.val := ⟨⟨k.val / 2, by omega⟩, rfl⟩
  obtain ⟨r, hr⟩ : ∃ r : Fin 4, so.val + k.val % 2 = r.val := ⟨⟨so.val + k.val % 2, by omega⟩, rfl⟩
  have hlt (p : Fin 2048) : (rk (ix4 b r p 0)).toNat < 2048 := by
    obtain ⟨l, rfl⟩ := named_onto a0 a1 rk h b r p
    rw [rank_named a0 a1 rk h b r l]; exact l.isLt
  refine ⟨fun p => by rw [rank_at rk so k p b r hb hr]; exact hlt p, fun p q e => ?_⟩
  have e := congrArg Fin.val e
  have e : (rankOf so _ k p).toNat % 2048 = (rankOf so _ k q).toNat % 2048 := e
  rw [rank_at rk so k p b r hb hr, rank_at rk so k q b r hb hr, Nat.mod_eq_of_lt (hlt p), Nat.mod_eq_of_lt (hlt q)] at e
  obtain ⟨l, rfl⟩ := named_onto a0 a1 rk h b r p
  obtain ⟨l', rfl⟩ := named_onto a0 a1 rk h b r q
  rw [rank_named a0 a1 rk h b r l, rank_named a0 a1 rk h b r l'] at e
  rw [Fin.ext e]

/-- The token at a place is the one the order names there. -/
theorem pos_named (so : Fin 3) (hso : so.val ≤ 2) (k : Fin 64) (b : Fin 32) (r : Fin 4) (hb : k.val / 2 = b.val) (hr : so.val + k.val % 2 = r.val) (l : Fin 2048) :
    posOf so (shapeCast Cert.ScatterIdeal.S262144 rk Cert.ScatterIdeal.Gen.shapeCasts_S32x4x2048x1_S262144) k l = named rk b r l := by
  have e : perm so (shapeCast Cert.ScatterIdeal.S262144 rk Cert.ScatterIdeal.Gen.shapeCasts_S32x4x2048x1_S262144) k (named rk b r l) = l := by
    apply Fin.ext
    show (rankOf so _ k (named rk b r l)).toNat % 2048 = l.val
    rw [rank_at rk so k _ b r hb hr, rank_named a0 a1 rk h b r l, Nat.mod_eq_of_lt l.isLt]
  have := posOf_perm so _ (perms_of_pre a0 a1 rk h so hso) k (named rk b r l)
  rwa [e] at this

end Round

/-! ## The claims about the kernel alone -/

section Claims
open Cert.ScatterIdeal Idealize.ShloMosaic.TcCoe Idealize.SL.Sem

theorem ok_of_pre {F : FTy → Type} [FloatOps F] (m : (ℓ : Loc nD τ sig) → Buf (Elt F) ℓ)
    (h : ∀ c : Dev nD, Cert.Pre_rank_permutes.fn (F := F) (m (aLoc c)) (m (bLoc c)) (m (kLoc c)) = fun _ => 1#1) : PreOK m := fun d =>
  ⟨perms_of_pre (m (aLoc d)) (m (bLoc d)) (m (kLoc d)) (h d) 0 (by decide), perms_of_pre (m (aLoc d)) (m (bLoc d)) (m (kLoc d)) (h d) 2 (by decide)⟩

theorem frame_ideal : Cert.quiescent_ScatterIdeal := fun m ρ hpre =>
  (θ_run Cert.ScatterIdeal.defs _ _).mono (fun _ h => ⟨fun c => ⟨(h.1 c).1, (h.1 c).2.1, (h.1 c).2.2.1⟩, h.2⟩) (run_main (F := Ideal) m ρ (ok_of_pre m hpre))

theorem frame_scatter : Cert.quiescent_Scatter := fun m ρ hpre => by
  have h := (θ_run Cert.ScatterIdeal.defs _ _).mono (fun _ h => (⟨fun c => ⟨(h.1 c).1, (h.1 c).2.1, (h.1 c).2.2.1⟩, h.2⟩ : (∀ c : Dev nD,
      _ ∧ _ ∧ _) ∧ _)) (run_main (F := Bits) m ρ (ok_of_pre m hpre))
  rw [← scatter_defs] at h
  exact h

end Claims

end Cert.Proof.Scat

end
-- ==== Proof.ScatRefer.lean ====
/-
  What the reference of the scatter computes, element by element: each round's rows and metadata taken in sorted order.
-/
module

public import proofs.«01_k».proof.Proof.ScatPre
public import proofs.«01_k».proof.Proof.Gen.ScatterReferenceIdeal.Run

@[expose] public section

set_option maxRecDepth 16384

noncomputable section

namespace Cert.Proof.Scat

open Cert.ScatterReferenceIdeal Cert.ScatterReferenceIdeal.Gen
open Idealize.ShloMosaic
open Cert.Proof.Mix (in_row)

/-! ## The reference's stages -/

section Stages
variable (a0 : FVec Ideal S32x2048x128 .f32) (a1 : IVec S32x8x2048 32) (rk : IVec S32x4x2048x1 32) (o : IVec S32x4x2048 32)

def orderR : IVec S32x4x2048 32 :=
  (Host.sort2 S32x4x2048 2 comparator_i32_i32_d2 (shapeCast S32x4x2048 rk shapeCasts_S32x4x2048x1_S32x4x2048) (iotaInDim S32x4x2048 32 2)).2

/-- The order as the index array of each gather, a negative index counting from the end. -/
def idxA : IVec S32x4x2048x1 32 := broadcastInDim S32x4x2048x1 ![0, 1, 2] bcast_S32x4x2048_S32x4x2048x1_0_1_2 o
def wrapA (i : IVec S32x4x2048x1 32) : IVec S32x4x2048x1 32 :=
  select (cmpi .slt i (broadcastInDim S32x4x2048x1 ![] bcast_S_S32x4x2048x1 (constantI S_ 32 0#32)))
    (addi i (broadcastInDim S32x4x2048x1 ![] bcast_S_S32x4x2048x1 (constantI S_ 32 2048#32))) i
def idxB : IVec S32x4x4x2048 32 :=
  broadcastInDim S32x4x4x2048 ![0, 1, 2, 3] bcast_S32x4x1x2048_S32x4x4x2048_0_1_2_3 (broadcastInDim S32x4x1x2048 ![0, 1, 3] bcast_S32x4x2048_S32x4x1x2048_0_1_3 o)
def wrapB (i : IVec S32x4x4x2048 32) : IVec S32x4x4x2048x1 32 :=
  shapeCast _ (select (cmpi .slt i (broadcastInDim S32x4x4x2048 ![] bcast_S_S32x4x4x2048 (constantI S_ 32 0#32)))
    (addi i (broadcastInDim S32x4x4x2048 ![] bcast_S_S32x4x4x2048 (constantI S_ 32 2048#32))) i) shapeCasts_S32x4x4x2048_S32x4x4x2048x1

/-- Which indices lie in range. -/
def fitsA (i : IVec S32x4x2048x1 32) : IVec S32x4x2048 1 :=
  Host.reduce IntOp.andi (andi (cmpi .sge i (broadcastInDim S32x4x2048x1 ![] bcast_S_S32x4x2048x1 (constantI S_ 32 0#32)))
    (cmpi .sle i (broadcastInDim S32x4x2048x1 ![0, 1, 2, 3] bcast_S1x1x1x1_S32x4x2048x1_0_1_2_3 (broadcastInDim S1x1x1x1 ![3] bcast_S1_S1x1x1x1_3 (constantI S1 32 2047#32)))))
    (constantI S_ 1 1#1) reducesTo_S32x4x2048x1_S32x4x2048_d3 h_S_
def fitsB (i : IVec S32x4x4x2048x1 32) : IVec S32x4x4x2048 1 :=
  Host.reduce IntOp.andi (andi (cmpi .sge i (broadcastInDim S32x4x4x2048x1 ![] bcast_S_S32x4x4x2048x1 (constantI S_ 32 0#32)))
    (cmpi .sle i (broadcastInDim S32x4x4x2048x1 ![0, 1, 2, 3, 4] bcast_S1x1x1x1x1_S32x4x4x2048x1_0_1_2_3_4 (broadcastInDim S1x1x1x1x1 ![4] bcast_S1_S1x1x1x1x1_4 (constantI S1 32 2047#32)))))
    (constantI S_ 1 1#1) reducesTo_S32x4x4x2048x1_S32x4x4x2048_d4 h_S_

/-- The tokens' rows in each round, in sorted order. -/
def rowsIn : FVec Ideal S32x4x2048x128 .f32 :=
  broadcastInDim S32x4x2048x128 ![0, 1, 2, 3] bcast_S32x1x2048x128_S32x4x2048x128_0_1_2_3 (broadcastInDim S32x1x2048x128 ![0, 2, 3] bcast_S32x2048x128_S32x1x2048x128_0_2_3 a0)
def rowsF : FVec Ideal S32x4x2048x128 .f32 :=
  select (broadcastInDim S32x4x2048x128 ![0, 1, 2] bcast_S32x4x2048_S32x4x2048x128_0_1_2 (fitsA (wrapA (idxA o))))
    (Host.gather gather_S32x4x2048x128_S32x4x2048x1_S32x4x2048x128_3_2_01_01_2_3_111128 (rowsIn a0) (wrapA (idxA o)))
    (broadcastInDim S32x4x2048x128 ![] bcast_S_S32x4x2048x128 (constant S_ .f32 0x7FC00000#32))

/-- A row of the metadata; four of them, one round's. -/
def rowM (r : Fin 3 → ℕ) (hs : S32x8x2048.Slices r S32x1x2048) : IVec S32x1x2048 32 :=
  broadcastInDim S32x1x2048 ![0, 2] bcast_S32x2048_S32x1x2048_0_2 (shapeCast S32x2048 (extractStridedSlice S32x1x2048 r a1 hs) shapeCasts_S32x1x2048_S32x2048)
def fourM (x0 x1 x2 x3 : IVec S32x1x2048 32) : IVec S32x1x4x2048 32 :=
  broadcastInDim S32x1x4x2048 ![0, 2, 3] bcast_S32x4x2048_S32x1x4x2048_0_2_3
    (concatenate S32x4x2048 1 [⟨S32x1x2048, x0⟩, ⟨S32x1x2048, x1⟩, ⟨S32x1x2048, x2⟩, ⟨S32x1x2048, x3⟩] concatenates_S32x1x2048_S32x1x2048_S32x1x2048_S32x1x2048_S32x4x2048_d1)
def marksIn : IVec S32x4x4x2048 32 :=
  concatenate S32x4x4x2048 1
    [⟨S32x1x4x2048, fourM (rowM a1 ![0, 0, 0] slices_S32x8x2048_S32x1x2048_0_0_0) (rowM a1 ![0, 3, 0] slices_S32x8x2048_S32x1x2048_0_3_0) (rowM a1 ![0, 5, 0] slices_S32x8x2048_S32x1x2048_0_5_0) (rowM a1 ![0, 7, 0] slices_S32x8x2048_S32x1x2048_0_7_0)⟩,
     ⟨S32x1x4x2048, fourM (rowM a1 ![0, 2, 0] slices_S32x8x2048_S32x1x2048_0_2_0) (rowM a1 ![0, 5, 0] slices_S32x8x2048_S32x1x2048_0_5_0) (rowM a1 ![0, 7, 0] slices_S32x8x2048_S32x1x2048_0_7_0) (rowM a1 ![0, 1, 0] slices_S32x8x2048_S32x1x2048_0_1_0)⟩,
     ⟨S32x1x4x2048, fourM (rowM a1 ![0, 4, 0] slices_S32x8x2048_S32x1x2048_0_4_0) (rowM a1 ![0, 7, 0] slices_S32x8x2048_S32x1x2048_0_7_0) (rowM a1 ![0, 1, 0] slices_S32x8x2048_S32x1x2048_0_1_0) (rowM a1 ![0, 3, 0] slices_S32x8x2048_S32x1x2048_0_3_0)⟩,
     ⟨S32x1x4x2048, fourM (rowM a1 ![0, 6, 0] slices_S32x8x2048_S32x1x2048_0_6_0) (rowM a1 ![0, 1, 0] slices_S32x8x2048_S32x1x2048_0_1_0) (rowM a1 ![0, 3, 0] slices_S32x8x2048_S32x1x2048_0_3_0) (rowM a1 ![0, 5, 0] slices_S32x8x2048_S32x1x2048_0_5_0)⟩]
    concatenates_S32x1x4x2048_S32x1x4x2048_S32x1x4x2048_S32x1x4x2048_S32x4x4x2048_d1
def marksF : IVec S32x4x4x2048 32 :=
  select (fitsB (wrapB (idxB o)))
    (Host.gather gather_S32x4x4x2048_S32x4x4x2048x1_S32x4x4x2048_n_3_012_012_3_4_1111 (marksIn a1) (wrapB (idxB o)))
    (broadcastInDim S32x4x4x2048 ![] bcast_S_S32x4x4x2048 (constantI S_ 32 2147483648#32))
def colsF : IVec S32x4x2048x4 32 := transpose S32x4x2048x4 [0, 1, 3, 2] (marksF a1 o) transposes_S32x4x4x2048_S32x4x2048x4_0_1_3_2

end Stages

section Reads
variable (m : (ℓ : Loc nD τ sig) → Buf (Elt Ideal) ℓ) (c : Dev nD)

abbrev argA : FVec Ideal S32x2048x128 .f32 := m ((c.tc : Thread nD τ).loc main_arg0)
abbrev argB : IVec S32x8x2048 32 := m ((c.tc : Thread nD τ).loc main_arg1)
abbrev argC : IVec S32x4x2048x1 32 := m ((c.tc : Thread nD τ).loc main_arg2)

theorem out1_eq : Cert.ScatterReferenceIdeal.Value.res_main_v68 m c
    = extractStridedSlice S32x2x4x2048 ![0, 0, 0, 0] (marksF (argB m c) (orderR (argC m c))) slices_S32x4x4x2048_S32x2x4x2048_0_0_0_0 := by
  unfold Cert.ScatterReferenceIdeal.Value.res_main_v68
  rfl
theorem out2_eq : Cert.ScatterReferenceIdeal.Value.res_main_v69 m c
    = extractStridedSlice S32x2x2048x4 ![0, 0, 0, 0] (colsF (argB m c) (orderR (argC m c))) slices_S32x4x2048x4_S32x2x2048x4_0_0_0_0 := by
  unfold Cert.ScatterReferenceIdeal.Value.res_main_v69
  rfl
theorem out4_eq : Cert.ScatterReferenceIdeal.Value.res_main_v71 m c
    = extractStridedSlice S32x2x4x2048 ![0, 2, 0, 0] (marksF (argB m c) (orderR (argC m c))) slices_S32x4x4x2048_S32x2x4x2048_0_2_0_0 := by
  unfold Cert.ScatterReferenceIdeal.Value.res_main_v71
  rfl
theorem out5_eq : Cert.ScatterReferenceIdeal.Value.res_main_v72 m c
    = extractStridedSlice S32x2x2048x4 ![0, 2, 0, 0] (colsF (argB m c) (orderR (argC m c))) slices_S32x4x2048x4_S32x2x2048x4_0_2_0_0 := by
  unfold Cert.ScatterReferenceIdeal.Value.res_main_v72
  rfl

/-- The reference's run with its results as the stages. -/
theorem run_refer (ρ : Dev nD → PrngReg) : θ_run defs (onTc (τ := τ) (main (F := Ideal))) ⟨m, fun _ => 0, ρ⟩ fun r => ∀ c : Dev nD,
    r.2.mem ((c.tc : Thread nD τ).loc main_v67) = extractStridedSlice S32x2x2048x128 ![0, 0, 0, 0] (rowsF (argA m c) (orderR (argC m c))) slices_S32x4x2048x128_S32x2x2048x128_0_0_0_0
    ∧ r.2.mem ((c.tc : Thread nD τ).loc main_v68) = extractStridedSlice S32x2x4x2048 ![0, 0, 0, 0] (marksF (argB m c) (orderR (argC m c))) slices_S32x4x4x2048_S32x2x4x2048_0_0_0_0
    ∧ r.2.mem ((c.tc : Thread nD τ).loc main_v69) = extractStridedSlice S32x2x2048x4 ![0, 0, 0, 0] (colsF (argB m c) (orderR (argC m c))) slices_S32x4x2048x4_S32x2x2048x4_0_0_0_0
    ∧ r.2.mem ((c.tc : Thread nD τ).loc main_v70) = extractStridedSlice S32x2x2048x128 ![0, 2, 0, 0] (rowsF (argA m c) (orderR (argC m c))) slices_S32x4x2048x128_S32x2x2048x128_0_2_0_0
    ∧ r.2.mem ((c.tc : Thread nD τ).loc main_v71) = extractStridedSlice S32x2x4x2048 ![0, 2, 0, 0] (marksF (argB m c) (orderR (argC m c))) slices_S32x4x4x2048_S32x2x4x2048_0_2_0_0
    ∧ r.2.mem ((c.tc : Thread nD τ).loc main_v72) = extractStridedSlice S32x2x2048x4 ![0, 2, 0, 0] (colsF (argB m c) (orderR (argC m c))) slices_S32x4x2048x4_S32x2x2048x4_0_2_0_0
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨(h c).1, (h c).2.1.trans (out1_eq m c), (h c).2.2.1.trans (out2_eq m c), (h c).2.2.2.1,
    (h c).2.2.2.2.1.trans (out4_eq m c), (h c).2.2.2.2.2.1.trans (out5_eq m c), (h c).2.2.2.2.2.2⟩) (Cert.ScatterReferenceIdeal.Value.run (F := Ideal) m ρ)

end Reads

theorem orderR_eq (rk : IVec S32x4x2048x1 32) : orderR rk = order rk := rfl

/-! ## Each stage at an element -/

theorem wrapA_apply (o : IVec S32x4x2048 32) (b : Fin 32) (r : Fin 4) (l : Fin 2048) (z : Fin 1) : wrapA (idxA o) (ix4 b r l z) = wrapW (o (ix3 b r l)) := by
  obtain rfl : z = 0 := Subsingleton.elim _ _
  pointwise [wrapA, idxA, wrapW]
theorem wrapB_apply (o : IVec S32x4x2048 32) (b : Fin 32) (r j : Fin 4) (l : Fin 2048) (z : Fin 1) : wrapB (idxB o) (ix5 b r j l z) = wrapW (o (ix3 b r l)) := by
  obtain rfl : z = 0 := Subsingleton.elim _ _
  pointwise [wrapB, idxB, wrapW]

theorem fitsA_apply (i : IVec S32x4x2048x1 32) (b : Fin 32) (r : Fin 4) (l : Fin 2048) (h : ∀ z, (i (ix4 b r l z)).toNat < 2048) :
    fitsA i (ix3 b r l) = 1#1 := by
  pointwise [fitsA]
  simp only [in_row _ (h _)]
  decide
theorem fitsB_apply (i : IVec S32x4x4x2048x1 32) (b : Fin 32) (r j : Fin 4) (l : Fin 2048) (h : ∀ z, (i (ix5 b r j l z)).toNat < 2048) :
    fitsB i (ix4 b r j l) = 1#1 := by
  pointwise [fitsB]
  simp only [in_row _ (h _)]
  decide

theorem gatherA_apply (x : FVec Ideal S32x4x2048x128 .f32) (i : IVec S32x4x2048x1 32) (b : Fin 32) (r : Fin 4) (l : Fin 2048) (k : Fin 128)
    (h : (i (ix4 b r l 0)).toNat < 2048) :
    Host.gather gather_S32x4x2048x128_S32x4x2048x1_S32x4x2048x128_3_2_01_01_2_3_111128 x i (ix4 b r l k)
      = x (ix4 b r ⟨(i (ix4 b r l 0)).toNat, h⟩ k) := by
  have hi : min (i (ix4 b r l 0)).toInt.toNat 2047 = (i (ix4 b r l 0)).toNat := by
    rw [BitVec.toInt_eq_toNat_of_lt (by omega)]; omega
  unfold Host.gather
  congr 1
  funext a
  refine Fin.ext ?_
  match a with
  | ⟨0, _⟩ => exact show 0 + b.val + 0 = b.val by omega
  | ⟨1, _⟩ => exact show 0 + r.val + 0 = r.val by omega
  | ⟨2, _⟩ =>
    refine Eq.trans ?_ hi
    show min _ _ + 0 + 0 = _
    simp only [Nat.add_zero]
    congr 4
    funext c
    match c with
    | ⟨0, _⟩ => rfl
    | ⟨1, _⟩ => rfl
    | ⟨2, _⟩ => rfl
    | ⟨3, _⟩ => rfl
  | ⟨3, _⟩ => exact show 0 + 0 + k.val = k.val by omega

theorem gatherB_apply (x : IVec S32x4x4x2048 32) (i : IVec S32x4x4x2048x1 32) (b : Fin 32) (r j : Fin 4) (l : Fin 2048)
    (h : (i (ix5 b r j l 0)).toNat < 2048) :
    Host.gather gather_S32x4x4x2048_S32x4x4x2048x1_S32x4x4x2048_n_3_012_012_3_4_1111 x i (ix4 b r j l)
      = x (ix4 b r j ⟨(i (ix5 b r j l 0)).toNat, h⟩) := by
  have hi : min (i (ix5 b r j l 0)).toInt.toNat 2047 = (i (ix5 b r j l 0)).toNat := by
    rw [BitVec.toInt_eq_toNat_of_lt (by omega)]; omega
  unfold Host.gather
  congr 1
  funext a
  refine Fin.ext ?_
  match a with
  | ⟨0, _⟩ => exact show 0 + b.val + 0 = b.val by omega
  | ⟨1, _⟩ => exact show 0 + r.val + 0 = r.val by omega
  | ⟨2, _⟩ => exact show 0 + j.val + 0 = j.val by omega
  | ⟨3, _⟩ =>
    refine Eq.trans ?_ hi
    show min _ _ + 0 + 0 = _
    simp only [Nat.add_zero]
    congr 4
    funext c
    match c with
    | ⟨0, _⟩ => rfl
    | ⟨1, _⟩ => rfl
    | ⟨2, _⟩ => rfl
    | ⟨3, _⟩ => rfl
    | ⟨4, _⟩ => rfl

theorem rowM_apply (a1 : IVec S32x8x2048 32) (r : Fin 3 → ℕ) (hs : S32x8x2048.Slices r S32x1x2048) (n : Fin 8) (hr : r = ![0, n.val, 0]) (b : Fin 32) (z : Fin 1) (p : Fin 2048) :
    rowM a1 r hs (ix3 b z p) = a1 (ix3 b n p) := by
  subst hr
  pointwise [rowM]

theorem fourM_apply (x0 x1 x2 x3 : IVec S32x1x2048 32) (b : Fin 32) (z : Fin 1) (p : Fin 2048) (j : Fin 4) :
    fourM x0 x1 x2 x3 (ix4 b z j p) = (![x0, x1, x2, x3] j) (ix3 b 0 p) := by
  match j with
  | 0 => pointwise [fourM]
  | 1 => pointwise [fourM]
  | 2 => pointwise [fourM]
  | 3 => pointwise [fourM]

/-- Run `j` of round `r`'s metadata. -/
def rowOf (r j : Fin 4) : Fin 8 := ⟨mrow r.val j, mrow_lt r.val r.isLt j⟩

theorem four_at (x0 x1 x2 x3 : IVec S32x1x2048 32) (f : Fin 4 → BitVec 32) (b : Fin 32) (z : Fin 1) (p : Fin 2048) (j : Fin 4)
    (h0 : x0 (ix3 b 0 p) = f 0) (h1 : x1 (ix3 b 0 p) = f 1) (h2 : x2 (ix3 b 0 p) = f 2) (h3 : x3 (ix3 b 0 p) = f 3) : fourM x0 x1 x2 x3 (ix4 b z j p) = f j := by
  rw [fourM_apply]
  match j with
  | 0 => exact h0
  | 1 => exact h1
  | 2 => exact h2
  | 3 => exact h3

theorem marksIn_apply (a1 : IVec S32x8x2048 32) (b : Fin 32) (r j : Fin 4) (p : Fin 2048) : marksIn a1 (ix4 b r j p) = a1 (ix3 b (rowOf r j) p) := by
  match r with
  | 0 =>
    pointwise [marksIn]
    exact four_at _ _ _ _ (fun j => a1 (ix3 b (rowOf 0 j) p)) b _ p j (rowM_apply a1 _ _ (rowOf 0 0) (by decide) b 0 p) (rowM_apply a1 _ _ (rowOf 0 1) (by decide) b 0 p) (rowM_apply a1 _ _ (rowOf 0 2) (by decide) b 0 p) (rowM_apply a1 _ _ (rowOf 0 3) (by decide) b 0 p)
  | 1 =>
    pointwise [marksIn]
    exact four_at _ _ _ _ (fun j => a1 (ix3 b (rowOf 1 j) p)) b _ p j (rowM_apply a1 _ _ (rowOf 1 0) (by decide) b 0 p) (rowM_apply a1 _ _ (rowOf 1 1) (by decide) b 0 p) (rowM_apply a1 _ _ (rowOf 1 2) (by decide) b 0 p) (rowM_apply a1 _ _ (rowOf 1 3) (by decide) b 0 p)
  | 2 =>
    pointwise [marksIn]
    exact four_at _ _ _ _ (fun j => a1 (ix3 b (rowOf 2 j) p)) b _ p j (rowM_apply a1 _ _ (rowOf 2 0) (by decide) b 0 p) (rowM_apply a1 _ _ (rowOf 2 1) (by decide) b 0 p) (rowM_apply a1 _ _ (rowOf 2 2) (by decide) b 0 p) (rowM_apply a1 _ _ (rowOf 2 3) (by decide) b 0 p)
  | 3 =>
    pointwise [marksIn]
    exact four_at _ _ _ _ (fun j => a1 (ix3 b (rowOf 3 j) p)) b _ p j (rowM_apply a1 _ _ (rowOf 3 0) (by decide) b 0 p) (rowM_apply a1 _ _ (rowOf 3 1) (by decide) b 0 p) (rowM_apply a1 _ _ (rowOf 3 2) (by decide) b 0 p) (rowM_apply a1 _ _ (rowOf 3 3) (by decide) b 0 p)

section Sorted
variable (a0 : FVec Ideal S32x2048x128 .f32) (a1 : IVec S32x8x2048 32) (o : IVec S32x4x2048 32)
  (b : Fin 32) (r : Fin 4) (l : Fin 2048) (q : Fin 2048) (hq : (wrapW (o (ix3 b r l))).toNat = q.val)
include hq

theorem rowsF_apply (k : Fin 128) : rowsF a0 o (ix4 b r l k) = a0 (ix3 b q k) := by
  have h (z) : (wrapA (idxA o) (ix4 b r l z)).toNat = q.val := by rw [wrapA_apply]; exact hq
  have h' (z) : (wrapA (idxA o) (ix4 b r l z)).toNat < 2048 := by rw [h]; exact q.isLt
  pointwise [rowsF]
  rw [fitsA_apply _ _ _ _ h', gatherA_apply _ _ _ _ _ _ (h' _), show (⟨(wrapA (idxA o) (ix4 b r l 0)).toNat, h' 0⟩ : Fin 2048) = q from Fin.ext (h 0)]
  pointwise [rowsIn]

theorem marksF_apply (j : Fin 4) : marksF a1 o (ix4 b r j l) = a1 (ix3 b (rowOf r j) q) := by
  have h (z) : (wrapB (idxB o) (ix5 b r j l z)).toNat = q.val := by rw [wrapB_apply]; exact hq
  have h' (z) : (wrapB (idxB o) (ix5 b r j l z)).toNat < 2048 := by rw [h]; exact q.isLt
  pointwise [marksF]
  rw [fitsB_apply _ _ _ _ _ h', gatherB_apply _ _ _ _ _ _ (h' _), show (⟨(wrapB (idxB o) (ix5 b r j l 0)).toNat, h' 0⟩ : Fin 2048) = q from Fin.ext (h 0)]
  exact marksIn_apply a1 b r j q

theorem colsF_apply (j : Fin 4) : colsF a1 o (ix4 b r l j) = a1 (ix3 b (rowOf r j) q) := by
  refine Eq.trans ?_ (marksF_apply a1 o b r l q hq j)
  pointwise [colsF]

end Sorted

end Cert.Proof.Scat

end
-- ==== Proof.ScatEqual.lean ====
/-
  The scatter's results are its reference's, element by element; and so the equation of the two programs' runs.
-/
module

public import proofs.«01_k».proof.Proof.ScatRefer

@[expose] public section

set_option maxRecDepth 16384

noncomputable section

namespace Cert.Proof.Scat

open Cert.ScatterIdeal Cert.ScatterIdeal.Gen
open Idealize.ShloMosaic Idealize.ShloMosaic.TcCoe

/-! ## The calls' results at an element -/

section Elements
variable (so : Fin 3) {α : Type} (V : S32x2048x128.Idx → α) (M : (Sn 524288).Idx → BitVec 32) (R : (Sn 262144).Idx → BitVec 32)
  (b : Fin 32) (s : Fin 2) (l : Fin 2048)

theorem rows_cell (k : Fin 128) (y : S131072x128.Idx) (h0 : (y 0).val = (b.val * 2 + s.val) * 2048 + l.val) (h1 : (y 1).val = k.val) :
    rowsV so V R y = V (ix3 b (posOf so R (prt b s) l) k) := by
  have hs := s.isLt; have hl := l.isLt
  unfold rowsV
  rw [show (⟨(y 0).val / 4096, by omega⟩ : Fin 32) = b from Fin.ext (by show (y 0).val / 4096 = b.val; omega),
    show (⟨(y 0).val / 2048, by omega⟩ : Fin 64) = prt b s from Fin.ext (by show (y 0).val / 2048 = 2 * b.val + s.val; omega),
    show (⟨(y 0).val % 2048, by omega⟩ : Fin 2048) = l from Fin.ext (by show (y 0).val % 2048 = l.val; omega),
    show (⟨(y 1).val, by omega⟩ : Fin 128) = k from Fin.ext h1]

theorem runs_cell (j : Fin 4) (y : (Sn 524288).Idx) (h0 : (y 0).val = ((b.val * 2 + s.val) * 4 + j.val) * 2048 + l.val) :
    runsV so M R y = metaOf so M (prt b s) j (posOf so R (prt b s) l) := by
  have hs := s.isLt; have hl := l.isLt; have hj := j.isLt
  unfold runsV
  rw [show (⟨(y 0).val / 8192, by omega⟩ : Fin 64) = prt b s from Fin.ext (by show (y 0).val / 8192 = 2 * b.val + s.val; omega),
    show (⟨(y 0).val / 2048 % 4, by omega⟩ : Fin 4) = j from Fin.ext (by show (y 0).val / 2048 % 4 = j.val; omega),
    show (⟨(y 0).val % 2048, by omega⟩ : Fin 2048) = l from Fin.ext (by show (y 0).val % 2048 = l.val; omega)]

theorem fours_cell (j : Fin 4) (y : (Sn 524288).Idx) (h0 : (y 0).val = ((b.val * 2 + s.val) * 2048 + l.val) * 4 + j.val) :
    foursV so M R y = metaOf so M (prt b s) j (posOf so R (prt b s) l) := by
  have hs := s.isLt; have hl := l.isLt; have hj := j.isLt
  unfold foursV
  rw [show (⟨(y 0).val / 8192, by omega⟩ : Fin 64) = prt b s from Fin.ext (by show (y 0).val / 8192 = 2 * b.val + s.val; omega),
    show (⟨(y 0).val % 4, by omega⟩ : Fin 4) = j from Fin.ext (by show (y 0).val % 4 = j.val; omega),
    show (⟨(y 0).val % 8192 / 4, by omega⟩ : Fin 2048) = l from Fin.ext (by show (y 0).val % 8192 / 4 = l.val; omega)]

theorem rows_at (k : Fin 128) :
    shapeCast S32x2x2048x128 (rowsV so V R) shapeCasts_S131072x128_S32x2x2048x128 (ix4 b s l k) = V (ix3 b (posOf so R (prt b s) l) k) := by
  pointwise
  exact rows_cell so V R b s l k _ (by show b.val * 4096 + s.val * 2048 + l.val = _; omega) rfl
theorem runs_at (j : Fin 4) :
    shapeCast S32x2x4x2048 (runsV so M R : S524288.Idx → BitVec 32) shapeCasts_S524288_S32x2x4x2048 (ix4 b s j l) = metaOf so M (prt b s) j (posOf so R (prt b s) l) := by
  pointwise
  exact runs_cell so M R b s l j _ (by show b.val * 16384 + s.val * 8192 + j.val * 2048 + l.val = _; omega)
theorem fours_at (j : Fin 4) :
    shapeCast S32x2x2048x4 (foursV so M R : S524288.Idx → BitVec 32) shapeCasts_S524288_S32x2x2048x4 (ix4 b s l j) = metaOf so M (prt b s) j (posOf so R (prt b s) l) := by
  pointwise
  exact fours_cell so M R b s l j _ (by show b.val * 16384 + s.val * 8192 + l.val * 4 + j.val = _; omega)

/-- A run of the metadata is a row of it. -/
theorem meta_at (a1 : IVec S32x8x2048 32) (r : Fin 4) (hr : so.val + s.val = r.val) (j : Fin 4) (p : Fin 2048) :
    metaOf so (shapeCast S524288 a1 shapeCasts_S32x8x2048_S524288) (prt b s) j p = a1 (ix3 b (rowOf r j) p) := by
  have hs := s.isLt
  have h1 : (prt b s).val / 2 = b.val := by show (2 * b.val + s.val) / 2 = b.val; omega
  have h2 : (prt b s).val % 2 = s.val := by show (2 * b.val + s.val) % 2 = s.val; omega
  have hm := mrow_lt r.val r.isLt j
  unfold metaOf
  rw [show (⟨(8 * ((prt b s).val / 2) + mrow (so.val + (prt b s).val % 2) j) * 2048 + p.val, by rw [h1, h2, hr]; omega⟩ : Fin 524288)
      = ⟨(b.val * 8 + (rowOf r j).val) * 2048 + p.val, by show (b.val * 8 + mrow r.val j) * 2048 + p.val < 524288; omega⟩ from
    Fin.ext (by show (8 * ((prt b s).val / 2) + mrow (so.val + (prt b s).val % 2) j) * 2048 + p.val = (b.val * 8 + mrow r.val j) * 2048 + p.val; rw [h1, h2, hr]; ring)]
  pointwise

end Elements

/-! ## The results as arrays -/

/-- The round of a half's part. -/
abbrev roundOf (so : Fin 3) (s : Fin 2) : Fin 4 := ⟨so.val + s.val, by omega⟩

section Arrays
open Cert.ScatterReferenceIdeal (S32x4x2048x128 S32x4x4x2048 S32x4x2048x4)
variable (a0 : FVec Ideal S32x2048x128 .f32) (a1 : IVec S32x8x2048 32) (rk : IVec S32x4x2048x1 32)
  (h : Cert.Pre_rank_permutes.fn (F := Ideal) a0 a1 rk = fun _ => 1#1) (so : Fin 3)
include h

theorem pos_at (b : Fin 32) (s : Fin 2) (l : Fin 2048) :
    posOf so (shapeCast S262144 rk shapeCasts_S32x4x2048x1_S262144) (prt b s) l = named rk b (roundOf so s) l := by
  have hs := s.isLt
  exact pos_named a0 a1 rk h so (by omega) (prt b s) b (roundOf so s) (by show (2 * b.val + s.val) / 2 = b.val; omega)
    (by show so.val + (2 * b.val + s.val) % 2 = so.val + s.val; omega) l

theorem order_named (b : Fin 32) (r : Fin 4) (l : Fin 2048) : (wrapW (orderR rk (ix3 b r l))).toNat = (named rk b r l).val :=
  named_val a0 a1 rk h b r l

theorem rows_refer (hs : S32x4x2048x128.Slices ![0, so.val, 0, 0] S32x2x2048x128) :
    shapeCast S32x2x2048x128 (rowsV so a0 (shapeCast S262144 rk shapeCasts_S32x4x2048x1_S262144)) shapeCasts_S131072x128_S32x2x2048x128
      = extractStridedSlice S32x2x2048x128 ![0, so.val, 0, 0] (rowsF a0 (orderR rk)) hs := by
  funext y
  obtain ⟨b, s, l, k, rfl⟩ : ∃ b s l k, y = ix4 b s l k := ⟨y 0, y 1, y 2, y 3, funext fun a => by
    match a with | ⟨0, _⟩ => rfl | ⟨1, _⟩ => rfl | ⟨2, _⟩ => rfl | ⟨3, _⟩ => rfl⟩
  rw [rows_at, pos_at a0 a1 rk h so]
  refine (rowsF_apply a0 (orderR rk) b (roundOf so s) l _ (order_named a0 a1 rk h b _ l) k).symm.trans ?_
  pointwise

theorem runs_refer (hs : S32x4x4x2048.Slices ![0, so.val, 0, 0] S32x2x4x2048) :
    shapeCast S32x2x4x2048 (runsV so (shapeCast S524288 a1 shapeCasts_S32x8x2048_S524288) (shapeCast S262144 rk shapeCasts_S32x4x2048x1_S262144) : S524288.Idx → BitVec 32) shapeCasts_S524288_S32x2x4x2048
      = extractStridedSlice S32x2x4x2048 ![0, so.val, 0, 0] (marksF a1 (orderR rk)) hs := by
  funext y
  obtain ⟨b, s, j, l, rfl⟩ : ∃ b s j l, y = ix4 b s j l := ⟨y 0, y 1, y 2, y 3, funext fun a => by
    match a with | ⟨0, _⟩ => rfl | ⟨1, _⟩ => rfl | ⟨2, _⟩ => rfl | ⟨3, _⟩ => rfl⟩
  rw [runs_at, pos_at a0 a1 rk h so, meta_at so b s a1 (roundOf so s) rfl]
  refine (marksF_apply a1 (orderR rk) b (roundOf so s) l _ (order_named a0 a1 rk h b _ l) j).symm.trans ?_
  pointwise

theorem fours_refer (hs : S32x4x2048x4.Slices ![0, so.val, 0, 0] S32x2x2048x4) :
    shapeCast S32x2x2048x4 (foursV so (shapeCast S524288 a1 shapeCasts_S32x8x2048_S524288) (shapeCast S262144 rk shapeCasts_S32x4x2048x1_S262144) : S524288.Idx → BitVec 32) shapeCasts_S524288_S32x2x2048x4
      = extractStridedSlice S32x2x2048x4 ![0, so.val, 0, 0] (colsF a1 (orderR rk)) hs := by
  funext y
  obtain ⟨b, s, l, j, rfl⟩ : ∃ b s l j, y = ix4 b s l j := ⟨y 0, y 1, y 2, y 3, funext fun a => by
    match a with | ⟨0, _⟩ => rfl | ⟨1, _⟩ => rfl | ⟨2, _⟩ => rfl | ⟨3, _⟩ => rfl⟩
  rw [fours_at, pos_at a0 a1 rk h so, meta_at so b s a1 (roundOf so s) rfl]
  refine (colsF_apply a1 (orderR rk) b (roundOf so s) l _ (order_named a0 a1 rk h b _ l) j).symm.trans ?_
  pointwise

end Arrays

/-! ## The two programs' runs -/

theorem algebraic : Cert.algebraic_ScatterIdeal_ScatterReferenceIdeal := by
  intro m g m' g' hp hm
  refine ⟨r3V m, r4V m, r5V m, r7V m, r8V m, r9V m, ?_, ?_⟩
  · refine (θ_run Cert.ScatterIdeal.defs _ _).mono (fun r h c => ?_) (run_main m g (ok_of_pre m hp))
    obtain ⟨ha, hb, hk, h3, h4, h5, h7, h8, h9⟩ := h.1 c
    exact ⟨h3, h4, h5, h7, h8, h9, ha, hb, hk⟩
  · refine (θ_run Cert.ScatterReferenceIdeal.defs _ _).mono (fun r h c => ?_) (run_refer m' g')
    obtain ⟨h3, h4, h5, h7, h8, h9, hargs⟩ := h c
    have e0 : argA m' c = m (aLoc c) := (hm c).1
    have e1 : argB m' c = m (bLoc c) := (hm c).2.1
    have e2 : argC m' c = m (kLoc c) := (hm c).2.2
    rw [e0, e2] at h3 h7
    rw [e1, e2] at h4 h5 h8 h9
    exact ⟨h3.trans (rows_refer (m (aLoc c)) (m (bLoc c)) (m (kLoc c)) (hp c) 0 _).symm,
      h4.trans (runs_refer (m (aLoc c)) (m (bLoc c)) (m (kLoc c)) (hp c) 0 _).symm,
      h5.trans (fours_refer (m (aLoc c)) (m (bLoc c)) (m (kLoc c)) (hp c) 0 _).symm,
      h7.trans (rows_refer (m (aLoc c)) (m (bLoc c)) (m (kLoc c)) (hp c) 2 _).symm,
      h8.trans (runs_refer (m (aLoc c)) (m (bLoc c)) (m (kLoc c)) (hp c) 2 _).symm,
      h9.trans (fours_refer (m (aLoc c)) (m (bLoc c)) (m (kLoc c)) (hp c) 2 _).symm, hargs⟩

end Cert.Proof.Scat

end
-- ==== Proof.AttBlock.lean ====
/-
  One grid point of the attention call: what it stores for each chunk of 256 sorted positions, stated once for every chunk.
-/
module

public import proofs.«01_k».proof.Proof.Gen.AttendIdeal.Value
public import Idealize.ShloMosaic.Lib.Pipeline.ValueKit
public import Idealize.ShloMosaic.Lib.Pipeline.Value
public import Idealize.ShloMosaic.Lib.Pointwise

@[expose] public section

set_option maxRecDepth 16384

noncomputable section

namespace Cert.Proof.Att

open Cert.AttendIdeal Cert.AttendIdeal.Gen
open Idealize.ShloMosaic Idealize.ShloMosaic.TcCoe Idealize.SL.Sem

/-- A matrix's block of `p` rows and `q` columns at row `i`, column `j` lies inside it. -/
theorem inside {M N p q i j : ℕ} (h : i + p ≤ M) (h' : j + q ≤ N) : Shape.Slices ⟨2, ![M, N]⟩ ![i, j] ⟨2, ![p, q]⟩ :=
  ⟨rfl, fun a => by match a with | ⟨0, _⟩ => exact h | ⟨1, _⟩ => exact h'⟩

section Chunk
variable {F : FTy → Type} [FloatOps F]
variable (a0 : Vec F S1x1x2048x128 .f32) (a1 : Vec F S1x1x4x2048 .i32) (a2 : Vec F S1x1x2048x4 .i32)

/-- Queries of block `n` of 64 positions against the keys of the block before and of its own. -/
def dotB (n : ℕ) (hn : n < 32) : FVec F S64x128 .f32 :=
  matmul dot_S64x64_S128x64_S64x128_1_1_0_0_n_n none
    (extractStridedSlice S64x64 ![64 * n, 0] (k0_pay3 a0) (inside (by omega) (by omega)))
    (extractStridedSlice S128x64 ![64 * n, 0] (k0_pay4 a0) (inside (by omega) (by omega))) (constant S64x128 .f32 0x00000000#32)

/-- Four blocks one under another. -/
def four (f : (n : ℕ) → n < 32 → FVec F S64x128 .f32) (u : ℕ) (hu : u < 8) : FVec F S256x128 .f32 :=
  concatenate S256x128 0 [⟨S64x128, f (4 * u + 0) (by omega)⟩, ⟨S64x128, f (4 * u + 1) (by omega)⟩, ⟨S64x128, f (4 * u + 2) (by omega)⟩, ⟨S64x128, f (4 * u + 3) (by omega)⟩]
    concatenates_S64x128_S64x128_S64x128_S64x128_S256x128_d0

def rawC (u : ℕ) (hu : u < 8) : FVec F S256x128 .f32 :=
  mulf (four (dotB a0) u hu) (broadcast S256x128 (Scalar.ofBits .f32 0x3E000000#32))

/-- Row `c` of the numbers, of the keys that block `n` sees, for each of its queries. -/
def bandB (c : ℕ) (hc : c < 4) (n : ℕ) (hn : n < 32) : FVec F S64x128 .f32 :=
  broadcastTo S64x128 (shapeCast S1x128 (extractStridedSlice S1x128 ![c, 64 * n] (k0_pay6 (F := F) a1) (inside (by omega) (by omega)))
    shapeCasts_S1x128_S1x128) broadcasts_S1x128_S64x128

def bandC (c : ℕ) (hc : c < 4) (u : ℕ) (hu : u < 8) : FVec F S256x128 .f32 := four (bandB a1 c hc) u hu

/-- Number `c` of the chunk's queries. -/
def colC (c : ℕ) (hc : c < 4) (u : ℕ) (hu : u < 8) : FVec F S256x1 .f32 :=
  extractStridedSlice S256x1 ![0, c] (extractStridedSlice S256x4 ![256 * u, 0] (k0_pay7 (F := F) a2) (inside (by omega) (by omega)) : FVec F S256x4 .f32)
    (inside (by omega) (by omega))

/-- Which keys lie later than the query, which is the query itself, and which the first block must not see. -/
def laterM : IVec S256x128 1 := k0_pay12 (iota .tc S256x128 32 [1] iota_S256x128_d1_w32) (Scalar.select (Scalar.cmpi .eq 64#32 0#32) 1#32 64#32) k0_pay8 k0_pay9 k0_pay10
def selfM : IVec S256x128 1 := k0_pay13 (iota .tc S256x128 32 [1] iota_S256x128_d1_w32) (Scalar.select (Scalar.cmpi .eq 64#32 0#32) 1#32 64#32) k0_pay8 k0_pay9 k0_pay10
def wrapM : IVec S256x128 1 := k0_pay14 (iota .tc S256x128 32 [0] iota_S256x128_d0_w32) (iota .tc S256x128 32 [1] iota_S256x128_d1_w32) (Scalar.select (Scalar.cmpi .eq 64#32 0#32) 1#32 64#32) k0_pay8 k0_pay9 k0_pay10

/-- The masked scores of a chunk. -/
def scoreC (mk : IVec S256x128 1) (u : ℕ) (hu : u < 8) : FVec F S256x128 .f32 :=
  select selfM (broadcast S256x128 (Scalar.ofBits .f32 0xC7C35000#32))
    (select mk (broadcast S256x128 (Scalar.ofBits .f32 0xCE6E6B28#32))
      (select (cmpf .one (broadcastTo S256x128 (colC a2 0 (by omega) u hu) broadcasts_S256x1_S256x128) (bandC a1 0 (by omega) u hu))
        (broadcast S256x128 (Scalar.ofBits .f32 0xCE6E6B28#32)) (rawC a0 u hu)))

/-- One more round's part of the count. -/
def seeC (c : ℕ) (hc : c < 4) (u : ℕ) (hu : u < 8) (x : FVec F S256x128 .f32) : FVec F S256x128 .f32 :=
  addf (addf x (sitofp .f32 (extui 32 (cmpf .oeq (bandC a1 c hc u hu) (broadcastTo S256x128 (colC a2 c hc u hu) broadcasts_S256x1_S256x128)) natLt_1_32)))
    (sitofp .f32 (extui 32 (cmpf .oeq (bandC a1 c hc u hu) (broadcastTo S256x128
      (select (cmpf .oeq (colC a2 c hc u hu) (broadcast S256x1 (Scalar.ofBits .f32 0x00000000#32))) (broadcast S256x1 (Scalar.ofBits .f32 0x41F80000#32))
        (subf (colC a2 c hc u hu) (broadcast S256x1 (Scalar.ofBits .f32 0x3F800000#32)))) broadcasts_S256x1_S256x128)) natLt_1_32))

/-- In how many rounds a query sees a key. -/
def countC (u : ℕ) (hu : u < 8) : FVec F S256x128 .f32 :=
  seeC a1 a2 3 (by omega) u hu (seeC a1 a2 2 (by omega) u hu (seeC a1 a2 1 (by omega) u hu (broadcast S256x128 (Scalar.ofBits .f32 0x3F800000#32))))

def topC (x : FVec F S256x128 .f32) : FVec F S256x1 .f32 :=
  shapeCast S256x1 (multiReduction .maximumf [1] S256 x 0xFF800000#32 reduces_S256x128_S256 (.inl rfl) rfl) shapeCasts_S256_S256x1
def expC (x : FVec F S256x128 .f32) : FVec F S256x128 .f32 := exp (subf x (broadcastTo S256x128 (topC x) broadcasts_S256x1_S256x128))
def sumC (x : FVec F S256x128 .f32) : FVec F S256x1 .f32 :=
  shapeCast S256x1 (multiReduction .add [1] S256 (expC x) 0x00000000#32 reduces_S256x128_S256 (.inl rfl) rfl) shapeCasts_S256_S256x1

/-- The weights of a chunk. -/
def weightC (x k : FVec F S256x128 .f32) : FVec F S256x128 .f32 := divf (expC x) (mulf (broadcastTo S256x128 (sumC x) broadcasts_S256x1_S256x128) k)

/-- What is stored: the logsumexp, the zeros, and the attention rows of one of the chunk's blocks. -/
def lseP (x : FVec F S256x128 .f32) : FVec F S1x1x256x1 .f32 := shapeCast S1x1x256x1 (addf (topC x) (log (sumC x))) shapeCasts_S256x1_S1x1x256x1
def zeroP : FVec F S1x1x256x63 .f32 := shapeCast S1x1x256x63 (broadcast S256x63 (Scalar.ofBits .f32 0x00000000#32)) shapeCasts_S256x63_S1x1x256x63
def attP (w : FVec F S256x128 .f32) (b n : ℕ) (hb : b < 4) (hn : n < 32) : FVec F S1x1x64x64 .f32 :=
  shapeCast S1x1x64x64 (matmul dot_S64x128_S128x64_S64x64_1_0_0_1_n_n none
    (extractStridedSlice S64x128 ![64 * b, 0] w (inside (by omega) (by omega)))
    (extractStridedSlice S128x64 ![64 * n, 0] (k0_pay5 a0) (inside (by omega) (by omega))) (constant S64x64 .f32 0x00000000#32)) shapeCasts_S64x64_S1x1x64x64

/-- A chunk's weights; the first chunk's mask is wider. -/
def maskOf (u : ℕ) : IVec S256x128 1 := match u with | 0 => wrapM | _ + 1 => laterM
def scoreU (u : ℕ) (hu : u < 8) : FVec F S256x128 .f32 := scoreC a0 a1 a2 (maskOf u) u hu
def weightU (u : ℕ) (hu : u < 8) : FVec F S256x128 .f32 := weightC (scoreU a0 a1 a2 u hu) (countC a1 a2 u hu)

/-- Where each lies. -/
theorem inA (n : ℕ) (hn : n < 32) : ∀ a, (![0, 0, 64 * n, 0] : Fin 4 → ℕ) a + S1x1x64x64.size a ≤ S1x1x2048x128.size a := fun a => by
  match a with
  | ⟨0, _⟩ => exact show 0 + 1 ≤ 1 by omega
  | ⟨1, _⟩ => exact show 0 + 1 ≤ 1 by omega
  | ⟨2, _⟩ => exact show 64 * n + 64 ≤ 2048 by omega
  | ⟨3, _⟩ => exact show 0 + 64 ≤ 128 by omega
theorem inL (u : ℕ) (hu : u < 8) : ∀ a, (![0, 0, 256 * u, 64] : Fin 4 → ℕ) a + S1x1x256x1.size a ≤ S1x1x2048x128.size a := fun a => by
  match a with
  | ⟨0, _⟩ => exact show 0 + 1 ≤ 1 by omega
  | ⟨1, _⟩ => exact show 0 + 1 ≤ 1 by omega
  | ⟨2, _⟩ => exact show 256 * u + 256 ≤ 2048 by omega
  | ⟨3, _⟩ => exact show 64 + 1 ≤ 128 by omega
theorem inZ (u : ℕ) (hu : u < 8) : ∀ a, (![0, 0, 256 * u, 65] : Fin 4 → ℕ) a + S1x1x256x63.size a ≤ S1x1x2048x128.size a := fun a => by
  match a with
  | ⟨0, _⟩ => exact show 0 + 1 ≤ 1 by omega
  | ⟨1, _⟩ => exact show 0 + 1 ≤ 1 by omega
  | ⟨2, _⟩ => exact show 256 * u + 256 ≤ 2048 by omega
  | ⟨3, _⟩ => exact show 65 + 63 ≤ 128 by omega

/-- The six stores of a chunk, the last first. -/
def piecesU (u : ℕ) (hu : u < 8) : List (View.Piece (Elt F) S1x1x2048x128 .f32) :=
  [⟨Rect.unit ![0, 0, 64 * (4 * u + 3), 0] S1x1x64x64.size (inA _ (by omega)), attP a0 (weightU a0 a1 a2 u hu) 3 (4 * u + 3) (by omega) (by omega)⟩,
   ⟨Rect.unit ![0, 0, 64 * (4 * u + 2), 0] S1x1x64x64.size (inA _ (by omega)), attP a0 (weightU a0 a1 a2 u hu) 2 (4 * u + 2) (by omega) (by omega)⟩,
   ⟨Rect.unit ![0, 0, 64 * (4 * u + 1), 0] S1x1x64x64.size (inA _ (by omega)), attP a0 (weightU a0 a1 a2 u hu) 1 (4 * u + 1) (by omega) (by omega)⟩,
   ⟨Rect.unit ![0, 0, 64 * (4 * u + 0), 0] S1x1x64x64.size (inA _ (by omega)), attP a0 (weightU a0 a1 a2 u hu) 0 (4 * u + 0) (by omega) (by omega)⟩,
   ⟨Rect.unit ![0, 0, 256 * u, 65] S1x1x256x63.size (inZ _ hu), zeroP⟩,
   ⟨Rect.unit ![0, 0, 256 * u, 64] S1x1x256x1.size (inL _ hu), lseP (scoreU a0 a1 a2 u hu)⟩]

/-- All stores of a grid point, the last first. -/
def pieces : List (View.Piece (Elt F) S1x1x2048x128 .f32) :=
  piecesU a0 a1 a2 7 (by omega) ++ (piecesU a0 a1 a2 6 (by omega) ++ (piecesU a0 a1 a2 5 (by omega) ++ (piecesU a0 a1 a2 4 (by omega)
    ++ (piecesU a0 a1 a2 3 (by omega) ++ (piecesU a0 a1 a2 2 (by omega) ++ (piecesU a0 a1 a2 1 (by omega) ++ piecesU a0 a1 a2 0 (by omega)))))))

end Chunk

section Found
variable {F : FTy → Type} [FloatOps F]

theorem pieces_eq (c : Dev nD) (i : grid0.Coords) (arg2 : Memref sig .tc .vmem S1x1x2048x128 .f32) (harg2 : arg2.IsWhole) (arg3 : Memref sig .tc .vmem S1x1x4x2048 .i32) (harg3 : arg3.IsWhole)
    (arg4 : Memref sig .tc .vmem S1x1x2048x4 .i32) (harg4 : arg4.IsWhole) (arg5 : Memref sig .tc .vmem S1x1x2048x128 .f32) (harg5 : arg5.IsWhole)
    (x0 : Vec F S1x1x2048x128 .f32) (x1 : Vec F S1x1x4x2048 .i32) (x2 : Vec F S1x1x2048x4 .i32) :
    (kernelRun0_A c i arg2 harg2 arg3 harg3 arg4 harg4 arg5 harg5 x0 x1 x2).1
      = pieces (View.readAt (Elt F) arg2.view (Rect.unit ![0, 0, 0, 0] S1x1x2048x128.size inb_S1x1x2048x128_S1x1x2048x128_0_0_0_0).toLoadRect (harg2.unread x0))
          (View.readAt (Elt F) arg3.view (Rect.unit ![0, 0, 0, 0] S1x1x4x2048.size inb_S1x1x4x2048_S1x1x4x2048_0_0_0_0).toLoadRect (harg3.unread x1))
          (View.readAt (Elt F) arg4.view (Rect.unit ![0, 0, 0, 0] S1x1x2048x4.size inb_S1x1x2048x4_S1x1x2048x4_0_0_0_0).toLoadRect (harg4.unread x2)) := by
  sl_kernel_rfl

end Found

end Cert.Proof.Att

end
-- ==== Proof.AttBlockSpec.lean ====
/-
  What one grid point of the attention call stores, read at an element.
-/
module

public import proofs.«01_k».proof.Proof.AttBlock

@[expose] public section

set_option maxRecDepth 16384

noncomputable section

namespace Cert.Proof.Att

open Cert.AttendIdeal Cert.AttendIdeal.Gen
open Idealize.ShloMosaic Idealize.ShloMosaic.TcCoe Idealize.SL.Sem

/-- The row that stands at place `p` once the last 64 rows are set before the first. -/
def rowP (p : ℕ) : Fin 2048 := ⟨(p + 1984) % 2048, by omega⟩

/-- The row that query `r` sees at lane `j`: the rows of the block before its own, then its own. -/
def keyRow (r : Fin 2048) (j : Fin 128) : Fin 2048 := rowP (64 * (r.val / 64) + j.val)

theorem rowP_low (p : ℕ) (h : p < 64) : (⟨1984 + p, by omega⟩ : Fin 2048) = rowP p := Fin.ext (show 1984 + p = (p + 1984) % 2048 by omega)
theorem rowP_high (p : ℕ) (h : ¬ p < 64) (h' : p < 2112) : (⟨p - 64, by omega⟩ : Fin 2048) = rowP p :=
  Fin.ext (show p - 64 = (p + 1984) % 2048 by omega)

/-! ## What is computed, from the queries, the values and the numbers of one batch -/
section Spec
variable (q v : Fin 2048 → Fin 64 → EReal) (mr : Fin 4 → Fin 2048 → EReal) (mc : Fin 2048 → Fin 4 → EReal)

/-- A query scaled to unit length. -/
def unitK (r : Fin 2048) (d : Fin 64) : EReal :=
  Ideal.div (q r d) (max (Ideal.sqrt (∑ x, q r x * q r x)) (Ideal.ofBits FTy.f32 730643660#32))

/-- The score of a lane before the masks. -/
def rawS (r : Fin 2048) (j : Fin 128) : EReal := (∑ d, q r d * unitK q (keyRow r j) d) * Ideal.ofBits FTy.f32 0x3E000000#32

/-- The masked score. -/
def scoreS (r : Fin 2048) (j : Fin 128) : EReal :=
  if keyRow r j = r then Ideal.ofBits FTy.f32 0xC7C35000#32
  else if r < keyRow r j then Ideal.ofBits FTy.f32 0xCE6E6B28#32
  else if mc r 0 ≠ mr 0 (keyRow r j) then Ideal.ofBits FTy.f32 0xCE6E6B28#32
  else rawS q r j

/-- The chunk before a chunk. -/
def priorS (x : EReal) : EReal := if x = 0 then Ideal.ofBits FTy.f32 0x41F80000#32 else x - 1

/-- One more round's part of the count. -/
def seeS (c : Fin 4) (r : Fin 2048) (j : Fin 128) (x : EReal) : EReal :=
  x + (if mr c (keyRow r j) = mc r c then 1 else 0) + (if mr c (keyRow r j) = priorS (mc r c) then 1 else 0)

def countS (r : Fin 2048) (j : Fin 128) : EReal :=
  seeS mr mc 3 r j (seeS mr mc 2 r j (seeS mr mc 1 r j 1))

/-- The largest of a row, the row's exponentials, their sum. -/
def topS (s : Fin 128 → EReal) : EReal := Finset.fold max (Ideal.ofBits FTy.f32 0xFF800000#32) s Finset.univ
def expS (s : Fin 128 → EReal) (j : Fin 128) : EReal := Ideal.exp (s j - topS s)
def sumS (s : Fin 128 → EReal) : EReal := ∑ j, expS s j

/-- An attention row, and its logsumexp. -/
def attS (r : Fin 2048) (d : Fin 64) : EReal :=
  ∑ j, Ideal.div (expS (scoreS q mr mc r) j) (sumS (scoreS q mr mc r) * countS mr mc r j) * v (keyRow r j) d
def lseS (r : Fin 2048) : EReal := topS (scoreS q mr mc r) + Ideal.log (sumS (scoreS q mr mc r))

/-- A row of the result. -/
def rowS (r : Fin 2048) (k : Fin 128) : EReal :=
  if h : k.val < 64 then attS q v mr mc r ⟨k.val, h⟩ else if k.val = 64 then lseS q mr mc r else 0

end Spec

/-! ## One grid point -/
section Inputs
variable (a0 : Vec Ideal S1x1x2048x128 .f32) (a1 : Vec Ideal S1x1x4x2048 .i32) (a2 : Vec Ideal S1x1x2048x4 .i32)

/-- The block's queries, values and numbers. -/
def qB (r : Fin 2048) (d : Fin 64) : EReal := a0 (ix4 0 0 r ⟨d.val, by omega⟩)
def vB (r : Fin 2048) (d : Fin 64) : EReal := a0 (ix4 0 0 r ⟨64 + d.val, by omega⟩)
def mrB (c : Fin 4) (r : Fin 2048) : EReal := FloatOps.sitofp (F := Ideal) FTy.f32 (a1 (ix4 0 0 c r))
def mcB (r : Fin 2048) (c : Fin 4) : EReal := FloatOps.sitofp (F := Ideal) FTy.f32 (a2 (ix4 0 0 r c))

theorem query_apply (r : Fin 2048) (d : Fin 64) : k0_pay3 a0 (ix2 r d) = qB a0 r d := by
  pointwise [k0_pay3, k0_pay2, qB]

theorem keys_apply (p : Fin 2112) (d : Fin 64) : k0_pay4 a0 (ix2 p d) = unitK (qB a0) (rowP p) d := by
  pointwise [k0_pay4, k0_pay3, k0_pay2]
  split
  · rename_i h; exact congrArg (fun r => unitK (qB a0) r d) (rowP_low _ h)
  · rename_i h; exact congrArg (fun r => unitK (qB a0) r d) (rowP_high _ h p.isLt)

theorem vals_apply (p : Fin 2112) (d : Fin 64) : k0_pay5 a0 (ix2 p d) = vB a0 (rowP p) d := by
  pointwise [k0_pay5, k0_pay2]
  split
  · rename_i h; rw [rowP_low _ h]; rfl
  · rename_i h; rw [rowP_high _ h p.isLt]; rfl

theorem rows_apply (c : Fin 4) (p : Fin 2112) : k0_pay6 (F := Ideal) a1 (ix2 c p) = mrB a1 c (rowP p) := by
  pointwise [k0_pay6]
  split
  · rename_i h; rw [rowP_low _ h]; rfl
  · rename_i h; rw [rowP_high _ h p.isLt]; rfl

theorem cols_apply (r : Fin 2048) (c : Fin 4) : k0_pay7 (F := Ideal) a2 (ix2 r c) = mcB a2 r c := by
  pointwise [k0_pay7, mcB]

/-- Which of the four blocks holds a row. -/
theorem four_apply (f : (n : ℕ) → n < 32 → FVec Ideal S64x128 .f32) (u : ℕ) (hu : u < 8) (i : Fin 256) (j : Fin 128) :
    four f u hu (ix2 i j) = f (4 * u + i.val / 64) (by omega) (ix2 ⟨i.val % 64, by omega⟩ j) := by
  have go : ∀ (n n' : ℕ) (h : n < 32) (h' : n' < 32) (x x' : Fin 64), n = n' → x = x' → f n h (ix2 x j) = f n' h' (ix2 x' j) := by
    intro n n' h h' x x' e e'; subst e; subst e'; rfl
  pointwise [four]
  split_ifs
  all_goals
    refine go _ _ _ _ _ _ ?_ ?_
    · omega
    · simp only [Fin.mk.injEq]
      omega

theorem dot_apply (n : ℕ) (hn : n < 32) (i : Fin 64) (j : Fin 128) :
    dotB a0 n hn (ix2 i j) = ∑ d, qB a0 ⟨64 * n + i.val, by omega⟩ d * unitK (qB a0) (rowP (64 * n + j.val)) d := by
  pointwise [dotB, query_apply a0, keys_apply a0]

theorem band_apply (c : ℕ) (hc : c < 4) (n : ℕ) (hn : n < 32) (i : Fin 64) (j : Fin 128) :
    bandB a1 c hc n hn (ix2 i j) = mrB a1 ⟨c, hc⟩ (rowP (64 * n + j.val)) := by
  pointwise [bandB, rows_apply a1]

theorem col_apply (c : ℕ) (hc : c < 4) (u : ℕ) (hu : u < 8) (i : Fin 256) (z : Fin 1) :
    colC (F := Ideal) a2 c hc u hu (ix2 i z) = mcB a2 ⟨256 * u + i.val, by omega⟩ ⟨c, hc⟩ := by
  obtain rfl : z = 0 := Subsingleton.elim _ _
  pointwise [colC, cols_apply a2]

/-! ### The masks -/

theorem mod_apply (i : Fin 256) (j : Fin 128) :
    k0_pay11 (Scalar.select (Scalar.cmpi .eq 64#32 0#32) 1#32 64#32) k0_pay8 k0_pay9 k0_pay10 (ix2 i j) = BitVec.ofNat 32 (i.val % 64) := by
  pointwise [k0_pay11, k0_pay8, k0_pay9, k0_pay10]
  clear j
  revert i
  decide +kernel

theorem self_apply (i : Fin 256) (j : Fin 128) : selfM (ix2 i j) = if j.val = 64 + i.val % 64 then 1#1 else 0#1 := by
  pointwise [selfM, k0_pay13]
  rw [mod_apply]
  have h : ∀ (x : Fin 64) (j : Fin 128), IntOp.cmpi .eq (IntOp.subi (BitVec.ofNat 32 j.val) 64#32) (BitVec.ofNat 32 x.val) = if j.val = 64 + x.val then 1#1 else 0#1 := by
    decide +kernel
  exact h ⟨i.val % 64, by omega⟩ j

theorem after (x : Fin 64) (j : Fin 128) :
    IntOp.andi (IntOp.cmpi .sge (BitVec.ofNat 32 j.val) 64#32) (IntOp.cmpi .sgt (IntOp.subi (BitVec.ofNat 32 j.val) 64#32) (BitVec.ofNat 32 x.val))
      = if 64 + x.val < j.val then 1#1 else 0#1 := by
  revert x j
  decide +kernel

theorem later_apply (i : Fin 256) (j : Fin 128) : laterM (ix2 i j) = if 64 + i.val % 64 < j.val then 1#1 else 0#1 := by
  pointwise [laterM, k0_pay12]
  rw [mod_apply]
  exact after ⟨i.val % 64, by omega⟩ j

theorem wrap_apply (i : Fin 256) (j : Fin 128) : wrapM (ix2 i j) = if 64 + i.val % 64 < j.val ∨ (i.val < 64 ∧ j.val < 64) then 1#1 else 0#1 := by
  have h : ∀ i : Fin 256, IntOp.cmpi .slt (BitVec.ofNat 32 i.val) 64#32 = if i.val < 64 then 1#1 else 0#1 := by decide +kernel
  have h' : IntOp.cmpi .slt (BitVec.ofNat 32 j.val) 64#32 = if j.val < 64 then 1#1 else 0#1 := h ⟨j.val, by omega⟩
  pointwise [wrapM, k0_pay14, k0_pay12]
  rw [mod_apply, after ⟨i.val % 64, by omega⟩ j, h, h']
  by_cases h1 : 64 + i.val % 64 < j.val <;> by_cases h2 : i.val < 64 <;> by_cases h3 : j.val < 64 <;> simp [h1, h2, h3, IntOp.andi, IntOp.ori]

theorem mask_apply (u : ℕ) (hu : u < 8) (i : Fin 256) (j : Fin 128) :
    maskOf u (ix2 i j) = if 64 + i.val % 64 < j.val ∨ (256 * u + i.val < 64 ∧ j.val < 64) then 1#1 else 0#1 := by
  match u with
  | 0 => rw [show 256 * 0 + i.val = i.val by omega]; exact wrap_apply i j
  | u + 1 =>
    refine (later_apply i j).trans ?_
    congr 1
    exact propext ⟨Or.inl, fun h => h.elim id fun h => absurd h.1 (by omega)⟩

/-- A row among those that it sees. -/
theorem keyRow_eq (u : ℕ) (hu : u < 8) (i : Fin 256) (j : Fin 128) :
    keyRow ⟨256 * u + i.val, by omega⟩ j = rowP (64 * (4 * u + i.val / 64) + j.val) :=
  congrArg rowP (show 64 * ((256 * u + i.val) / 64) + j.val = _ by omega)
theorem keyRow_self (r : Fin 2048) (j : Fin 128) : keyRow r j = r ↔ j.val = 64 + r.val % 64 := by
  rw [Fin.ext_iff]
  show (64 * (r.val / 64) + j.val + 1984) % 2048 = r.val ↔ _
  omega
theorem keyRow_later (r : Fin 2048) (j : Fin 128) : r < keyRow r j ↔ 64 + r.val % 64 < j.val ∨ (r.val < 64 ∧ j.val < 64) := by
  rw [Fin.lt_def]
  show r.val < (64 * (r.val / 64) + j.val + 1984) % 2048 ↔ _
  omega

theorem score_apply (u : ℕ) (hu : u < 8) (i : Fin 256) (j : Fin 128) :
    scoreU a0 a1 a2 u hu (ix2 i j) = scoreS (qB a0) (mrB a1) (mcB a2) ⟨256 * u + i.val, by omega⟩ j := by
  have hr : (⟨64 * (4 * u + i.val / 64) + i.val % 64, by omega⟩ : Fin 2048) = ⟨256 * u + i.val, by omega⟩ :=
    Fin.ext (show 64 * (4 * u + i.val / 64) + i.val % 64 = 256 * u + i.val by omega)
  unfold scoreU
  pointwise [scoreC, rawC, bandC, four_apply, dot_apply a0, band_apply a1, col_apply a2]
  rw [self_apply, mask_apply u hu]
  unfold scoreS rawS
  simp only [keyRow_self, keyRow_later]
  have hm : (256 * u + i.val) % 64 = i.val % 64 := by omega
  simp only [hr, hm, keyRow_eq u hu]
  by_cases h1 : j.val = 64 + i.val % 64
  · simp only [h1, if_true]; rfl
  · by_cases h2 : 64 + i.val % 64 < j.val ∨ (256 * u + i.val < 64 ∧ j.val < 64)
    · simp only [h1, h2, if_true, if_false]; rfl
    · simp only [h1, h2, if_false]; rfl

theorem see_apply (c : ℕ) (hc : c < 4) (u : ℕ) (hu : u < 8) (x : FVec Ideal S256x128 .f32) (i : Fin 256) (j : Fin 128) :
    seeC a1 a2 c hc u hu x (ix2 i j) = seeS (mrB a1) (mcB a2) ⟨c, hc⟩ ⟨256 * u + i.val, by omega⟩ j (x (ix2 i j)) := by
  have hb : ∀ (p : Prop) [Decidable p], FloatOps.sitofp (F := Ideal) FTy.f32 (BitVec.setWidth 32 (BitVec.ofBool (decide p))) = if p then 1 else 0 := by
    intro p _
    by_cases h : p
    · simp only [h, decide_true, if_true]
      show (((BitVec.toInt (BitVec.setWidth 32 (BitVec.ofBool true)) : ℤ) : ℝ) : EReal) = 1
      rw [show BitVec.toInt (BitVec.setWidth 32 (BitVec.ofBool true)) = 1 by decide]; norm_num
    · simp only [h, decide_false, if_false]
      show (((BitVec.toInt (BitVec.setWidth 32 (BitVec.ofBool false)) : ℤ) : ℝ) : EReal) = 0
      rw [show BitVec.toInt (BitVec.setWidth 32 (BitVec.ofBool false)) = 0 by decide]; norm_num
  pointwise [seeC, bandC, four_apply, band_apply a1, col_apply a2]
  simp only [hb]
  unfold seeS priorS
  simp only [keyRow_eq u hu]

theorem count_apply (u : ℕ) (hu : u < 8) (i : Fin 256) (j : Fin 128) :
    countC (F := Ideal) a1 a2 u hu (ix2 i j) = countS (mrB a1) (mcB a2) ⟨256 * u + i.val, by omega⟩ j := by
  have hb : (broadcast S256x128 (Scalar.ofBits (F := Ideal) .f32 0x3F800000#32) : FVec Ideal S256x128 .f32) (ix2 i j) = (1 : EReal) := by
    pointwise []
  unfold countC countS
  rw [see_apply, see_apply, see_apply, hb]
  rfl

theorem weight_apply (x k : FVec Ideal S256x128 .f32) (i : Fin 256) (j : Fin 128) :
    weightC x k (ix2 i j) = Ideal.div (expS (fun j => x (ix2 i j)) j) (sumS (fun j => x (ix2 i j)) * k (ix2 i j)) := by
  pointwise [weightC, expC, sumC, topC, expS, sumS, topS]
theorem lse_apply (x : FVec Ideal S256x128 .f32) (i : Fin 256) (z z' z'' : Fin 1) :
    lseP x (ix4 z z' i z'') = topS (fun j => x (ix2 i j)) + Ideal.log (sumS (fun j => x (ix2 i j))) := by
  obtain rfl : z = 0 := Subsingleton.elim _ _
  obtain rfl : z' = 0 := Subsingleton.elim _ _
  obtain rfl : z'' = 0 := Subsingleton.elim _ _
  pointwise [lseP, expC, sumC, topC, expS, sumS, topS]
theorem zero_apply (z z' : Fin 1) (i : Fin 256) (k : Fin 63) : zeroP (F := Ideal) (ix4 z z' i k) = 0 := by
  pointwise [zeroP]
theorem att_apply (w : FVec Ideal S256x128 .f32) (b n : ℕ) (hb : b < 4) (hn : n < 32) (z z' : Fin 1) (i d : Fin 64) :
    attP a0 w b n hb hn (ix4 z z' i d) = ∑ j : Fin 128, w (ix2 ⟨64 * b + i.val, by omega⟩ j) * vB a0 (rowP (64 * n + j.val)) d := by
  obtain rfl : z = 0 := Subsingleton.elim _ _
  obtain rfl : z' = 0 := Subsingleton.elim _ _
  pointwise [attP, vals_apply a0]

end Inputs

end Cert.Proof.Att

end
-- ==== Proof.AttGrid.lean ====
/-
  What the attention call leaves in its result, element by element.
-/
module

public import proofs.«01_k».proof.Proof.AttBlockSpec
public import proofs.«01_k».proof.Proof.Gen.AttendIdeal.Value

@[expose] public section

set_option maxRecDepth 16384

noncomputable section

namespace Cert.Proof.Att

open Cert.AttendIdeal Cert.AttendIdeal.Gen
open Idealize.ShloMosaic Idealize.ShloMosaic.TcCoe Idealize.SL.Sem

section Point
variable (a0 : Vec Ideal S1x1x2048x128 .f32) (a1 : Vec Ideal S1x1x4x2048 .i32) (a2 : Vec Ideal S1x1x2048x4 .i32)

/-- What a grid point stores, at an element. -/
def pointS (r : Fin 2048) (k : Fin 128) : EReal := rowS (qB a0) (vB a0) (mrB a1) (mcB a2) r k
def blockS (y : S1x1x2048x128.Idx) : EReal := pointS a0 a1 a2 (y 2) (y 3)

theorem blockS_at (y : S1x1x2048x128.Idx) (r : Fin 2048) (k : Fin 128) (hr : (y 2).val = r.val) (hk : (y 3).val = k.val) :
    blockS a0 a1 a2 y = pointS a0 a1 a2 r k := by
  unfold blockS
  rw [show y 2 = r from Fin.ext hr, show y 3 = k from Fin.ext hk]

theorem weightU_apply (u : ℕ) (hu : u < 8) (i : Fin 256) (j : Fin 128) :
    weightU a0 a1 a2 u hu (ix2 i j)
      = Ideal.div (expS (scoreS (qB a0) (mrB a1) (mcB a2) ⟨256 * u + i.val, by omega⟩) j)
          (sumS (scoreS (qB a0) (mrB a1) (mcB a2) ⟨256 * u + i.val, by omega⟩) * countS (mrB a1) (mcB a2) ⟨256 * u + i.val, by omega⟩ j) := by
  unfold weightU
  rw [weight_apply, count_apply]
  simp only [score_apply]

theorem att_piece (u : ℕ) (hu : u < 8) (b : ℕ) (hb : b < 4) (hn : 4 * u + b < 32) (x : S1x1x64x64.Idx) :
    attP a0 (weightU a0 a1 a2 u hu) b (4 * u + b) hb hn x
      = blockS a0 a1 a2 ((Rect.unit (s := S1x1x2048x128) ![0, 0, 64 * (4 * u + b), 0] S1x1x64x64.size (inA _ hn)).emb x) := by
  obtain ⟨z, z', i, d, rfl⟩ : ∃ z z' i d, x = ix4 z z' i d := ⟨x 0, x 1, x 2, x 3, eq_ix4 x⟩
  rw [blockS_at a0 a1 a2 _ ⟨256 * u + (64 * b + i.val), by omega⟩ ⟨d.val, by omega⟩
    (show 64 * (4 * u + b) + 1 * i.val = 256 * u + (64 * b + i.val) by omega) (show 0 + 1 * d.val = d.val by omega)]
  rw [att_apply]
  unfold pointS rowS
  rw [dif_pos (show (⟨d.val, by omega⟩ : Fin 128).val < 64 from d.isLt)]
  unfold attS
  refine Finset.sum_congr rfl fun j _ => ?_
  rw [weightU_apply]
  refine congrArg (fun r => _ * vB a0 r d) (congrArg rowP ?_)
  show 64 * (4 * u + b) + j.val = 64 * ((256 * u + (64 * b + i.val)) / 64) + j.val
  omega

theorem lse_piece (u : ℕ) (hu : u < 8) (x : S1x1x256x1.Idx) :
    lseP (scoreU a0 a1 a2 u hu) x = blockS a0 a1 a2 ((Rect.unit (s := S1x1x2048x128) ![0, 0, 256 * u, 64] S1x1x256x1.size (inL _ hu)).emb x) := by
  obtain ⟨z, z', i, z'', rfl⟩ : ∃ z z' i z'', x = ix4 z z' i z'' := ⟨x 0, x 1, x 2, x 3, eq_ix4 x⟩
  obtain rfl : z'' = 0 := Subsingleton.elim _ _
  rw [blockS_at a0 a1 a2 _ ⟨256 * u + i.val, by omega⟩ 64 (show 256 * u + 1 * i.val = 256 * u + i.val by omega) (show 64 + 1 * 0 = 64 by omega)]
  rw [lse_apply]
  simp only [score_apply]
  rfl

theorem zero_piece (u : ℕ) (hu : u < 8) (x : S1x1x256x63.Idx) :
    zeroP (F := Ideal) x = blockS a0 a1 a2 ((Rect.unit (s := S1x1x2048x128) ![0, 0, 256 * u, 65] S1x1x256x63.size (inZ _ hu)).emb x) := by
  obtain ⟨z, z', i, k, rfl⟩ : ∃ z z' i k, x = ix4 z z' i k := ⟨x 0, x 1, x 2, x 3, eq_ix4 x⟩
  rw [blockS_at a0 a1 a2 _ ⟨256 * u + i.val, by omega⟩ ⟨65 + k.val, by omega⟩ (show 256 * u + 1 * i.val = 256 * u + i.val by omega) (show 65 + 1 * k.val = 65 + k.val by omega)]
  rw [zero_apply]
  unfold pointS rowS
  rw [dif_neg (show ¬ 65 + k.val < 64 by omega), if_neg (show ¬ 65 + k.val = 64 by omega)]

theorem piecesU_apply (u : ℕ) (hu : u < 8) : ∀ p ∈ piecesU a0 a1 a2 u hu, ∀ x, p.2 x = blockS a0 a1 a2 (p.1.emb x) := by
  unfold piecesU
  refine List.forall_mem_cons.2 ⟨att_piece a0 a1 a2 u hu 3 (by omega) (by omega), List.forall_mem_cons.2 ⟨att_piece a0 a1 a2 u hu 2 (by omega) (by omega),
    List.forall_mem_cons.2 ⟨att_piece a0 a1 a2 u hu 1 (by omega) (by omega), List.forall_mem_cons.2 ⟨att_piece a0 a1 a2 u hu 0 (by omega) (by omega),
    List.forall_mem_cons.2 ⟨zero_piece a0 a1 a2 u hu, List.forall_mem_cons.2 ⟨lse_piece a0 a1 a2 u hu, fun _ h => absurd h List.not_mem_nil⟩⟩⟩⟩⟩⟩

theorem pieces_apply : ∀ p ∈ pieces a0 a1 a2, ∀ x, p.2 x = blockS a0 a1 a2 (p.1.emb x) := by
  unfold pieces
  intro p hp
  simp only [List.mem_append] at hp
  rcases hp with h | h | h | h | h | h | h | h <;> exact piecesU_apply a0 a1 a2 _ _ p h

end Point

/-- What a grid point leaves in its staged block. -/
theorem out_apply (c : Dev nD) (i : grid0.Coords) (arg2 : Memref sig .tc .vmem S1x1x2048x128 .f32) (harg2 : arg2.IsWhole) (arg3 : Memref sig .tc .vmem S1x1x4x2048 .i32) (harg3 : arg3.IsWhole)
    (arg4 : Memref sig .tc .vmem S1x1x2048x4 .i32) (harg4 : arg4.IsWhole) (arg5 : Memref sig .tc .vmem S1x1x2048x128 .f32) (harg5 : arg5.IsWhole)
    (x0 : Vec Ideal S1x1x2048x128 .f32) (x1 : Vec Ideal S1x1x4x2048 .i32) (x2 : Vec Ideal S1x1x2048x4 .i32) (y : S1x1x2048x128.Idx) :
    out0_A_3 c i arg2 harg2 arg3 harg3 arg4 harg4 arg5 harg5 x0 x1 x2 y = blockS x0 x1 x2 y := by
  have hz : (![0, 0, 0, 0] : Fin 4 → ℕ) = fun _ => 0 := funext fun a => by match a with | ⟨0, _⟩ => rfl | ⟨1, _⟩ => rfl | ⟨2, _⟩ => rfl | ⟨3, _⟩ => rfl
  have hc := cover0_A_3 c i arg2 harg2 arg3 harg3 arg4 harg4 arg5 harg5 x0 x1 x2 y
  unfold out0_A_3
  rw [pieces_eq] at hc ⊢
  simp only [View.readAt_eq_ld, harg2.read_unread, harg3.read_unread, harg4.read_unread] at hc ⊢
  have e0 : View.ld x0 (Rect.unit (s := S1x1x2048x128) ![0, 0, 0, 0] S1x1x2048x128.size inb_S1x1x2048x128_S1x1x2048x128_0_0_0_0) = x0 := View.ld_unit_zero hz _ _
  have e1 : View.ld x1 (Rect.unit (s := S1x1x4x2048) ![0, 0, 0, 0] S1x1x4x2048.size inb_S1x1x4x2048_S1x1x4x2048_0_0_0_0) = x1 := View.ld_unit_zero hz _ _
  have e2 : View.ld x2 (Rect.unit (s := S1x1x2048x4) ![0, 0, 0, 0] S1x1x2048x4.size inb_S1x1x2048x4_S1x1x2048x4_0_0_0_0) = x2 := View.ld_unit_zero hz _ _
  rw [e0, e1, e2] at hc ⊢
  exact View.read_writes_apply_of_pieces _ _ (blockS x0 x1 x2) _ (pieces_apply x0 x1 x2) y hc

/-! ## The blocks of the arrays -/

section Blocks
variable (m : (ℓ : Loc nD τ sig) → Buf (Elt Ideal) ℓ)

/-- Grid point of batch `b` and round `s`. -/
abbrev pt (b : Fin 32) (s : Fin 2) : Fin cfg0.N := ⟨2 * b.val + s.val, show 2 * b.val + s.val < 64 by omega⟩

theorem index0 : ∀ t : Fin cfg0.N, win0_0.index t = ![t.val / 2, t.val % 2, 0, 0] := (by decide +kernel : ∀ t : Fin grid0.N, win0_0.index t = ![t.val / 2, t.val % 2, 0, 0])
theorem index1 : ∀ t : Fin cfg0.N, win0_1.index t = ![t.val / 2, t.val % 2, 0, 0] := (by decide +kernel : ∀ t : Fin grid0.N, win0_1.index t = ![t.val / 2, t.val % 2, 0, 0])
theorem index2 : ∀ t : Fin cfg0.N, win0_2.index t = ![t.val / 2, t.val % 2, 0, 0] := (by decide +kernel : ∀ t : Fin grid0.N, win0_2.index t = ![t.val / 2, t.val % 2, 0, 0])
theorem index3 : ∀ t : Fin cfg0.N, win0_3.index t = ![t.val / 2, t.val % 2, 0, 0] := (by decide +kernel : ∀ t : Fin grid0.N, win0_3.index t = ![t.val / 2, t.val % 2, 0, 0])
theorem flush3 (t : Fin cfg0.N) : (cfg0.win 3).flush t = true := (by decide +kernel : ∀ t : Fin grid0.N, win0_3.flush t = true) t

theorem ptIdx (b : Fin 32) (s : Fin 2) : (![(pt b s).val / 2, (pt b s).val % 2, 0, 0] : Fin 4 → ℕ) = ![b.val, s.val, 0, 0] := by
  rw [show (pt b s).val / 2 = b.val from show (2 * b.val + s.val) / 2 = b.val by omega, show (pt b s).val % 2 = s.val from show (2 * b.val + s.val) % 2 = s.val by omega]
theorem index0' (b : Fin 32) (s : Fin 2) : win0_0.index (pt b s) = ![b.val, s.val, 0, 0] := (index0 _).trans (ptIdx b s)
theorem index1' (b : Fin 32) (s : Fin 2) : win0_1.index (pt b s) = ![b.val, s.val, 0, 0] := (index1 _).trans (ptIdx b s)
theorem index2' (b : Fin 32) (s : Fin 2) : win0_2.index (pt b s) = ![b.val, s.val, 0, 0] := (index2 _).trans (ptIdx b s)
theorem index3' (b : Fin 32) (s : Fin 2) : win0_3.index (pt b s) = ![b.val, s.val, 0, 0] := (index3 _).trans (ptIdx b s)

theorem place0 (b : Fin 32) (s : Fin 2) (l : Fin 2048) (k : Fin 128) :
    (((cfg0.win 0).blk (pt b s)).view.emb (ix4 0 0 l k : S1x1x2048x128.Idx) : S32x2x2048x128.Idx) = ix4 b s l k := by
  blk_ext [index0']
theorem place1 (b : Fin 32) (s : Fin 2) (c : Fin 4) (l : Fin 2048) :
    (((cfg0.win 1).blk (pt b s)).view.emb (ix4 0 0 c l : S1x1x4x2048.Idx) : S32x2x4x2048.Idx) = ix4 b s c l := by
  blk_ext [index1']
theorem place2 (b : Fin 32) (s : Fin 2) (l : Fin 2048) (c : Fin 4) :
    (((cfg0.win 2).blk (pt b s)).view.emb (ix4 0 0 l c : S1x1x2048x4.Idx) : S32x2x2048x4.Idx) = ix4 b s l c := by
  blk_ext [index2']
theorem place3 (b : Fin 32) (s : Fin 2) (l : Fin 2048) (k : Fin 128) :
    (((cfg0.win 3).blk (pt b s)).view.emb (ix4 0 0 l k : S1x1x2048x128.Idx) : S32x2x2048x128.Idx) = ix4 b s l k := by
  blk_ext [index3']

/-- The arguments. -/
abbrev argQ (c : Dev nD) : FVec Ideal S32x2x2048x128 .f32 := m ((c.tc : Thread nD τ).loc main_arg0)
abbrev argR (c : Dev nD) : IVec S32x2x4x2048 32 := m ((c.tc : Thread nD τ).loc main_arg1)
abbrev argC (c : Dev nD) : IVec S32x2x2048x4 32 := m ((c.tc : Thread nD τ).loc main_arg2)

theorem blk0_apply (c : Dev nD) (b : Fin 32) (s : Fin 2) (l : Fin 2048) (k : Fin 128) :
    iblk m c 0 (pt b s) (ix4 0 0 l k : S1x1x2048x128.Idx) = argQ m c (ix4 b s l k) := by
  unfold iblk
  rw [View.read_apply]
  exact congrArg (argQ m c) (place0 b s l k)
theorem blk1_apply (c : Dev nD) (b : Fin 32) (s : Fin 2) (j : Fin 4) (l : Fin 2048) :
    iblk m c 1 (pt b s) (ix4 0 0 j l : S1x1x4x2048.Idx) = argR m c (ix4 b s j l) := by
  unfold iblk
  rw [View.read_apply]
  exact congrArg (argR m c) (place1 b s j l)
theorem blk2_apply (c : Dev nD) (b : Fin 32) (s : Fin 2) (l : Fin 2048) (j : Fin 4) :
    iblk m c 2 (pt b s) (ix4 0 0 l j : S1x1x2048x4.Idx) = argC m c (ix4 b s l j) := by
  unfold iblk
  rw [View.read_apply]
  exact congrArg (argC m c) (place2 b s l j)

end Blocks

/-- A row of the result from the whole arguments. -/
def wholeS (a0 : FVec Ideal S32x2x2048x128 .f32) (a1 : IVec S32x2x4x2048 32) (a2 : IVec S32x2x2048x4 32) (b : Fin 32) (s : Fin 2) (r : Fin 2048) (k : Fin 128) : EReal :=
  rowS (fun r d => a0 (ix4 b s r ⟨d.val, by omega⟩)) (fun r d => a0 (ix4 b s r ⟨64 + d.val, by omega⟩))
    (fun c r => FloatOps.sitofp (F := Ideal) FTy.f32 (a1 (ix4 b s c r))) (fun r c => FloatOps.sitofp (F := Ideal) FTy.f32 (a2 (ix4 b s r c))) r k

theorem result_apply (m : (ℓ : Loc nD τ sig) → Buf (Elt Ideal) ℓ) (c : Dev nD) (b : Fin 32) (s : Fin 2) (l : Fin 2048) (k : Fin 128) :
    ((dats m 0 c).arrAt 3 cfg0.N : S32x2x2048x128.Idx → EReal) (ix4 b s l k) = wholeS (argQ m c) (argR m c) (argC m c) b s l k := by
  have hq : qB (iblk m c 0 (pt b s)) = fun r d => argQ m c (ix4 b s r ⟨d.val, by omega⟩) := funext fun r => funext fun d => blk0_apply m c b s r _
  have hv : vB (iblk m c 0 (pt b s)) = fun r d => argQ m c (ix4 b s r ⟨64 + d.val, by omega⟩) := funext fun r => funext fun d => blk0_apply m c b s r _
  have hr : mrB (iblk m c 1 (pt b s)) = fun j r => FloatOps.sitofp (F := Ideal) FTy.f32 (argR m c (ix4 b s j r)) :=
    funext fun j => funext fun r => congrArg (fun w : BitVec 32 => FloatOps.sitofp (F := Ideal) FTy.f32 w) (blk1_apply m c b s j r)
  have hc : mcB (iblk m c 2 (pt b s)) = fun r j => FloatOps.sitofp (F := Ideal) FTy.f32 (argC m c (ix4 b s r j)) :=
    funext fun r => funext fun j => congrArg (fun w : BitVec 32 => FloatOps.sitofp (F := Ideal) FTy.f32 w) (blk2_apply m c b s r j)
  have h := (dats m 0 c).arrAt_emb_eq_flushed 3 Cert.AttendIdeal.Value.disjoint3 (pt b s) (flush3 _) (ix4 0 0 l k : S1x1x2048x128.Idx)
  rw [place3] at h
  refine h.trans ?_
  rw [Cert.AttendIdeal.Value.flushed3_A]
  generalize pt b s = t at hq hv hr hc ⊢
  have ho : out0_A_3 c (grid0.coords t) (ms0_0 t) (hs0_0 t) (ms0_1 t) (hs0_1 t) (ms0_2 t) (hs0_2 t) (ms0_3 t) (hs0_3 t) (iblk m c 0 t) (iblk m c 1 t) (iblk m c 2 t)
      = blockS (iblk m c 0 t) (iblk m c 1 t) (iblk m c 2 t) := funext (out_apply c _ _ _ _ _ _ _ _ _ _ _ _)
  rw [ho]
  show blockS (iblk m c 0 t) (iblk m c 1 t) (iblk m c 2 t) ((cfg0.win 3).xinj (grid0.coords t) (ix4 0 0 l k : S1x1x2048x128.Idx)) = _
  rw [blockS_at (iblk m c 0 t) (iblk m c 1 t) (iblk m c 2 t) _ l k rfl rfl]
  unfold pointS wholeS
  rw [hq, hv, hr, hc]

end Cert.Proof.Att

end
-- ==== Proof.AttRefer.lean ====
/-
  What the reference of the attention call computes, element by element.
-/
module

public import proofs.«01_k».proof.Proof.AttBlockSpec
public import proofs.«01_k».proof.Proof.Gen.AttendReferenceIdeal.Run

@[expose] public section

set_option maxRecDepth 16384

noncomputable section

namespace Cert.Proof.AttR

open Cert.AttendReferenceIdeal Cert.AttendReferenceIdeal.Gen
open Cert.Proof.Att
open Idealize.ShloMosaic Idealize.ShloMosaic.TcCoe Idealize.SL.Sem

/-! ## The stages -/

section Stages
variable (a0 : FVec Ideal S32x2x2048x128 .f32) (a1 : IVec S32x2x4x2048 32) (a2 : IVec S32x2x2048x4 32)

def queries : FVec Ideal S64x32x64x64 .f32 :=
  shapeCast _ (extractStridedSlice S32x2x2048x64 ![0, 0, 0, 0] a0 slices_S32x2x2048x128_S32x2x2048x64_0_0_0_0) shapeCasts_S32x2x2048x64_S64x32x64x64
def values : FVec Ideal S64x32x64x64 .f32 :=
  shapeCast _ (extractStridedSlice S32x2x2048x64 ![0, 0, 0, 64] a0 slices_S32x2x2048x128_S32x2x2048x64_0_0_0_64) shapeCasts_S32x2x2048x64_S64x32x64x64
def places : IVec S1x32x64x1 32 := shapeCast _ (iotaInDim S2048 32 0) shapeCasts_S2048_S1x32x64x1
def units : FVec Ideal S64x32x64x64 .f32 :=
  Host.divf (queries a0) (broadcastInDim S64x32x64x64 ![0, 1, 2, 3] bcast_S64x32x64x1_S64x32x64x64_0_1_2_3
    (maximumf (Host.sqrt (broadcastInDim S64x32x64x1 ![0, 1, 2] bcast_S64x32x64_S64x32x64x1_0_1_2
      (Host.reduceAdd (mulf (queries a0) (queries a0)) (constant S_ .f32 0x00000000#32) reducesTo_S64x32x64x64_S64x32x64_d3 h_S_)))
      (broadcastInDim S64x32x64x1 ![] bcast_S_S64x32x64x1 (constant S_ .f32 0x2B8CBCCC#32))))
def numbersR : FVec Ideal S64x32x64x4 .f32 :=
  shapeCast _ (transpose S32x2x2048x4 [0, 1, 3, 2] (sitofp .f32 a1) transposes_S32x2x4x2048_S32x2x2048x4_0_1_3_2) shapeCasts_S32x2x2048x4_S64x32x64x4
def numbersC : FVec Ideal S64x32x64x4 .f32 := shapeCast _ (sitofp .f32 a2) shapeCasts_S32x2x2048x4_S64x32x64x4

/-- Each block behind the block before it. -/
def back64 (x : FVec Ideal S64x32x64x64 .f32) : FVec Ideal S64x32x128x64 .f32 :=
  concatenate S64x32x128x64 2 [⟨S64x32x64x64, (concatenate S64x32x64x64 1 [⟨S64x1x64x64, (extractStridedSlice S64x1x64x64 ![0, 31, 0, 0] x slices_S64x32x64x64_S64x1x64x64_0_31_0_0)⟩, ⟨S64x31x64x64, (extractStridedSlice S64x31x64x64 ![0, 0, 0, 0] x slices_S64x32x64x64_S64x31x64x64_0_0_0_0)⟩] concatenates_S64x1x64x64_S64x31x64x64_S64x32x64x64_d1)⟩, ⟨S64x32x64x64, x⟩] concatenates_S64x32x64x64_S64x32x64x64_S64x32x128x64_d2
def back4 (x : FVec Ideal S64x32x64x4 .f32) : FVec Ideal S64x32x128x4 .f32 :=
  concatenate S64x32x128x4 2 [⟨S64x32x64x4, (concatenate S64x32x64x4 1 [⟨S64x1x64x4, (extractStridedSlice S64x1x64x4 ![0, 31, 0, 0] x slices_S64x32x64x4_S64x1x64x4_0_31_0_0)⟩, ⟨S64x31x64x4, (extractStridedSlice S64x31x64x4 ![0, 0, 0, 0] x slices_S64x32x64x4_S64x31x64x4_0_0_0_0)⟩] concatenates_S64x1x64x4_S64x31x64x4_S64x32x64x4_d1)⟩, ⟨S64x32x64x4, x⟩] concatenates_S64x32x64x4_S64x32x64x4_S64x32x128x4_d2
def back1 (x : IVec S1x32x64x1 32) : IVec S1x32x128x1 32 :=
  concatenate S1x32x128x1 2 [⟨S1x32x64x1, (concatenate S1x32x64x1 1 [⟨S1x1x64x1, (extractStridedSlice S1x1x64x1 ![0, 31, 0, 0] x slices_S1x32x64x1_S1x1x64x1_0_31_0_0)⟩, ⟨S1x31x64x1, (extractStridedSlice S1x31x64x1 ![0, 0, 0, 0] x slices_S1x32x64x1_S1x31x64x1_0_0_0_0)⟩] concatenates_S1x1x64x1_S1x31x64x1_S1x32x64x1_d1)⟩, ⟨S1x32x64x1, x⟩] concatenates_S1x32x64x1_S1x32x64x1_S1x32x128x1_d2

/-- A query's own place, and the place of each key it sees. -/
def here : IVec S1x32x64x128 32 := broadcastInDim S1x32x64x128 ![0, 1, 2, 3] bcast_S1x32x64x1_S1x32x64x128_0_1_2_3 places
def there : IVec S1x32x64x128 32 := broadcastInDim S1x32x64x128 ![0, 1, 2, 3] bcast_S1x32x1x128_S1x32x64x128_0_1_2_3
  (transpose S1x32x1x128 [0, 1, 3, 2] (back1 places) transposes_S1x32x128x1_S1x32x1x128_0_1_3_2)

theorem inC (c : ℕ) (hc : c < 4) : S64x32x64x4.Slices ![0, 0, 0, c] S64x32x64x1 :=
  ⟨rfl, fun a => by match a with | ⟨0, _⟩ => exact show 0 + 64 ≤ 64 by omega | ⟨1, _⟩ => exact show 0 + 32 ≤ 32 by omega | ⟨2, _⟩ => exact show 0 + 64 ≤ 64 by omega | ⟨3, _⟩ => exact show c + 1 ≤ 4 by omega⟩
theorem inK (c : ℕ) (hc : c < 4) : S64x32x128x4.Slices ![0, 0, 0, c] S64x32x128x1 :=
  ⟨rfl, fun a => by match a with | ⟨0, _⟩ => exact show 0 + 64 ≤ 64 by omega | ⟨1, _⟩ => exact show 0 + 32 ≤ 32 by omega | ⟨2, _⟩ => exact show 0 + 128 ≤ 128 by omega | ⟨3, _⟩ => exact show c + 1 ≤ 4 by omega⟩

/-- Number `c` of each query, and of each key. -/
def mine (c : ℕ) (hc : c < 4) : FVec Ideal S64x32x64x1 .f32 :=
  broadcastInDim S64x32x64x1 ![0, 1, 2] bcast_S64x32x64_S64x32x64x1_0_1_2
    (shapeCast _ (extractStridedSlice S64x32x64x1 ![0, 0, 0, c] (numbersC a2) (inC c hc)) shapeCasts_S64x32x64x1_S64x32x64)
def theirs (c : ℕ) (hc : c < 4) : FVec Ideal S64x32x64x128 .f32 :=
  broadcastInDim S64x32x64x128 ![0, 1, 2, 3] bcast_S64x32x1x128_S64x32x64x128_0_1_2_3 (broadcastInDim S64x32x1x128 ![0, 1, 3] bcast_S64x32x128_S64x32x1x128_0_1_3
    (shapeCast _ (extractStridedSlice S64x32x128x1 ![0, 0, 0, c] (back4 (numbersR a1)) (inK c hc)) shapeCasts_S64x32x128x1_S64x32x128))
def spread (x : FVec Ideal S64x32x64x1 .f32) : FVec Ideal S64x32x64x128 .f32 := broadcastInDim S64x32x64x128 ![0, 1, 2, 3] bcast_S64x32x64x1_S64x32x64x128_0_1_2_3 x
def fill (w : BitVec 32) : FVec Ideal S64x32x64x128 .f32 := broadcastInDim S64x32x64x128 ![] bcast_S_S64x32x64x128 (constant S_ .f32 w)
def fill1 (w : BitVec 32) : FVec Ideal S64x32x64x1 .f32 := broadcastInDim S64x32x64x1 ![] bcast_S_S64x32x64x1 (constant S_ .f32 w)

/-- The masked scores. -/
def scores : FVec Ideal S64x32x64x128 .f32 :=
  select (broadcastInDim S64x32x64x128 ![0, 1, 2, 3] bcast_S1x32x64x128_S64x32x64x128_0_1_2_3 (cmpi .eq here there)) (fill 0xC7C35000#32)
    (select (broadcastInDim S64x32x64x128 ![0, 1, 2, 3] bcast_S1x32x64x128_S64x32x64x128_0_1_2_3 (cmpi .slt here there)) (fill 0xCE6E6B28#32)
      (select (cmpf .une (spread (mine a2 0 (by omega))) (theirs a1 0 (by omega))) (fill 0xCE6E6B28#32)
        (Host.divf (Host.dotGeneral dot_S64x32x64x64_S64x32x128x64_S64x32x64x128_3_3_2_2_01_01 none (queries a0) (back64 (units a0))) (fill 0x41000000#32))))

/-- One more round's part of the count. -/
def seen (c : ℕ) (hc : c < 4) (x : FVec Ideal S64x32x64x128 .f32) : FVec Ideal S64x32x64x128 .f32 :=
  addf (addf x (uitofp .f32 (cmpf .oeq (theirs a1 c hc) (spread (mine a2 c hc)))))
    (uitofp .f32 (cmpf .oeq (theirs a1 c hc) (spread (select (cmpf .oeq (mine a2 c hc) (fill1 0x00000000#32)) (fill1 0x41F80000#32)
      (subf (mine a2 c hc) (fill1 0x3F800000#32))))))
def counts : FVec Ideal S64x32x64x128 .f32 :=
  seen a1 a2 3 (by omega) (seen a1 a2 2 (by omega) (seen a1 a2 1 (by omega) (fill 0x3F800000#32)))

/-- The largest score of a query, the exponentials and their sum. -/
def tops (x : FVec Ideal S64x32x64x128 .f32) : FVec Ideal S64x32x64x1 .f32 :=
  broadcastInDim S64x32x64x1 ![0, 1, 2] bcast_S64x32x64_S64x32x64x1_0_1_2 (Host.reduce FloatOps.maximumf x (constant S_ .f32 0xFF800000#32) reducesTo_S64x32x64x128_S64x32x64_d3 h_S_)
def exps (x : FVec Ideal S64x32x64x128 .f32) : FVec Ideal S64x32x64x128 .f32 := Host.exp (subf x (spread (tops x)))
def sums (x : FVec Ideal S64x32x64x128 .f32) : FVec Ideal S64x32x64x1 .f32 :=
  broadcastInDim S64x32x64x1 ![0, 1, 2] bcast_S64x32x64_S64x32x64x1_0_1_2 (Host.reduceAdd (exps x) (constant S_ .f32 0x00000000#32) reducesTo_S64x32x64x128_S64x32x64_d3 h_S_)
def weights (x k : FVec Ideal S64x32x64x128 .f32) : FVec Ideal S64x32x64x128 .f32 := Host.divf (Host.divf (exps x) (spread (sums x))) k

def attR : FVec Ideal S64x32x64x64 .f32 :=
  Host.dotGeneral dot_S64x32x64x128_S64x32x128x64_S64x32x64x64_3_2_2_3_01_01 none (weights (scores a0 a1 a2) (counts a1 a2)) (back64 (values a0))
def lseR : FVec Ideal S64x32x64x1 .f32 := addf (tops (scores a0 a1 a2)) (Host.log (sums (scores a0 a1 a2)))
def outR : FVec Ideal S32x2x2048x128 .f32 :=
  concatenate S32x2x2048x128 3 [⟨S32x2x2048x64, shapeCast S32x2x2048x64 (attR a0 a1 a2) shapeCasts_S64x32x64x64_S32x2x2048x64⟩,
    ⟨S32x2x2048x1, shapeCast S32x2x2048x1 (lseR a0 a1 a2) shapeCasts_S64x32x64x1_S32x2x2048x1⟩,
    ⟨S32x2x2048x63, broadcastInDim S32x2x2048x63 ![] bcast_S_S32x2x2048x63 (constant S_ .f32 0x00000000#32)⟩] concatenates_S32x2x2048x64_S32x2x2048x1_S32x2x2048x63_S32x2x2048x128_d3

end Stages

theorem refer_eq (m : (ℓ : Loc nD τ sig) → Buf (Elt Ideal) ℓ) (c : Dev nD) :
    Cert.AttendReferenceIdeal.Value.res_main_v137 m c
      = outR (m ((c.tc : Thread nD τ).loc main_arg0)) (m ((c.tc : Thread nD τ).loc main_arg1)) (m ((c.tc : Thread nD τ).loc main_arg2)) := by
  unfold Cert.AttendReferenceIdeal.Value.res_main_v137
  rfl

/-! ## Each stage at an element -/

section Elements
variable (a0 : FVec Ideal S32x2x2048x128 .f32) (a1 : IVec S32x2x4x2048 32) (a2 : IVec S32x2x2048x4 32)

/-- The batch and the round of a pair of both, and a row from its block and its place there. -/
def bOf (g : Fin 64) : Fin 32 := ⟨g.val / 2, by omega⟩
def sOf (g : Fin 64) : Fin 2 := ⟨g.val % 2, by omega⟩
def rowOf (n : Fin 32) (i : Fin 64) : Fin 2048 := ⟨n.val * 64 + i.val, by omega⟩

/-- The batch's queries, values and numbers. -/
def qG (g : Fin 64) (r : Fin 2048) (d : Fin 64) : EReal := a0 (ix4 (bOf g) (sOf g) r ⟨d.val, by omega⟩)
def vG (g : Fin 64) (r : Fin 2048) (d : Fin 64) : EReal := a0 (ix4 (bOf g) (sOf g) r ⟨64 + d.val, by omega⟩)
def mrG (g : Fin 64) (c : Fin 4) (r : Fin 2048) : EReal := FloatOps.sitofp (F := Ideal) FTy.f32 (a1 (ix4 (bOf g) (sOf g) c r))
def mcG (g : Fin 64) (r : Fin 2048) (c : Fin 4) : EReal := FloatOps.sitofp (F := Ideal) FTy.f32 (a2 (ix4 (bOf g) (sOf g) r c))

theorem queries_apply (g : Fin 64) (n : Fin 32) (i d : Fin 64) : queries a0 (ix4 g n i d) = qG a0 g (rowOf n i) d := by
  pointwise [queries, qG]
  rfl
theorem values_apply (g : Fin 64) (n : Fin 32) (i d : Fin 64) : values a0 (ix4 g n i d) = vG a0 g (rowOf n i) d := by
  pointwise [values, vG]
  rfl
theorem places_apply (n : Fin 32) (i : Fin 64) (z z' : Fin 1) : places (ix4 z n i z') = BitVec.ofNat 32 (rowOf n i).val := by
  pointwise [places]
  rfl
theorem numbersR_apply (g : Fin 64) (n : Fin 32) (i : Fin 64) (c : Fin 4) : numbersR a1 (ix4 g n i c) = mrG a1 g c (rowOf n i) := by
  pointwise [numbersR, mrG]
  rfl
theorem numbersC_apply (g : Fin 64) (n : Fin 32) (i : Fin 64) (c : Fin 4) : numbersC a2 (ix4 g n i c) = mcG a2 g (rowOf n i) c := by
  pointwise [numbersC, mcG]
  rfl
theorem units_apply (g : Fin 64) (n : Fin 32) (i d : Fin 64) : units a0 (ix4 g n i d) = unitK (qG a0 g) (rowOf n i) d := by
  pointwise [units, queries_apply a0, unitK]

/-- The block that holds the row at lane `j` of block `n`, and the row's place there. -/
def blkOf (n : Fin 32) (j : Fin 128) : Fin 32 := ⟨(rowP (64 * n.val + j.val)).val / 64, by omega⟩
def inOf (j : Fin 128) : Fin 64 := ⟨j.val % 64, by omega⟩

theorem blkOf_low (n : Fin 32) (j : Fin 128) (h : j.val < 64) (h' : n.val < 1) : (⟨31 + n.val, by omega⟩ : Fin 32) = blkOf n j :=
  Fin.ext (show 31 + n.val = (64 * n.val + j.val + 1984) % 2048 / 64 by omega)
theorem blkOf_mid (n : Fin 32) (j : Fin 128) (h : j.val < 64) (h' : ¬ n.val < 1) : (⟨n.val - 1, by omega⟩ : Fin 32) = blkOf n j :=
  Fin.ext (show n.val - 1 = (64 * n.val + j.val + 1984) % 2048 / 64 by omega)
theorem blkOf_high (n : Fin 32) (j : Fin 128) (h : ¬ j.val < 64) : n = blkOf n j :=
  Fin.ext (show n.val = (64 * n.val + j.val + 1984) % 2048 / 64 by omega)
theorem inOf_low (j : Fin 128) (h : j.val < 64) : (⟨j.val, h⟩ : Fin 64) = inOf j := Fin.ext (show j.val = j.val % 64 by omega)
theorem inOf_high (j : Fin 128) (h : ¬ j.val < 64) : (⟨j.val - 64, by omega⟩ : Fin 64) = inOf j := Fin.ext (show j.val - 64 = j.val % 64 by omega)

theorem rowOf_blk (n : Fin 32) (i : Fin 64) (j : Fin 128) : rowOf (blkOf n j) (inOf j) = keyRow (rowOf n i) j := by
  refine Fin.ext ?_
  show (64 * n.val + j.val + 1984) % 2048 / 64 * 64 + j.val % 64 = (64 * ((n.val * 64 + i.val) / 64) + j.val + 1984) % 2048
  omega

theorem back64_apply (x : FVec Ideal S64x32x64x64 .f32) (g : Fin 64) (n : Fin 32) (j : Fin 128) (d : Fin 64) :
    back64 x (ix4 g n j d) = x (ix4 g (blkOf n j) (inOf j) d) := by
  pointwise [back64]
  by_cases h : j.val < 64
  · rw [dif_pos h]
    by_cases h' : n.val < 1
    · rw [dif_pos h']
      exact congrArg₂ (fun a b => x (ix4 g a b d)) (blkOf_low n j h h') (inOf_low j h)
    · rw [dif_neg h']
      exact congrArg₂ (fun a b => x (ix4 g a b d)) (blkOf_mid n j h h') (inOf_low j h)
  · rw [dif_neg h]
    exact congrArg₂ (fun a b => x (ix4 g a b d)) (blkOf_high n j h) (inOf_high j h)
theorem back4_apply (x : FVec Ideal S64x32x64x4 .f32) (g : Fin 64) (n : Fin 32) (j : Fin 128) (d : Fin 4) :
    back4 x (ix4 g n j d) = x (ix4 g (blkOf n j) (inOf j) d) := by
  pointwise [back4]
  by_cases h : j.val < 64
  · rw [dif_pos h]
    by_cases h' : n.val < 1
    · rw [dif_pos h']
      exact congrArg₂ (fun a b => x (ix4 g a b d)) (blkOf_low n j h h') (inOf_low j h)
    · rw [dif_neg h']
      exact congrArg₂ (fun a b => x (ix4 g a b d)) (blkOf_mid n j h h') (inOf_low j h)
  · rw [dif_neg h]
    exact congrArg₂ (fun a b => x (ix4 g a b d)) (blkOf_high n j h) (inOf_high j h)
theorem back1_apply (x : IVec S1x32x64x1 32) (z : Fin 1) (n : Fin 32) (j : Fin 128) (d : Fin 1) :
    back1 x (ix4 z n j d) = x (ix4 z (blkOf n j) (inOf j) d) := by
  obtain rfl : z = 0 := Subsingleton.elim _ _
  obtain rfl : d = 0 := Subsingleton.elim _ _
  pointwise [back1]
  by_cases h : j.val < 64
  · rw [dif_pos h]
    by_cases h' : n.val < 1
    · rw [dif_pos h']
      exact congrArg₂ (fun a b => x (ix4 0 a b 0)) (blkOf_low n j h h') (inOf_low j h)
    · rw [dif_neg h']
      exact congrArg₂ (fun a b => x (ix4 0 a b 0)) (blkOf_mid n j h h') (inOf_low j h)
  · rw [dif_neg h]
    exact congrArg₂ (fun a b => x (ix4 0 a b 0)) (blkOf_high n j h) (inOf_high j h)

theorem here_apply (z : Fin 1) (n : Fin 32) (i : Fin 64) (j : Fin 128) : here (ix4 z n i j) = BitVec.ofNat 32 (rowOf n i).val := by
  pointwise [here, places_apply]
theorem there_apply (z : Fin 1) (n : Fin 32) (i : Fin 64) (j : Fin 128) : there (ix4 z n i j) = BitVec.ofNat 32 (keyRow (rowOf n i) j).val := by
  pointwise [there, back1_apply, places_apply]
  rw [rowOf_blk n i j]
theorem mine_apply (c : ℕ) (hc : c < 4) (g : Fin 64) (n : Fin 32) (i : Fin 64) (z : Fin 1) : mine a2 c hc (ix4 g n i z) = mcG a2 g (rowOf n i) ⟨c, hc⟩ := by
  obtain rfl : z = 0 := Subsingleton.elim _ _
  pointwise [mine, numbersC_apply a2]
theorem theirs_apply (c : ℕ) (hc : c < 4) (g : Fin 64) (n : Fin 32) (i : Fin 64) (j : Fin 128) : theirs a1 c hc (ix4 g n i j) = mrG a1 g ⟨c, hc⟩ (keyRow (rowOf n i) j) := by
  pointwise [theirs, back4_apply, numbersR_apply a1]
  rw [rowOf_blk n i j]
theorem spread_apply (x : FVec Ideal S64x32x64x1 .f32) (g : Fin 64) (n : Fin 32) (i : Fin 64) (j : Fin 128) : spread x (ix4 g n i j) = x (ix4 g n i 0) := by
  pointwise [spread]

theorem word_inj (a b : Fin 2048) : BitVec.ofNat 32 a.val = BitVec.ofNat 32 b.val ↔ b = a := by
  constructor
  · intro h
    have h' := congrArg BitVec.toNat h
    simp only [BitVec.toNat_ofNat] at h'
    exact Fin.ext (by omega)
  · rintro rfl; rfl
theorem eq_word (a b : Fin 2048) : IntOp.cmpi .eq (BitVec.ofNat 32 a.val) (BitVec.ofNat 32 b.val) = if b = a then 1#1 else 0#1 := by
  show BitVec.ofBool (BitVec.ofNat 32 a.val == BitVec.ofNat 32 b.val) = _
  by_cases h : b = a
  · rw [if_pos h, beq_iff_eq.2 ((word_inj a b).2 h)]; rfl
  · rw [if_neg h, beq_eq_false_iff_ne.2 fun e => h ((word_inj a b).1 e)]; rfl
theorem lt_word (a b : Fin 2048) : IntOp.cmpi .slt (BitVec.ofNat 32 a.val) (BitVec.ofNat 32 b.val) = if a < b then 1#1 else 0#1 := by
  have hs : (BitVec.ofNat 32 a.val).slt (BitVec.ofNat 32 b.val) = decide (a < b) := by
    simp only [BitVec.slt_eq_decide, BitVec.toInt_eq_toNat_cond, BitVec.toNat_ofNat, Nat.reducePow, Fin.lt_def]
    refine decide_eq_decide.2 ?_
    have := a.isLt; have := b.isLt
    omega
  show BitVec.ofBool ((BitVec.ofNat 32 a.val).slt (BitVec.ofNat 32 b.val)) = _
  rw [hs]
  by_cases h : a < b
  · rw [if_pos h, decide_eq_true h]; rfl
  · rw [if_neg h, decide_eq_false h]; rfl

theorem eighth (x : EReal) : Ideal.div x (Ideal.ofBits FTy.f32 0x41000000#32) = x * Ideal.ofBits FTy.f32 0x3E000000#32 := by
  have h8 : Ideal.ofBits FTy.f32 0x41000000#32 = ((8 : ℝ) : EReal) := by
    simp [Ideal.ofBits, Ideal.ieee, -EReal.coe_mul]; norm_num
  have h1 : Ideal.ofBits FTy.f32 0x3E000000#32 = (((8 : ℝ)⁻¹ : ℝ) : EReal) := by
    simp [Ideal.ofBits, Ideal.ieee, -EReal.coe_mul]; norm_num
  rw [h8, h1]
  unfold Ideal.div
  rw [if_neg (by norm_num), EReal.coe_inv]

theorem scores_apply (g : Fin 64) (n : Fin 32) (i : Fin 64) (j : Fin 128) :
    scores a0 a1 a2 (ix4 g n i j) = scoreS (qG a0 g) (mrG a1 g) (mcG a2 g) (rowOf n i) j := by
  pointwise [scores, here_apply, there_apply, mine_apply a2, theirs_apply a1, spread_apply, fill, queries_apply a0, units_apply a0, back64_apply]
  simp only [eq_word, lt_word, rowOf_blk n i j, eighth]
  unfold scoreS rawS
  by_cases h1 : keyRow (rowOf n i) j = rowOf n i
  · simp only [h1, if_true]; rfl
  · by_cases h2 : rowOf n i < keyRow (rowOf n i) j
    · simp only [h1, h2, if_true, if_false]; rfl
    · simp only [h1, h2, if_false]; rfl

theorem seen_apply (c : ℕ) (hc : c < 4) (x : FVec Ideal S64x32x64x128 .f32) (g : Fin 64) (n : Fin 32) (i : Fin 64) (j : Fin 128) :
    seen a1 a2 c hc x (ix4 g n i j) = seeS (mrG a1 g) (mcG a2 g) ⟨c, hc⟩ (rowOf n i) j (x (ix4 g n i j)) := by
  have hb : ∀ (p : Prop) [Decidable p], FloatOps.uitofp (F := Ideal) FTy.f32 (BitVec.ofBool (decide p)) = if p then 1 else 0 := by
    intro p _
    by_cases h : p
    · simp only [h, decide_true, if_true]
      show (((BitVec.toNat (BitVec.ofBool true) : ℕ) : ℝ) : EReal) = 1
      rw [show BitVec.toNat (BitVec.ofBool true) = 1 by decide]; norm_num
    · simp only [h, decide_false, if_false]
      show (((BitVec.toNat (BitVec.ofBool false) : ℕ) : ℝ) : EReal) = 0
      rw [show BitVec.toNat (BitVec.ofBool false) = 0 by decide]; norm_num
  pointwise [seen, mine_apply a2, theirs_apply a1, spread_apply, fill1]
  unfold seeS priorS
  simp only [hb]

theorem counts_apply (g : Fin 64) (n : Fin 32) (i : Fin 64) (j : Fin 128) :
    counts a1 a2 (ix4 g n i j) = countS (mrG a1 g) (mcG a2 g) (rowOf n i) j := by
  have hb : fill 0x3F800000#32 (ix4 g n i j) = (1 : EReal) := by pointwise [fill]
  unfold counts countS
  rw [seen_apply, seen_apply, seen_apply, hb]
  rfl

theorem tops_apply (x : FVec Ideal S64x32x64x128 .f32) (g : Fin 64) (n : Fin 32) (i : Fin 64) (z : Fin 1) :
    tops x (ix4 g n i z) = topS fun j => x (ix4 g n i j) := by
  pointwise [tops, topS]
theorem exps_apply (x : FVec Ideal S64x32x64x128 .f32) (g : Fin 64) (n : Fin 32) (i : Fin 64) (j : Fin 128) :
    exps x (ix4 g n i j) = expS (fun j => x (ix4 g n i j)) j := by
  pointwise [exps, spread_apply, tops_apply, expS]
theorem sums_apply (x : FVec Ideal S64x32x64x128 .f32) (g : Fin 64) (n : Fin 32) (i : Fin 64) (z : Fin 1) :
    sums x (ix4 g n i z) = sumS fun j => x (ix4 g n i j) := by
  pointwise [sums, exps_apply, sumS]

/-- A count is a positive number. -/
theorem count_pos (mr : Fin 4 → Fin 2048 → EReal) (mc : Fin 2048 → Fin 4 → EReal) (r : Fin 2048) (j : Fin 128) :
    ∃ k : ℝ, 0 < k ∧ countS mr mc r j = (k : EReal) := by
  have step : ∀ (c : Fin 4) (x : EReal), (∃ k : ℝ, 0 < k ∧ x = (k : EReal)) → ∃ k : ℝ, 0 < k ∧ seeS mr mc c r j x = (k : EReal) := by
    rintro c x ⟨k, hk, rfl⟩
    have one : ∀ (y : ℝ) (p : Prop) [Decidable p], 0 < y → ∃ z : ℝ, 0 < z ∧ (y : EReal) + (if p then 1 else 0) = (z : EReal) := by
      intro y p _ hy
      by_cases h : p
      · exact ⟨y + 1, by linarith, by simp [h]⟩
      · exact ⟨y, hy, by simp [h]⟩
    unfold seeS
    obtain ⟨z, hz, e⟩ := one k (mr c (keyRow r j) = mc r c) hk
    rw [e]
    exact one z (mr c (keyRow r j) = priorS (mc r c)) hz
  unfold countS
  exact step _ _ (step _ _ (step _ _ ⟨1, one_pos, by simp⟩))

/-- Dividing by a sum and then by a count is dividing by their product, whatever the sum. -/
theorem div_div (x t : EReal) {c : EReal} (hc : ∃ k : ℝ, 0 < k ∧ c = (k : EReal)) :
    Ideal.div (Ideal.div x t) c = Ideal.div x (t * c) := by
  obtain ⟨k, hk, rfl⟩ := hc
  have hk0 : (k : EReal) ≠ 0 := by exact_mod_cast hk.ne'
  have hki : 0 < (k : EReal)⁻¹ := by rw [← EReal.coe_inv]; exact_mod_cast inv_pos.2 hk
  unfold Ideal.div
  rw [if_neg hk0]
  by_cases ht : t = 0
  · subst ht
    rw [if_pos rfl, zero_mul, if_pos rfl]
    by_cases hx : 0 < x
    · rw [if_pos hx, EReal.top_mul_of_pos hki]
    · rw [if_neg hx, EReal.bot_mul_of_pos hki]
  · rw [if_neg ht, if_neg (mul_ne_zero ht hk0), EReal.mul_inv, mul_assoc]

theorem attR_apply (g : Fin 64) (n : Fin 32) (i d : Fin 64) :
    attR a0 a1 a2 (ix4 g n i d) = attS (qG a0 g) (vG a0 g) (mrG a1 g) (mcG a2 g) (rowOf n i) d := by
  pointwise [attR, weights, exps_apply, sums_apply, spread_apply, scores_apply a0 a1 a2, counts_apply a1 a2, back64_apply, values_apply a0]
  unfold attS
  simp only [rowOf_blk n i, div_div _ _ (count_pos _ _ _ _)]
theorem lse_row (x : FVec Ideal S64x32x64x128 .f32) (g : Fin 64) (n : Fin 32) (i : Fin 64) (z : Fin 1) :
    (addf (tops x) (Host.log (sums x)) : FVec Ideal S64x32x64x1 .f32) (ix4 g n i z) = topS (fun j => x (ix4 g n i j)) + Ideal.log (sumS fun j => x (ix4 g n i j)) := by
  have h : ∀ (a b : FVec Ideal S64x32x64x1 .f32) (y : S64x32x64x1.Idx), (addf a (Host.log b) : FVec Ideal S64x32x64x1 .f32) y = a y + Ideal.log (b y) :=
    fun _ _ _ => rfl
  rw [h, tops_apply, sums_apply]
theorem lseR_apply (g : Fin 64) (n : Fin 32) (i : Fin 64) (z : Fin 1) :
    lseR a0 a1 a2 (ix4 g n i z) = lseS (qG a0 g) (mrG a1 g) (mcG a2 g) (rowOf n i) := by
  have hs : (fun j => scores a0 a1 a2 (ix4 g n i j)) = scoreS (qG a0 g) (mrG a1 g) (mcG a2 g) (rowOf n i) := funext (scores_apply a0 a1 a2 g n i)
  unfold lseR lseS
  rw [lse_row, hs]

theorem outR_apply (b : Fin 32) (s : Fin 2) (r : Fin 2048) (k : Fin 128) :
    outR a0 a1 a2 (ix4 b s r k) = rowS (fun r d => a0 (ix4 b s r ⟨d.val, by omega⟩)) (fun r d => a0 (ix4 b s r ⟨64 + d.val, by omega⟩))
      (fun c r => FloatOps.sitofp (F := Ideal) FTy.f32 (a1 (ix4 b s c r))) (fun r c => FloatOps.sitofp (F := Ideal) FTy.f32 (a2 (ix4 b s r c))) r k := by
  have hg : ∀ h : b.val * 2 + s.val < 64, bOf ⟨b.val * 2 + s.val, h⟩ = b ∧ sOf ⟨b.val * 2 + s.val, h⟩ = s := fun h =>
    ⟨Fin.ext (show (b.val * 2 + s.val) / 2 = b.val by omega), Fin.ext (show (b.val * 2 + s.val) % 2 = s.val by omega)⟩
  have hr : ∀ (h : r.val / 64 < 32) (h' : r.val % 64 < 64), rowOf ⟨r.val / 64, h⟩ ⟨r.val % 64, h'⟩ = r := fun _ _ =>
    Fin.ext (show r.val / 64 * 64 + r.val % 64 = r.val by omega)
  have e1 : qG a0 ⟨b.val * 2 + s.val, by omega⟩ = fun r d => a0 (ix4 b s r ⟨d.val, by omega⟩) := by
    unfold qG; rw [(hg (by omega)).1, (hg (by omega)).2]
  have e2 : vG a0 ⟨b.val * 2 + s.val, by omega⟩ = fun r d => a0 (ix4 b s r ⟨64 + d.val, by omega⟩) := by
    unfold vG; rw [(hg (by omega)).1, (hg (by omega)).2]
  have e3 : mrG a1 ⟨b.val * 2 + s.val, by omega⟩ = fun c r => FloatOps.sitofp (F := Ideal) FTy.f32 (a1 (ix4 b s c r)) := by
    unfold mrG; rw [(hg (by omega)).1, (hg (by omega)).2]
  have e4 : mcG a2 ⟨b.val * 2 + s.val, by omega⟩ = fun r c => FloatOps.sitofp (F := Ideal) FTy.f32 (a2 (ix4 b s r c)) := by
    unfold mcG; rw [(hg (by omega)).1, (hg (by omega)).2]
  unfold rowS
  rw [← e1, ← e2, ← e3, ← e4]
  pointwise [outR, attR_apply a0 a1 a2, lseR_apply a0 a1 a2]
  simp only [hr]
  by_cases h : k.val < 64
  · rw [dif_pos h, dif_pos h]
  · rw [dif_neg h, dif_neg h]
    by_cases h' : k.val = 64
    · rw [if_pos h', dif_pos (show k.val - 64 < 1 by omega)]
    · rw [if_neg h', dif_neg (show ¬ k.val - 64 < 1 by omega)]
end Elements

end Cert.Proof.AttR

end
-- ==== Proof.AttEqual.lean ====
/-
  The attention call's result is its reference's, element by element; and so the equation of the two programs' runs.
-/
module

public import proofs.«01_k».proof.Defs
public import proofs.«01_k».proof.Proof.AttGrid
public import proofs.«01_k».proof.Proof.AttRefer
public import proofs.«01_k».proof.Proof.Gen.Attend
public import proofs.«01_k».proof.Proof.Gen.Attend.Frame
public import proofs.«01_k».proof.Proof.Gen.AttendIdeal.Frame

@[expose] public section

set_option maxRecDepth 16384

noncomputable section

namespace Cert.Proof.Att

open Cert.AttendIdeal Cert.AttendIdeal.Gen
open Idealize.ShloMosaic Idealize.ShloMosaic.TcCoe Idealize.SL.Sem

/-- The array that the grid leaves is the reference's of the same arguments. -/
theorem result_refer (m : (ℓ : Loc nD τ sig) → Buf (Elt Ideal) ℓ) (c : Dev nD) :
    ((dats m 0 c).arrAt 3 cfg0.N : S32x2x2048x128.Idx → EReal) = AttR.outR (argQ m c) (argR m c) (argC m c) := by
  funext y
  rw [eq_ix4 y]
  exact (result_apply m c (y 0) (y 1) (y 2) (y 3)).trans
    (AttR.outR_apply (argQ m c) (argR m c) (argC m c) (y 0) (y 1) (y 2) (y 3)).symm

theorem algebraic : Cert.algebraic_AttendIdeal_AttendReferenceIdeal := by
  intro m g m' g' _ hm
  refine ⟨fun c => (dats m 0 c).arrAt 3 cfg0.N, Cert.AttendIdeal.Value.run_blocks m g, ?_⟩
  refine (θ_run Cert.AttendReferenceIdeal.defs _ _).mono (fun r h c => ?_) (Cert.AttendReferenceIdeal.Value.run (F := Ideal) m' g')
  obtain ⟨h0, hargs⟩ := h c
  refine ⟨h0.trans ((AttR.refer_eq m' c).trans ?_), hargs⟩
  rw [(hm c).1, (hm c).2.1, (hm c).2.2]
  exact (result_refer m c).symm

/-- The attention call terminates without fault, with its arguments unchanged. -/
theorem frame_attend : Cert.quiescent_Attend := fun m ρ _ => Cert.Attend.Gen.frame (F := Bits) m ρ

theorem frame_ideal : Cert.quiescent_AttendIdeal := fun m ρ _ => Cert.AttendIdeal.Gen.frame (F := Ideal) m ρ

/-- So does its reference. -/
theorem frame_refer : Cert.quiescent_AttendReferenceIdeal := fun m ρ _ =>
  (θ_run Cert.AttendReferenceIdeal.defs _ _).mono (fun r h => ⟨fun c => (h c).2, sem_eq_zero_of_no_sems (by decide) r.2⟩)
    (Cert.AttendReferenceIdeal.Value.run (F := Ideal) m ρ)

end Cert.Proof.Att

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_rank_in_range
public import proofs.«01_k».proof.Proof.Gen.Scatter
public import proofs.«01_k».proof.Proof.Gen.Scatter.Skeleton
public import proofs.«01_k».proof.Proof.Gen.ScatterIdeal
public import proofs.«01_k».proof.Proof.Gen.ScatterIdeal.Skeleton
public import proofs.«01_k».proof.Proof.Gen.ScatterReferenceIdeal
public import proofs.«01_k».proof.Proof.Gen.ScatterReferenceIdeal.Run
public import proofs.«01_k».proof.Proof.Gen.Pre_rank_permutes
public import proofs.«01_k».proof.Proof.Run
public import proofs.«01_k».proof.Proof.Equal
public import proofs.«01_k».proof.Proof.ScatEqual
public import proofs.«01_k».proof.Proof.AttEqual
public import proofs.«01_k».proof.Proof.Gen.Attend
public import proofs.«01_k».proof.Proof.Gen.Attend.Frame
public import proofs.«01_k».proof.Proof.Gen.AttendIdeal
public import proofs.«01_k».proof.Proof.Gen.AttendIdeal.Value
public import proofs.«01_k».proof.Proof.Gen.AttendReferenceIdeal
public import proofs.«01_k».proof.Proof.Gen.AttendReferenceIdeal.Run
public import Idealize.ShloMosaic.Adequacy
public import Idealize.ShloMosaic.Init

@[expose] public section

noncomputable section

namespace Cert.Proof

open Idealize.ShloMosaic Idealize.SL.Sem Cert.Kernel

/-- The reference's frame, from its generated run. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The scatter's reference terminates without fault, with its arguments unchanged. -/
theorem frame_scatter_reference : Cert.quiescent_ScatterReferenceIdeal := fun m ρ _ =>
  (θ_run Cert.ScatterReferenceIdeal.defs _ _).mono
    (fun r h => ⟨fun c => (h c).2.2.2.2.2.2, sem_eq_zero_of_no_sems (by decide) r.2⟩)
    (Cert.ScatterReferenceIdeal.Value.run (F := Ideal) m ρ)

/-- All fifteen claims: the gather and combination of the rounds, the scatter to sorted order, then the attention. -/
theorem claim : Cert.Claim :=
  ⟨Cert.Kernel.Gen.facts, Cert.KernelIdeal.Gen.facts, Cert.ReferenceIdeal.Gen.facts, Cert.Scatter.Gen.facts,
  Cert.ScatterIdeal.Gen.facts, Cert.ScatterReferenceIdeal.Gen.facts, Cert.Attend.Gen.facts, Cert.AttendIdeal.Gen.facts,
  Cert.AttendReferenceIdeal.Gen.facts, Cert.Pre_rank_in_range.Gen.facts, Cert.Pre_rank_permutes.Gen.facts,
  Trip.frame_kernel, Trip.frame_ideal, frame_reference, Scat.frame_scatter, Scat.frame_ideal, frame_scatter_reference,
  Att.frame_attend, Att.frame_ideal, Att.frame_refer, trivial, Mix.algebraic, trivial, Scat.algebraic, trivial,
  Att.algebraic⟩

end Cert.Proof

end
